-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_StatesKernel (m : (ℓ : Loc Cert.StatesKernel.nD Cert.StatesKernel.τ Cert.StatesKernel.sig) → Buf (Elt Bits) ℓ) : Prop :=
  True

def Pre_StatesKernelIdeal (m : (ℓ : Loc Cert.StatesKernelIdeal.nD Cert.StatesKernelIdeal.τ Cert.StatesKernelIdeal.sig) → Buf (Elt Ideal) ℓ) : Prop :=
  True

def Pre_StatesKernelIdeal_finite_bounds [hPre_finite_bounds : Cert.Pre_finite_bounds.Facts] (m : (ℓ : Loc Cert.StatesKernelIdeal.nD Cert.StatesKernelIdeal.τ Cert.StatesKernelIdeal.sig) → Buf (Elt Ideal) ℓ) : Prop :=
  ∀ c : Dev Cert.StatesKernelIdeal.nD,
    (Cert.Pre_finite_bounds.fn (F := Ideal) (m ((c.tc : Thread Cert.StatesKernelIdeal.nD Cert.StatesKernelIdeal.τ).loc Cert.StatesKernelIdeal.main_arg0)) (m ((c.tc : Thread Cert.StatesKernelIdeal.nD Cert.StatesKernelIdeal.τ).loc Cert.StatesKernelIdeal.main_arg1))) = (fun _ => 1#1)

def Pre_StatesReferenceIdeal (m : (ℓ : Loc Cert.StatesReferenceIdeal.nD Cert.StatesReferenceIdeal.τ Cert.StatesReferenceIdeal.sig) → Buf (Elt Ideal) ℓ) : Prop :=
  True

def Pre_StatesReferenceIdeal_finite_bounds [hPre_finite_bounds : Cert.Pre_finite_bounds.Facts] (m : (ℓ : Loc Cert.StatesReferenceIdeal.nD Cert.StatesReferenceIdeal.τ Cert.StatesReferenceIdeal.sig) → Buf (Elt Ideal) ℓ) : Prop :=
  ∀ c : Dev Cert.StatesReferenceIdeal.nD,
    (Cert.Pre_finite_bounds.fn (F := Ideal) (m ((c.tc : Thread Cert.StatesReferenceIdeal.nD Cert.StatesReferenceIdeal.τ).loc Cert.StatesReferenceIdeal.main_arg0)) (m ((c.tc : Thread Cert.StatesReferenceIdeal.nD Cert.StatesReferenceIdeal.τ).loc Cert.StatesReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_StatesKernel [hStatesKernel : Cert.StatesKernel.Facts] : Prop :=
  ∀ (m : (ℓ : Loc Cert.StatesKernel.nD Cert.StatesKernel.τ Cert.StatesKernel.sig) → Buf (Elt Bits) ℓ) (g : Dev Cert.StatesKernel.nD → PrngReg), Pre_StatesKernel m →
    θ_run (Cert.StatesKernel.defs (F := Bits)) (onTc (τ := Cert.StatesKernel.τ) (Cert.StatesKernel.main (F := Bits))) ⟨m, fun _ => 0, g⟩ (fun r => (∀ c : Dev Cert.StatesKernel.nD,
      r.2.mem ((c.tc : Thread Cert.StatesKernel.nD Cert.StatesKernel.τ).loc Cert.StatesKernel.main_arg0) = m ((c.tc : Thread Cert.StatesKernel.nD Cert.StatesKernel.τ).loc Cert.StatesKernel.main_arg0)
      ∧ r.2.mem ((c.tc : Thread Cert.StatesKernel.nD Cert.StatesKernel.τ).loc Cert.StatesKernel.main_arg1) = m ((c.tc : Thread Cert.StatesKernel.nD Cert.StatesKernel.τ).loc Cert.StatesKernel.main_arg1))
      ∧ r.2.sem = fun _ => 0)

def quiescent_StatesKernelIdeal [hStatesKernelIdeal : Cert.StatesKernelIdeal.Facts] : Prop :=
  ∀ (m : (ℓ : Loc Cert.StatesKernelIdeal.nD Cert.StatesKernelIdeal.τ Cert.StatesKernelIdeal.sig) → Buf (Elt Ideal) ℓ) (g : Dev Cert.StatesKernelIdeal.nD → PrngReg), Pre_StatesKernelIdeal m →
    θ_run (Cert.StatesKernelIdeal.defs (F := Ideal)) (onTc (τ := Cert.StatesKernelIdeal.τ) (Cert.StatesKernelIdeal.main (F := Ideal))) ⟨m, fun _ => 0, g⟩ (fun r => (∀ c : Dev Cert.StatesKernelIdeal.nD,
      r.2.mem ((c.tc : Thread Cert.StatesKernelIdeal.nD Cert.StatesKernelIdeal.τ).loc Cert.StatesKernelIdeal.main_arg0) = m ((c.tc : Thread Cert.StatesKernelIdeal.nD Cert.StatesKernelIdeal.τ).loc Cert.StatesKernelIdeal.main_arg0)
      ∧ r.2.mem ((c.tc : Thread Cert.StatesKernelIdeal.nD Cert.StatesKernelIdeal.τ).loc Cert.StatesKernelIdeal.main_arg1) = m ((c.tc : Thread Cert.StatesKernelIdeal.nD Cert.StatesKernelIdeal.τ).loc Cert.StatesKernelIdeal.main_arg1))
      ∧ r.2.sem = fun _ => 0)

def quiescent_StatesKernelIdeal_pre_finite_bounds [hStatesKernelIdeal : Cert.StatesKernelIdeal.Facts] [hPre_finite_bounds : Cert.Pre_finite_bounds.Facts] : Prop :=
  ∀ (m : (ℓ : Loc Cert.StatesKernelIdeal.nD Cert.StatesKernelIdeal.τ Cert.StatesKernelIdeal.sig) → Buf (Elt Ideal) ℓ) (g : Dev Cert.StatesKernelIdeal.nD → PrngReg), Pre_StatesKernelIdeal_finite_bounds m →
    θ_run (Cert.StatesKernelIdeal.defs (F := Ideal)) (onTc (τ := Cert.StatesKernelIdeal.τ) (Cert.StatesKernelIdeal.main (F := Ideal))) ⟨m, fun _ => 0, g⟩ (fun r => (∀ c : Dev Cert.StatesKernelIdeal.nD,
      r.2.mem ((c.tc : Thread Cert.StatesKernelIdeal.nD Cert.StatesKernelIdeal.τ).loc Cert.StatesKernelIdeal.main_arg0) = m ((c.tc : Thread Cert.StatesKernelIdeal.nD Cert.StatesKernelIdeal.τ).loc Cert.StatesKernelIdeal.main_arg0)
      ∧ r.2.mem ((c.tc : Thread Cert.StatesKernelIdeal.nD Cert.StatesKernelIdeal.τ).loc Cert.StatesKernelIdeal.main_arg1) = m ((c.tc : Thread Cert.StatesKernelIdeal.nD Cert.StatesKernelIdeal.τ).loc Cert.StatesKernelIdeal.main_arg1))
      ∧ r.2.sem = fun _ => 0)

def quiescent_StatesReferenceIdeal [hStatesReferenceIdeal : Cert.StatesReferenceIdeal.Facts] : Prop :=
  ∀ (m : (ℓ : Loc Cert.StatesReferenceIdeal.nD Cert.StatesReferenceIdeal.τ Cert.StatesReferenceIdeal.sig) → Buf (Elt Ideal) ℓ) (g : Dev Cert.StatesReferenceIdeal.nD → PrngReg), Pre_StatesReferenceIdeal m →
    θ_run (Cert.StatesReferenceIdeal.defs (F := Ideal)) (onTc (τ := Cert.StatesReferenceIdeal.τ) (Cert.StatesReferenceIdeal.main (F := Ideal))) ⟨m, fun _ => 0, g⟩ (fun r => (∀ c : Dev Cert.StatesReferenceIdeal.nD,
      r.2.mem ((c.tc : Thread Cert.StatesReferenceIdeal.nD Cert.StatesReferenceIdeal.τ).loc Cert.StatesReferenceIdeal.main_arg0) = m ((c.tc : Thread Cert.StatesReferenceIdeal.nD Cert.StatesReferenceIdeal.τ).loc Cert.StatesReferenceIdeal.main_arg0)
      ∧ r.2.mem ((c.tc : Thread Cert.StatesReferenceIdeal.nD Cert.StatesReferenceIdeal.τ).loc Cert.StatesReferenceIdeal.main_arg1) = m ((c.tc : Thread Cert.StatesReferenceIdeal.nD Cert.StatesReferenceIdeal.τ).loc Cert.StatesReferenceIdeal.main_arg1))
      ∧ r.2.sem = fun _ => 0)

def quiescent_StatesReferenceIdeal_pre_finite_bounds [hStatesReferenceIdeal : Cert.StatesReferenceIdeal.Facts] [hPre_finite_bounds : Cert.Pre_finite_bounds.Facts] : Prop :=
  ∀ (m : (ℓ : Loc Cert.StatesReferenceIdeal.nD Cert.StatesReferenceIdeal.τ Cert.StatesReferenceIdeal.sig) → Buf (Elt Ideal) ℓ) (g : Dev Cert.StatesReferenceIdeal.nD → PrngReg), Pre_StatesReferenceIdeal_finite_bounds m →
    θ_run (Cert.StatesReferenceIdeal.defs (F := Ideal)) (onTc (τ := Cert.StatesReferenceIdeal.τ) (Cert.StatesReferenceIdeal.main (F := Ideal))) ⟨m, fun _ => 0, g⟩ (fun r => (∀ c : Dev Cert.StatesReferenceIdeal.nD,
      r.2.mem ((c.tc : Thread Cert.StatesReferenceIdeal.nD Cert.StatesReferenceIdeal.τ).loc Cert.StatesReferenceIdeal.main_arg0) = m ((c.tc : Thread Cert.StatesReferenceIdeal.nD Cert.StatesReferenceIdeal.τ).loc Cert.StatesReferenceIdeal.main_arg0)
      ∧ r.2.mem ((c.tc : Thread Cert.StatesReferenceIdeal.nD Cert.StatesReferenceIdeal.τ).loc Cert.StatesReferenceIdeal.main_arg1) = m ((c.tc : Thread Cert.StatesReferenceIdeal.nD Cert.StatesReferenceIdeal.τ).loc Cert.StatesReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v5) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v3) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v5) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v4)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v4) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v7) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v4)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v4) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v35) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_CtxKernel_CtxKernelIdeal : Prop :=
  True

def algebraic_CtxKernelIdeal_CtxReferenceIdeal [hCtxKernelIdeal : Cert.CtxKernelIdeal.Facts] [hCtxReferenceIdeal : Cert.CtxReferenceIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)) →
    ∃ (v0 : (c : Dev Cert.CtxKernelIdeal.nD) → Buf (Elt Ideal) ((c.tc : Thread Cert.CtxKernelIdeal.nD Cert.CtxKernelIdeal.τ).loc Cert.CtxKernelIdeal.main_v2)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v2) = v0 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v5) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)) →
    ∃ (v0 : (c : Dev Cert.ModKernelIdeal.nD) → Buf (Elt Ideal) ((c.tc : Thread Cert.ModKernelIdeal.nD Cert.ModKernelIdeal.τ).loc Cert.ModKernelIdeal.main_v4)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v4) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v22) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_StatesKernel_StatesKernelIdeal : Prop :=
  True

def algebraic_StatesKernelIdeal_StatesReferenceIdeal_pre_finite_bounds [hStatesKernelIdeal : Cert.StatesKernelIdeal.Facts] [hStatesReferenceIdeal : Cert.StatesReferenceIdeal.Facts] [hPre_finite_bounds : Cert.Pre_finite_bounds.Facts] : Prop :=
  ∀ (m : (ℓ : Loc Cert.StatesKernelIdeal.nD Cert.StatesKernelIdeal.τ Cert.StatesKernelIdeal.sig) → Buf (Elt Ideal) ℓ) (g : Dev Cert.StatesKernelIdeal.nD → PrngReg)
    (m' : (ℓ : Loc Cert.StatesReferenceIdeal.nD Cert.StatesReferenceIdeal.τ Cert.StatesReferenceIdeal.sig) → Buf (Elt Ideal) ℓ) (g' : Dev Cert.StatesReferenceIdeal.nD → PrngReg), Pre_StatesKernelIdeal_finite_bounds m →
    (∀ c : Dev Cert.StatesKernelIdeal.nD,
      m' ((c.tc : Thread Cert.StatesReferenceIdeal.nD Cert.StatesReferenceIdeal.τ).loc Cert.StatesReferenceIdeal.main_arg0) = m ((c.tc : Thread Cert.StatesKernelIdeal.nD Cert.StatesKernelIdeal.τ).loc Cert.StatesKernelIdeal.main_arg0)
      ∧ m' ((c.tc : Thread Cert.StatesReferenceIdeal.nD Cert.StatesReferenceIdeal.τ).loc Cert.StatesReferenceIdeal.main_arg1) = m ((c.tc : Thread Cert.StatesKernelIdeal.nD Cert.StatesKernelIdeal.τ).loc Cert.StatesKernelIdeal.main_arg1)) →
    ∃ (v0 : (c : Dev Cert.StatesKernelIdeal.nD) → Buf (Elt Ideal) ((c.tc : Thread Cert.StatesKernelIdeal.nD Cert.StatesKernelIdeal.τ).loc Cert.StatesKernelIdeal.main_v18_0)) (v1 : (c : Dev Cert.StatesKernelIdeal.nD) → Buf (Elt Ideal) ((c.tc : Thread Cert.StatesKernelIdeal.nD Cert.StatesKernelIdeal.τ).loc Cert.StatesKernelIdeal.main_v18_1)),
      θ_run (Cert.StatesKernelIdeal.defs (F := Ideal)) (onTc (τ := Cert.StatesKernelIdeal.τ) (Cert.StatesKernelIdeal.main (F := Ideal))) ⟨m, fun _ => 0, g⟩ (fun r => ∀ c : Dev Cert.StatesKernelIdeal.nD,
          r.2.mem ((c.tc : Thread Cert.StatesKernelIdeal.nD Cert.StatesKernelIdeal.τ).loc Cert.StatesKernelIdeal.main_v18_0) = v0 c
          ∧ r.2.mem ((c.tc : Thread Cert.StatesKernelIdeal.nD Cert.StatesKernelIdeal.τ).loc Cert.StatesKernelIdeal.main_v18_1) = v1 c
          ∧ r.2.mem ((c.tc : Thread Cert.StatesKernelIdeal.nD Cert.StatesKernelIdeal.τ).loc Cert.StatesKernelIdeal.main_arg0) = m ((c.tc : Thread Cert.StatesKernelIdeal.nD Cert.StatesKernelIdeal.τ).loc Cert.StatesKernelIdeal.main_arg0)
          ∧ r.2.mem ((c.tc : Thread Cert.StatesKernelIdeal.nD Cert.StatesKernelIdeal.τ).loc Cert.StatesKernelIdeal.main_arg1) = m ((c.tc : Thread Cert.StatesKernelIdeal.nD Cert.StatesKernelIdeal.τ).loc Cert.StatesKernelIdeal.main_arg1))
      ∧ θ_run (Cert.StatesReferenceIdeal.defs (F := Ideal)) (onTc (τ := Cert.StatesReferenceIdeal.τ) (Cert.StatesReferenceIdeal.main (F := Ideal))) ⟨m', fun _ => 0, g'⟩ (fun r => ∀ c : Dev Cert.StatesReferenceIdeal.nD,
          r.2.mem ((c.tc : Thread Cert.StatesReferenceIdeal.nD Cert.StatesReferenceIdeal.τ).loc Cert.StatesReferenceIdeal.main_v76) = v0 c
          ∧ r.2.mem ((c.tc : Thread Cert.StatesReferenceIdeal.nD Cert.StatesReferenceIdeal.τ).loc Cert.StatesReferenceIdeal.main_v77) = v1 c
          ∧ r.2.mem ((c.tc : Thread Cert.StatesReferenceIdeal.nD Cert.StatesReferenceIdeal.τ).loc Cert.StatesReferenceIdeal.main_arg0) = m' ((c.tc : Thread Cert.StatesReferenceIdeal.nD Cert.StatesReferenceIdeal.τ).loc Cert.StatesReferenceIdeal.main_arg0)
          ∧ r.2.mem ((c.tc : Thread Cert.StatesReferenceIdeal.nD Cert.StatesReferenceIdeal.τ).loc Cert.StatesReferenceIdeal.main_arg1) = m' ((c.tc : Thread Cert.StatesReferenceIdeal.nD Cert.StatesReferenceIdeal.τ).loc Cert.StatesReferenceIdeal.main_arg1))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hMergeKernel : Cert.MergeKernel.Facts) (hMergeKernelIdeal : Cert.MergeKernelIdeal.Facts) (hMergeReferenceIdeal : Cert.MergeReferenceIdeal.Facts) (hOutKernel : Cert.OutKernel.Facts) (hOutKernelIdeal : Cert.OutKernelIdeal.Facts) (hOutReferenceIdeal : Cert.OutReferenceIdeal.Facts) (hConvKernel : Cert.ConvKernel.Facts) (hConvKernelIdeal : Cert.ConvKernelIdeal.Facts) (hConvReferenceIdeal : Cert.ConvReferenceIdeal.Facts) (hCtxKernel : Cert.CtxKernel.Facts) (hCtxKernelIdeal : Cert.CtxKernelIdeal.Facts) (hCtxReferenceIdeal : Cert.CtxReferenceIdeal.Facts) (hNormKernel : Cert.NormKernel.Facts) (hNormKernelIdeal : Cert.NormKernelIdeal.Facts) (hNormReferenceIdeal : Cert.NormReferenceIdeal.Facts) (hModKernel : Cert.ModKernel.Facts) (hModKernelIdeal : Cert.ModKernelIdeal.Facts) (hModReferenceIdeal : Cert.ModReferenceIdeal.Facts) (hStatesKernel : Cert.StatesKernel.Facts) (hStatesKernelIdeal : Cert.StatesKernelIdeal.Facts) (hStatesReferenceIdeal : Cert.StatesReferenceIdeal.Facts) (hPre_finite : Cert.Pre_finite.Facts) (hPre_finite_bounds : Cert.Pre_finite_bounds.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_CtxKernel (hCtxKernel := hCtxKernel)
    ∧ quiescent_CtxKernelIdeal (hCtxKernelIdeal := hCtxKernelIdeal)
    ∧ quiescent_CtxReferenceIdeal (hCtxReferenceIdeal := hCtxReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_StatesKernel (hStatesKernel := hStatesKernel)
    ∧ quiescent_StatesKernelIdeal (hStatesKernelIdeal := hStatesKernelIdeal)
    ∧ quiescent_StatesKernelIdeal_pre_finite_bounds (hStatesKernelIdeal := hStatesKernelIdeal) (hPre_finite_bounds := hPre_finite_bounds)
    ∧ quiescent_StatesReferenceIdeal (hStatesReferenceIdeal := hStatesReferenceIdeal)
    ∧ quiescent_StatesReferenceIdeal_pre_finite_bounds (hStatesReferenceIdeal := hStatesReferenceIdeal) (hPre_finite_bounds := hPre_finite_bounds)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_OutKernel_OutKernelIdeal
    ∧ algebraic_OutKernelIdeal_OutReferenceIdeal (hOutKernelIdeal := hOutKernelIdeal) (hOutReferenceIdeal := hOutReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_CtxKernel_CtxKernelIdeal
    ∧ algebraic_CtxKernelIdeal_CtxReferenceIdeal (hCtxKernelIdeal := hCtxKernelIdeal) (hCtxReferenceIdeal := hCtxReferenceIdeal)
    ∧ preserves_NormKernel_NormKernelIdeal
    ∧ algebraic_NormKernelIdeal_NormReferenceIdeal (hNormKernelIdeal := hNormKernelIdeal) (hNormReferenceIdeal := hNormReferenceIdeal)
    ∧ preserves_ModKernel_ModKernelIdeal
    ∧ algebraic_ModKernelIdeal_ModReferenceIdeal (hModKernelIdeal := hModKernelIdeal) (hModReferenceIdeal := hModReferenceIdeal)
    ∧ preserves_StatesKernel_StatesKernelIdeal
    ∧ algebraic_StatesKernelIdeal_StatesReferenceIdeal_pre_finite_bounds (hStatesKernelIdeal := hStatesKernelIdeal) (hStatesReferenceIdeal := hStatesReferenceIdeal) (hPre_finite_bounds := hPre_finite_bounds)
-- ==== Pre_finite.lean ====
abbrev S4x2048x18432 : Shape := ⟨3, ![4, 2048, 18432]⟩
abbrev S2x2x2048 : Shape := ⟨3, ![2, 2, 2048]⟩
abbrev S1x2048 : Shape := ⟨2, ![1, 2048]⟩
abbrev S4x16x128x128 : Shape := ⟨4, ![4, 16, 128, 128]⟩
abbrev S4x2048x10240 : Shape := ⟨3, ![4, 2048, 10240]⟩
abbrev S_ : Shape := ⟨0, ![]⟩

class Facts : Prop where
  slices_S4x2048x18432_S4x2048x10240_0_0_0 : S4x2048x18432.Slices ![0, 0, 0] S4x2048x10240
  bitsLt_bf16_f32 : FTy.bits .bf16 < FTy.bits .f32
  bcast_S_S4x2048x10240 : S_.BroadcastsInDim S4x2048x10240 (![] : Fin 0 → Fin S4x2048x10240.rank)
  reducesTo_S4x2048x10240_S_d0_1_2 : S4x2048x10240.ReducesTo [0, 1, 2] S_
  h_S_ : 0 < S_.numel
  bcast_S_S2x2x2048 : S_.BroadcastsInDim S2x2x2048 (![] : Fin 0 → Fin S2x2x2048.rank)
  reducesTo_S2x2x2048_S_d0_1_2 : S2x2x2048.ReducesTo [0, 1, 2] S_
  bcast_S_S4x16x128x128 : S_.BroadcastsInDim S4x16x128x128 (![] : Fin 0 → Fin S4x16x128x128.rank)
  reducesTo_S4x16x128x128_S_d0_1_2_3 : S4x16x128x128.ReducesTo [0, 1, 2, 3] S_

variable [Facts]

def fn_part1 {F : FTy → Type} [FloatOps F] (main_v15 : IVec S_ 1) (main_v16 : FVec F S4x16x128x128 .f32) (main_cst_4 : FVec F S_ .f32) : IVec S_ 1 :=
  let main_v17 : FVec F S4x16x128x128 .f32 := broadcastInDim S4x16x128x128 ![] bcast_S_S4x16x128x128 main_cst_4
  let main_v18 : IVec S4x16x128x128 1 := cmpf .olt main_v16 main_v17
  let main_c_5 : IVec S_ 1 := constantI S_ 1 1#1
  let main_v19 : IVec S_ 1 := (fun x v => Host.reduce IntOp.andi x v reducesTo_S4x16x128x128_S_d0_1_2_3 h_S_) main_v18 main_c_5
  let main_v20 : IVec S_ 1 := andi main_v15 main_v19
  main_v20

def fn {F : FTy → Type} [FloatOps F] (main_arg0 : FVec F S4x2048x18432 .bf16) (main_arg1 : FVec F S2x2x2048 .f32) (main_arg2 : FVec F S1x2048 .f32) (main_arg3 : FVec F S4x16x128x128 .f32) (main_arg4 : FVec F S4x16x128x128 .f32) : IVec S_ 1 :=
  let main_v0 : FVec F S4x2048x10240 .bf16 := (extractStridedSlice S4x2048x10240 ![0, 0, 0] · slices_S4x2048x18432_S4x2048x10240_0_0_0) main_arg0
  let main_v1 : FVec F S4x2048x10240 .f32 := (extf .f32 · bitsLt_bf16_f32) main_v0
  let main_v2 : FVec F S4x2048x10240 .f32 := Host.absf main_v1
  let main_cst : FVec F S_ .f32 := constant S_ .f32 0x7F800000#32
  let main_v3 : FVec F S4x2048x10240 .f32 := broadcastInDim S4x2048x10240 ![] bcast_S_S4x2048x10240 main_cst
  let main_v4 : IVec S4x2048x10240 1 := cmpf .olt main_v2 main_v3
  let main_c : IVec S_ 1 := constantI S_ 1 1#1
  let main_v5 : IVec S_ 1 := (fun x v => Host.reduce IntOp.andi x v reducesTo_S4x2048x10240_S_d0_1_2 h_S_) main_v4 main_c
  let main_v6 : FVec F S2x2x2048 .f32 := Host.absf main_arg1
  let main_cst_0 : FVec F S_ .f32 := constant S_ .f32 0x7F800000#32
  let main_v7 : FVec F S2x2x2048 .f32 := broadcastInDim S2x2x2048 ![] bcast_S_S2x2x2048 main_cst_0
  let main_v8 : IVec S2x2x2048 1 := cmpf .olt main_v6 main_v7
  let main_c_1 : IVec S_ 1 := constantI S_ 1 1#1
  let main_v9 : IVec S_ 1 := (fun x v => Host.reduce IntOp.andi x v reducesTo_S2x2x2048_S_d0_1_2 h_S_) main_v8 main_c_1
  let main_v10 : IVec S_ 1 := andi main_v5 main_v9
  let main_v11 : FVec F S4x16x128x128 .f32 := Host.absf main_arg3
  let main_cst_2 : FVec F S_ .f32 := constant S_ .f32 0x7F800000#32
  let main_v12 : FVec F S4x16x128x128 .f32 := broadcastInDim S4x16x128x128 ![] bcast_S_S4x16x128x128 main_cst_2
  let main_v13 : IVec S4x16x128x128 1 := cmpf .olt main_v11 main_v12
  let main_c_3 : IVec S_ 1 := constantI S_ 1 1#1
  let main_v14 : IVec S_ 1 := (fun x v => Host.reduce IntOp.andi x v reducesTo_S4x16x128x128_S_d0_1_2_3 h_S_) main_v13 main_c_3
  let main_v15 : IVec S_ 1 := andi main_v10 main_v14
  let main_v16 : FVec F S4x16x128x128 .f32 := Host.absf main_arg4
  let main_cst_4 : FVec F S_ .f32 := constant S_ .f32 0x7F800000#32
  fn_part1 (F := F) main_v15 main_v16 main_cst_4
-- ==== Pre_finite_bounds.lean ====
abbrev S4x256x6144 : Shape := ⟨3, ![4, 256, 6144]⟩
abbrev S2x2x2048 : Shape := ⟨3, ![2, 2, 2048]⟩
abbrev S_ : Shape := ⟨0, ![]⟩

class Facts : Prop where
  bcast_S_S2x2x2048 : S_.BroadcastsInDim S2x2x2048 (![] : Fin 0 → Fin S2x2x2048.rank)
  reducesTo_S2x2x2048_S_d0_1_2 : S2x2x2048.ReducesTo [0, 1, 2] S_
  h_S_ : 0 < S_.numel

variable [Facts]

def fn {F : FTy → Type} [FloatOps F] (main_arg0 : FVec F S4x256x6144 .bf16) (main_arg1 : FVec F S2x2x2048 .f32) : IVec S_ 1 :=
  let main_v0 : FVec F S2x2x2048 .f32 := Host.absf main_arg1
  let main_cst : FVec F S_ .f32 := constant S_ .f32 0x7F800000#32
  let main_v1 : FVec F S2x2x2048 .f32 := broadcastInDim S2x2x2048 ![] bcast_S_S2x2x2048 main_cst
  let main_v2 : IVec S2x2x2048 1 := cmpf .olt main_v0 main_v1
  let main_c : IVec S_ 1 := constantI S_ 1 1#1
  let main_v3 : IVec S_ 1 := (fun x v => Host.reduce IntOp.andi x v reducesTo_S2x2x2048_S_d0_1_2 h_S_) main_v2 main_c
  main_v3
-- ==== Kernel.lean ====
abbrev S4x2048x18432 : Shape := ⟨3, ![4, 2048, 18432]⟩
abbrev S2x2x2048 : Shape := ⟨3, ![2, 2, 2048]⟩
abbrev S1x2048 : Shape := ⟨2, ![1, 2048]⟩
abbrev S4x16x128x128 : Shape := ⟨4, ![4, 16, 128, 128]⟩
abbrev S_ : Shape := ⟨0, ![]⟩
abbrev S2x2048 : Shape := ⟨2, ![2, 2048]⟩
abbrev S1x2x2048 : Shape := ⟨3, ![1, 2, 2048]⟩
abbrev S1x1x2048 : Shape := ⟨3, ![1, 1, 2048]⟩
abbrev S2048 : Shape := ⟨1, ![2048]⟩
abbrev S4x2048x2048 : Shape := ⟨3, ![4, 2048, 2048]⟩
abbrev S1x2048x512 : Shape := ⟨3, ![1, 2048, 512]⟩
abbrev S1x1x512 : Shape := ⟨3, ![1, 1, 512]⟩
abbrev S1x4x128x128 : Shape := ⟨4, ![1, 4, 128, 128]⟩
abbrev S2048x512 : Shape := ⟨2, ![2048, 512]⟩
abbrev S1x512 : Shape := ⟨2, ![1, 512]⟩
abbrev S128x128 : Shape := ⟨2, ![128, 128]⟩
abbrev S128x512 : Shape := ⟨2, ![128, 512]⟩
abbrev S1x1x128x128 : Shape := ⟨4, ![1, 1, 128, 128]⟩
abbrev S1x128x128 : Shape := ⟨3, ![1, 128, 128]⟩
abbrev S1x128 : Shape := ⟨2, ![1, 128]⟩
abbrev S32x128 : Shape := ⟨2, ![32, 128]⟩
abbrev S128x896 : Shape := ⟨2, ![128, 896]⟩
abbrev S2048x128 : Shape := ⟨2, ![2048, 128]⟩
abbrev S2048x1 : Shape := ⟨2, ![2048, 1]⟩
abbrev S1x1x128 : Shape := ⟨3, ![1, 1, 128]⟩
abbrev S1x2048x128 : Shape := ⟨3, ![1, 2048, 128]⟩

abbrev nBuf : Space → Nat
  | .hbm => 31
  | .vmem => 28
  | .smem => 0
  | _ => 0

abbrev bufTy : (tb : Table) → Fin (tcTables nBuf tb) → BufTy
  | .hbm, ⟨0, _⟩ => ⟨S4x2048x18432, .bf16⟩
  | .hbm, ⟨1, _⟩ => ⟨S2x2x2048, .f32⟩
  | .hbm, ⟨2, _⟩ => ⟨S1x2048, .f32⟩
  | .hbm, ⟨3, _⟩ => ⟨S4x16x128x128, .f32⟩
  | .hbm, ⟨4, _⟩ => ⟨S4x16x128x128, .f32⟩
  | .hbm, ⟨5, _⟩ => ⟨S_, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S1x2x2048, .f32⟩
  | .hbm, ⟨11, _⟩ => ⟨S2x2x2048, .f32⟩
  | .hbm, ⟨12, _⟩ => ⟨S2x2x2048, .f32⟩
  | .hbm, ⟨13, _⟩ => ⟨S2x2x2048, .f32⟩
  | .hbm, ⟨14, _⟩ => ⟨S_, .f32⟩
  | .hbm, ⟨15, _⟩ => ⟨S2x2048, .f32⟩
  | .hbm, ⟨16, _⟩ => ⟨S1x2x2048, .f32⟩
  | .hbm, ⟨17, _⟩ => ⟨S2x2x2048, .f32⟩
  | .hbm, ⟨18, _⟩ => ⟨S2x2x2048, .f32⟩
  | .hbm, ⟨19, _⟩ => ⟨S_, .f32⟩
  | .hbm, ⟨20, _⟩ => ⟨S_, .f32⟩
  | .hbm, ⟨21, _⟩ => ⟨S2x2x2048, .f32⟩
  | .hbm, ⟨22, _⟩ => ⟨S1x1x2048, .f32⟩
  | .hbm, ⟨23, _⟩ => ⟨S2048, .f32⟩
  | .hbm, ⟨24, _⟩ => ⟨S1x1x2048, .f32⟩
  | .hbm, ⟨25, _⟩ => ⟨S2048, .f32⟩
  | .hbm, ⟨26, _⟩ => ⟨S2048, .f32⟩
  | .hbm, ⟨27, _⟩ => ⟨S1x1x2048, .f32⟩
  | .hbm, ⟨28, _⟩ => ⟨S1x1x2048, .f32⟩
  | .hbm, ⟨29, _⟩ => ⟨S1x1x2048, .f32⟩
  | .hbm, ⟨30, _⟩ => ⟨S4x2048x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x4x128x128, .f32⟩
  | .local _ .vmem, ⟨17, _⟩ => ⟨S1x4x128x128, .f32⟩
  | .local _ .vmem, ⟨18, _⟩ => ⟨S1x4x128x128, .f32⟩
  | .local _ .vmem, ⟨19, _⟩ => ⟨S1x4x128x128, .f32⟩
  | .local _ .vmem, ⟨20, _⟩ => ⟨S1x2048x512, .bf16⟩
  | .local _ .vmem, ⟨21, _⟩ => ⟨S1x2048x512, .bf16⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | _, _ => ⟨S4x2048x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v242 : BitVec 32 := Scalar.addi c0_i32 c16_i32
  let c1_i32 : BitVec 32 := 1#32
  ⟨c0_i32, v242, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c128_i32 : BitVec 32 := 128#32
  let v352 : BitVec 32 := Scalar.muli arg19 c128_i32
  v352
def k0_off1 (k0_t1 : Fin k0_t1_loop.trips) : Fin 3 → Nat :=
  let c0_181 : Index := 0#32
  let c0_i32 : BitVec 32 := 0#32
  let c1_i32 : BitVec 32 := 1#32
  let arg19 : BitVec 32 := Scf.iv c0_i32 c1_i32 k0_t1
  let c128_i32 : BitVec 32 := 128#32
  let v352 : BitVec 32 := Scalar.muli arg19 c128_i32
  let v353 : BitVec 32 := v352
  let v354 : Index := Scalar.indexCast v353
  let c0_182 : Index := 0#32
  ![0, v354.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c128_i32 : BitVec 32 := 128#32
  let v352 : BitVec 32 := Scalar.muli arg19 c128_i32
  let v353 : BitVec 32 := v352
  let v366 : Index := Scalar.indexCast v353
  let c0_186 : Index := 0#32
  ![v366.toNat, 0]
def k0_mult2 (k0_t1 : Fin k0_t1_loop.trips) : BitVec 32 :=
  let c15_i32 : BitVec 32 := 15#32
  let c0_i32 : BitVec 32 := 0#32
  let c1_i32 : BitVec 32 := 1#32
  let arg19 : BitVec 32 := Scf.iv c0_i32 c1_i32 k0_t1
  let v370 : BitVec 32 := Scalar.subi c15_i32 arg19
  let c128_i32_188 : BitVec 32 := 128#32
  let v371 : BitVec 32 := Scalar.muli v370 c128_i32_188
  v371
def k0_off3 (k0_t1 : Fin k0_t1_loop.trips) : Fin 3 → Nat :=
  let c0_189 : Index := 0#32
  let c15_i32 : BitVec 32 := 15#32
  let c0_i32 : BitVec 32 := 0#32
  let c1_i32 : BitVec 32 := 1#32
  let arg19 : BitVec 32 := Scf.iv c0_i32 c1_i32 k0_t1
  let v370 : BitVec 32 := Scalar.subi c15_i32 arg19
  let c128_i32_188 : BitVec 32 := 128#32
  let v371 : BitVec 32 := Scalar.muli v370 c128_i32_188
  let v372 : BitVec 32 := v371
  let v373 : Index := Scalar.indexCast v372
  let c0_190 : Index := 0#32
  ![0, v373.toNat, 0]
def k0_off4 (k0_t1 : Fin k0_t1_loop.trips) : Fin 2 → Nat :=
  let c15_i32 : BitVec 32 := 15#32
  let c0_i32 : BitVec 32 := 0#32
  let c1_i32 : BitVec 32 := 1#32
  let arg19 : BitVec 32 := Scf.iv c0_i32 c1_i32 k0_t1
  let v370 : BitVec 32 := Scalar.subi c15_i32 arg19
  let c128_i32_188 : BitVec 32 := 128#32
  let v371 : BitVec 32 := Scalar.muli v370 c128_i32_188
  let v372 : BitVec 32 := v371
  let v385 : Index := Scalar.indexCast v372
  let c0_194 : Index := 0#32
  ![v385.toNat, 0]
def k0_mult3 (k0_t1 : Fin k0_t1_loop.trips) : BitVec 32 :=
  let c0_i32 : BitVec 32 := 0#32
  let c1_i32 : BitVec 32 := 1#32
  let arg19 : BitVec 32 := Scf.iv c0_i32 c1_i32 k0_t1
  let c128_i32_196 : BitVec 32 := 128#32
  let v389 : BitVec 32 := Scalar.muli arg19 c128_i32_196
  v389
def k0_off5 (k0_t1 : Fin k0_t1_loop.trips) : Fin 3 → Nat :=
  let c0_197 : Index := 0#32
  let c0_i32 : BitVec 32 := 0#32
  let c1_i32 : BitVec 32 := 1#32
  let arg19 : BitVec 32 := Scf.iv c0_i32 c1_i32 k0_t1
  let c128_i32_196 : BitVec 32 := 128#32
  let v389 : BitVec 32 := Scalar.muli arg19 c128_i32_196
  let v390 : BitVec 32 := v389
  let v391 : Index := Scalar.indexCast v390
  let c128_198 : Index := 128#32
  ![0, v391.toNat, 128]
def k0_off6 (k0_t1 : Fin k0_t1_loop.trips) : Fin 2 → Nat :=
  let c0_i32 : BitVec 32 := 0#32
  let c1_i32 : BitVec 32 := 1#32
  let arg19 : BitVec 32 := Scf.iv c0_i32 c1_i32 k0_t1
  let c128_i32_196 : BitVec 32 := 128#32
  let v389 : BitVec 32 := Scalar.muli arg19 c128_i32_196
  let v390 : BitVec 32 := v389
  let v403 : Index := Scalar.indexCast v390
  let c128_202 : Index := 128#32
  ![v403.toNat, 128]
def k0_mult4 (k0_t1 : Fin k0_t1_loop.trips) : BitVec 32 :=
  let c15_i32_204 : BitVec 32 := 15#32
  let c0_i32 : BitVec 32 := 0#32
  let c1_i32 : BitVec 32 := 1#32
  let arg19 : BitVec 32 := Scf.iv c0_i32 c1_i32 k0_t1
  let v407 : BitVec 32 := Scalar.subi c15_i32_204 arg19
  let c128_i32_205 : BitVec 32 := 128#32
  let v408 : BitVec 32 := Scalar.muli v407 c128_i32_205
  v408
def k0_off7 (k0_t1 : Fin k0_t1_loop.trips) : Fin 3 → Nat :=
  let c0_206 : Index := 0#32
  let c15_i32_204 : BitVec 32 := 15#32
  let c0_i32 : BitVec 32 := 0#32
  let c1_i32 : BitVec 32 := 1#32
  let arg19 : BitVec 32 := Scf.iv c0_i32 c1_i32 k0_t1
  let v407 : BitVec 32 := Scalar.subi c15_i32_204 arg19
  let c128_i32_205 : BitVec 32 := 128#32
  let v408 : BitVec 32 := Scalar.muli v407 c128_i32_205
  let v409 : BitVec 32 := v408
  let v410 : Index := Scalar.indexCast v409
  let c128_207 : Index := 128#32
  ![0, v410.toNat, 128]
def k0_off8 (k0_t1 : Fin k0_t1_loop.trips) : Fin 2 → Nat :=
  let c15_i32_204 : BitVec 32 := 15#32
  let c0_i32 : BitVec 32 := 0#32
  let c1_i32 : BitVec 32 := 1#32
  let arg19 : BitVec 32 := Scf.iv c0_i32 c1_i32 k0_t1
  let v407 : BitVec 32 := Scalar.subi c15_i32_204 arg19
  let c128_i32_205 : BitVec 32 := 128#32
  let v408 : BitVec 32 := Scalar.muli v407 c128_i32_205
  let v409 : BitVec 32 := v408
  let v422 : Index := Scalar.indexCast v409
  let c128_211 : Index := 128#32
  ![v422.toNat, 128]
def k0_mult5 (k0_t1 : Fin k0_t1_loop.trips) : BitVec 32 :=
  let c0_i32 : BitVec 32 := 0#32
  let c1_i32 : BitVec 32 := 1#32
  let arg19 : BitVec 32 := Scf.iv c0_i32 c1_i32 k0_t1
  let c128_i32_213 : BitVec 32 := 128#32
  let v426 : BitVec 32 := Scalar.muli arg19 c128_i32_213
  v426
def k0_off9 (k0_t1 : Fin k0_t1_loop.trips) : Fin 3 → Nat :=
  let c0_214 : Index := 0#32
  let c0_i32 : BitVec 32 := 0#32
  let c1_i32 : BitVec 32 := 1#32
  let arg19 : BitVec 32 := Scf.iv c0_i32 c1_i32 k0_t1
  let c128_i32_213 : BitVec 32 := 128#32
  let v426 : BitVec 32 := Scalar.muli arg19 c128_i32_213
  let v427 : BitVec 32 := v426
  let v428 : Index := Scalar.indexCast v427
  let c256_215 : Index := 256#32
  ![0, v428.toNat, 256]
def k0_off10 (k0_t1 : Fin k0_t1_loop.trips) : Fin 2 → Nat :=
  let c0_i32 : BitVec 32 := 0#32
  let c1_i32 : BitVec 32 := 1#32
  let arg19 : BitVec 32 := Scf.iv c0_i32 c1_i32 k0_t1
  let c128_i32_213 : BitVec 32 := 128#32
  let v426 : BitVec 32 := Scalar.muli arg19 c128_i32_213
  let v427 : BitVec 32 := v426
  let v440 : Index := Scalar.indexCast v427
  let c256_219 : Index := 256#32
  ![v440.toNat, 256]
def k0_mult6 (k0_t1 : Fin k0_t1_loop.trips) : BitVec 32 :=
  let c15_i32_221 : BitVec 32 := 15#32
  let c0_i32 : BitVec 32 := 0#32
  let c1_i32 : BitVec 32 := 1#32
  let arg19 : BitVec 32 := Scf.iv c0_i32 c1_i32 k0_t1
  let v444 : BitVec 32 := Scalar.subi c15_i32_221 arg19
  let c128_i32_222 : BitVec 32 := 128#32
  let v445 : BitVec 32 := Scalar.muli v444 c128_i32_222
  v445
def k0_off11 (k0_t1 : Fin k0_t1_loop.trips) : Fin 3 → Nat :=
  let c0_223 : Index := 0#32
  let c15_i32_221 : BitVec 32 := 15#32
  let c0_i32 : BitVec 32 := 0#32
  let c1_i32 : BitVec 32 := 1#32
  let arg19 : BitVec 32 := Scf.iv c0_i32 c1_i32 k0_t1
  let v444 : BitVec 32 := Scalar.subi c15_i32_221 arg19
  let c128_i32_222 : BitVec 32 := 128#32
  let v445 : BitVec 32 := Scalar.muli v444 c128_i32_222
  let v446 : BitVec 32 := v445
  let v447 : Index := Scalar.indexCast v446
  let c256_224 : Index := 256#32
  ![0, v447.toNat, 256]
def k0_off12 (k0_t1 : Fin k0_t1_loop.trips) : Fin 2 → Nat :=
  let c15_i32_221 : BitVec 32 := 15#32
  let c0_i32 : BitVec 32 := 0#32
  let c1_i32 : BitVec 32 := 1#32
  let arg19 : BitVec 32 := Scf.iv c0_i32 c1_i32 k0_t1
  let v444 : BitVec 32 := Scalar.subi c15_i32_221 arg19
  let c128_i32_222 : BitVec 32 := 128#32
  let v445 : BitVec 32 := Scalar.muli v444 c128_i32_222
  let v446 : BitVec 32 := v445
  let v459 : Index := Scalar.indexCast v446
  let c256_228 : Index := 256#32
  ![v459.toNat, 256]
def k0_mult7 (k0_t1 : Fin k0_t1_loop.trips) : BitVec 32 :=
  let c0_i32 : BitVec 32 := 0#32
  let c1_i32 : BitVec 32 := 1#32
  let arg19 : BitVec 32 := Scf.iv c0_i32 c1_i32 k0_t1
  let c128_i32_230 : BitVec 32 := 128#32
  let v463 : BitVec 32 := Scalar.muli arg19 c128_i32_230
  v463
def k0_off13 (k0_t1 : Fin k0_t1_loop.trips) : Fin 3 → Nat :=
  let c0_231 : Index := 0#32
  let c0_i32 : BitVec 32 := 0#32
  let c1_i32 : BitVec 32 := 1#32
  let arg19 : BitVec 32 := Scf.iv c0_i32 c1_i32 k0_t1
  let c128_i32_230 : BitVec 32 := 128#32
  let v463 : BitVec 32 := Scalar.muli arg19 c128_i32_230
  let v464 : BitVec 32 := v463
  let v465 : Index := Scalar.indexCast v464
  let c384_232 : Index := 384#32
  ![0, v465.toNat, 384]
def k0_off14 (k0_t1 : Fin k0_t1_loop.trips) : Fin 2 → Nat :=
  let c0_i32 : BitVec 32 := 0#32
  let c1_i32 : BitVec 32 := 1#32
  let arg19 : BitVec 32 := Scf.iv c0_i32 c1_i32 k0_t1
  let c128_i32_230 : BitVec 32 := 128#32
  let v463 : BitVec 32 := Scalar.muli arg19 c128_i32_230
  let v464 : BitVec 32 := v463
  let v477 : Index := Scalar.indexCast v464
  let c384_236 : Index := 384#32
  ![v477.toNat, 384]
def k0_mult8 (k0_t1 : Fin k0_t1_loop.trips) : BitVec 32 :=
  let c15_i32_238 : BitVec 32 := 15#32
  let c0_i32 : BitVec 32 := 0#32
  let c1_i32 : BitVec 32 := 1#32
  let arg19 : BitVec 32 := Scf.iv c0_i32 c1_i32 k0_t1
  let v481 : BitVec 32 := Scalar.subi c15_i32_238 arg19
  let c128_i32_239 : BitVec 32 := 128#32
  let v482 : BitVec 32 := Scalar.muli v481 c128_i32_239
  v482
def k0_off15 (k0_t1 : Fin k0_t1_loop.trips) : Fin 3 → Nat :=
  let c0_240 : Index := 0#32
  let c15_i32_238 : BitVec 32 := 15#32
  let c0_i32 : BitVec 32 := 0#32
  let c1_i32 : BitVec 32 := 1#32
  let arg19 : BitVec 32 := Scf.iv c0_i32 c1_i32 k0_t1
  let v481 : BitVec 32 := Scalar.subi c15_i32_238 arg19
  let c128_i32_239 : BitVec 32 := 128#32
  let v482 : BitVec 32 := Scalar.muli v481 c128_i32_239
  let v483 : BitVec 32 := v482
  let v484 : Index := Scalar.indexCast v483
  let c384_241 : Index := 384#32
  ![0, v484.toNat, 384]
def k0_off16 (k0_t1 : Fin k0_t1_loop.trips) : Fin 2 → Nat :=
  let c15_i32_238 : BitVec 32 := 15#32
  let c0_i32 : BitVec 32 := 0#32
  let c1_i32 : BitVec 32 := 1#32
  let arg19 : BitVec 32 := Scf.iv c0_i32 c1_i32 k0_t1
  let v481 : BitVec 32 := Scalar.subi c15_i32_238 arg19
  let c128_i32_239 : BitVec 32 := 128#32
  let v482 : BitVec 32 := Scalar.muli v481 c128_i32_239
  let v483 : BitVec 32 := v482
  let v496 : Index := Scalar.indexCast v483
  let c384_245 : Index := 384#32
  ![v496.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x2048x18432 : Shape := ⟨3, ![4, 2048, 18432]⟩
abbrev S2x2x2048 : Shape := ⟨3, ![2, 2, 2048]⟩
abbrev S1x2048 : Shape := ⟨2, ![1, 2048]⟩
abbrev S4x16x128x128 : Shape := ⟨4, ![4, 16, 128, 128]⟩
abbrev S_ : Shape := ⟨0, ![]⟩
abbrev S2x2048 : Shape := ⟨2, ![2, 2048]⟩
abbrev S1x2x2048 : Shape := ⟨3, ![1, 2, 2048]⟩
abbrev S1x1x2048 : Shape := ⟨3, ![1, 1, 2048]⟩
abbrev S2048 : Shape := ⟨1, ![2048]⟩
abbrev S4x2048x10240 : Shape := ⟨3, ![4, 2048, 10240]⟩
abbrev S4x2048x2048 : Shape := ⟨3, ![4, 2048, 2048]⟩
abbrev S4x2048x16x128 : Shape := ⟨4, ![4, 2048, 16, 128]⟩
abbrev S4x16x2048x128 : Shape := ⟨4, ![4, 16, 2048, 128]⟩
abbrev S2048x1 : Shape := ⟨2, ![2048, 1]⟩
abbrev S2048x2048 : Shape := ⟨2, ![2048, 2048]⟩
abbrev S2048x2048x1 : Shape := ⟨3, ![2048, 2048, 1]⟩
abbrev S4x16x2048x1x128 : Shape := ⟨5, ![4, 16, 2048, 1, 128]⟩
abbrev S4x16x1x2048x128 : Shape := ⟨5, ![4, 16, 1, 2048, 128]⟩
abbrev S4x16x2048x2048x128 : Shape := ⟨5, ![4, 16, 2048, 2048, 128]⟩
abbrev S4x16x2048x2048 : Shape := ⟨4, ![4, 16, 2048, 2048]⟩
abbrev S4x2048x16 : Shape := ⟨3, ![4, 2048, 16]⟩
abbrev S4x2048x16x1 : Shape := ⟨4, ![4, 2048, 16, 1]⟩

abbrev nBuf : Space → Nat
  | .hbm => 220
  | .vmem => 0
  | .smem => 0
  | _ => 0

abbrev hbmTy0_0 (i : Nat) : BufTy := match i % 128 with
  | 0 => ⟨S4x2048x18432, .bf16⟩
  | 1 => ⟨S2x2x2048, .f32⟩
  | 2 => ⟨S1x2048, .f32⟩
  | 3 => ⟨S4x16x128x128, .f32⟩
  | 4 => ⟨S4x16x128x128, .f32⟩
  | 5 => ⟨S_, .f32⟩
  | 6 => ⟨S2x2048, .f32⟩
  | 7 => ⟨S_, .f32⟩
  | 8 => ⟨S2x2048, .f32⟩
  | 9 => ⟨S2x2048, .f32⟩
  | 10 => ⟨S1x2x2048, .f32⟩
  | 11 => ⟨S2x2x2048, .f32⟩
  | 12 => ⟨S2x2x2048, .f32⟩
  | 13 => ⟨S2x2x2048, .f32⟩
  | 14 => ⟨S_, .f32⟩
  | 15 => ⟨S2x2048, .f32⟩
  | 16 => ⟨S1x2x2048, .f32⟩
  | 17 => ⟨S2x2x2048, .f32⟩
  | 18 => ⟨S2x2x2048, .f32⟩
  | 19 => ⟨S_, .f32⟩
  | 20 => ⟨S_, .f32⟩
  | 21 => ⟨S2x2x2048, .f32⟩
  | 22 => ⟨S1x1x2048, .f32⟩
  | 23 => ⟨S2048, .f32⟩
  | 24 => ⟨S1x1x2048, .f32⟩
  | 25 => ⟨S2048, .f32⟩
  | 26 => ⟨S2048, .f32⟩
  | 27 => ⟨S4x2048x10240, .bf16⟩
  | 28 => ⟨S4x2048x10240, .f32⟩
  | 29 => ⟨S4x2048x2048, .f32⟩
  | 30 => ⟨S4x2048x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S4x2048x2048, .f32⟩
  | 36 => ⟨S_, .f32⟩
  | 37 => ⟨S4x2048x2048, .f32⟩
  | 38 => ⟨S4x2048x2048, .f32⟩
  | 39 => ⟨S_, .f32⟩
  | 40 => ⟨S4x2048x2048, .f32⟩
  | 41 => ⟨S4x2048x2048, .f32⟩
  | 42 => ⟨S4x2048x2048, .f32⟩
  | 43 => ⟨S4x2048x16x128, .f32⟩
  | 44 => ⟨S_, .f32⟩
  | 45 => ⟨S4x2048x16x128, .f32⟩
  | 46 => ⟨S4x2048x16x128, .f32⟩
  | 47 => ⟨S_, .f32⟩
  | 48 => ⟨S2048, .f32⟩
  | 49 => ⟨S2048, .f32⟩
  | 50 => ⟨S4x2048x2048, .f32⟩
  | 51 => ⟨S4x2048x2048, .f32⟩
  | 52 => ⟨S_, .f32⟩
  | 53 => ⟨S4x2048x2048, .f32⟩
  | 54 => ⟨S4x2048x2048, .f32⟩
  | 55 => ⟨S_, .f32⟩
  | 56 => ⟨S4x2048x2048, .f32⟩
  | 57 => ⟨S4x2048x2048, .f32⟩
  | 58 => ⟨S1x1x2048, .f32⟩
  | 59 => ⟨S4x2048x2048, .f32⟩
  | 60 => ⟨S4x2048x2048, .f32⟩
  | 61 => ⟨S1x1x2048, .f32⟩
  | 62 => ⟨S4x2048x2048, .f32⟩
  | 63 => ⟨S4x2048x2048, .f32⟩
  | 64 => ⟨S4x2048x2048, .f32⟩
  | 65 => ⟨S4x2048x16x128, .f32⟩
  | 66 => ⟨S_, .f32⟩
  | 67 => ⟨S4x2048x2048, .f32⟩
  | 68 => ⟨S4x2048x2048, .f32⟩
  | 69 => ⟨S4x2048x16x128, .f32⟩
  | 70 => ⟨S_, .f32⟩
  | 71 => ⟨S2048, .f32⟩
  | 72 => ⟨S2048, .f32⟩
  | 73 => ⟨S4x2048x2048, .f32⟩
  | 74 => ⟨S4x2048x2048, .f32⟩
  | 75 => ⟨S_, .f32⟩
  | 76 => ⟨S4x2048x2048, .f32⟩
  | 77 => ⟨S4x2048x2048, .f32⟩
  | 78 => ⟨S_, .f32⟩
  | 79 => ⟨S4x2048x2048, .f32⟩
  | 80 => ⟨S4x2048x2048, .f32⟩
  | 81 => ⟨S1x1x2048, .f32⟩
  | 82 => ⟨S4x2048x2048, .f32⟩
  | 83 => ⟨S4x2048x2048, .f32⟩
  | 84 => ⟨S1x1x2048, .f32⟩
  | 85 => ⟨S4x2048x2048, .f32⟩
  | 86 => ⟨S4x2048x2048, .f32⟩
  | 87 => ⟨S4x2048x2048, .f32⟩
  | 88 => ⟨S4x2048x16x128, .f32⟩
  | 89 => ⟨S_, .f32⟩
  | 90 => ⟨S4x2048x2048, .f32⟩
  | 91 => ⟨S4x2048x2048, .f32⟩
  | 92 => ⟨S4x2048x16x128, .f32⟩
  | 93 => ⟨S4x2048x16x128, .f32⟩
  | 94 => ⟨S4x16x128x128, .f32⟩
  | 95 => ⟨S4x16x2048x128, .f32⟩
  | 96 => ⟨S4x16x2048x128, .f32⟩
  | 97 => ⟨S4x16x2048x128, .f32⟩
  | 98 => ⟨S4x16x2048x128, .f32⟩
  | 99 => ⟨S_, .f32⟩
  | 100 => ⟨S_, .f32⟩
  | 101 => ⟨S4x16x2048x128, .f32⟩
  | 102 => ⟨S2048, .i32⟩
  | 103 => ⟨S2048x1, .i32⟩
  | 104 => ⟨S2048, .i32⟩
  | 105 => ⟨S1x2048, .i32⟩
  | 106 => ⟨S2048x2048, .i32⟩
  | 107 => ⟨S2048x2048, .i32⟩
  | 108 => ⟨S2048x2048, .i1⟩
  | 109 => ⟨S2048x2048x1, .i1⟩
  | 110 => ⟨S4x16x2048x1x128, .f32⟩
  | 111 => ⟨S4x16x1x2048x128, .f32⟩
  | 112 => ⟨S4x16x2048x2048x128, .f32⟩
  | 113 => ⟨S4x16x2048x2048x128, .f32⟩
  | 114 => ⟨S4x16x2048x2048x128, .f32⟩
  | 115 => ⟨S_, .f32⟩
  | 116 => ⟨S_, .f32⟩
  | 117 => ⟨S4x16x2048x2048x128, .i1⟩
  | 118 => ⟨S4x16x2048x2048x128, .f32⟩
  | 119 => ⟨S4x16x2048x2048x128, .f32⟩
  | 120 => ⟨S4x16x2048x2048x128, .f32⟩
  | 121 => ⟨S_, .f32⟩
  | 122 => ⟨S_, .f32⟩
  | 123 => ⟨S4x16x2048x2048x128, .i1⟩
  | 124 => ⟨S4x16x2048x2048x128, .f32⟩
  | 125 => ⟨S4x16x2048x2048x128, .f32⟩
  | 126 => ⟨S4x16x2048x1x128, .f32⟩
  | 127 => ⟨S4x16x1x2048x128, .f32⟩
  | _ => ⟨S4x2048x18432, .bf16⟩

abbrev hbmTy0_1 (i : Nat) : BufTy := match i % 128 with
  | 0 => ⟨S4x16x2048x2048x128, .f32⟩
  | 1 => ⟨S4x16x2048x2048x128, .f32⟩
  | 2 => ⟨S4x16x2048x2048x128, .f32⟩
  | 3 => ⟨S4x16x2048x2048x128, .f32⟩
  | 4 => ⟨S_, .f32⟩
  | 5 => ⟨S4x16x2048x2048, .f32⟩
  | 6 => ⟨S4x16x2048x128, .f32⟩
  | 7 => ⟨S4x16x2048x128, .f32⟩
  | 8 => ⟨S4x16x2048x128, .f32⟩
  | 9 => ⟨S4x16x2048x128, .f32⟩
  | 10 => ⟨S4x16x2048x128, .f32⟩
  | 11 => ⟨S4x2048x16x128, .f32⟩
  | 12 => ⟨S4x2048x16x128, .f32⟩
  | 13 => ⟨S4x2048x16x128, .f32⟩
  | 14 => ⟨S4x2048x16x128, .f32⟩
  | 15 => ⟨S4x2048x16x128, .f32⟩
  | 16 => ⟨S4x16x128x128, .f32⟩
  | 17 => ⟨S4x16x2048x128, .f32⟩
  | 18 => ⟨S4x16x2048x128, .f32⟩
  | 19 => ⟨S4x16x2048x128, .f32⟩
  | 20 => ⟨S4x16x2048x128, .f32⟩
  | 21 => ⟨S_, .f32⟩
  | 22 => ⟨S_, .f32⟩
  | 23 => ⟨S4x16x2048x128, .f32⟩
  | 24 => ⟨S2048, .i32⟩
  | 25 => ⟨S2048x1, .i32⟩
  | 26 => ⟨S2048, .i32⟩
  | 27 => ⟨S1x2048, .i32⟩
  | 28 => ⟨S2048x2048, .i32⟩
  | 29 => ⟨S2048x2048, .i32⟩
  | 30 => ⟨S2048x2048, .i1⟩
  | 31 => ⟨S2048x2048x1, .i1⟩
  | 32 => ⟨S4x16x2048x1x128, .f32⟩
  | 33 => ⟨S4x16x1x2048x128, .f32⟩
  | 34 => ⟨S4x16x2048x2048x128, .f32⟩
  | 35 => ⟨S4x16x2048x2048x128, .f32⟩
  | 36 => ⟨S4x16x2048x2048x128, .f32⟩
  | 37 => ⟨S_, .f32⟩
  | 38 => ⟨S_, .f32⟩
  | 39 => ⟨S4x16x2048x2048x128, .i1⟩
  | 40 => ⟨S4x16x2048x2048x128, .f32⟩
  | 41 => ⟨S4x16x2048x2048x128, .f32⟩
  | 42 => ⟨S4x16x2048x2048x128, .f32⟩
  | 43 => ⟨S_, .f32⟩
  | 44 => ⟨S_, .f32⟩
  | 45 => ⟨S4x16x2048x2048x128, .i1⟩
  | 46 => ⟨S4x16x2048x2048x128, .f32⟩
  | 47 => ⟨S4x16x2048x2048x128, .f32⟩
  | 48 => ⟨S4x16x2048x1x128, .f32⟩
  | 49 => ⟨S4x16x1x2048x128, .f32⟩
  | 50 => ⟨S4x16x2048x2048x128, .f32⟩
  | 51 => ⟨S4x16x2048x2048x128, .f32⟩
  | 52 => ⟨S4x16x2048x2048x128, .f32⟩
  | 53 => ⟨S4x16x2048x2048x128, .f32⟩
  | 54 => ⟨S_, .f32⟩
  | 55 => ⟨S4x16x2048x2048, .f32⟩
  | 56 => ⟨S4x16x2048x128, .f32⟩
  | 57 => ⟨S4x16x2048x128, .f32⟩
  | 58 => ⟨S4x16x2048x128, .f32⟩
  | 59 => ⟨S4x16x2048x128, .f32⟩
  | 60 => ⟨S4x16x2048x128, .f32⟩
  | 61 => ⟨S4x2048x16x128, .f32⟩
  | 62 => ⟨S4x2048x16x128, .f32⟩
  | 63 => ⟨S4x2048x16x128, .f32⟩
  | 64 => ⟨S4x2048x16x128, .f32⟩
  | 65 => ⟨S_, .f32⟩
  | 66 => ⟨S4x2048x16, .f32⟩
  | 67 => ⟨S4x2048x16x1, .f32⟩
  | 68 => ⟨S_, .f32⟩
  | 69 => ⟨S4x2048x16x1, .f32⟩
  | 70 => ⟨S4x2048x16x1, .f32⟩
  | 71 => ⟨S_, .f32⟩
  | 72 => ⟨S4x2048x16x1, .f32⟩
  | 73 => ⟨S4x2048x16x1, .f32⟩
  | 74 => ⟨S4x2048x16x1, .f32⟩
  | 75 => ⟨S4x2048x16x128, .f32⟩
  | 76 => ⟨S4x2048x16x128, .f32⟩
  | 77 => ⟨S4x2048x2048, .f32⟩
  | 78 => ⟨S1x1x2048, .f32⟩
  | 79 => ⟨S4x2048x2048, .f32⟩
  | 80 => ⟨S4x2048x2048, .f32⟩
  | 81 => ⟨S4x2048x2048, .f32⟩
  | 82 => ⟨S4x2048x2048, .f32⟩
  | 83 => ⟨S_, .f32⟩
  | 84 => ⟨S4x2048x2048, .f32⟩
  | 85 => ⟨S4x2048x2048, .f32⟩
  | 86 => ⟨S_, .f32⟩
  | 87 => ⟨S4x2048x2048, .f32⟩
  | 88 => ⟨S4x2048x2048, .f32⟩
  | 89 => ⟨S4x2048x2048, .f32⟩
  | 90 => ⟨S4x2048x2048, .f32⟩
  | 91 => ⟨S4x2048x2048, .bf16⟩
  | _ => ⟨S4x2048x18432, .bf16⟩

abbrev hbmTy (i : Nat) : BufTy := match i / 128 with
  | 0 => hbmTy0_0 i
  | 1 => hbmTy0_1 i
  | _ => ⟨S4x2048x18432, .bf16⟩

abbrev bufTy : (tb : Table) → Fin (tcTables nBuf tb) → BufTy
  | .hbm, ⟨i, _⟩ => hbmTy i
  | _, _ => ⟨S4x2048x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call2_call0_cst : Ref sig .tc := ⟨.hbm, 99, rfl⟩
abbrev main_call2_call0_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_13 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_call5_call0_cst : Ref sig .tc := ⟨.hbm, 149, rfl⟩
abbrev main_call5_call0_v0 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_14 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_v125 : Ref sig .tc := ⟨.hbm, 169, rfl⟩
abbrev main_v126 : Ref sig .tc := ⟨.hbm, 170, rfl⟩
abbrev main_cst_15 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_16 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_17 : Ref sig .tc := ⟨.hbm, 193, rfl⟩
abbrev main_v144 : Ref sig .tc := ⟨.hbm, 194, rfl⟩
abbrev main_v145 : Ref sig .tc := ⟨.hbm, 195, rfl⟩
abbrev main_cst_18 : Ref sig .tc := ⟨.hbm, 196, rfl⟩
abbrev main_v146 : Ref sig .tc := ⟨.hbm, 197, rfl⟩
abbrev main_v147 : Ref sig .tc := ⟨.hbm, 198, rfl⟩
abbrev main_cst_19 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_call8_v0 : Ref sig .tc := ⟨.hbm, 209, rfl⟩
abbrev main_call8_v1 : Ref sig .tc := ⟨.hbm, 210, rfl⟩
abbrev main_call8_cst : Ref sig .tc := ⟨.hbm, 211, rfl⟩
abbrev main_call8_v2 : Ref sig .tc := ⟨.hbm, 212, rfl⟩
abbrev main_call8_v3 : Ref sig .tc := ⟨.hbm, 213, rfl⟩
abbrev main_call8_cst_0 : Ref sig .tc := ⟨.hbm, 214, rfl⟩
abbrev main_call8_v4 : Ref sig .tc := ⟨.hbm, 215, rfl⟩
abbrev main_call8_v5 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩

abbrev nD : Nat := 1
abbrev τ : Topo := Topo.v7x

variable {F : FTy → Type} [FloatOps F]
-- ==== InKernel.lean ====
abbrev S4x2048x4096 : Shape := ⟨3, ![4, 2048, 4096]⟩
abbrev S1x4096x24576 : Shape := ⟨3, ![1, 4096, 24576]⟩
abbrev S8192x4096 : Shape := ⟨2, ![8192, 4096]⟩
abbrev S4096x24576 : Shape := ⟨2, ![4096, 24576]⟩
abbrev S8192x18432 : Shape := ⟨2, ![8192, 18432]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x24576, .f32⟩
  | .hbm, ⟨2, _⟩ => ⟨S8192x4096, .bf16⟩
  | .hbm, ⟨3, _⟩ => ⟨S4096x24576, .f32⟩
  | .hbm, ⟨4, _⟩ => ⟨S8192x18432, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S4x2048x4096 : Shape := ⟨3, ![4, 2048, 4096]⟩
abbrev S1x4096x24576 : Shape := ⟨3, ![1, 4096, 24576]⟩
abbrev S4096x24576 : Shape := ⟨2, ![4096, 24576]⟩
abbrev S4x2048x24576 : Shape := ⟨3, ![4, 2048, 24576]⟩
abbrev S4x2048x18432 : Shape := ⟨3, ![4, 2048, 18432]⟩
abbrev S8192x18432 : Shape := ⟨2, ![8192, 18432]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x24576, .f32⟩
  | .hbm, ⟨2, _⟩ => ⟨S4x2048x4096, .f32⟩
  | .hbm, ⟨3, _⟩ => ⟨S4096x24576, .f32⟩
  | .hbm, ⟨4, _⟩ => ⟨S4x2048x24576, .f32⟩
  | .hbm, ⟨5, _⟩ => ⟨S4x2048x18432, .f32⟩
  | .hbm, ⟨6, _⟩ => ⟨S4x2048x18432, .bf16⟩
  | .hbm, ⟨7, _⟩ => ⟨S8192x18432, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpKernel.lean ====
abbrev S16x4x256x4096 : Shape := ⟨4, ![16, 4, 256, 4096]⟩
abbrev S1x16x4096x2048 : Shape := ⟨4, ![1, 16, 4096, 2048]⟩
abbrev S16x1024x4096 : Shape := ⟨3, ![16, 1024, 4096]⟩
abbrev S16x4096x2048 : Shape := ⟨3, ![16, 4096, 2048]⟩
abbrev S16x1024x2048 : Shape := ⟨3, ![16, 1024, 2048]⟩
abbrev S1x1024x4096 : Shape := ⟨3, ![1, 1024, 4096]⟩
abbrev S1x4096x256 : Shape := ⟨3, ![1, 4096, 256]⟩
abbrev S1x1024x256 : Shape := ⟨3, ![1, 1024, 256]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S16x4x256x4096, .bf16⟩
  | .hbm, ⟨1, _⟩ => ⟨S1x16x4096x2048, .f32⟩
  | .hbm, ⟨2, _⟩ => ⟨S1x16x4096x2048, .f32⟩
  | .hbm, ⟨3, _⟩ => ⟨S16x1024x4096, .bf16⟩
  | .hbm, ⟨4, _⟩ => ⟨S16x4096x2048, .f32⟩
  | .hbm, ⟨5, _⟩ => ⟨S16x4096x2048, .f32⟩
  | .hbm, ⟨6, _⟩ => ⟨S16x1024x2048, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x1024x256, .bf16⟩
  | .local _ .vmem, ⟨7, _⟩ => ⟨S1x1024x256, .bf16⟩
  | _, _ => ⟨S16x4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S16x4x256x4096 : Shape := ⟨4, ![16, 4, 256, 4096]⟩
abbrev S1x16x4096x2048 : Shape := ⟨4, ![1, 16, 4096, 2048]⟩
abbrev S16x4096x2048 : Shape := ⟨3, ![16, 4096, 2048]⟩
abbrev S16x4x256x2048 : Shape := ⟨4, ![16, 4, 256, 2048]⟩
abbrev S_ : Shape := ⟨0, ![]⟩
abbrev S16x1024x2048 : Shape := ⟨3, ![16, 1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16x4x256x4096, .bf16⟩
  | .hbm, ⟨1, _⟩ => ⟨S1x16x4096x2048, .f32⟩
  | .hbm, ⟨2, _⟩ => ⟨S1x16x4096x2048, .f32⟩
  | .hbm, ⟨3, _⟩ => ⟨S16x4x256x4096, .f32⟩
  | .hbm, ⟨4, _⟩ => ⟨S16x4096x2048, .f32⟩
  | .hbm, ⟨5, _⟩ => ⟨S16x4x256x2048, .f32⟩
  | .hbm, ⟨6, _⟩ => ⟨S16x4x256x2048, .f32⟩
  | .hbm, ⟨7, _⟩ => ⟨S16x4x256x2048, .f32⟩
  | .hbm, ⟨8, _⟩ => ⟨S_, .f32⟩
  | .hbm, ⟨9, _⟩ => ⟨S16x4x256x2048, .f32⟩
  | .hbm, ⟨10, _⟩ => ⟨S16x4x256x2048, .f32⟩
  | .hbm, ⟨11, _⟩ => ⟨S_, .f32⟩
  | .hbm, ⟨12, _⟩ => ⟨S16x4x256x2048, .f32⟩
  | .hbm, ⟨13, _⟩ => ⟨S16x4x256x2048, .f32⟩
  | .hbm, ⟨14, _⟩ => ⟨S16x4x256x2048, .f32⟩
  | .hbm, ⟨15, _⟩ => ⟨S16x4096x2048, .f32⟩
  | .hbm, ⟨16, _⟩ => ⟨S16x4x256x2048, .f32⟩
  | .hbm, ⟨17, _⟩ => ⟨S16x4x256x2048, .f32⟩
  | .hbm, ⟨18, _⟩ => ⟨S16x4x256x2048, .bf16⟩
  | .hbm, ⟨19, _⟩ => ⟨S16x1024x2048, .bf16⟩
  | _, _ => ⟨S16x4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== DownKernel.lean ====
abbrev S16x4x256x2048 : Shape := ⟨4, ![16, 4, 256, 2048]⟩
abbrev S1x16x2048x4096 : Shape := ⟨4, ![1, 16, 2048, 4096]⟩
abbrev S16x1024x2048 : Shape := ⟨3, ![16, 1024, 2048]⟩
abbrev S16x2048x4096 : Shape := ⟨3, ![16, 2048, 4096]⟩
abbrev S16x1024x4096 : Shape := ⟨3, ![16, 1024, 4096]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x4x256x2048, .bf16⟩
  | .hbm, ⟨1, _⟩ => ⟨S1x16x2048x4096, .f32⟩
  | .hbm, ⟨2, _⟩ => ⟨S16x1024x2048, .bf16⟩
  | .hbm, ⟨3, _⟩ => ⟨S16x2048x4096, .f32⟩
  | .hbm, ⟨4, _⟩ => ⟨S16x1024x4096, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1x1024x1024, .bf16⟩
  | _, _ => ⟨S16x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S16x4x256x2048 : Shape := ⟨4, ![16, 4, 256, 2048]⟩
abbrev S1x16x2048x4096 : Shape := ⟨4, ![1, 16, 2048, 4096]⟩
abbrev S16x2048x4096 : Shape := ⟨3, ![16, 2048, 4096]⟩
abbrev S16x4x256x4096 : Shape := ⟨4, ![16, 4, 256, 4096]⟩
abbrev S16x1024x4096 : Shape := ⟨3, ![16, 1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16x4x256x2048, .bf16⟩
  | .hbm, ⟨1, _⟩ => ⟨S1x16x2048x4096, .f32⟩
  | .hbm, ⟨2, _⟩ => ⟨S16x4x256x2048, .f32⟩
  | .hbm, ⟨3, _⟩ => ⟨S16x2048x4096, .f32⟩
  | .hbm, ⟨4, _⟩ => ⟨S16x4x256x4096, .f32⟩
  | .hbm, ⟨5, _⟩ => ⟨S16x4x256x4096, .bf16⟩
  | .hbm, ⟨6, _⟩ => ⟨S16x1024x4096, .bf16⟩
  | _, _ => ⟨S16x4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MergeKernel.lean ====
abbrev S4x2048x2048 : Shape := ⟨3, ![4, 2048, 2048]⟩
abbrev S1x2048x4096 : Shape := ⟨3, ![1, 2048, 4096]⟩
abbrev S4x2048x18432 : Shape := ⟨3, ![4, 2048, 18432]⟩
abbrev S8192x2048 : Shape := ⟨2, ![8192, 2048]⟩
abbrev S2048x4096 : Shape := ⟨2, ![2048, 4096]⟩
abbrev S8192x18432 : Shape := ⟨2, ![8192, 18432]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 11
  | .vmem => 16
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S1x2048x4096, .f32⟩
  | .hbm, ⟨3, _⟩ => ⟨S1x2048x4096, .f32⟩
  | .hbm, ⟨4, _⟩ => ⟨S4x2048x18432, .bf16⟩
  | .hbm, ⟨5, _⟩ => ⟨S8192x2048, .bf16⟩
  | .hbm, ⟨6, _⟩ => ⟨S8192x2048, .bf16⟩
  | .hbm, ⟨7, _⟩ => ⟨S2048x4096, .f32⟩
  | .hbm, ⟨8, _⟩ => ⟨S2048x4096, .f32⟩
  | .hbm, ⟨9, _⟩ => ⟨S8192x18432, .bf16⟩
  | .hbm, ⟨10, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S4x2048x2048 : Shape := ⟨3, ![4, 2048, 2048]⟩
abbrev S1x2048x4096 : Shape := ⟨3, ![1, 2048, 4096]⟩
abbrev S4x2048x18432 : Shape := ⟨3, ![4, 2048, 18432]⟩
abbrev S4x2048x8192 : Shape := ⟨3, ![4, 2048, 8192]⟩
abbrev S4x2048x4096 : Shape := ⟨3, ![4, 2048, 4096]⟩
abbrev S_ : Shape := ⟨0, ![]⟩
abbrev S2048x4096 : Shape := ⟨2, ![2048, 4096]⟩
abbrev S8192x4096 : Shape := ⟨2, ![8192, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S1x2048x4096, .f32⟩
  | .hbm, ⟨3, _⟩ => ⟨S1x2048x4096, .f32⟩
  | .hbm, ⟨4, _⟩ => ⟨S4x2048x18432, .bf16⟩
  | .hbm, ⟨5, _⟩ => ⟨S4x2048x2048, .f32⟩
  | .hbm, ⟨6, _⟩ => ⟨S4x2048x2048, .f32⟩
  | .hbm, ⟨7, _⟩ => ⟨S4x2048x18432, .f32⟩
  | .hbm, ⟨8, _⟩ => ⟨S4x2048x8192, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S4x2048x4096, .f32⟩
  | .hbm, ⟨18, _⟩ => ⟨S4x2048x4096, .f32⟩
  | .hbm, ⟨19, _⟩ => ⟨S2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x2048x4096, .f32⟩
  | .hbm, ⟨29, _⟩ => ⟨S4x2048x4096, .f32⟩
  | .hbm, ⟨30, _⟩ => ⟨S2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .bf16⟩
  | .hbm, ⟨35, _⟩ => ⟨S8192x4096, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== OutKernel.lean ====
abbrev S4x2048x4096 : Shape := ⟨3, ![4, 2048, 4096]⟩
abbrev S1x4096x4096 : Shape := ⟨3, ![1, 4096, 4096]⟩
abbrev S4x4096 : Shape := ⟨2, ![4, 4096]⟩
abbrev S8192x4096 : Shape := ⟨2, ![8192, 4096]⟩
abbrev S4096x4096 : Shape := ⟨2, ![4096, 4096]⟩
abbrev S4x1x4096 : Shape := ⟨3, ![4, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x4096, .f32⟩
  | .hbm, ⟨2, _⟩ => ⟨S4x2048x4096, .f32⟩
  | .hbm, ⟨3, _⟩ => ⟨S4x4096, .f32⟩
  | .hbm, ⟨4, _⟩ => ⟨S8192x4096, .bf16⟩
  | .hbm, ⟨5, _⟩ => ⟨S4096x4096, .f32⟩
  | .hbm, ⟨6, _⟩ => ⟨S8192x4096, .f32⟩
  | .hbm, ⟨7, _⟩ => ⟨S4x1x4096, .f32⟩
  | .hbm, ⟨8, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S4x2048x4096 : Shape := ⟨3, ![4, 2048, 4096]⟩
abbrev S1x4096x4096 : Shape := ⟨3, ![1, 4096, 4096]⟩
abbrev S4x4096 : Shape := ⟨2, ![4, 4096]⟩
abbrev S4096x4096 : Shape := ⟨2, ![4096, 4096]⟩
abbrev S4x1x4096 : Shape := ⟨3, ![4, 1, 4096]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x4096, .f32⟩
  | .hbm, ⟨2, _⟩ => ⟨S4x2048x4096, .f32⟩
  | .hbm, ⟨3, _⟩ => ⟨S4x4096, .f32⟩
  | .hbm, ⟨4, _⟩ => ⟨S4x2048x4096, .f32⟩
  | .hbm, ⟨5, _⟩ => ⟨S4096x4096, .f32⟩
  | .hbm, ⟨6, _⟩ => ⟨S4x2048x4096, .f32⟩
  | .hbm, ⟨7, _⟩ => ⟨S4x1x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S8192x4096, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ConvKernel.lean ====
abbrev S4x2x1024x4096 : Shape := ⟨4, ![4, 2, 1024, 4096]⟩
abbrev S1x4096x24576 : Shape := ⟨3, ![1, 4096, 24576]⟩
abbrev S1x3x6144 : Shape := ⟨3, ![1, 3, 6144]⟩
abbrev S1x6144 : Shape := ⟨2, ![1, 6144]⟩
abbrev S4096x24576 : Shape := ⟨2, ![4096, 24576]⟩
abbrev S3x6144 : Shape := ⟨2, ![3, 6144]⟩
abbrev S6144 : Shape := ⟨1, ![6144]⟩
abbrev S4x2x1024x6144 : Shape := ⟨4, ![4, 2, 1024, 6144]⟩
abbrev S1x1x512x4096 : Shape := ⟨4, ![1, 1, 512, 4096]⟩
abbrev S4096x512 : Shape := ⟨2, ![4096, 512]⟩
abbrev S3x512 : Shape := ⟨2, ![3, 512]⟩
abbrev S1x512 : Shape := ⟨2, ![1, 512]⟩
abbrev S1x2x512x512 : Shape := ⟨4, ![1, 2, 512, 512]⟩
abbrev S512x4096 : Shape := ⟨2, ![512, 4096]⟩
abbrev S512x512 : Shape := ⟨2, ![512, 512]⟩
abbrev S1x1x512x512 : Shape := ⟨4, ![1, 1, 512, 512]⟩

abbrev nBuf : Space → Nat
  | .hbm => 9
  | .vmem => 13
  | .smem => 0
  | _ => 0

abbrev bufTy : (tb : Table) → Fin (tcTables nBuf tb) → BufTy
  | .hbm, ⟨0, _⟩ => ⟨S4x2x1024x4096, .bf16⟩
  | .hbm, ⟨1, _⟩ => ⟨S1x4096x24576, .f32⟩
  | .hbm, ⟨2, _⟩ => ⟨S1x3x6144, .f32⟩
  | .hbm, ⟨3, _⟩ => ⟨S1x6144, .f32⟩
  | .hbm, ⟨4, _⟩ => ⟨S4096x24576, .f32⟩
  | .hbm, ⟨5, _⟩ => ⟨S3x6144, .f32⟩
  | .hbm, ⟨6, _⟩ => ⟨S6144, .f32⟩
  | .hbm, ⟨7, _⟩ => ⟨S1x6144, .f32⟩
  | .hbm, ⟨8, _⟩ => ⟨S4x2x1024x6144, .bf16⟩
  | .local _ .vmem, ⟨0, _⟩ => ⟨S1x1x512x4096, .bf16⟩
  | .local _ .vmem, ⟨1, _⟩ => ⟨S1x1x512x4096, .bf16⟩
  | .local _ .vmem, ⟨2, _⟩ => ⟨S1x1x512x4096, .bf16⟩
  | .local _ .vmem, ⟨3, _⟩ => ⟨S1x1x512x4096, .bf16⟩
  | .local _ .vmem, ⟨4, _⟩ => ⟨S4096x512, .f32⟩
  | .local _ .vmem, ⟨5, _⟩ => ⟨S4096x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x2x512x512, .bf16⟩
  | .local _ .vmem, ⟨11, _⟩ => ⟨S1x2x512x512, .bf16⟩
  | .local _ .vmem, ⟨12, _⟩ => ⟨S4096x512, .bf16⟩
  | _, _ => ⟨S4x2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg0.toNat]

abbrev stage0_0 : Fin 2 → Memref sig .tc .vmem S1x1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S4x2x1024x4096 : Shape := ⟨4, ![4, 2, 1024, 4096]⟩
abbrev S1x4096x24576 : Shape := ⟨3, ![1, 4096, 24576]⟩
abbrev S1x3x6144 : Shape := ⟨3, ![1, 3, 6144]⟩
abbrev S1x6144 : Shape := ⟨2, ![1, 6144]⟩
abbrev S4x1024x2x4096 : Shape := ⟨4, ![4, 1024, 2, 4096]⟩
abbrev S4x2048x4096 : Shape := ⟨3, ![4, 2048, 4096]⟩
abbrev S4096x24576 : Shape := ⟨2, ![4096, 24576]⟩
abbrev S4x2048x24576 : Shape := ⟨3, ![4, 2048, 24576]⟩
abbrev S4x2048x6144 : Shape := ⟨3, ![4, 2048, 6144]⟩
abbrev S3x6144 : Shape := ⟨2, ![3, 6144]⟩
abbrev S6144 : Shape := ⟨1, ![6144]⟩
abbrev S4x32x64x6144 : Shape := ⟨4, ![4, 32, 64, 6144]⟩
abbrev S_ : Shape := ⟨0, ![]⟩
abbrev S4x32x66x6144 : Shape := ⟨4, ![4, 32, 66, 6144]⟩
abbrev S1x1x1x6144 : Shape := ⟨4, ![1, 1, 1, 6144]⟩
abbrev S4x1024x2x6144 : Shape := ⟨4, ![4, 1024, 2, 6144]⟩
abbrev S4x2x1024x6144 : Shape := ⟨4, ![4, 2, 1024, 6144]⟩

abbrev nBuf : Space → Nat
  | .hbm => 42
  | .vmem => 0
  | .smem => 0
  | _ => 0

abbrev bufTy : (tb : Table) → Fin (tcTables nBuf tb) → BufTy
  | .hbm, ⟨0, _⟩ => ⟨S4x2x1024x4096, .bf16⟩
  | .hbm, ⟨1, _⟩ => ⟨S1x4096x24576, .f32⟩
  | .hbm, ⟨2, _⟩ => ⟨S1x3x6144, .f32⟩
  | .hbm, ⟨3, _⟩ => ⟨S1x6144, .f32⟩
  | .hbm, ⟨4, _⟩ => ⟨S4x2x1024x4096, .f32⟩
  | .hbm, ⟨5, _⟩ => ⟨S4x1024x2x4096, .f32⟩
  | .hbm, ⟨6, _⟩ => ⟨S4x2048x4096, .f32⟩
  | .hbm, ⟨7, _⟩ => ⟨S4096x24576, .f32⟩
  | .hbm, ⟨8, _⟩ => ⟨S4x2048x24576, .f32⟩
  | .hbm, ⟨9, _⟩ => ⟨S4x2048x6144, .f32⟩
  | .hbm, ⟨10, _⟩ => ⟨S3x6144, .f32⟩
  | .hbm, ⟨11, _⟩ => ⟨S6144, .f32⟩
  | .hbm, ⟨12, _⟩ => ⟨S4x32x64x6144, .f32⟩
  | .hbm, ⟨13, _⟩ => ⟨S_, .i32⟩
  | .hbm, ⟨14, _⟩ => ⟨S_, .f32⟩
  | .hbm, ⟨15, _⟩ => ⟨S4x32x66x6144, .f32⟩
  | .hbm, ⟨16, _⟩ => ⟨S4x32x64x6144, .f32⟩
  | .hbm, ⟨17, _⟩ => ⟨S1x6144, .f32⟩
  | .hbm, ⟨18, _⟩ => ⟨S6144, .f32⟩
  | .hbm, ⟨19, _⟩ => ⟨S1x1x1x6144, .f32⟩
  | .hbm, ⟨20, _⟩ => ⟨S4x32x64x6144, .f32⟩
  | .hbm, ⟨21, _⟩ => ⟨S4x32x64x6144, .f32⟩
  | .hbm, ⟨22, _⟩ => ⟨S4x32x64x6144, .f32⟩
  | .hbm, ⟨23, _⟩ => ⟨S1x6144, .f32⟩
  | .hbm, ⟨24, _⟩ => ⟨S6144, .f32⟩
  | .hbm, ⟨25, _⟩ => ⟨S1x1x1x6144, .f32⟩
  | .hbm, ⟨26, _⟩ => ⟨S4x32x64x6144, .f32⟩
  | .hbm, ⟨27, _⟩ => ⟨S4x32x64x6144, .f32⟩
  | .hbm, ⟨28, _⟩ => ⟨S4x32x64x6144, .f32⟩
  | .hbm, ⟨29, _⟩ => ⟨S4x32x64x6144, .f32⟩
  | .hbm, ⟨30, _⟩ => ⟨S1x6144, .f32⟩
  | .hbm, ⟨31, _⟩ => ⟨S6144, .f32⟩
  | .hbm, ⟨32, _⟩ => ⟨S1x1x1x6144, .f32⟩
  | .hbm, ⟨33, _⟩ => ⟨S4x32x64x6144, .f32⟩
  | .hbm, ⟨34, _⟩ => ⟨S4x32x64x6144, .f32⟩
  | .hbm, ⟨35, _⟩ => ⟨S4x32x64x6144, .f32⟩
  | .hbm, ⟨36, _⟩ => ⟨S1x1x1x6144, .f32⟩
  | .hbm, ⟨37, _⟩ => ⟨S4x32x64x6144, .f32⟩
  | .hbm, ⟨38, _⟩ => ⟨S4x32x64x6144, .f32⟩
  | .hbm, ⟨39, _⟩ => ⟨S4x1024x2x6144, .f32⟩
  | .hbm, ⟨40, _⟩ => ⟨S4x2x1024x6144, .f32⟩
  | .hbm, ⟨41, _⟩ => ⟨S4x2x1024x6144, .bf16⟩
  | _, _ => ⟨S4x2x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== CtxKernel.lean ====
abbrev S4x256x4096 : Shape := ⟨3, ![4, 256, 4096]⟩
abbrev S1x4096x24576 : Shape := ⟨3, ![1, 4096, 24576]⟩
abbrev S1024x4096 : Shape := ⟨2, ![1024, 4096]⟩
abbrev S4096x24576 : Shape := ⟨2, ![4096, 24576]⟩
abbrev S1024x6144 : Shape := ⟨2, ![1024, 6144]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x256x4096, .bf16⟩
  | .hbm, ⟨1, _⟩ => ⟨S1x4096x24576, .f32⟩
  | .hbm, ⟨2, _⟩ => ⟨S1024x4096, .bf16⟩
  | .hbm, ⟨3, _⟩ => ⟨S4096x24576, .f32⟩
  | .hbm, ⟨4, _⟩ => ⟨S1024x6144, .bf16⟩
  | .local _ .vmem, ⟨0, _⟩ => ⟨S1024x4096, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | .local _ .vmem, ⟨5, _⟩ => ⟨S4096x512, .bf16⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxReferenceIdeal.lean ====
abbrev S4x256x4096 : Shape := ⟨3, ![4, 256, 4096]⟩
abbrev S1x4096x24576 : Shape := ⟨3, ![1, 4096, 24576]⟩
abbrev S4096x24576 : Shape := ⟨2, ![4096, 24576]⟩
abbrev S4096x6144 : Shape := ⟨2, ![4096, 6144]⟩
abbrev S4x256x6144 : Shape := ⟨3, ![4, 256, 6144]⟩
abbrev S1024x6144 : Shape := ⟨2, ![1024, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S1x4096x24576, .f32⟩
  | .hbm, ⟨2, _⟩ => ⟨S4x256x4096, .f32⟩
  | .hbm, ⟨3, _⟩ => ⟨S4096x24576, .f32⟩
  | .hbm, ⟨4, _⟩ => ⟨S4096x6144, .f32⟩
  | .hbm, ⟨5, _⟩ => ⟨S4x256x6144, .f32⟩
  | .hbm, ⟨6, _⟩ => ⟨S4x256x6144, .bf16⟩
  | .hbm, ⟨7, _⟩ => ⟨S1024x6144, .bf16⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NormKernel.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ModKernel.lean ====
abbrev S4x256x4096 : Shape := ⟨3, ![4, 256, 4096]⟩
abbrev S1x4096 : Shape := ⟨2, ![1, 4096]⟩
abbrev S4x4096 : Shape := ⟨2, ![4, 4096]⟩
abbrev S4096 : Shape := ⟨1, ![4096]⟩
abbrev S4x1x4096 : Shape := ⟨3, ![4, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S4x4096, .f32⟩
  | .hbm, ⟨3, _⟩ => ⟨S4x4096, .f32⟩
  | .hbm, ⟨4, _⟩ => ⟨S4096, .f32⟩
  | .hbm, ⟨5, _⟩ => ⟨S1x4096, .f32⟩
  | .hbm, ⟨6, _⟩ => ⟨S4x1x4096, .f32⟩
  | .hbm, ⟨7, _⟩ => ⟨S4x1x4096, .f32⟩
  | .hbm, ⟨8, _⟩ => ⟨S4x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ModReferenceIdeal.lean ====
abbrev S4x256x4096 : Shape := ⟨3, ![4, 256, 4096]⟩
abbrev S1x4096 : Shape := ⟨2, ![1, 4096]⟩
abbrev S4x4096 : Shape := ⟨2, ![4, 4096]⟩
abbrev S_ : Shape := ⟨0, ![]⟩
abbrev S4x256 : Shape := ⟨2, ![4, 256]⟩
abbrev S4x256x1 : Shape := ⟨3, ![4, 256, 1]⟩
abbrev S4096 : Shape := ⟨1, ![4096]⟩
abbrev S1x1x4096 : Shape := ⟨3, ![1, 1, 4096]⟩
abbrev S4x1x4096 : Shape := ⟨3, ![4, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S4x4096, .f32⟩
  | .hbm, ⟨3, _⟩ => ⟨S4x4096, .f32⟩
  | .hbm, ⟨4, _⟩ => ⟨S4x256x4096, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x4096, .f32⟩
  | .hbm, ⟨16, _⟩ => ⟨S4x256x4096, .f32⟩
  | .hbm, ⟨17, _⟩ => ⟨S4096, .f32⟩
  | .hbm, ⟨18, _⟩ => ⟨S1x1x4096, .f32⟩
  | .hbm, ⟨19, _⟩ => ⟨S4x256x4096, .f32⟩
  | .hbm, ⟨20, _⟩ => ⟨S4x256x4096, .f32⟩
  | .hbm, ⟨21, _⟩ => ⟨S4x1x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x256x4096, .f32⟩
  | .hbm, ⟨26, _⟩ => ⟨S4x256x4096, .f32⟩
  | .hbm, ⟨27, _⟩ => ⟨S4x1x4096, .f32⟩
  | .hbm, ⟨28, _⟩ => ⟨S4x256x4096, .f32⟩
  | .hbm, ⟨29, _⟩ => ⟨S4x256x4096, .f32⟩
  | .hbm, ⟨30, _⟩ => ⟨S4x256x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== StatesKernel.lean ====
abbrev S4x256x6144 : Shape := ⟨3, ![4, 256, 6144]⟩
abbrev S2x2x2048 : Shape := ⟨3, ![2, 2, 2048]⟩
abbrev S_ : Shape := ⟨0, ![]⟩
abbrev S2x2048 : Shape := ⟨2, ![2, 2048]⟩
abbrev S1x2x2048 : Shape := ⟨3, ![1, 2, 2048]⟩
abbrev S1x1x2048 : Shape := ⟨3, ![1, 1, 2048]⟩
abbrev S2048 : Shape := ⟨1, ![2048]⟩
abbrev S16x1x128 : Shape := ⟨3, ![16, 1, 128]⟩
abbrev S4x16x128x128 : Shape := ⟨4, ![4, 16, 128, 128]⟩
abbrev S1x256x128 : Shape := ⟨3, ![1, 256, 128]⟩
abbrev S1x1x128 : Shape := ⟨3, ![1, 1, 128]⟩
abbrev S1x1x128x128 : Shape := ⟨4, ![1, 1, 128, 128]⟩
abbrev S256x128 : Shape := ⟨2, ![256, 128]⟩
abbrev S1x128 : Shape := ⟨2, ![1, 128]⟩
abbrev S128x128 : Shape := ⟨2, ![128, 128]⟩

abbrev nBuf : Space → Nat
  | .hbm => 27
  | .vmem => 14
  | .smem => 0
  | _ => 0

abbrev bufTy : (tb : Table) → Fin (tcTables nBuf tb) → BufTy
  | .hbm, ⟨0, _⟩ => ⟨S4x256x6144, .bf16⟩
  | .hbm, ⟨1, _⟩ => ⟨S2x2x2048, .f32⟩
  | .hbm, ⟨2, _⟩ => ⟨S_, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S1x2x2048, .f32⟩
  | .hbm, ⟨8, _⟩ => ⟨S2x2x2048, .f32⟩
  | .hbm, ⟨9, _⟩ => ⟨S2x2x2048, .f32⟩
  | .hbm, ⟨10, _⟩ => ⟨S2x2x2048, .f32⟩
  | .hbm, ⟨11, _⟩ => ⟨S_, .f32⟩
  | .hbm, ⟨12, _⟩ => ⟨S2x2048, .f32⟩
  | .hbm, ⟨13, _⟩ => ⟨S1x2x2048, .f32⟩
  | .hbm, ⟨14, _⟩ => ⟨S2x2x2048, .f32⟩
  | .hbm, ⟨15, _⟩ => ⟨S2x2x2048, .f32⟩
  | .hbm, ⟨16, _⟩ => ⟨S_, .f32⟩
  | .hbm, ⟨17, _⟩ => ⟨S_, .f32⟩
  | .hbm, ⟨18, _⟩ => ⟨S2x2x2048, .f32⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S2048, .f32⟩
  | .hbm, ⟨23, _⟩ => ⟨S16x1x128, .f32⟩
  | .hbm, ⟨24, _⟩ => ⟨S16x1x128, .f32⟩
  | .hbm, ⟨25, _⟩ => ⟨S4x16x128x128, .f32⟩
  | .hbm, ⟨26, _⟩ => ⟨S4x16x128x128, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1x1x128x128, .f32⟩
  | _, _ => ⟨S4x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== StatesReferenceIdeal.lean ====
abbrev S4x256x6144 : Shape := ⟨3, ![4, 256, 6144]⟩
abbrev S2x2x2048 : Shape := ⟨3, ![2, 2, 2048]⟩
abbrev S_ : Shape := ⟨0, ![]⟩
abbrev S2x2048 : Shape := ⟨2, ![2, 2048]⟩
abbrev S1x2x2048 : Shape := ⟨3, ![1, 2, 2048]⟩
abbrev S1x1x2048 : Shape := ⟨3, ![1, 1, 2048]⟩
abbrev S2048 : Shape := ⟨1, ![2048]⟩
abbrev S4x256x2048 : Shape := ⟨3, ![4, 256, 2048]⟩
abbrev S4x256x16x128 : Shape := ⟨4, ![4, 256, 16, 128]⟩
abbrev S4x1x16x128 : Shape := ⟨4, ![4, 1, 16, 128]⟩
abbrev S4x16x128x128 : Shape := ⟨4, ![4, 16, 128, 128]⟩

abbrev nBuf : Space → Nat
  | .hbm => 97
  | .vmem => 0
  | .smem => 0
  | _ => 0

abbrev bufTy : (tb : Table) → Fin (tcTables nBuf tb) → BufTy
  | .hbm, ⟨0, _⟩ => ⟨S4x256x6144, .bf16⟩
  | .hbm, ⟨1, _⟩ => ⟨S2x2x2048, .f32⟩
  | .hbm, ⟨2, _⟩ => ⟨S_, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S1x2x2048, .f32⟩
  | .hbm, ⟨8, _⟩ => ⟨S2x2x2048, .f32⟩
  | .hbm, ⟨9, _⟩ => ⟨S2x2x2048, .f32⟩
  | .hbm, ⟨10, _⟩ => ⟨S2x2x2048, .f32⟩
  | .hbm, ⟨11, _⟩ => ⟨S_, .f32⟩
  | .hbm, ⟨12, _⟩ => ⟨S2x2048, .f32⟩
  | .hbm, ⟨13, _⟩ => ⟨S1x2x2048, .f32⟩
  | .hbm, ⟨14, _⟩ => ⟨S2x2x2048, .f32⟩
  | .hbm, ⟨15, _⟩ => ⟨S2x2x2048, .f32⟩
  | .hbm, ⟨16, _⟩ => ⟨S_, .f32⟩
  | .hbm, ⟨17, _⟩ => ⟨S_, .f32⟩
  | .hbm, ⟨18, _⟩ => ⟨S2x2x2048, .f32⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S2048, .f32⟩
  | .hbm, ⟨23, _⟩ => ⟨S4x256x6144, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S4x256x2048, .f32⟩
  | .hbm, ⟨31, _⟩ => ⟨S4x256x2048, .f32⟩
  | .hbm, ⟨32, _⟩ => ⟨S_, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S1x1x2048, .f32⟩
  | .hbm, ⟨39, _⟩ => ⟨S4x256x2048, .f32⟩
  | .hbm, ⟨40, _⟩ => ⟨S4x256x2048, .f32⟩
  | .hbm, ⟨41, _⟩ => ⟨S1x1x2048, .f32⟩
  | .hbm, ⟨42, _⟩ => ⟨S4x256x2048, .f32⟩
  | .hbm, ⟨43, _⟩ => ⟨S4x256x2048, .f32⟩
  | .hbm, ⟨44, _⟩ => ⟨S4x256x2048, .f32⟩
  | .hbm, ⟨45, _⟩ => ⟨S4x256x16x128, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x16x128, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S4x256x2048, .f32⟩
  | .hbm, ⟨54, _⟩ => ⟨S4x256x2048, .f32⟩
  | .hbm, ⟨55, _⟩ => ⟨S_, .f32⟩
  | .hbm, ⟨56, _⟩ => ⟨S4x256x2048, .f32⟩
  | .hbm, ⟨57, _⟩ => ⟨S4x256x2048, .f32⟩
  | .hbm, ⟨58, _⟩ => ⟨S_, .f32⟩
  | .hbm, ⟨59, _⟩ => ⟨S4x256x2048, .f32⟩
  | .hbm, ⟨60, _⟩ => ⟨S4x256x2048, .f32⟩
  | .hbm, ⟨61, _⟩ => ⟨S1x1x2048, .f32⟩
  | .hbm, ⟨62, _⟩ => ⟨S4x256x2048, .f32⟩
  | .hbm, ⟨63, _⟩ => ⟨S4x256x2048, .f32⟩
  | .hbm, ⟨64, _⟩ => ⟨S1x1x2048, .f32⟩
  | .hbm, ⟨65, _⟩ => ⟨S4x256x2048, .f32⟩
  | .hbm, ⟨66, _⟩ => ⟨S4x256x2048, .f32⟩
  | .hbm, ⟨67, _⟩ => ⟨S4x256x2048, .f32⟩
  | .hbm, ⟨68, _⟩ => ⟨S4x256x16x128, .f32⟩
  | .hbm, ⟨69, _⟩ => ⟨S_, .f32⟩
  | .hbm, ⟨70, _⟩ => ⟨S4x256x2048, .f32⟩
  | .hbm, ⟨71, _⟩ => ⟨S4x256x2048, .f32⟩
  | .hbm, ⟨72, _⟩ => ⟨S4x256x16x128, .f32⟩
  | .hbm, ⟨73, _⟩ => ⟨S4x256x16x128, .f32⟩
  | .hbm, ⟨74, _⟩ => ⟨S_, .f32⟩
  | .hbm, ⟨75, _⟩ => ⟨S_, .f32⟩
  | .hbm, ⟨76, _⟩ => ⟨S4x256x16x128, .f32⟩
  | .hbm, ⟨77, _⟩ => ⟨S4x1x16x128, .f32⟩
  | .hbm, ⟨78, _⟩ => ⟨S4x256x16x128, .f32⟩
  | .hbm, ⟨79, _⟩ => ⟨S4x256x16x128, .f32⟩
  | .hbm, ⟨80, _⟩ => ⟨S4x256x16x128, .f32⟩
  | .hbm, ⟨81, _⟩ => ⟨S4x256x16x128, .f32⟩
  | .hbm, ⟨82, _⟩ => ⟨S4x16x128x128, .f32⟩
  | .hbm, ⟨83, _⟩ => ⟨S4x256x16x128, .f32⟩
  | .hbm, ⟨84, _⟩ => ⟨S4x256x16x128, .f32⟩
  | .hbm, ⟨85, _⟩ => ⟨S4x256x16x128, .f32⟩
  | .hbm, ⟨86, _⟩ => ⟨S_, .f32⟩
  | .hbm, ⟨87, _⟩ => ⟨S_, .f32⟩
  | .hbm, ⟨88, _⟩ => ⟨S4x256x16x128, .f32⟩
  | .hbm, ⟨89, _⟩ => ⟨S4x1x16x128, .f32⟩
  | .hbm, ⟨90, _⟩ => ⟨S4x256x16x128, .f32⟩
  | .hbm, ⟨91, _⟩ => ⟨S4x256x16x128, .f32⟩
  | .hbm, ⟨92, _⟩ => ⟨S4x256x16x128, .f32⟩
  | .hbm, ⟨93, _⟩ => ⟨S4x256x16x128, .f32⟩
  | .hbm, ⟨94, _⟩ => ⟨S4x16x128x128, .f32⟩
  | .hbm, ⟨95, _⟩ => ⟨S4x16x128x128, .f32⟩
  | .hbm, ⟨96, _⟩ => ⟨S4x16x128x128, .f32⟩
  | _, _ => ⟨S4x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call1_call0_cst : Ref sig .tc := ⟨.hbm, 74, rfl⟩
abbrev main_call1_call0_v0 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_call2_call0_cst : Ref sig .tc := ⟨.hbm, 86, rfl⟩
abbrev main_call2_call0_v0 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Proof.Printed.lean ====
/- The frame of the printed program over any float values: its run terminates, leaves every argument as it was and every
   counter at zero. What the kernel leaves in its result is named nowhere here. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.HgrnPrinted

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes an argument: the region finds it as launched. -/
theorem V_arg (c : Dev nD) (b : Ref sig .tc) (hb : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne fun e => absurd (e ▸ hb) (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 4 rfl).trans ((hA c 4).trans (V_arg m c main_arg0 (by decide))),
      ((h c).2 main_arg1 (Pipeline.mem_restRefs_of main_arg1 (by decide) (by decide))).trans (V_arg m c main_arg1 (by decide)),
      ((h c).2 main_arg2 (Pipeline.mem_restRefs_of main_arg2 (by decide) (by decide))).trans (V_arg m c main_arg2 (by decide)),
      (Pipeline.RDat.FramePost.arr_in h c 8 rfl).trans ((hA c 8).trans (V_arg m c main_arg3 (by decide))),
      (Pipeline.RDat.FramePost.arr_in h c 9 rfl).trans ((hA c 9).trans (V_arg m c main_arg4 (by decide)))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x512 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2048x512 .f32 := Memref.whole cc0_scratch0
abbrev scM0_1 : Memref sig .tc .vmem S2048x512 .f32 := Memref.whole cc0_scratch1
abbrev scM0_2 : Memref sig .tc .vmem S2048x512 .f32 := Memref.whole cc0_scratch2
abbrev scM0_3 : Memref sig .tc .vmem S2048x512 .f32 := Memref.whole cc0_scratch3
abbrev scM0_4 : Memref sig .tc .vmem S2048x512 .f32 := Memref.whole cc0_scratch4
abbrev scM0_5 : Memref sig .tc .vmem S2048x512 .f32 := Memref.whole cc0_scratch5

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

-- (the run's proof term is large: checking it walks past the default budget)
set_option maxHeartbeats 1000000 in
/-- The body's triple: on whole staging memrefs — the inputs' at their contents,
    the FORGOTTEN outputs' (10) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole)
    (x0 : Vec F S1x2048x512 .bf16) (x1 : Vec F S1x2048x512 .bf16) (x2 : Vec F S1x2048x512 .bf16) (x3 : Vec F S1x2048x512 .bf16) (x4 : Vec F S1x2048x512 .bf16) (x5 : Vec F S1x1x512 .f32) (x6 : Vec F S1x1x512 .f32) (x7 : Vec F S1x1x512 .f32) (x8 : Vec F S1x4x128x128 .f32) (x9 : Vec F S1x4x128x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_hgrn_eq_skeleton]; unfold cc0_hgrn_skel
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-! ## The pipeline's proof data -/

/-- The output windows this certificate FORGETS (10): nothing reads what the kernel leaves in them, so nothing
    of it is named (Lib/Pipeline/Dat.lean `Dat.toRForget`). -/
def forgets0 : Fin 11 → Bool := fun w => w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame claim of the printed program, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.HgrnPrinted

end
-- ==== Proof.Run.lean ====
module

public import proofs.«01_k».proof.Proof.Gen.KernelIdeal.Frame
public import proofs.«01_k».proof.Proof.Gen.KernelIdeal.Skeleton
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body's run, the pieces it leaves in the output window named: on whole staging memrefs, the inputs
    at their contents, the six scratch memrefs at given contents. -/
def kernelRun (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole)
    (x0 : Vec F S1x2048x512 .bf16) (x1 : Vec F S1x2048x512 .bf16) (x2 : Vec F S1x2048x512 .bf16) (x3 : Vec F S1x2048x512 .bf16) (x4 : Vec F S1x2048x512 .bf16) (x5 : Vec F S1x1x512 .f32) (x6 : Vec F S1x1x512 .f32) (x7 : Vec F S1x1x512 .f32) (x8 : Vec F S1x4x128x128 .f32) (x9 : Vec F S1x4x128x128 .f32)
    (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) :
    { L : List (View.Piece (Elt F) S1x2048x512 .bf16) // ∀ (E : Set ℕ) (K : PUnit → sProp 𝕄) (f12 : Buf (Elt F) (arg12.view.loc (c : Thread nD τ))),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (arg12.view.loc (c : Thread nD τ) ↦[arg12.view.set]{fullShare} arg12.view.writes (Elt F) f12 L) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
        ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K f12 => ?run⟩
  case run =>
    simp only [cc0_hgrn_eq_skeleton]; unfold cc0_hgrn_skel
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, H10, HS0, HS1, HS2, HS3, HS4, HS5, Hk⟩
    obtain rfl := harg2.eq_unread hg0; obtain rfl := harg3.eq_unread hg1; obtain rfl := harg4.eq_unread hg2; obtain rfl := harg5.eq_unread hg3; obtain rfl := harg6.eq_unread hg4; obtain rfl := harg7.eq_unread hg5; obtain rfl := harg8.eq_unread hg6; obtain rfl := harg9.eq_unread hg7; obtain rfl := harg10.eq_unread hg8; obtain rfl := harg11.eq_unread hg9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Hgrn

end
-- ==== Proof.Denote.lean ====
module

public import Idealize.ShloMosaic.Lib.ValueIdx
public import Idealize.ShloMosaic.Lib.MatmulPlain
public import Idealize.ShloMosaic.Lib.Pointwise.Contract
public import Idealize.ShloMosaic.Lib.Pipeline.Value
public import Mathlib.Analysis.SpecialFunctions.Exp

@[expose] public section

noncomputable section

open scoped BigOperators

namespace Cert.Hgrn

open Idealize.ShloMosaic hiding ix2
open Idealize.ShloMosaic.ValueIdx

/-- The array holds real numbers, and the function gives them by row and column. -/
def IsR {m n : ℕ} (X : (⟨2, ![m, n]⟩ : Shape).Idx → EReal) (Q : ℕ → ℕ → ℝ) : Prop :=
  ∀ (t : Fin m) (j : Fin n), X (ix2 t j) = ((Q t.val j.val : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals over the coordinates is the real sum over the range. -/
theorem sum_coe_mul {K : ℕ} (f g : Fin K → EReal) (P Q : ℕ → ℝ) (hf : ∀ k, f k = (P k.val : EReal)) (hg : ∀ k, g k = (Q k.val : EReal)) :
    ∑ k : Fin K, f k * g k = ((∑ k ∈ Finset.range K, P k * Q k : ℝ) : EReal) := by
  rw [← Fin.sum_univ_eq_sum_range (fun k => P k * Q k) K, coe_sum]
  refine Finset.sum_congr rfl fun k _ => ?_
  rw [hf, hg, EReal.coe_mul]

section Rules
variable {m n : ℕ} {φ ψ : FTy}

theorem IsR.congr {X : (⟨2, ![m, n]⟩ : Shape).Idx → EReal} {P Q : ℕ → ℕ → ℝ} (h : IsR X P)
    (e : ∀ t j, t < m → j < n → P t j = Q t j) : IsR X Q := fun t j => by rw [h t j, e _ _ t.isLt j.isLt]

/-- An array is determined by the reals it holds. -/
theorem IsR.ext {X Y : (⟨2, ![m, n]⟩ : Shape).Idx → EReal} {Q : ℕ → ℕ → ℝ} (h : IsR X Q) (h' : IsR Y Q) : X = Y := by
  funext i; obtain ⟨a, b, rfl⟩ : ∃ a b, i = ix2 a b := ⟨_, _, ValueIdx.eq_ix2 i⟩
  rw [h, h']

theorem IsR.slice {m' n' o p : ℕ} {X : (⟨2, ![m, n]⟩ : Shape).Idx → EReal} {Q : ℕ → ℕ → ℝ} (hX : IsR X Q)
    (h : (⟨2, ![m, n]⟩ : Shape).Slices ![o, p] ⟨2, ![m', n']⟩) :
    IsR (extractStridedSlice ⟨2, ![m', n']⟩ ![o, p] X h) (fun t j => Q (o + t) (p + j)) := by
  intro t j
  have h0 : o + t.val < m := lt_of_lt_of_le (Nat.add_lt_add_left t.isLt o) (show o + m' ≤ m from h.2 (0 : Fin 2))
  have h1 : p + j.val < n := lt_of_lt_of_le (Nat.add_lt_add_left j.isLt p) (show p + n' ≤ n from h.2 (1 : Fin 2))
  rw [extractStridedSlice_apply ![o, p] X h (ix2 t j) (ix2 ⟨o + t.val, h0⟩ ⟨p + j.val, h1⟩) (fun a => by
    match a with
    | ⟨0, _⟩ => rfl
    | ⟨1, _⟩ => rfl)]
  exact hX _ _

theorem IsR.row {m' : ℕ} {X : (⟨2, ![1, 128]⟩ : Shape).Idx → EReal} {Q : ℕ → ℕ → ℝ} (hX : IsR X Q)
    (h : (⟨2, ![1, 128]⟩ : Shape).Broadcasts ⟨2, ![m', 128]⟩) :
    IsR (broadcastTo ⟨2, ![m', 128]⟩ X h) (fun _ j => Q 0 j) := by
  intro t j
  rw [broadcastTo_apply X h (ix2 t j) (ix2 0 j) (fun a => by
    match a with
    | ⟨0, _⟩ => rfl
    | ⟨1, _⟩ => rfl)]
  exact hX _ _

variable {X Y : FVec Ideal ⟨2, ![m, n]⟩ φ} {P Q : ℕ → ℕ → ℝ}

theorem IsR.mul (hX : IsR X P) (hY : IsR Y Q) : IsR (mulf X Y) (fun t j => P t j * Q t j) := fun t j => by
  rw [mulf_apply, hX, hY, EReal.coe_mul]
theorem IsR.add (hX : IsR X P) (hY : IsR Y Q) : IsR (addf X Y) (fun t j => P t j + Q t j) := fun t j => by
  rw [addf_apply, hX, hY, EReal.coe_add]
theorem IsR.sub (hX : IsR X P) (hY : IsR Y Q) : IsR (subf X Y) (fun t j => P t j - Q t j) := fun t j => by
  rw [subf_apply, hX, hY, EReal.coe_sub]
theorem IsR.exp (hX : IsR X P) : IsR (Idealize.ShloMosaic.exp X) (fun t j => Real.exp (P t j)) := fun t j =>
  (congrArg Ideal.exp (hX t j)).trans (Ideal.exp_coe _)
theorem IsR.logistic (hX : IsR X P) : IsR (Idealize.ShloMosaic.logistic X) (fun t j => (1 + Real.exp (-P t j))⁻¹) := fun t j =>
  (congrArg Ideal.logistic (hX t j)).trans (Ideal.logistic_coe _)
theorem IsR.trunc (hX : IsR X P) (h : ψ.bits < φ.bits) : IsR (truncf ψ X h) P := fun t j => hX t j
theorem IsR.ext' (hX : IsR X P) (h : φ.bits < ψ.bits) : IsR (extf ψ X h) P := fun t j => hX t j
theorem IsR.reshape {X : (⟨2, ![m, n]⟩ : Shape).Idx → EReal} {P : ℕ → ℕ → ℝ} (hX : IsR X P) (h : (⟨2, ![m, n]⟩ : Shape).ShapeCasts ⟨2, ![m, n]⟩) : IsR (shapeCast ⟨2, ![m, n]⟩ X h) P := by
  rw [shapeCast_self]; exact hX
theorem IsR.constf {w : BitVec φ.bits} {r : ℝ} (hw : Ideal.ofBits φ w = (r : EReal)) :
    IsR (constant (F := Ideal) ⟨2, ![m, n]⟩ φ w) (fun _ _ => r) := fun _ _ => hw
theorem IsR.splat {x : Ideal φ} {r : ℝ} (hw : x = (r : EReal)) :
    IsR (broadcast ⟨2, ![m, n]⟩ x) (fun _ _ => r) := fun _ _ => hw

end Rules

/-- Four blocks of 32 rows one under the other. -/
theorem IsR.conc4 {X0 X1 X2 X3 : (⟨2, ![32, 128]⟩ : Shape).Idx → EReal} {Q0 Q1 Q2 Q3 : ℕ → ℕ → ℝ}
    (h0 : IsR X0 Q0) (h1 : IsR X1 Q1) (h2 : IsR X2 Q2) (h3 : IsR X3 Q3)
    (h : Shape.Concatenates (([⟨⟨2, ![32, 128]⟩, X0⟩, ⟨⟨2, ![32, 128]⟩, X1⟩, ⟨⟨2, ![32, 128]⟩, X2⟩, ⟨⟨2, ![32, 128]⟩, X3⟩] :
      List ((s : Shape) × (s.Idx → EReal))).map (·.1)) ⟨2, ![128, 128]⟩ 0) :
    IsR (concatenate ⟨2, ![128, 128]⟩ 0 [⟨⟨2, ![32, 128]⟩, X0⟩, ⟨⟨2, ![32, 128]⟩, X1⟩, ⟨⟨2, ![32, 128]⟩, X2⟩, ⟨⟨2, ![32, 128]⟩, X3⟩] h)
      (fun t j => if t < 32 then Q0 t j else if t < 64 then Q1 (t - 32) j else if t < 96 then Q2 (t - 64) j else Q3 (t - 96) j) := by
  intro t j
  have ht := t.isLt
  by_cases a0 : t.val < 32
  · rw [concatenate_apply_piece 0 _ h (ix2 t j) 0 (by simp) _ X0 rfl rfl 0 rfl (ix2 ⟨t.val, a0⟩ j)
      (fun b hb => by match b with | ⟨0, _⟩ => exact absurd rfl hb | ⟨1, _⟩ => rfl) (Nat.zero_add _)]
    simp only [a0, if_true]; exact h0 _ _
  by_cases a1 : t.val < 64
  · rw [concatenate_apply_piece 0 _ h (ix2 t j) 1 (by simp) _ X1 rfl rfl 32 rfl (ix2 ⟨t.val - 32, by omega⟩ j)
      (fun b hb => by match b with | ⟨0, _⟩ => exact absurd rfl hb | ⟨1, _⟩ => rfl) (Nat.add_sub_cancel' (by omega))]
    simp only [a0, a1, if_true, if_false]; exact h1 _ _
  by_cases a2 : t.val < 96
  · rw [concatenate_apply_piece 0 _ h (ix2 t j) 2 (by simp) _ X2 rfl rfl 64 rfl (ix2 ⟨t.val - 64, by omega⟩ j)
      (fun b hb => by match b with | ⟨0, _⟩ => exact absurd rfl hb | ⟨1, _⟩ => rfl) (Nat.add_sub_cancel' (by omega))]
    simp only [a0, a1, a2, if_true, if_false]; exact h2 _ _
  · rw [concatenate_apply_piece 0 _ h (ix2 t j) 3 (by simp) _ X3 rfl rfl 96 rfl (ix2 ⟨t.val - 96, by omega⟩ j)
      (fun b hb => by match b with | ⟨0, _⟩ => exact absurd rfl hb | ⟨1, _⟩ => rfl) (Nat.add_sub_cancel' (by omega))]
    simp only [a0, a1, a2, if_false]; exact h3 _ _

/-- Seven blocks of 128 columns side by side. -/
theorem IsR.conc7 {X : Fin 7 → (⟨2, ![128, 128]⟩ : Shape).Idx → EReal} {Q : ℕ → ℕ → ℕ → ℝ} (hX : ∀ p, IsR (X p) (Q p.val))
    (h : Shape.Concatenates (([⟨⟨2, ![128, 128]⟩, X 0⟩, ⟨⟨2, ![128, 128]⟩, X 1⟩, ⟨⟨2, ![128, 128]⟩, X 2⟩, ⟨⟨2, ![128, 128]⟩, X 3⟩,
        ⟨⟨2, ![128, 128]⟩, X 4⟩, ⟨⟨2, ![128, 128]⟩, X 5⟩, ⟨⟨2, ![128, 128]⟩, X 6⟩] :
      List ((s : Shape) × (s.Idx → EReal))).map (·.1)) ⟨2, ![128, 896]⟩ 1) :
    IsR (concatenate ⟨2, ![128, 896]⟩ 1 [⟨⟨2, ![128, 128]⟩, X 0⟩, ⟨⟨2, ![128, 128]⟩, X 1⟩, ⟨⟨2, ![128, 128]⟩, X 2⟩, ⟨⟨2, ![128, 128]⟩, X 3⟩,
        ⟨⟨2, ![128, 128]⟩, X 4⟩, ⟨⟨2, ![128, 128]⟩, X 5⟩, ⟨⟨2, ![128, 128]⟩, X 6⟩] h)
      (fun t j => Q (j / 128) t (j % 128)) := by
  intro t j
  have hj := j.isLt
  have key : ∀ p : Fin 7, j.val / 128 = p.val →
      concatenate ⟨2, ![128, 896]⟩ 1 [⟨⟨2, ![128, 128]⟩, X 0⟩, ⟨⟨2, ![128, 128]⟩, X 1⟩, ⟨⟨2, ![128, 128]⟩, X 2⟩, ⟨⟨2, ![128, 128]⟩, X 3⟩,
        ⟨⟨2, ![128, 128]⟩, X 4⟩, ⟨⟨2, ![128, 128]⟩, X 5⟩, ⟨⟨2, ![128, 128]⟩, X 6⟩] h (ix2 t j)
        = X p (ix2 t ⟨j.val % 128, Nat.mod_lt _ (by decide)⟩) := by
    intro p hp
    have e := Nat.div_add_mod j.val 128
    rw [hp] at e
    have go : ∀ (k : Fin 7), p = k → _ := fun k hk => by
      subst hk
      exact concatenate_apply_piece 1 _ h (ix2 t j) p.val (by have := p.isLt; simpa using this) ⟨2, ![128, 128]⟩ (X p)
        (by revert hp e; fin_cases p <;> intros <;> rfl) rfl (128 * p.val)
        (by revert hp e; fin_cases p <;> intros <;> rfl) (ix2 t ⟨j.val % 128, Nat.mod_lt _ (by decide)⟩)
        (fun b hb => by match b with | ⟨0, _⟩ => rfl | ⟨1, _⟩ => exact absurd rfl hb) e
    exact go p rfl
  have hd : j.val / 128 < 7 := Nat.div_lt_of_lt_mul (by omega)
  rw [key ⟨j.val / 128, hd⟩ rfl]
  exact hX ⟨j.val / 128, hd⟩ t _

/-! ### The three products -/

section Products
variable {M K N : ℕ} {φ₁ φ₂ : FTy} {A B : ℕ → ℕ → ℝ}

theorem IsR.dotNN {d : DotDims ⟨2, ![M, K]⟩ ⟨2, ![K, N]⟩ ⟨2, ![M, N]⟩} (hd : d = DotDims.plain M K N) {X : FVec Ideal ⟨2, ![M, K]⟩ φ₁}
    {Y : FVec Ideal ⟨2, ![K, N]⟩ φ₂} {Z : FVec Ideal ⟨2, ![M, N]⟩ .f32} {p : Option ContractPrecision} (hX : IsR X A) (hY : IsR Y B)
    (hZ : IsR Z (fun _ _ => 0)) : IsR (matmul d p X Y Z) (fun t j => ∑ k ∈ Finset.range K, A t k * B k j) := fun t j => by
  subst hd
  refine (Ideal.matmul_plain_apply p X Y Z t j).trans ?_
  rw [hZ, sum_coe_mul _ _ (fun k => A t.val k) (fun k => B k j.val) (fun k => hX t k) (fun k => hY k j), EReal.coe_zero, zero_add]

theorem IsR.dotNT {d : DotDims ⟨2, ![M, K]⟩ ⟨2, ![N, K]⟩ ⟨2, ![M, N]⟩} (hd : d = DotDims.transposedRhs M K N) {X : FVec Ideal ⟨2, ![M, K]⟩ φ₁}
    {Y : FVec Ideal ⟨2, ![N, K]⟩ φ₂} {Z : FVec Ideal ⟨2, ![M, N]⟩ .f32} {p : Option ContractPrecision} (hX : IsR X A) (hY : IsR Y B)
    (hZ : IsR Z (fun _ _ => 0)) : IsR (matmul d p X Y Z) (fun t j => ∑ k ∈ Finset.range K, A t k * B j k) := fun t j => by
  subst hd
  refine (Ideal.matmul_transposedRhs_apply p X Y Z t j).trans ?_
  rw [hZ, sum_coe_mul _ _ (fun k => A t.val k) (fun k => B j.val k) (fun k => hX t k) (fun k => hY j k), EReal.coe_zero, zero_add]

theorem IsR.dotTN {d : DotDims ⟨2, ![K, M]⟩ ⟨2, ![K, N]⟩ ⟨2, ![M, N]⟩} {X : FVec Ideal ⟨2, ![K, M]⟩ φ₁}
    {Y : FVec Ideal ⟨2, ![K, N]⟩ φ₂} {Z : FVec Ideal ⟨2, ![M, N]⟩ .f32} {p : Option ContractPrecision} (hX : IsR X A) (hY : IsR Y B)
    (hZ : IsR Z (fun _ _ => 0)) (hc : d.lhsContracting = [0])
    (hL : ∀ t j (k : Fin K), Shape.Idx.norm (d.lhsIdx (ix2 t j) (d.contrIdx₁ hc (K := K) rfl k)) = ix2 k t)
    (hR : ∀ t j (k : Fin K), Shape.Idx.norm (d.rhsIdx (ix2 t j) (d.contrIdx₁ hc (K := K) rfl k)) = ix2 k j) :
    IsR (matmul d p X Y Z) (fun t j => ∑ k ∈ Finset.range K, A k t * B k j) := fun t j => by
  refine (Ideal.matmul_apply₁_of d hc (K := K) rfl X Y Z (ix2 t j) (fun k => ix2 k t) (fun k => ix2 k j) (hL t j) (hR t j)).trans ?_
  rw [hZ, sum_coe_mul _ _ (fun k => A k t.val) (fun k => B k j.val) (fun k => hX k t) (fun k => hY k j), EReal.coe_zero, zero_add]

end Products

end Cert.Hgrn
-- ==== Proof.Scores.lean ====
module

public import proofs.«01_k».proof.Proof.Denote
public import Idealize.ShloMosaic.Lib.IdealHost
public import proofs.«01_k».proof.Proof.Gen.KernelIdeal.Skeleton

@[expose] public section

set_option maxRecDepth 16384

noncomputable section

open scoped BigOperators

namespace Cert.Hgrn

open Idealize.ShloMosaic hiding ix2
open Idealize.ShloMosaic.ValueIdx
open Cert.KernelIdeal Cert.KernelIdeal.Gen

/-- A block of 128 rows and columns of extended reals. -/
abbrev Sq := S128x128.Idx → EReal

/-- The rows `lo` to `hi` of a factor scaled by the decay from row `M`, and zero elsewhere. -/
def pq (Q B : ℕ → ℕ → ℝ) (lo hi M t j : ℕ) : ℝ := if lo ≤ t ∧ t < hi then Q t j * Real.exp (B t j - B M j) else 0
/-- The rows `lo` to `hi` of a factor scaled by the decay up to row `M`, and zero elsewhere. -/
def pk (Q B : ℕ → ℕ → ℝ) (lo hi M t j : ℕ) : ℝ := if lo ≤ t ∧ t < hi then Q t j * Real.exp (B M j - B t j) else 0

theorem zeroW : Ideal.ofBits .bf16 0x0000#16 = ((0 : ℝ) : EReal) := by
  rw [EReal.coe_zero]; exact Ideal.ofBits_zero_bf16
theorem zeroW32 : Ideal.ofBits .f32 0x00000000#32 = ((0 : ℝ) : EReal) := by
  rw [EReal.coe_zero]; exact Ideal.ofBits_zero_f32

/-- A block of zeros. -/
theorem zero32 : IsR (k0_pay26 (F := Ideal)) (fun _ _ => 0) := IsR.splat zeroW
theorem zero32' : IsR (k0_pay54 (F := Ideal)) (fun _ _ => 0) := IsR.splat zeroW

section
variable {q b : Sq} {Q B : ℕ → ℕ → ℝ}

theorem blkQ (hq : IsR q Q) (hb : IsR b B) (o r : ℕ) (h1 : S128x128.Slices ![o, 0] S32x128) (h2 : S128x128.Slices ![r, 0] S1x128)
    (h3 : S1x128.Broadcasts S32x128) (h4 : FTy.bf16.bits < FTy.f32.bits) :
    IsR (truncf (F := Ideal) .bf16 (mulf (extractStridedSlice S32x128 ![o, 0] q h1) (Idealize.ShloMosaic.exp (subf (extractStridedSlice S32x128 ![o, 0] b h1)
      (broadcastTo S32x128 (extractStridedSlice S1x128 ![r, 0] b h2) h3)))) h4)
      (fun t j => Q (o + t) (0 + j) * Real.exp (B (o + t) (0 + j) - B (r + 0) (0 + j))) :=
  ((hq.slice h1).mul (((hb.slice h1).sub ((hb.slice h2).row h3)).exp)).trunc h4

theorem blkK (hq : IsR q Q) (hb : IsR b B) (o r : ℕ) (h1 : S128x128.Slices ![o, 0] S32x128) (h2 : S128x128.Slices ![r, 0] S1x128)
    (h3 : S1x128.Broadcasts S32x128) (h4 : FTy.bf16.bits < FTy.f32.bits) :
    IsR (truncf (F := Ideal) .bf16 (mulf (extractStridedSlice S32x128 ![o, 0] q h1) (Idealize.ShloMosaic.exp (subf
      (broadcastTo S32x128 (extractStridedSlice S1x128 ![r, 0] b h2) h3) (extractStridedSlice S32x128 ![o, 0] b h1)))) h4)
      (fun t j => Q (o + t) (0 + j) * Real.exp (B (r + 0) (0 + j) - B (o + t) (0 + j))) :=
  ((hq.slice h1).mul ((((hb.slice h2).row h3).sub (hb.slice h1)).exp)).trunc h4

end

/-- Thirty-two rows of a factor scaled by the decay from row `M` … -/
def bQ (o M : ℕ) (q b : Sq) (h1 : S128x128.Slices ![o, 0] S32x128) (h2 : S128x128.Slices ![M, 0] S1x128) : S32x128.Idx → EReal :=
  truncf (F := Ideal) .bf16 (mulf (extractStridedSlice S32x128 ![o, 0] q h1) (Idealize.ShloMosaic.exp (subf (extractStridedSlice S32x128 ![o, 0] b h1)
      (broadcastTo S32x128 (extractStridedSlice S1x128 ![M, 0] b h2) broadcasts_S1x128_S32x128)))) bitsLt_bf16_f32
/-- … and up to row `M`. -/
def bK (o M : ℕ) (q b : Sq) (h1 : S128x128.Slices ![o, 0] S32x128) (h2 : S128x128.Slices ![M, 0] S1x128) : S32x128.Idx → EReal :=
  truncf (F := Ideal) .bf16 (mulf (extractStridedSlice S32x128 ![o, 0] q h1) (Idealize.ShloMosaic.exp (subf
      (broadcastTo S32x128 (extractStridedSlice S1x128 ![M, 0] b h2) broadcasts_S1x128_S32x128) (extractStridedSlice S32x128 ![o, 0] b h1)))) bitsLt_bf16_f32
/-- Four blocks of thirty-two rows. -/
def stack (a b c d : S32x128.Idx → EReal) : Sq :=
  concatenate S128x128 0 [⟨S32x128, a⟩, ⟨S32x128, b⟩, ⟨S32x128, c⟩, ⟨S32x128, d⟩] concatenates_S32x128_S32x128_S32x128_S32x128_S128x128_d0
/-- Thirty-two rows of zeros. -/
def z32 : S32x128.Idx → EReal := k0_pay54 (F := Ideal)
/-- Seven pieces side by side. -/
def wide (X : Fin 7 → Sq) : S128x896.Idx → EReal :=
  concatenate S128x896 1 [⟨S128x128, X 0⟩, ⟨S128x128, X 1⟩, ⟨S128x128, X 2⟩, ⟨S128x128, X 3⟩, ⟨S128x128, X 4⟩, ⟨S128x128, X 5⟩, ⟨S128x128, X 6⟩]
    concatenates_S128x128_S128x128_S128x128_S128x128_S128x128_S128x128_S128x128_S128x896_d1
/-- The product of the two rows of pieces, kept where the mask holds. -/
def scores (m : IVec S128x128 1) (X Y : Fin 7 → Sq) : Sq :=
  select m (matmul (F := Ideal) (φ₁ := .bf16) (φ₂ := .bf16) dot_S128x896_S128x896_S128x128_1_1_0_0_n_n none (wide X) (wide Y) (constant S128x128 .f32 0x00000000#32))
    (broadcast S128x128 (Scalar.ofBits (F := Ideal) .f32 0x00000000#32))
/-- Row at or after column. -/
def lowerMask : IVec S128x128 1 := cmpi .sle (iota .tc S128x128 32 [1] iota_S128x128_d1_w32) (iota .tc S128x128 32 [0] iota_S128x128_d0_w32)
/-- Column at or after row. -/
def upperMask : IVec S128x128 1 := cmpi .sge (iota .tc S128x128 32 [1] iota_S128x128_d1_w32) (iota .tc S128x128 32 [0] iota_S128x128_d0_w32)

/-- The pieces of the queries … -/
def qsF (q b : Sq) : Fin 7 → Sq := ![
  stack (bQ 0 16 q b slices_S128x128_o0_0_S32x128 slices_S128x128_o16_0_S1x128) z32 z32 z32,
  stack z32 (bQ 32 48 q b slices_S128x128_o32_0_S32x128 slices_S128x128_o48_0_S1x128) z32 z32,
  stack z32 z32 (bQ 64 80 q b slices_S128x128_o64_0_S32x128 slices_S128x128_o80_0_S1x128) z32,
  stack z32 z32 z32 (bQ 96 112 q b slices_S128x128_o96_0_S32x128 slices_S128x128_o112_0_S1x128),
  stack z32 (bQ 32 31 q b slices_S128x128_o32_0_S32x128 slices_S128x128_o31_0_S1x128) (bQ 64 31 q b slices_S128x128_o64_0_S32x128 slices_S128x128_o31_0_S1x128) (bQ 96 31 q b slices_S128x128_o96_0_S32x128 slices_S128x128_o31_0_S1x128),
  stack z32 z32 (bQ 64 63 q b slices_S128x128_o64_0_S32x128 slices_S128x128_o63_0_S1x128) (bQ 96 63 q b slices_S128x128_o96_0_S32x128 slices_S128x128_o63_0_S1x128),
  stack z32 z32 z32 (bQ 96 95 q b slices_S128x128_o96_0_S32x128 slices_S128x128_o95_0_S1x128)]
/-- … and of the keys. -/
def ksF (k b : Sq) : Fin 7 → Sq := ![
  stack (bK 0 16 k b slices_S128x128_o0_0_S32x128 slices_S128x128_o16_0_S1x128) z32 z32 z32,
  stack z32 (bK 32 48 k b slices_S128x128_o32_0_S32x128 slices_S128x128_o48_0_S1x128) z32 z32,
  stack z32 z32 (bK 64 80 k b slices_S128x128_o64_0_S32x128 slices_S128x128_o80_0_S1x128) z32,
  stack z32 z32 z32 (bK 96 112 k b slices_S128x128_o96_0_S32x128 slices_S128x128_o112_0_S1x128),
  stack (bK 0 31 k b slices_S128x128_o0_0_S32x128 slices_S128x128_o31_0_S1x128) z32 z32 z32,
  stack z32 (bK 32 63 k b slices_S128x128_o32_0_S32x128 slices_S128x128_o63_0_S1x128) z32 z32,
  stack z32 z32 (bK 64 95 k b slices_S128x128_o64_0_S32x128 slices_S128x128_o95_0_S1x128) z32]
/-- The scores of a chunk. -/
def scF (q k b : Sq) : Sq := scores lowerMask (qsF q b) (ksF k b)

/-- The real entries of the pieces. -/
def qrF (Q B : ℕ → ℕ → ℝ) : ℕ → ℕ → ℕ → ℝ
  | 0 => pq Q B 0 32 16
  | 1 => pq Q B 32 64 48
  | 2 => pq Q B 64 96 80
  | 3 => pq Q B 96 128 112
  | 4 => pq Q B 32 128 31
  | 5 => pq Q B 64 128 63
  | _ => pq Q B 96 128 95
theorem qsF_real {q b : Sq} {Q B : ℕ → ℕ → ℝ} (hq : IsR q Q) (hb : IsR b B) (p : Fin 7) : IsR (qsF q b p) (qrF Q B p.val) := by
  fin_cases p
  refine IsR.congr (IsR.conc4 (blkQ hq hb 0 16 slices_S128x128_o0_0_S32x128 slices_S128x128_o16_0_S1x128 broadcasts_S1x128_S32x128 bitsLt_bf16_f32)
      zero32' zero32' zero32' concatenates_S32x128_S32x128_S32x128_S32x128_S128x128_d0) fun t j ht hj => ?_
  rotate_left
  refine IsR.congr (IsR.conc4 zero32'
      (blkQ hq hb 32 48 slices_S128x128_o32_0_S32x128 slices_S128x128_o48_0_S1x128 broadcasts_S1x128_S32x128 bitsLt_bf16_f32) zero32' zero32'
      concatenates_S32x128_S32x128_S32x128_S32x128_S128x128_d0) fun t j ht hj => ?_
  rotate_left
  refine IsR.congr (IsR.conc4 zero32' zero32'
      (blkQ hq hb 64 80 slices_S128x128_o64_0_S32x128 slices_S128x128_o80_0_S1x128 broadcasts_S1x128_S32x128 bitsLt_bf16_f32) zero32'
      concatenates_S32x128_S32x128_S32x128_S32x128_S128x128_d0) fun t j ht hj => ?_
  rotate_left
  refine IsR.congr (IsR.conc4 zero32' zero32' zero32'
      (blkQ hq hb 96 112 slices_S128x128_o96_0_S32x128 slices_S128x128_o112_0_S1x128 broadcasts_S1x128_S32x128 bitsLt_bf16_f32)
      concatenates_S32x128_S32x128_S32x128_S32x128_S128x128_d0) fun t j ht hj => ?_
  rotate_left
  refine IsR.congr (IsR.conc4 zero32'
      (blkQ hq hb 32 31 slices_S128x128_o32_0_S32x128 slices_S128x128_o31_0_S1x128 broadcasts_S1x128_S32x128 bitsLt_bf16_f32)
      (blkQ hq hb 64 31 slices_S128x128_o64_0_S32x128 slices_S128x128_o31_0_S1x128 broadcasts_S1x128_S32x128 bitsLt_bf16_f32)
      (blkQ hq hb 96 31 slices_S128x128_o96_0_S32x128 slices_S128x128_o31_0_S1x128 broadcasts_S1x128_S32x128 bitsLt_bf16_f32)
      concatenates_S32x128_S32x128_S32x128_S32x128_S128x128_d0) fun t j ht hj => ?_
  rotate_left
  refine IsR.congr (IsR.conc4 zero32' zero32'
      (blkQ hq hb 64 63 slices_S128x128_o64_0_S32x128 slices_S128x128_o63_0_S1x128 broadcasts_S1x128_S32x128 bitsLt_bf16_f32)
      (blkQ hq hb 96 63 slices_S128x128_o96_0_S32x128 slices_S128x128_o63_0_S1x128 broadcasts_S1x128_S32x128 bitsLt_bf16_f32)
      concatenates_S32x128_S32x128_S32x128_S32x128_S128x128_d0) fun t j ht hj => ?_
  rotate_left
  refine IsR.congr (IsR.conc4 zero32' zero32' zero32'
      (blkQ hq hb 96 95 slices_S128x128_o96_0_S32x128 slices_S128x128_o95_0_S1x128 broadcasts_S1x128_S32x128 bitsLt_bf16_f32)
      concatenates_S32x128_S32x128_S32x128_S32x128_S128x128_d0) fun t j ht hj => ?_
  rotate_left
  all_goals
    simp only [qrF]
    simp only [pq, Nat.zero_add, Nat.add_zero]
    split_ifs <;> first | rfl | omega | (rw [show 32 + (t - 32) = t by omega]) | (rw [show 64 + (t - 64) = t by omega]) | (rw [show 96 + (t - 96) = t by omega])

/-- The real entries of the pieces. -/
def krF (Q B : ℕ → ℕ → ℝ) : ℕ → ℕ → ℕ → ℝ
  | 0 => pk Q B 0 32 16
  | 1 => pk Q B 32 64 48
  | 2 => pk Q B 64 96 80
  | 3 => pk Q B 96 128 112
  | 4 => pk Q B 0 32 31
  | 5 => pk Q B 32 64 63
  | _ => pk Q B 64 96 95
theorem ksF_real {q b : Sq} {Q B : ℕ → ℕ → ℝ} (hq : IsR q Q) (hb : IsR b B) (p : Fin 7) : IsR (ksF q b p) (krF Q B p.val) := by
  fin_cases p
  refine IsR.congr (IsR.conc4 (blkK hq hb 0 16 slices_S128x128_o0_0_S32x128 slices_S128x128_o16_0_S1x128 broadcasts_S1x128_S32x128 bitsLt_bf16_f32)
      zero32' zero32' zero32' concatenates_S32x128_S32x128_S32x128_S32x128_S128x128_d0) fun t j ht hj => ?_
  rotate_left
  refine IsR.congr (IsR.conc4 zero32'
      (blkK hq hb 32 48 slices_S128x128_o32_0_S32x128 slices_S128x128_o48_0_S1x128 broadcasts_S1x128_S32x128 bitsLt_bf16_f32) zero32' zero32'
      concatenates_S32x128_S32x128_S32x128_S32x128_S128x128_d0) fun t j ht hj => ?_
  rotate_left
  refine IsR.congr (IsR.conc4 zero32' zero32'
      (blkK hq hb 64 80 slices_S128x128_o64_0_S32x128 slices_S128x128_o80_0_S1x128 broadcasts_S1x128_S32x128 bitsLt_bf16_f32) zero32'
      concatenates_S32x128_S32x128_S32x128_S32x128_S128x128_d0) fun t j ht hj => ?_
  rotate_left
  refine IsR.congr (IsR.conc4 zero32' zero32' zero32'
      (blkK hq hb 96 112 slices_S128x128_o96_0_S32x128 slices_S128x128_o112_0_S1x128 broadcasts_S1x128_S32x128 bitsLt_bf16_f32)
      concatenates_S32x128_S32x128_S32x128_S32x128_S128x128_d0) fun t j ht hj => ?_
  rotate_left
  refine IsR.congr (IsR.conc4 (blkK hq hb 0 31 slices_S128x128_o0_0_S32x128 slices_S128x128_o31_0_S1x128 broadcasts_S1x128_S32x128 bitsLt_bf16_f32)
      zero32' zero32' zero32' concatenates_S32x128_S32x128_S32x128_S32x128_S128x128_d0) fun t j ht hj => ?_
  rotate_left
  refine IsR.congr (IsR.conc4 zero32'
      (blkK hq hb 32 63 slices_S128x128_o32_0_S32x128 slices_S128x128_o63_0_S1x128 broadcasts_S1x128_S32x128 bitsLt_bf16_f32) zero32' zero32'
      concatenates_S32x128_S32x128_S32x128_S32x128_S128x128_d0) fun t j ht hj => ?_
  rotate_left
  refine IsR.congr (IsR.conc4 zero32' zero32'
      (blkK hq hb 64 95 slices_S128x128_o64_0_S32x128 slices_S128x128_o95_0_S1x128 broadcasts_S1x128_S32x128 bitsLt_bf16_f32) zero32'
      concatenates_S32x128_S32x128_S32x128_S32x128_S128x128_d0) fun t j ht hj => ?_
  rotate_left
  all_goals
    simp only [krF]
    simp only [pk, Nat.zero_add, Nat.add_zero]
    split_ifs <;> first | rfl | omega | (rw [show 32 + (t - 32) = t by omega]) | (rw [show 64 + (t - 64) = t by omega]) | (rw [show 96 + (t - 96) = t by omega])

/-- The pieces of the queries … -/
def qsB (q b : Sq) : Fin 7 → Sq := ![
  stack z32 z32 z32 (bQ 96 111 q b slices_S128x128_o96_0_S32x128 slices_S128x128_o111_0_S1x128),
  stack z32 z32 (bQ 64 79 q b slices_S128x128_o64_0_S32x128 slices_S128x128_o79_0_S1x128) z32,
  stack z32 (bQ 32 47 q b slices_S128x128_o32_0_S32x128 slices_S128x128_o47_0_S1x128) z32 z32,
  stack (bQ 0 15 q b slices_S128x128_o0_0_S32x128 slices_S128x128_o15_0_S1x128) z32 z32 z32,
  stack (bQ 0 96 q b slices_S128x128_o0_0_S32x128 slices_S128x128_o96_0_S1x128) (bQ 32 96 q b slices_S128x128_o32_0_S32x128 slices_S128x128_o96_0_S1x128) (bQ 64 96 q b slices_S128x128_o64_0_S32x128 slices_S128x128_o96_0_S1x128) z32,
  stack (bQ 0 64 q b slices_S128x128_o0_0_S32x128 slices_S128x128_o64_0_S1x128) (bQ 32 64 q b slices_S128x128_o32_0_S32x128 slices_S128x128_o64_0_S1x128) z32 z32,
  stack (bQ 0 32 q b slices_S128x128_o0_0_S32x128 slices_S128x128_o32_0_S1x128) z32 z32 z32]
/-- … and of the keys. -/
def ksB (k b : Sq) : Fin 7 → Sq := ![
  stack z32 z32 z32 (bK 96 111 k b slices_S128x128_o96_0_S32x128 slices_S128x128_o111_0_S1x128),
  stack z32 z32 (bK 64 79 k b slices_S128x128_o64_0_S32x128 slices_S128x128_o79_0_S1x128) z32,
  stack z32 (bK 32 47 k b slices_S128x128_o32_0_S32x128 slices_S128x128_o47_0_S1x128) z32 z32,
  stack (bK 0 15 k b slices_S128x128_o0_0_S32x128 slices_S128x128_o15_0_S1x128) z32 z32 z32,
  stack z32 z32 z32 (bK 96 96 k b slices_S128x128_o96_0_S32x128 slices_S128x128_o96_0_S1x128),
  stack z32 z32 (bK 64 64 k b slices_S128x128_o64_0_S32x128 slices_S128x128_o64_0_S1x128) z32,
  stack z32 (bK 32 32 k b slices_S128x128_o32_0_S32x128 slices_S128x128_o32_0_S1x128) z32 z32]
/-- The scores of a chunk. -/
def scB (q k b : Sq) : Sq := scores upperMask (qsB q b) (ksB k b)

/-- The real entries of the pieces. -/
def qrB (Q B : ℕ → ℕ → ℝ) : ℕ → ℕ → ℕ → ℝ
  | 0 => pq Q B 96 128 111
  | 1 => pq Q B 64 96 79
  | 2 => pq Q B 32 64 47
  | 3 => pq Q B 0 32 15
  | 4 => pq Q B 0 96 96
  | 5 => pq Q B 0 64 64
  | _ => pq Q B 0 32 32
theorem qsB_real {q b : Sq} {Q B : ℕ → ℕ → ℝ} (hq : IsR q Q) (hb : IsR b B) (p : Fin 7) : IsR (qsB q b p) (qrB Q B p.val) := by
  fin_cases p
  refine IsR.congr (IsR.conc4 zero32' zero32' zero32'
      (blkQ hq hb 96 111 slices_S128x128_o96_0_S32x128 slices_S128x128_o111_0_S1x128 broadcasts_S1x128_S32x128 bitsLt_bf16_f32)
      concatenates_S32x128_S32x128_S32x128_S32x128_S128x128_d0) fun t j ht hj => ?_
  rotate_left
  refine IsR.congr (IsR.conc4 zero32' zero32'
      (blkQ hq hb 64 79 slices_S128x128_o64_0_S32x128 slices_S128x128_o79_0_S1x128 broadcasts_S1x128_S32x128 bitsLt_bf16_f32) zero32'
      concatenates_S32x128_S32x128_S32x128_S32x128_S128x128_d0) fun t j ht hj => ?_
  rotate_left
  refine IsR.congr (IsR.conc4 zero32'
      (blkQ hq hb 32 47 slices_S128x128_o32_0_S32x128 slices_S128x128_o47_0_S1x128 broadcasts_S1x128_S32x128 bitsLt_bf16_f32) zero32' zero32'
      concatenates_S32x128_S32x128_S32x128_S32x128_S128x128_d0) fun t j ht hj => ?_
  rotate_left
  refine IsR.congr (IsR.conc4 (blkQ hq hb 0 15 slices_S128x128_o0_0_S32x128 slices_S128x128_o15_0_S1x128 broadcasts_S1x128_S32x128 bitsLt_bf16_f32)
      zero32' zero32' zero32' concatenates_S32x128_S32x128_S32x128_S32x128_S128x128_d0) fun t j ht hj => ?_
  rotate_left
  refine IsR.congr (IsR.conc4 (blkQ hq hb 0 96 slices_S128x128_o0_0_S32x128 slices_S128x128_o96_0_S1x128 broadcasts_S1x128_S32x128 bitsLt_bf16_f32)
      (blkQ hq hb 32 96 slices_S128x128_o32_0_S32x128 slices_S128x128_o96_0_S1x128 broadcasts_S1x128_S32x128 bitsLt_bf16_f32)
      (blkQ hq hb 64 96 slices_S128x128_o64_0_S32x128 slices_S128x128_o96_0_S1x128 broadcasts_S1x128_S32x128 bitsLt_bf16_f32) zero32'
      concatenates_S32x128_S32x128_S32x128_S32x128_S128x128_d0) fun t j ht hj => ?_
  rotate_left
  refine IsR.congr (IsR.conc4 (blkQ hq hb 0 64 slices_S128x128_o0_0_S32x128 slices_S128x128_o64_0_S1x128 broadcasts_S1x128_S32x128 bitsLt_bf16_f32)
      (blkQ hq hb 32 64 slices_S128x128_o32_0_S32x128 slices_S128x128_o64_0_S1x128 broadcasts_S1x128_S32x128 bitsLt_bf16_f32) zero32' zero32'
      concatenates_S32x128_S32x128_S32x128_S32x128_S128x128_d0) fun t j ht hj => ?_
  rotate_left
  refine IsR.congr (IsR.conc4 (blkQ hq hb 0 32 slices_S128x128_o0_0_S32x128 slices_S128x128_o32_0_S1x128 broadcasts_S1x128_S32x128 bitsLt_bf16_f32)
      zero32' zero32' zero32' concatenates_S32x128_S32x128_S32x128_S32x128_S128x128_d0) fun t j ht hj => ?_
  rotate_left
  all_goals
    simp only [qrB]
    simp only [pq, Nat.zero_add, Nat.add_zero]
    split_ifs <;> first | rfl | omega | (rw [show 32 + (t - 32) = t by omega]) | (rw [show 64 + (t - 64) = t by omega]) | (rw [show 96 + (t - 96) = t by omega])

/-- The real entries of the pieces. -/
def krB (Q B : ℕ → ℕ → ℝ) : ℕ → ℕ → ℕ → ℝ
  | 0 => pk Q B 96 128 111
  | 1 => pk Q B 64 96 79
  | 2 => pk Q B 32 64 47
  | 3 => pk Q B 0 32 15
  | 4 => pk Q B 96 128 96
  | 5 => pk Q B 64 96 64
  | _ => pk Q B 32 64 32
theorem ksB_real {q b : Sq} {Q B : ℕ → ℕ → ℝ} (hq : IsR q Q) (hb : IsR b B) (p : Fin 7) : IsR (ksB q b p) (krB Q B p.val) := by
  fin_cases p
  refine IsR.congr (IsR.conc4 zero32' zero32' zero32'
      (blkK hq hb 96 111 slices_S128x128_o96_0_S32x128 slices_S128x128_o111_0_S1x128 broadcasts_S1x128_S32x128 bitsLt_bf16_f32)
      concatenates_S32x128_S32x128_S32x128_S32x128_S128x128_d0) fun t j ht hj => ?_
  rotate_left
  refine IsR.congr (IsR.conc4 zero32' zero32'
      (blkK hq hb 64 79 slices_S128x128_o64_0_S32x128 slices_S128x128_o79_0_S1x128 broadcasts_S1x128_S32x128 bitsLt_bf16_f32) zero32'
      concatenates_S32x128_S32x128_S32x128_S32x128_S128x128_d0) fun t j ht hj => ?_
  rotate_left
  refine IsR.congr (IsR.conc4 zero32'
      (blkK hq hb 32 47 slices_S128x128_o32_0_S32x128 slices_S128x128_o47_0_S1x128 broadcasts_S1x128_S32x128 bitsLt_bf16_f32) zero32' zero32'
      concatenates_S32x128_S32x128_S32x128_S32x128_S128x128_d0) fun t j ht hj => ?_
  rotate_left
  refine IsR.congr (IsR.conc4 (blkK hq hb 0 15 slices_S128x128_o0_0_S32x128 slices_S128x128_o15_0_S1x128 broadcasts_S1x128_S32x128 bitsLt_bf16_f32)
      zero32' zero32' zero32' concatenates_S32x128_S32x128_S32x128_S32x128_S128x128_d0) fun t j ht hj => ?_
  rotate_left
  refine IsR.congr (IsR.conc4 zero32' zero32' zero32'
      (blkK hq hb 96 96 slices_S128x128_o96_0_S32x128 slices_S128x128_o96_0_S1x128 broadcasts_S1x128_S32x128 bitsLt_bf16_f32)
      concatenates_S32x128_S32x128_S32x128_S32x128_S128x128_d0) fun t j ht hj => ?_
  rotate_left
  refine IsR.congr (IsR.conc4 zero32' zero32'
      (blkK hq hb 64 64 slices_S128x128_o64_0_S32x128 slices_S128x128_o64_0_S1x128 broadcasts_S1x128_S32x128 bitsLt_bf16_f32) zero32'
      concatenates_S32x128_S32x128_S32x128_S32x128_S128x128_d0) fun t j ht hj => ?_
  rotate_left
  refine IsR.congr (IsR.conc4 zero32'
      (blkK hq hb 32 32 slices_S128x128_o32_0_S32x128 slices_S128x128_o32_0_S1x128 broadcasts_S1x128_S32x128 bitsLt_bf16_f32) zero32' zero32'
      concatenates_S32x128_S32x128_S32x128_S32x128_S128x128_d0) fun t j ht hj => ?_
  rotate_left
  all_goals
    simp only [krB]
    simp only [pk, Nat.zero_add, Nat.add_zero]
    split_ifs <;> first | rfl | omega | (rw [show 32 + (t - 32) = t by omega]) | (rw [show 64 + (t - 64) = t by omega]) | (rw [show 96 + (t - 96) = t by omega])

theorem sum896 (f : ℕ → ℕ → ℝ) : ∑ j ∈ Finset.range 896, f (j / 128) (j % 128) = ∑ p ∈ Finset.range 7, ∑ j ∈ Finset.range 128, f p j := by
  have key : ∀ n : ℕ, ∑ j ∈ Finset.range (128 * n), f (j / 128) (j % 128) = ∑ p ∈ Finset.range n, ∑ j ∈ Finset.range 128, f p j := by
    intro n
    induction n with
    | zero => simp
    | succ n ih =>
      rw [Nat.mul_succ, Finset.sum_range_add (fun j : ℕ => (f (j / 128) (j % 128) : ℝ)) (128 * n) 128, ih, Finset.sum_range_succ (fun p => ∑ j ∈ Finset.range 128, f p j) n]
      congr 1
      refine Finset.sum_congr rfl fun j hj => ?_
      have := Finset.mem_range.mp hj
      rw [show (128 * n + j) / 128 = n by omega, show (128 * n + j) % 128 = j by omega]
  exact key 7

theorem wide_real {X : Fin 7 → Sq} {Q : ℕ → ℕ → ℕ → ℝ} (hX : ∀ p, IsR (X p) (Q p.val)) : IsR (wide X) (fun t j => Q (j / 128) t (j % 128)) :=
  IsR.conc7 hX _

theorem cmp_sle (a b : Fin 128) : IntOp.cmpi .sle (BitVec.ofNat 32 a.val) (BitVec.ofNat 32 b.val) = if a.val ≤ b.val then 1#1 else 0#1 := by
  have h : ∀ x : Fin 128, (BitVec.ofNat 32 x.val).toInt = x.val := by decide +kernel
  simp only [IntOp.cmpi, BitVec.sle, h, Nat.cast_le]
  by_cases hab : a.val ≤ b.val <;> simp [hab]
theorem lowerMask_apply (t s : Fin 128) : lowerMask (ix2 t s) = if s.val ≤ t.val then 1#1 else 0#1 := by
  refine Eq.trans ?_ (cmp_sle s t)
  simp only [lowerMask, cmpi, iota]
  congr 1 <;> simp
theorem upperMask_apply (t s : Fin 128) : upperMask (ix2 t s) = if t.val ≤ s.val then 1#1 else 0#1 := by
  refine Eq.trans ?_ (cmp_sle t s)
  show IntOp.cmpi .sge _ _ = _
  simp only [IntOp.cmpi]
  simp [iota]

theorem scores_real {m : IVec S128x128 1} {X Y : Fin 7 → Sq} {P Q : ℕ → ℕ → ℕ → ℝ} {M : ℕ → ℕ → Prop} [∀ t s, Decidable (M t s)]
    (hX : ∀ p, IsR (X p) (P p.val)) (hY : ∀ p, IsR (Y p) (Q p.val)) (hm : ∀ t s : Fin 128, m (ix2 t s) = if M t.val s.val then 1#1 else 0#1) :
    IsR (scores m X Y) (fun t s => if M t s then ∑ p ∈ Finset.range 7, ∑ j ∈ Finset.range 128, P p t j * Q p s j else 0) := by
  intro t s
  have hd := IsR.dotNT (φ₁ := .bf16) (φ₂ := .bf16) (p := none) (d := dot_S128x896_S128x896_S128x128_1_1_0_0_n_n) rfl (wide_real hX) (wide_real hY)
    (IsR.constf (m := 128) (n := 128) (φ := .f32) zeroW32) t s
  have e := sum896 (fun p j => P p t.val j * Q p s.val j)
  unfold scores
  rw [select_apply, hm]
  by_cases h : M t.val s.val
  · simp only [h, if_true, ← e]
    exact hd
  · simp only [h, if_false]
    exact zeroW32

theorem scF_terms (Q K B : ℕ → ℕ → ℝ) (t s j : ℕ) (ht : t < 128) (hs : s < 128) (h : s ≤ t) :
    ∑ p ∈ Finset.range 7, qrF Q B p t j * krF K B p s j = Q t j * K s j * Real.exp (B t j - B s j) := by
  have e : ∀ M : ℕ, Q t j * Real.exp (B t j - B M j) * (K s j * Real.exp (B M j - B s j)) = Q t j * K s j * Real.exp (B t j - B s j) := fun M => by
    rw [show B t j - B s j = (B t j - B M j) + (B M j - B s j) by ring, Real.exp_add]; ring
  simp only [Finset.sum_range_succ, Finset.sum_range_zero, qrF, krF, pq, pk, Nat.zero_le, true_and, ite_mul, mul_ite, mul_zero, zero_mul, e]
  by_cases a1 : t < 32 <;> by_cases a2 : t < 64 <;> by_cases a3 : t < 96 <;> by_cases b1 : s < 32 <;> by_cases b2 : s < 64 <;> by_cases b3 : s < 96 <;>
    first
    | omega
    | (have i1 : (32 ≤ t) = ¬ t < 32 := by simp
       have i2 : (64 ≤ t) = ¬ t < 64 := by simp
       have i3 : (96 ≤ t) = ¬ t < 96 := by simp
       have i4 : (32 ≤ s) = ¬ s < 32 := by simp
       have i5 : (64 ≤ s) = ¬ s < 64 := by simp
       have i6 : (96 ≤ s) = ¬ s < 96 := by simp
       simp only [i1, i2, i3, i4, i5, i6, a1, a2, a3, b1, b2, b3, ht, hs, not_true_eq_false, not_false_eq_true, and_true, and_false, true_and, false_and, and_self, if_true, if_false, zero_add, add_zero])

/-- The scores of a chunk, as real numbers. -/
theorem scF_real {q k b : Sq} {Q K B : ℕ → ℕ → ℝ} (hq : IsR q Q) (hk : IsR k K) (hb : IsR b B) :
    IsR (scF q k b) (fun t s => if s ≤ t then ∑ j ∈ Finset.range 128, Q t j * K s j * Real.exp (B t j - B s j) else 0) := by
  refine (scores_real (M := fun t s => s ≤ t) (qsF_real hq hb) (ksF_real hk hb) lowerMask_apply).congr fun t s ht hs => ?_
  by_cases h : s ≤ t
  · simp only [h, if_true]
    rw [Finset.sum_comm]
    exact Finset.sum_congr rfl fun j _ => scF_terms Q K B t s j ht hs h
  · simp only [h, if_false]

theorem scB_terms (Q K B : ℕ → ℕ → ℝ) (t s j : ℕ) (ht : t < 128) (hs : s < 128) (h : t ≤ s) :
    ∑ p ∈ Finset.range 7, qrB Q B p t j * krB K B p s j = Q t j * K s j * Real.exp (B t j - B s j) := by
  have e : ∀ M : ℕ, Q t j * Real.exp (B t j - B M j) * (K s j * Real.exp (B M j - B s j)) = Q t j * K s j * Real.exp (B t j - B s j) := fun M => by
    rw [show B t j - B s j = (B t j - B M j) + (B M j - B s j) by ring, Real.exp_add]; ring
  simp only [Finset.sum_range_succ, Finset.sum_range_zero, qrB, krB, pq, pk, Nat.zero_le, true_and, ite_mul, mul_ite, mul_zero, zero_mul, e]
  by_cases a1 : t < 32 <;> by_cases a2 : t < 64 <;> by_cases a3 : t < 96 <;> by_cases b1 : s < 32 <;> by_cases b2 : s < 64 <;> by_cases b3 : s < 96 <;>
    first
    | omega
    | (have i1 : (32 ≤ t) = ¬ t < 32 := by simp
       have i2 : (64 ≤ t) = ¬ t < 64 := by simp
       have i3 : (96 ≤ t) = ¬ t < 96 := by simp
       have i4 : (32 ≤ s) = ¬ s < 32 := by simp
       have i5 : (64 ≤ s) = ¬ s < 64 := by simp
       have i6 : (96 ≤ s) = ¬ s < 96 := by simp
       simp only [i1, i2, i3, i4, i5, i6, a1, a2, a3, b1, b2, b3, ht, hs, not_true_eq_false, not_false_eq_true, and_true, and_false, true_and, false_and, and_self, if_true, if_false, zero_add, add_zero])

/-- The scores of a chunk, as real numbers. -/
theorem scB_real {q k b : Sq} {Q K B : ℕ → ℕ → ℝ} (hq : IsR q Q) (hk : IsR k K) (hb : IsR b B) :
    IsR (scB q k b) (fun t s => if t ≤ s then ∑ j ∈ Finset.range 128, Q t j * K s j * Real.exp (B t j - B s j) else 0) := by
  refine (scores_real (M := fun t s => t ≤ s) (qsB_real hq hb) (ksB_real hk hb) upperMask_apply).congr fun t s ht hs => ?_
  by_cases h : t ≤ s
  · simp only [h, if_true]
    rw [Finset.sum_comm]
    exact Finset.sum_congr rfl fun j _ => scB_terms Q K B t s j ht hs h
  · simp only [h, if_false]

/-! ### The output and the state of a chunk -/

/-- The output of a chunk: the scores times the values, and the queries against the state. -/
def outC (sc q v b st : Sq) : Sq :=
  shapeCast S128x128 (addf (F := Ideal) (φ := .f32)
    (matmul (F := Ideal) (φ₁ := .bf16) (φ₂ := .bf16) dot_S128x128_S128x128_S128x128_1_0_0_1_n_n none
      (truncf (F := Ideal) (φ := .f32) .bf16 sc bitsLt_bf16_f32) (truncf (F := Ideal) (φ := .f32) .bf16 v bitsLt_bf16_f32) (constant S128x128 .f32 0x00000000#32))
    (matmul (F := Ideal) (φ₁ := .bf16) (φ₂ := .bf16) dot_S128x128_S128x128_S128x128_1_1_0_0_n_n none
      (truncf (F := Ideal) (φ := .f32) .bf16 (mulf (F := Ideal) (φ := .f32) q (Idealize.ShloMosaic.exp (F := Ideal) (φ := .f32) b)) bitsLt_bf16_f32)
      (truncf (F := Ideal) (φ := .f32) .bf16 st bitsLt_bf16_f32) (constant S128x128 .f32 0x00000000#32))) shapeCasts_S128x128_S128x128

/-- The state after a chunk, its decay read at row `r`. -/
def stC (r : ℕ) (h : S128x128.Slices ![r, 0] S1x128) (st v k b : Sq) : Sq :=
  addf (F := Ideal) (φ := .f32)
    (mulf (F := Ideal) (φ := .f32) st (broadcastTo S128x128 (Idealize.ShloMosaic.exp (F := Ideal) (φ := .f32) (extractStridedSlice S1x128 ![r, 0] b h)) broadcasts_S1x128_S128x128))
    (matmul (F := Ideal) (φ₁ := .bf16) (φ₂ := .bf16) dot_S128x128_S128x128_S128x128_0_0_1_1_n_n none
      (truncf (F := Ideal) (φ := .f32) .bf16 v bitsLt_bf16_f32)
      (truncf (F := Ideal) (φ := .f32) .bf16 (mulf (F := Ideal) (φ := .f32) k (Idealize.ShloMosaic.exp (F := Ideal) (φ := .f32)
        (subf (F := Ideal) (φ := .f32) (broadcastTo S128x128 (extractStridedSlice S1x128 ![r, 0] b h) broadcasts_S1x128_S128x128) b))) bitsLt_bf16_f32)
      (constant S128x128 .f32 0x00000000#32))

/-- … the last row going forward, the first going backward. -/
def stF (st v k b : Sq) : Sq := stC 127 slices_S128x128_o127_0_S1x128 st v k b
def stB (st v k b : Sq) : Sq := stC 0 slices_S128x128_o0_0_S1x128 st v k b

theorem outC_real {sc q v b st : Sq} {A Q V B S : ℕ → ℕ → ℝ} (hsc : IsR sc A) (hq : IsR q Q) (hv : IsR v V) (hb : IsR b B) (hst : IsR st S) :
    IsR (outC sc q v b st) (fun t c => (∑ s ∈ Finset.range 128, A t s * V s c) + ∑ j ∈ Finset.range 128, (Q t j * Real.exp (B t j)) * S c j) :=
  IsR.reshape (IsR.add (φ := .f32)
    (IsR.dotNN rfl (IsR.trunc hsc bitsLt_bf16_f32) (IsR.trunc hv bitsLt_bf16_f32) (IsR.constf zeroW32))
    (IsR.dotNT rfl (IsR.trunc (IsR.mul hq (IsR.exp hb)) bitsLt_bf16_f32) (IsR.trunc hst bitsLt_bf16_f32) (IsR.constf zeroW32))) _

theorem stC_real {r : ℕ} {h : S128x128.Slices ![r, 0] S1x128} {st v k b : Sq} {S V K B : ℕ → ℕ → ℝ} (hst : IsR st S) (hv : IsR v V) (hk : IsR k K) (hb : IsR b B) :
    IsR (stC r h st v k b) (fun c j => S c j * Real.exp (B r j) + ∑ s ∈ Finset.range 128, V s c * (K s j * Real.exp (B r j - B s j))) := by
  refine IsR.congr (IsR.add (φ := .f32) (IsR.mul hst (IsR.row (IsR.exp (φ := .f32) (hb.slice h)) _))
    (IsR.dotTN (IsR.trunc hv bitsLt_bf16_f32) (IsR.trunc (IsR.mul hk (IsR.exp (IsR.sub (φ := .f32) (IsR.row (hb.slice h) _) hb))) bitsLt_bf16_f32)
      (IsR.constf zeroW32) rfl (fun t j k => ?_) (fun t j k => ?_))) fun c j _ _ => ?_
  · funext a; apply Fin.ext; match a with | ⟨0, _⟩ => rfl | ⟨1, _⟩ => rfl
  · funext a; apply Fin.ext; match a with | ⟨0, _⟩ => rfl | ⟨1, _⟩ => rfl
  · simp only [Nat.zero_add, Nat.add_zero]

end Cert.Hgrn
-- ==== Proof.Math.lean ====
module

public import proofs.«01_k».proof.Proof.Scores

@[expose] public section

noncomputable section

open scoped BigOperators

namespace Cert.Hgrn

open Finset

/-- The sum of the first `n` log decays. -/
def CE (G : ℕ → ℕ → ℝ) (n j : ℕ) : ℝ := ∑ s ∈ range n, G s j

/-- The state after `n` steps, in closed form. -/
def Scl (G K V S0 : ℕ → ℕ → ℝ) (n c j : ℕ) : ℝ :=
  S0 c j * Real.exp (CE G n j) + ∑ s ∈ range n, V s c * (K s j * Real.exp (CE G n j - CE G (s + 1) j))

/-- The output at step `t`, in closed form. -/
def Ocl (G Q K V S0 : ℕ → ℕ → ℝ) (t c : ℕ) : ℝ :=
  (∑ s ∈ range (t + 1), (∑ j ∈ range 128, Q t j * K s j * Real.exp (CE G (t + 1) j - CE G (s + 1) j)) * V s c) +
    ∑ j ∈ range 128, Q t j * Real.exp (CE G (t + 1) j) * S0 c j

theorem Scl_step (G K V S0 : ℕ → ℕ → ℝ) (n c j : ℕ) :
    Scl G K V S0 n c j * Real.exp (CE G (n + 127 + 1) j - CE G n j) +
      ∑ s ∈ range 128, V (n + s) c * (K (n + s) j * Real.exp ((CE G (n + 127 + 1) j - CE G n j) - (CE G (n + s + 1) j - CE G n j)))
      = Scl G K V S0 (n + 128) c j := by
  unfold Scl
  rw [sum_range_add (fun s => V s c * (K s j * Real.exp (CE G (n + 128) j - CE G (s + 1) j))) n 128, add_mul, mul_assoc, ← Real.exp_add, sum_mul, ← add_assoc]
  congr 1
  · congr 1
    · congr 2; ring
    · refine sum_congr rfl fun s _ => ?_
      rw [mul_assoc, mul_assoc, ← Real.exp_add]
      congr 3; ring
  · refine sum_congr rfl fun s _ => ?_
    congr 3; ring

theorem Ocl_step (G Q K V S0 : ℕ → ℕ → ℝ) (n r c : ℕ) (hr : r < 128) :
    (∑ s ∈ range 128, (if s ≤ r then ∑ j ∈ range 128, Q (n + r) j * K (n + s) j *
        Real.exp ((CE G (n + r + 1) j - CE G n j) - (CE G (n + s + 1) j - CE G n j)) else 0) * V (n + s) c) +
      ∑ j ∈ range 128, (Q (n + r) j * Real.exp (CE G (n + r + 1) j - CE G n j)) * Scl G K V S0 n c j
      = Ocl G Q K V S0 (n + r) c := by
  unfold Ocl Scl
  have h1 : (∑ s ∈ range 128, (if s ≤ r then ∑ j ∈ range 128, Q (n + r) j * K (n + s) j *
        Real.exp ((CE G (n + r + 1) j - CE G n j) - (CE G (n + s + 1) j - CE G n j)) else 0) * V (n + s) c)
      = ∑ s ∈ range (r + 1), (∑ j ∈ range 128, Q (n + r) j * K (n + s) j * Real.exp (CE G (n + r + 1) j - CE G (n + s + 1) j)) * V (n + s) c := by
    rw [← sum_subset (s₁ := range (r + 1)) (s₂ := range 128) (fun x hx => by simp at hx ⊢; omega)
      (fun x _ hx => by simp at hx; rw [if_neg (by omega), zero_mul])]
    refine sum_congr rfl fun s hs => ?_
    rw [if_pos (by simp at hs; omega)]
    congr 1
    refine sum_congr rfl fun j _ => ?_
    congr 2; ring
  rw [h1, show n + r + 1 = n + (r + 1) by ring, sum_range_add (fun s => (∑ j ∈ range 128, Q (n + r) j * K s j * Real.exp (CE G (n + (r + 1)) j - CE G (s + 1) j)) * V s c) n (r + 1)]
  have h2 : ∑ j ∈ range 128, (Q (n + r) j * Real.exp (CE G (n + (r + 1)) j - CE G n j)) *
        (S0 c j * Real.exp (CE G n j) + ∑ s ∈ range n, V s c * (K s j * Real.exp (CE G n j - CE G (s + 1) j)))
      = (∑ j ∈ range 128, Q (n + r) j * Real.exp (CE G (n + (r + 1)) j) * S0 c j) +
        ∑ s ∈ range n, (∑ j ∈ range 128, Q (n + r) j * K s j * Real.exp (CE G (n + (r + 1)) j - CE G (s + 1) j)) * V s c := by
    simp only [sum_mul]
    rw [sum_comm (s := range n), ← sum_add_distrib]
    refine sum_congr rfl fun j _ => ?_
    rw [mul_add, mul_sum]
    congr 1
    · rw [show CE G (n + (r + 1)) j = (CE G (n + (r + 1)) j - CE G n j) + CE G n j by ring, Real.exp_add]
      rw [show CE G (n + (r + 1)) j - CE G n j + CE G n j - CE G n j = CE G (n + (r + 1)) j - CE G n j by ring]
      ring
    · refine sum_congr rfl fun s _ => ?_
      rw [show CE G (n + (r + 1)) j - CE G (s + 1) j = (CE G (n + (r + 1)) j - CE G n j) + (CE G n j - CE G (s + 1) j) by ring, Real.exp_add]
      ring
  rw [h2]
  ring

/-! ### One chunk forward -/

section Forward
variable {q k v b st : Sq} {G Q K V S0 : ℕ → ℕ → ℝ} {n : ℕ}

theorem stF_step (hst : IsR st (Scl G K V S0 n)) (hv : IsR v (fun r c => V (n + r) c)) (hk : IsR k (fun r j => K (n + r) j))
    (hb : IsR b (fun r j => CE G (n + r + 1) j - CE G n j)) : IsR (stF st v k b) (Scl G K V S0 (n + 128)) :=
  (stC_real hst hv hk hb).congr fun c j _ _ => Scl_step G K V S0 n c j

theorem outF_step (hst : IsR st (Scl G K V S0 n)) (hq : IsR q (fun r j => Q (n + r) j)) (hv : IsR v (fun r c => V (n + r) c))
    (hk : IsR k (fun r j => K (n + r) j)) (hb : IsR b (fun r j => CE G (n + r + 1) j - CE G n j)) :
    IsR (outC (scF q k b) q v b st) (fun r c => Ocl G Q K V S0 (n + r) c) :=
  (outC_real (scF_real hq hk hb) hq hv hb hst).congr fun r c hr _ => Ocl_step G Q K V S0 n r c hr

end Forward

/-! ### One chunk backward: the rows of the chunk are read from the last to the first -/

section Backward
variable {q k v b st : Sq} {G Q K V S0 : ℕ → ℕ → ℝ} {n : ℕ}

theorem stB_step (hst : IsR st (Scl G K V S0 n)) (hv : IsR v (fun r c => V (n + (127 - r)) c)) (hk : IsR k (fun r j => K (n + (127 - r)) j))
    (hb : IsR b (fun r j => CE G (n + (127 - r) + 1) j - CE G n j)) : IsR (stB st v k b) (Scl G K V S0 (n + 128)) :=
  (stC_real hst hv hk hb).congr fun c j _ _ => by
    rw [← Scl_step G K V S0 n c j]
    congr 1
    exact sum_range_reflect (fun s => V (n + s) c * (K (n + s) j * Real.exp ((CE G (n + 127 + 1) j - CE G n j) - (CE G (n + s + 1) j - CE G n j)))) 128

theorem outB_step (hst : IsR st (Scl G K V S0 n)) (hq : IsR q (fun r j => Q (n + (127 - r)) j)) (hv : IsR v (fun r c => V (n + (127 - r)) c))
    (hk : IsR k (fun r j => K (n + (127 - r)) j)) (hb : IsR b (fun r j => CE G (n + (127 - r) + 1) j - CE G n j)) :
    IsR (outC (scB q k b) q v b st) (fun r c => Ocl G Q K V S0 (n + (127 - r)) c) :=
  (outC_real (scB_real hq hk hb) hq hv hb hst).congr fun r c hr _ => by
    rw [← Ocl_step G Q K V S0 n (127 - r) c (by omega)]
    congr 1
    rw [← sum_range_reflect (fun s => (if s ≤ 127 - r then ∑ j ∈ range 128, Q (n + (127 - r)) j * K (n + s) j *
        Real.exp ((CE G (n + (127 - r) + 1) j - CE G n j) - (CE G (n + s + 1) j - CE G n j)) else 0) * V (n + s) c) 128]
    refine sum_congr rfl fun s hs => ?_
    simp only [mem_range] at hs
    show _ = (if 127 - s ≤ 127 - r then _ else _) * V (n + (127 - s)) c
    by_cases h : r ≤ s
    · rw [if_pos h, if_pos (show 127 - s ≤ 127 - r by omega)]
    · rw [if_neg h, if_neg (show ¬ 127 - s ≤ 127 - r by omega)]

end Backward

end Cert.Hgrn
-- ==== Proof.Trip.lean ====
module

public import proofs.«01_k».proof.Proof.Math
public import proofs.«01_k».proof.Proof.Run

@[expose] public section

set_option maxRecDepth 16384

noncomputable section

open scoped BigOperators

namespace Cert.Hgrn

open Idealize.ShloMosaic hiding ix2
open Idealize.ShloMosaic.TcCoe
open Idealize.ShloMosaic.ValueIdx
open Cert.KernelIdeal Cert.KernelIdeal.Gen

theorem trip_carry (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (v227 : FVec Ideal S128x128 .f32) (v229 : FVec Ideal S128x128 .f32) (v231 : FVec Ideal S128x128 .f32) (v233 : FVec Ideal S128x128 .f32) (v235 : FVec Ideal S128x128 .f32) (v237 : FVec Ideal S128x128 .f32) (X_arg2 : BufTy.Contents (Elt Ideal) arg2.view.ty) (X_arg5 : BufTy.Contents (Elt Ideal) arg5.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips) (acc : (Sq × Sq × Sq × Sq × Sq × Sq × Sq × Sq)) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 k).1 acc = (stF acc.1 (k0_pay3 (F := Ideal) (View.readAt (Elt Ideal) arg5.view (Rect.unit (s := S1x2048x512) (k0_off1 k) S1x128x128.size (k0_off1_inb k)).toLoadRect X_arg5)) (View.readAt (Elt Ideal) arg13.view (Rect.unit (s := S2048x512) (k0_off2 k) S128x128.size (k0_off2_inb k)).toLoadRect X_arg13) (View.readAt (Elt Ideal) arg15.view (Rect.unit (s := S2048x512) (k0_off2 k) S128x128.size (k0_off2_inb k)).toLoadRect X_arg15),
      stB acc.2.1 (k0_pay3 (F := Ideal) (View.readAt (Elt Ideal) arg5.view (Rect.unit (s := S1x2048x512) (k0_off3 k) S1x128x128.size (k0_off3_inb k)).toLoadRect X_arg5)) (View.readAt (Elt Ideal) arg14.view (Rect.unit (s := S2048x512) (k0_off4 k) S128x128.size (k0_off4_inb k)).toLoadRect X_arg14) (View.readAt (Elt Ideal) arg16.view (Rect.unit (s := S2048x512) (k0_off4 k) S128x128.size (k0_off4_inb k)).toLoadRect X_arg16),
      stF acc.2.2.1 (k0_pay3 (F := Ideal) (View.readAt (Elt Ideal) arg5.view (Rect.unit (s := S1x2048x512) (k0_off5 k) S1x128x128.size (k0_off5_inb k)).toLoadRect X_arg5)) (View.readAt (Elt Ideal) arg13.view (Rect.unit (s := S2048x512) (k0_off6 k) S128x128.size (k0_off6_inb k)).toLoadRect X_arg13) (View.readAt (Elt Ideal) arg15.view (Rect.unit (s := S2048x512) (k0_off6 k) S128x128.size (k0_off6_inb k)).toLoadRect X_arg15),
      stB acc.2.2.2.1 (k0_pay3 (F := Ideal) (View.readAt (Elt Ideal) arg5.view (Rect.unit (s := S1x2048x512) (k0_off7 k) S1x128x128.size (k0_off7_inb k)).toLoadRect X_arg5)) (View.readAt (Elt Ideal) arg14.view (Rect.unit (s := S2048x512) (k0_off8 k) S128x128.size (k0_off8_inb k)).toLoadRect X_arg14) (View.readAt (Elt Ideal) arg16.view (Rect.unit (s := S2048x512) (k0_off8 k) S128x128.size (k0_off8_inb k)).toLoadRect X_arg16),
      stF acc.2.2.2.2.1 (k0_pay3 (F := Ideal) (View.readAt (Elt Ideal) arg5.view (Rect.unit (s := S1x2048x512) (k0_off9 k) S1x128x128.size (k0_off9_inb k)).toLoadRect X_arg5)) (View.readAt (Elt Ideal) arg13.view (Rect.unit (s := S2048x512) (k0_off10 k) S128x128.size (k0_off10_inb k)).toLoadRect X_arg13) (View.readAt (Elt Ideal) arg15.view (Rect.unit (s := S2048x512) (k0_off10 k) S128x128.size (k0_off10_inb k)).toLoadRect X_arg15),
      stB acc.2.2.2.2.2.1 (k0_pay3 (F := Ideal) (View.readAt (Elt Ideal) arg5.view (Rect.unit (s := S1x2048x512) (k0_off11 k) S1x128x128.size (k0_off11_inb k)).toLoadRect X_arg5)) (View.readAt (Elt Ideal) arg14.view (Rect.unit (s := S2048x512) (k0_off12 k) S128x128.size (k0_off12_inb k)).toLoadRect X_arg14) (View.readAt (Elt Ideal) arg16.view (Rect.unit (s := S2048x512) (k0_off12 k) S128x128.size (k0_off12_inb k)).toLoadRect X_arg16),
      stF acc.2.2.2.2.2.2.1 (k0_pay3 (F := Ideal) (View.readAt (Elt Ideal) arg5.view (Rect.unit (s := S1x2048x512) (k0_off13 k) S1x128x128.size (k0_off13_inb k)).toLoadRect X_arg5)) (View.readAt (Elt Ideal) arg13.view (Rect.unit (s := S2048x512) (k0_off14 k) S128x128.size (k0_off14_inb k)).toLoadRect X_arg13) (View.readAt (Elt Ideal) arg15.view (Rect.unit (s := S2048x512) (k0_off14 k) S128x128.size (k0_off14_inb k)).toLoadRect X_arg15),
      stB acc.2.2.2.2.2.2.2 (k0_pay3 (F := Ideal) (View.readAt (Elt Ideal) arg5.view (Rect.unit (s := S1x2048x512) (k0_off15 k) S1x128x128.size (k0_off15_inb k)).toLoadRect X_arg5)) (View.readAt (Elt Ideal) arg14.view (Rect.unit (s := S2048x512) (k0_off16 k) S128x128.size (k0_off16_inb k)).toLoadRect X_arg14) (View.readAt (Elt Ideal) arg16.view (Rect.unit (s := S2048x512) (k0_off16 k) S128x128.size (k0_off16_inb k)).toLoadRect X_arg16)) := by
  unfold trip_k0_t1
  rfl

theorem trip_piecesF (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (v227 : FVec Ideal S128x128 .f32) (v229 : FVec Ideal S128x128 .f32) (v231 : FVec Ideal S128x128 .f32) (v233 : FVec Ideal S128x128 .f32) (v235 : FVec Ideal S128x128 .f32) (v237 : FVec Ideal S128x128 .f32) (X_arg2 : BufTy.Contents (Elt Ideal) arg2.view.ty) (X_arg5 : BufTy.Contents (Elt Ideal) arg5.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips) (acc : (Sq × Sq × Sq × Sq × Sq × Sq × Sq × Sq)) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 k).2.1 acc = [⟨Rect.unit (s := S2048x512) (k0_off14 k) S128x128.size (k0_off14_inb k), outC (scF (k0_pay2 (F := Ideal) (View.readAt (Elt Ideal) arg2.view (Rect.unit (s := S1x2048x512) (k0_off13 k) S1x128x128.size (k0_off13_inb k)).toLoadRect X_arg2)) (View.readAt (Elt Ideal) arg13.view (Rect.unit (s := S2048x512) (k0_off14 k) S128x128.size (k0_off14_inb k)).toLoadRect X_arg13) (View.readAt (Elt Ideal) arg15.view (Rect.unit (s := S2048x512) (k0_off14 k) S128x128.size (k0_off14_inb k)).toLoadRect X_arg15)) (k0_pay2 (F := Ideal) (View.readAt (Elt Ideal) arg2.view (Rect.unit (s := S1x2048x512) (k0_off13 k) S1x128x128.size (k0_off13_inb k)).toLoadRect X_arg2)) (k0_pay3 (F := Ideal) (View.readAt (Elt Ideal) arg5.view (Rect.unit (s := S1x2048x512) (k0_off13 k) S1x128x128.size (k0_off13_inb k)).toLoadRect X_arg5)) (View.readAt (Elt Ideal) arg15.view (Rect.unit (s := S2048x512) (k0_off14 k) S128x128.size (k0_off14_inb k)).toLoadRect X_arg15) acc.2.2.2.2.2.2.1⟩,
      ⟨Rect.unit (s := S2048x512) (k0_off10 k) S128x128.size (k0_off10_inb k), outC (scF (k0_pay2 (F := Ideal) (View.readAt (Elt Ideal) arg2.view (Rect.unit (s := S1x2048x512) (k0_off9 k) S1x128x128.size (k0_off9_inb k)).toLoadRect X_arg2)) (View.readAt (Elt Ideal) arg13.view (Rect.unit (s := S2048x512) (k0_off10 k) S128x128.size (k0_off10_inb k)).toLoadRect X_arg13) (View.readAt (Elt Ideal) arg15.view (Rect.unit (s := S2048x512) (k0_off10 k) S128x128.size (k0_off10_inb k)).toLoadRect X_arg15)) (k0_pay2 (F := Ideal) (View.readAt (Elt Ideal) arg2.view (Rect.unit (s := S1x2048x512) (k0_off9 k) S1x128x128.size (k0_off9_inb k)).toLoadRect X_arg2)) (k0_pay3 (F := Ideal) (View.readAt (Elt Ideal) arg5.view (Rect.unit (s := S1x2048x512) (k0_off9 k) S1x128x128.size (k0_off9_inb k)).toLoadRect X_arg5)) (View.readAt (Elt Ideal) arg15.view (Rect.unit (s := S2048x512) (k0_off10 k) S128x128.size (k0_off10_inb k)).toLoadRect X_arg15) acc.2.2.2.2.1⟩,
      ⟨Rect.unit (s := S2048x512) (k0_off6 k) S128x128.size (k0_off6_inb k), outC (scF (k0_pay2 (F := Ideal) (View.readAt (Elt Ideal) arg2.view (Rect.unit (s := S1x2048x512) (k0_off5 k) S1x128x128.size (k0_off5_inb k)).toLoadRect X_arg2)) (View.readAt (Elt Ideal) arg13.view (Rect.unit (s := S2048x512) (k0_off6 k) S128x128.size (k0_off6_inb k)).toLoadRect X_arg13) (View.readAt (Elt Ideal) arg15.view (Rect.unit (s := S2048x512) (k0_off6 k) S128x128.size (k0_off6_inb k)).toLoadRect X_arg15)) (k0_pay2 (F := Ideal) (View.readAt (Elt Ideal) arg2.view (Rect.unit (s := S1x2048x512) (k0_off5 k) S1x128x128.size (k0_off5_inb k)).toLoadRect X_arg2)) (k0_pay3 (F := Ideal) (View.readAt (Elt Ideal) arg5.view (Rect.unit (s := S1x2048x512) (k0_off5 k) S1x128x128.size (k0_off5_inb k)).toLoadRect X_arg5)) (View.readAt (Elt Ideal) arg15.view (Rect.unit (s := S2048x512) (k0_off6 k) S128x128.size (k0_off6_inb k)).toLoadRect X_arg15) acc.2.2.1⟩,
      ⟨Rect.unit (s := S2048x512) (k0_off2 k) S128x128.size (k0_off2_inb k), outC (scF (k0_pay2 (F := Ideal) (View.readAt (Elt Ideal) arg2.view (Rect.unit (s := S1x2048x512) (k0_off1 k) S1x128x128.size (k0_off1_inb k)).toLoadRect X_arg2)) (View.readAt (Elt Ideal) arg13.view (Rect.unit (s := S2048x512) (k0_off2 k) S128x128.size (k0_off2_inb k)).toLoadRect X_arg13) (View.readAt (Elt Ideal) arg15.view (Rect.unit (s := S2048x512) (k0_off2 k) S128x128.size (k0_off2_inb k)).toLoadRect X_arg15)) (k0_pay2 (F := Ideal) (View.readAt (Elt Ideal) arg2.view (Rect.unit (s := S1x2048x512) (k0_off1 k) S1x128x128.size (k0_off1_inb k)).toLoadRect X_arg2)) (k0_pay3 (F := Ideal) (View.readAt (Elt Ideal) arg5.view (Rect.unit (s := S1x2048x512) (k0_off1 k) S1x128x128.size (k0_off1_inb k)).toLoadRect X_arg5)) (View.readAt (Elt Ideal) arg15.view (Rect.unit (s := S2048x512) (k0_off2 k) S128x128.size (k0_off2_inb k)).toLoadRect X_arg15) acc.1⟩] := by
  unfold trip_k0_t1
  rfl

theorem trip_piecesB (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (v227 : FVec Ideal S128x128 .f32) (v229 : FVec Ideal S128x128 .f32) (v231 : FVec Ideal S128x128 .f32) (v233 : FVec Ideal S128x128 .f32) (v235 : FVec Ideal S128x128 .f32) (v237 : FVec Ideal S128x128 .f32) (X_arg2 : BufTy.Contents (Elt Ideal) arg2.view.ty) (X_arg5 : BufTy.Contents (Elt Ideal) arg5.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips) (acc : (Sq × Sq × Sq × Sq × Sq × Sq × Sq × Sq)) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 k).2.2.1 acc = [⟨Rect.unit (s := S2048x512) (k0_off16 k) S128x128.size (k0_off16_inb k), outC (scB (k0_pay2 (F := Ideal) (View.readAt (Elt Ideal) arg2.view (Rect.unit (s := S1x2048x512) (k0_off15 k) S1x128x128.size (k0_off15_inb k)).toLoadRect X_arg2)) (View.readAt (Elt Ideal) arg14.view (Rect.unit (s := S2048x512) (k0_off16 k) S128x128.size (k0_off16_inb k)).toLoadRect X_arg14) (View.readAt (Elt Ideal) arg16.view (Rect.unit (s := S2048x512) (k0_off16 k) S128x128.size (k0_off16_inb k)).toLoadRect X_arg16)) (k0_pay2 (F := Ideal) (View.readAt (Elt Ideal) arg2.view (Rect.unit (s := S1x2048x512) (k0_off15 k) S1x128x128.size (k0_off15_inb k)).toLoadRect X_arg2)) (k0_pay3 (F := Ideal) (View.readAt (Elt Ideal) arg5.view (Rect.unit (s := S1x2048x512) (k0_off15 k) S1x128x128.size (k0_off15_inb k)).toLoadRect X_arg5)) (View.readAt (Elt Ideal) arg16.view (Rect.unit (s := S2048x512) (k0_off16 k) S128x128.size (k0_off16_inb k)).toLoadRect X_arg16) acc.2.2.2.2.2.2.2⟩,
      ⟨Rect.unit (s := S2048x512) (k0_off12 k) S128x128.size (k0_off12_inb k), outC (scB (k0_pay2 (F := Ideal) (View.readAt (Elt Ideal) arg2.view (Rect.unit (s := S1x2048x512) (k0_off11 k) S1x128x128.size (k0_off11_inb k)).toLoadRect X_arg2)) (View.readAt (Elt Ideal) arg14.view (Rect.unit (s := S2048x512) (k0_off12 k) S128x128.size (k0_off12_inb k)).toLoadRect X_arg14) (View.readAt (Elt Ideal) arg16.view (Rect.unit (s := S2048x512) (k0_off12 k) S128x128.size (k0_off12_inb k)).toLoadRect X_arg16)) (k0_pay2 (F := Ideal) (View.readAt (Elt Ideal) arg2.view (Rect.unit (s := S1x2048x512) (k0_off11 k) S1x128x128.size (k0_off11_inb k)).toLoadRect X_arg2)) (k0_pay3 (F := Ideal) (View.readAt (Elt Ideal) arg5.view (Rect.unit (s := S1x2048x512) (k0_off11 k) S1x128x128.size (k0_off11_inb k)).toLoadRect X_arg5)) (View.readAt (Elt Ideal) arg16.view (Rect.unit (s := S2048x512) (k0_off12 k) S128x128.size (k0_off12_inb k)).toLoadRect X_arg16) acc.2.2.2.2.2.1⟩,
      ⟨Rect.unit (s := S2048x512) (k0_off8 k) S128x128.size (k0_off8_inb k), outC (scB (k0_pay2 (F := Ideal) (View.readAt (Elt Ideal) arg2.view (Rect.unit (s := S1x2048x512) (k0_off7 k) S1x128x128.size (k0_off7_inb k)).toLoadRect X_arg2)) (View.readAt (Elt Ideal) arg14.view (Rect.unit (s := S2048x512) (k0_off8 k) S128x128.size (k0_off8_inb k)).toLoadRect X_arg14) (View.readAt (Elt Ideal) arg16.view (Rect.unit (s := S2048x512) (k0_off8 k) S128x128.size (k0_off8_inb k)).toLoadRect X_arg16)) (k0_pay2 (F := Ideal) (View.readAt (Elt Ideal) arg2.view (Rect.unit (s := S1x2048x512) (k0_off7 k) S1x128x128.size (k0_off7_inb k)).toLoadRect X_arg2)) (k0_pay3 (F := Ideal) (View.readAt (Elt Ideal) arg5.view (Rect.unit (s := S1x2048x512) (k0_off7 k) S1x128x128.size (k0_off7_inb k)).toLoadRect X_arg5)) (View.readAt (Elt Ideal) arg16.view (Rect.unit (s := S2048x512) (k0_off8 k) S128x128.size (k0_off8_inb k)).toLoadRect X_arg16) acc.2.2.2.1⟩,
      ⟨Rect.unit (s := S2048x512) (k0_off4 k) S128x128.size (k0_off4_inb k), outC (scB (k0_pay2 (F := Ideal) (View.readAt (Elt Ideal) arg2.view (Rect.unit (s := S1x2048x512) (k0_off3 k) S1x128x128.size (k0_off3_inb k)).toLoadRect X_arg2)) (View.readAt (Elt Ideal) arg14.view (Rect.unit (s := S2048x512) (k0_off4 k) S128x128.size (k0_off4_inb k)).toLoadRect X_arg14) (View.readAt (Elt Ideal) arg16.view (Rect.unit (s := S2048x512) (k0_off4 k) S128x128.size (k0_off4_inb k)).toLoadRect X_arg16)) (k0_pay2 (F := Ideal) (View.readAt (Elt Ideal) arg2.view (Rect.unit (s := S1x2048x512) (k0_off3 k) S1x128x128.size (k0_off3_inb k)).toLoadRect X_arg2)) (k0_pay3 (F := Ideal) (View.readAt (Elt Ideal) arg5.view (Rect.unit (s := S1x2048x512) (k0_off3 k) S1x128x128.size (k0_off3_inb k)).toLoadRect X_arg5)) (View.readAt (Elt Ideal) arg16.view (Rect.unit (s := S2048x512) (k0_off4 k) S128x128.size (k0_off4_inb k)).toLoadRect X_arg16) acc.2.1⟩] := by
  unfold trip_k0_t1
  rfl

end Cert.Hgrn
-- ==== Proof.Loop.lean ====
module

public import proofs.«01_k».proof.Proof.Trip
public import Idealize.ShloMosaic.Lib.WritesUnit

@[expose] public section

set_option maxRecDepth 16384

noncomputable section

open scoped BigOperators

namespace Cert.Hgrn

open Idealize.ShloMosaic hiding ix2
open Idealize.ShloMosaic.TcCoe
open Idealize.ShloMosaic.ValueIdx
open Cert.KernelIdeal Cert.KernelIdeal.Gen

/-! ### The offsets of a trip's loads and stores -/

theorem trips_eq : k0_t1_loop.trips = 16 := by decide +kernel

theorem off1_eq : ∀ k : Fin k0_t1_loop.trips, k0_off1 k = ![0, 128 * k.val, 0] := by decide +kernel
theorem off2_eq : ∀ k : Fin k0_t1_loop.trips, k0_off2 k = ![128 * k.val, 0] := by decide +kernel
theorem off3_eq : ∀ k : Fin k0_t1_loop.trips, k0_off3 k = ![0, 128 * (15 - k.val), 0] := by decide +kernel
theorem off4_eq : ∀ k : Fin k0_t1_loop.trips, k0_off4 k = ![128 * (15 - k.val), 0] := by decide +kernel
theorem off5_eq : ∀ k : Fin k0_t1_loop.trips, k0_off5 k = ![0, 128 * k.val, 128] := by decide +kernel
theorem off6_eq : ∀ k : Fin k0_t1_loop.trips, k0_off6 k = ![128 * k.val, 128] := by decide +kernel
theorem off7_eq : ∀ k : Fin k0_t1_loop.trips, k0_off7 k = ![0, 128 * (15 - k.val), 128] := by decide +kernel
theorem off8_eq : ∀ k : Fin k0_t1_loop.trips, k0_off8 k = ![128 * (15 - k.val), 128] := by decide +kernel
theorem off9_eq : ∀ k : Fin k0_t1_loop.trips, k0_off9 k = ![0, 128 * k.val, 256] := by decide +kernel
theorem off10_eq : ∀ k : Fin k0_t1_loop.trips, k0_off10 k = ![128 * k.val, 256] := by decide +kernel
theorem off11_eq : ∀ k : Fin k0_t1_loop.trips, k0_off11 k = ![0, 128 * (15 - k.val), 256] := by decide +kernel
theorem off12_eq : ∀ k : Fin k0_t1_loop.trips, k0_off12 k = ![128 * (15 - k.val), 256] := by decide +kernel
theorem off13_eq : ∀ k : Fin k0_t1_loop.trips, k0_off13 k = ![0, 128 * k.val, 384] := by decide +kernel
theorem off14_eq : ∀ k : Fin k0_t1_loop.trips, k0_off14 k = ![128 * k.val, 384] := by decide +kernel
theorem off15_eq : ∀ k : Fin k0_t1_loop.trips, k0_off15 k = ![0, 128 * (15 - k.val), 384] := by decide +kernel
theorem off16_eq : ∀ k : Fin k0_t1_loop.trips, k0_off16 k = ![128 * (15 - k.val), 384] := by decide +kernel

/-! ### Reading real arrays a square at a time -/

/-- A block with a leading unit axis holds real numbers. -/
def IsR3 {m n : ℕ} (X : (⟨3, ![1, m, n]⟩ : Shape).Idx → EReal) (Q : ℕ → ℕ → ℝ) : Prop :=
  ∀ (t : Fin m) (j : Fin n), X (ValueIdx.ix3 (0 : Fin 1) t j) = ((Q t.val j.val : ℝ) : EReal)

theorem IsR3.congr {m n : ℕ} {X : (⟨3, ![1, m, n]⟩ : Shape).Idx → EReal} {P Q : ℕ → ℕ → ℝ} (h : IsR3 X P)
    (e : ∀ t j, t < m → j < n → P t j = Q t j) : IsR3 X Q := fun t j => by rw [h t j, e _ _ t.isLt j.isLt]

theorem IsR.at {m n : ℕ} {X : (⟨2, ![m, n]⟩ : Shape).Idx → EReal} {Q : ℕ → ℕ → ℝ} (h : IsR X Q) (y : (⟨2, ![m, n]⟩ : Shape).Idx)
    {a b : ℕ} (ha : (y 0).val = a) (hb : (y 1).val = b) : X y = ((Q a b : ℝ) : EReal) := by
  subst ha hb
  exact (congrArg X (ValueIdx.eq_ix2 y)).trans (h (y 0) (y 1))

theorem IsR3.at {m n : ℕ} {X : (⟨3, ![1, m, n]⟩ : Shape).Idx → EReal} {Q : ℕ → ℕ → ℝ} (h : IsR3 X Q) (y : (⟨3, ![1, m, n]⟩ : Shape).Idx)
    {a b : ℕ} (ha : (y 1).val = a) (hb : (y 2).val = b) : X y = ((Q a b : ℝ) : EReal) := by
  subst ha hb
  have e : y = ValueIdx.ix3 (0 : Fin 1) (y 1) (y 2) := funext fun i => by
    match i with
    | ⟨0, _⟩ => exact Fin.ext (Nat.lt_one_iff.mp (y 0).isLt)
    | ⟨1, _⟩ => rfl
    | ⟨2, _⟩ => rfl
  exact (congrArg X e).trans (h (y 1) (y 2))

theorem IsR3.drop {m n : ℕ} {φ : FTy} {X : FVec Ideal ⟨3, ![1, m, n]⟩ φ} {Q : ℕ → ℕ → ℝ} (h : IsR3 X Q)
    (hs : (⟨3, ![1, m, n]⟩ : Shape).ShapeCasts ⟨2, ![m, n]⟩) : IsR (shapeCast ⟨2, ![m, n]⟩ X hs) Q := by
  intro t j
  rw [shapeCast_dropUnit_apply ![m, n] X hs (ix2 t j)]
  exact h.at _ rfl rfl

section Reads
variable {κ : Kind} {sp : Space}

theorem IsR.load {off : Fin 2 → ℕ} {o p : ℕ} (v : View sig κ sp S2048x512 .f32) (X : v.ty.Contents (Elt Ideal)) {P : ℕ → ℕ → ℝ}
    (hX : IsR (v.read (Elt Ideal) X) P) (inb : ∀ a, off a + S128x128.size a ≤ S2048x512.size a) (ho : off = ![o, p]) :
    IsR (v.readAt (Elt Ideal) (Rect.unit (s := S2048x512) off S128x128.size inb).toLoadRect X) (fun r j => P (o + r) (p + j)) := by
  subst ho
  intro t j
  exact hX.at ((Rect.unit (s := S2048x512) ![o, p] S128x128.size inb).toLoadRect.idx (ix2 t j))
    (show o + 1 * t.val = o + t.val by rw [Nat.one_mul]) (show p + 1 * j.val = p + j.val by rw [Nat.one_mul])

theorem IsR3.load {off : Fin 3 → ℕ} {o p : ℕ} (v : View sig κ sp S1x2048x512 .bf16) (X : v.ty.Contents (Elt Ideal)) {P : ℕ → ℕ → ℝ}
    (hX : IsR3 (v.read (Elt Ideal) X) P) (inb : ∀ a, off a + S1x128x128.size a ≤ S1x2048x512.size a) (ho : off = ![0, o, p]) :
    IsR3 (v.readAt (Elt Ideal) (Rect.unit (s := S1x2048x512) off S1x128x128.size inb).toLoadRect X) (fun r j => P (o + r) (p + j)) := by
  subst ho
  intro t j
  exact hX.at ((Rect.unit (s := S1x2048x512) ![0, o, p] S1x128x128.size inb).toLoadRect.idx (ValueIdx.ix3 0 t j))
    (show o + 1 * t.val = o + t.val by rw [Nat.one_mul]) (show p + 1 * j.val = p + j.val by rw [Nat.one_mul])

end Reads

/-- The scale of the queries. -/
def qscale : ℝ := (Ideal.ofBits .f32 0x3DB504F3#32).toReal

theorem qscale_eq : (Ideal.ofBits .f32 0x3DB504F3#32 : EReal) = ((qscale : ℝ) : EReal) := by
  unfold qscale
  have h : Ideal.ofBits .f32 0x3DB504F3#32 = (((11863283 : ℝ) * ((2 : ℝ) ^ 27)⁻¹ : ℝ) : EReal) := by
    rw [EReal.coe_mul]
    simp [Ideal.ofBits, Ideal.ieee]
  rw [h, EReal.toReal_coe]

/-- The activated, scaled query. -/
def qact (x : ℝ) : ℝ := x * (1 + Real.exp (-x))⁻¹ * qscale

theorem pay2_real {X : FVec Ideal S1x128x128 .bf16} {P : ℕ → ℕ → ℝ} (h : IsR3 X P) :
    IsR (k0_pay2 (F := Ideal) X) (fun r j => qact (P r j)) := by
  have e := h.drop (φ := .bf16) shapeCasts_S1x128x128_S128x128
  have e' := IsR.ext' (φ := .bf16) (ψ := .f32) e bitsLt_bf16_f32
  exact ((e'.mul (φ := .f32) (e'.logistic (φ := .f32))).mul (φ := .f32) (IsR.splat qscale_eq)).congr fun t j _ _ => rfl

theorem pay3_real {X : FVec Ideal S1x128x128 .bf16} {P : ℕ → ℕ → ℝ} (h : IsR3 X P) :
    IsR (k0_pay3 (F := Ideal) X) P :=
  IsR.ext' (φ := .bf16) (ψ := .f32) (h.drop (φ := .bf16) shapeCasts_S1x128x128_S128x128) bitsLt_bf16_f32

/-! ### Four squares of one band of rows -/

section Band
variable {κ : Kind} {sp : Space} (v : View sig κ sp S2048x512 .f32)
variable {of3 of2 of1 of0 : Fin 2 → ℕ} {o : ℕ}
  (i3 : ∀ a, of3 a + S128x128.size a ≤ S2048x512.size a) (i2 : ∀ a, of2 a + S128x128.size a ≤ S2048x512.size a)
  (i1 : ∀ a, of1 a + S128x128.size a ≤ S2048x512.size a) (i0 : ∀ a, of0 a + S128x128.size a ≤ S2048x512.size a)
  (w3 w2 w1 w0 : Sq) (L : List (View.Piece (Elt Ideal) S2048x512 .f32))

/-- The four squares of a band, newest first. -/
abbrev band : List (View.Piece (Elt Ideal) S2048x512 .f32) :=
  [⟨Rect.unit (s := S2048x512) of3 S128x128.size i3, w3⟩, ⟨Rect.unit (s := S2048x512) of2 S128x128.size i2, w2⟩,
    ⟨Rect.unit (s := S2048x512) of1 S128x128.size i1, w1⟩, ⟨Rect.unit (s := S2048x512) of0 S128x128.size i0, w0⟩]

variable (h3 : of3 = ![o, 384]) (h2 : of2 = ![o, 256]) (h1 : of1 = ![o, 128]) (h0 : of0 = ![o, 0])
include h3 h2 h1 h0

theorem band_out (f : v.ty.Contents (Elt Ideal)) (t : Fin 2048) (c : Fin 512) (ht : t.val < o ∨ o + 128 ≤ t.val) :
    v.read (Elt Ideal) (v.writes (Elt Ideal) f (band i3 i2 i1 i0 w3 w2 w1 w0 ++ L)) (ix2 t c)
      = v.read (Elt Ideal) (v.writes (Elt Ideal) f L) (ix2 t c) := by
  show v.read (Elt Ideal) (v.writes (Elt Ideal) f (_ :: _ :: _ :: _ :: L)) (ix2 t c) = _
  rw [View.read_writes_cons_unit_of_not_mem v f i3 w3 _ (ix2 t c) h3 (0 : Fin 2) ht,
    View.read_writes_cons_unit_of_not_mem v f i2 w2 _ (ix2 t c) h2 (0 : Fin 2) ht,
    View.read_writes_cons_unit_of_not_mem v f i1 w1 _ (ix2 t c) h1 (0 : Fin 2) ht,
    View.read_writes_cons_unit_of_not_mem v f i0 w0 _ (ix2 t c) h0 (0 : Fin 2) ht]

/-- Inside the band, the square of the column's head. -/
theorem band_in (f : v.ty.Contents (Elt Ideal)) (t : Fin 2048) (c : Fin 512) (r : Fin 128) (j : Fin 128) (ht : t.val = o + r.val) :
    (c.val = 0 + j.val → v.read (Elt Ideal) (v.writes (Elt Ideal) f (band i3 i2 i1 i0 w3 w2 w1 w0 ++ L)) (ix2 t c) = w0 (ix2 r j)) ∧
    (c.val = 128 + j.val → v.read (Elt Ideal) (v.writes (Elt Ideal) f (band i3 i2 i1 i0 w3 w2 w1 w0 ++ L)) (ix2 t c) = w1 (ix2 r j)) ∧
    (c.val = 256 + j.val → v.read (Elt Ideal) (v.writes (Elt Ideal) f (band i3 i2 i1 i0 w3 w2 w1 w0 ++ L)) (ix2 t c) = w2 (ix2 r j)) ∧
    (c.val = 384 + j.val → v.read (Elt Ideal) (v.writes (Elt Ideal) f (band i3 i2 i1 i0 w3 w2 w1 w0 ++ L)) (ix2 t c) = w3 (ix2 r j)) := by
  show (_ → v.read (Elt Ideal) (v.writes (Elt Ideal) f (_ :: _ :: _ :: _ :: L)) (ix2 t c) = _) ∧
    (_ → v.read (Elt Ideal) (v.writes (Elt Ideal) f (_ :: _ :: _ :: _ :: L)) (ix2 t c) = _) ∧
    (_ → v.read (Elt Ideal) (v.writes (Elt Ideal) f (_ :: _ :: _ :: _ :: L)) (ix2 t c) = _) ∧
    (_ → v.read (Elt Ideal) (v.writes (Elt Ideal) f (_ :: _ :: _ :: _ :: L)) (ix2 t c) = _)
  have hj := j.isLt
  have m3 (hc : c.val < 384) := View.read_writes_cons_unit_of_not_mem v f i3 w3 (⟨Rect.unit (s := S2048x512) of2 S128x128.size i2, w2⟩ ::
    ⟨Rect.unit (s := S2048x512) of1 S128x128.size i1, w1⟩ :: ⟨Rect.unit (s := S2048x512) of0 S128x128.size i0, w0⟩ :: L) (ix2 t c) h3 (1 : Fin 2) (Or.inl hc)
  have m2 (hc : c.val < 256) := View.read_writes_cons_unit_of_not_mem v f i2 w2 (
    ⟨Rect.unit (s := S2048x512) of1 S128x128.size i1, w1⟩ :: ⟨Rect.unit (s := S2048x512) of0 S128x128.size i0, w0⟩ :: L) (ix2 t c) h2 (1 : Fin 2) (Or.inl hc)
  have m1 (hc : c.val < 128) := View.read_writes_cons_unit_of_not_mem v f i1 w1 (
    ⟨Rect.unit (s := S2048x512) of0 S128x128.size i0, w0⟩ :: L) (ix2 t c) h1 (1 : Fin 2) (Or.inl hc)
  refine ⟨fun hc => ?_, fun hc => ?_, fun hc => ?_, fun hc => ?_⟩
  · rw [m3 (by omega), m2 (by omega), m1 (by omega)]
    exact View.read_writes_cons_unit_of_mem v f i0 w0 _ (ix2 t c) (ix2 r j) h0 (fun a => by
      match a with
      | ⟨0, _⟩ => exact ht
      | ⟨1, _⟩ => exact hc)
  · rw [m3 (by omega), m2 (by omega)]
    exact View.read_writes_cons_unit_of_mem v f i1 w1 _ (ix2 t c) (ix2 r j) h1 (fun a => by
      match a with
      | ⟨0, _⟩ => exact ht
      | ⟨1, _⟩ => exact hc)
  · rw [m3 (by omega)]
    exact View.read_writes_cons_unit_of_mem v f i2 w2 _ (ix2 t c) (ix2 r j) h2 (fun a => by
      match a with
      | ⟨0, _⟩ => exact ht
      | ⟨1, _⟩ => exact hc)
  · exact View.read_writes_cons_unit_of_mem v f i3 w3 _ (ix2 t c) (ix2 r j) h3 (fun a => by
      match a with
      | ⟨0, _⟩ => exact ht
      | ⟨1, _⟩ => exact hc)

theorem band_indep (f f' : v.ty.Contents (Elt Ideal)) (t : Fin 2048) (c : Fin 512) (ht : o ≤ t.val) (ht' : t.val < o + 128) :
    v.read (Elt Ideal) (v.writes (Elt Ideal) f (band i3 i2 i1 i0 w3 w2 w1 w0 ++ L)) (ix2 t c)
      = v.read (Elt Ideal) (v.writes (Elt Ideal) f' (band i3 i2 i1 i0 w3 w2 w1 w0 ++ L)) (ix2 t c) := by
  have hc := c.isLt
  have key := fun g => band_in v i3 i2 i1 i0 w3 w2 w1 w0 L h3 h2 h1 h0 g t c ⟨t.val - o, by omega⟩ ⟨c.val % 128, Nat.mod_lt _ (by norm_num)⟩ (by simp only []; omega)
  rcases (show c.val / 128 = 0 ∨ c.val / 128 = 1 ∨ c.val / 128 = 2 ∨ c.val / 128 = 3 by omega) with h | h | h | h
  · rw [(key f).1 (by simp only []; omega), (key f').1 (by simp only []; omega)]
  · rw [(key f).2.1 (by simp only []; omega), (key f').2.1 (by simp only []; omega)]
  · rw [(key f).2.2.1 (by simp only []; omega), (key f').2.2.1 (by simp only []; omega)]
  · rw [(key f).2.2.2 (by simp only []; omega), (key f').2.2.2 (by simp only []; omega)]

theorem band_real (W : ℕ → ℕ → ℕ → ℝ) (hw3 : IsR w3 (W 3)) (hw2 : IsR w2 (W 2)) (hw1 : IsR w1 (W 1)) (hw0 : IsR w0 (W 0))
    (f : v.ty.Contents (Elt Ideal)) (t : Fin 2048) (c : Fin 512) (ht : o ≤ t.val) (ht' : t.val < o + 128) :
    v.read (Elt Ideal) (v.writes (Elt Ideal) f (band i3 i2 i1 i0 w3 w2 w1 w0 ++ L)) (ix2 t c)
      = ((W (c.val / 128) (t.val - o) (c.val % 128) : ℝ) : EReal) := by
  have hc := c.isLt
  have key := band_in v i3 i2 i1 i0 w3 w2 w1 w0 L h3 h2 h1 h0 f t c ⟨t.val - o, by omega⟩ ⟨c.val % 128, Nat.mod_lt _ (by norm_num)⟩ (by simp only []; omega)
  rcases (show c.val / 128 = 0 ∨ c.val / 128 = 1 ∨ c.val / 128 = 2 ∨ c.val / 128 = 3 by omega) with h | h | h | h
  · rw [key.1 (by simp only []; omega), h]; exact hw0 _ _
  · rw [key.2.1 (by simp only []; omega), h]; exact hw1 _ _
  · rw [key.2.2.1 (by simp only []; omega), h]; exact hw2 _ _
  · rw [key.2.2.2 (by simp only []; omega), h]; exact hw3 _ _

end Band

/-! ### The sixteen trips -/

/-- The columns of one head. -/
def hd (P : ℕ → ℕ → ℝ) (h : ℕ) : ℕ → ℕ → ℝ := fun t j => P t (128 * h + j)

/-- The rows in the opposite order. -/
def rv (P : ℕ → ℕ → ℝ) : ℕ → ℕ → ℝ := fun t j => P (2047 - t) j

/-- The real arrays of one block: queries, values, keys, log decays and entering states. -/
structure RealData where
  Q : ℕ → ℕ → ℝ
  V : ℕ → ℕ → ℝ
  KF : ℕ → ℕ → ℝ
  KB : ℕ → ℕ → ℝ
  GF : ℕ → ℕ → ℝ
  GB : ℕ → ℕ → ℝ
  SF : ℕ → ℕ → ℕ → ℝ
  SB : ℕ → ℕ → ℕ → ℝ

namespace RealData
variable (D : RealData)

/-- The forward state of a head after `n` rows. -/
def sF (h n : ℕ) : ℕ → ℕ → ℝ := Scl (hd D.GF h) (hd D.KF h) (hd D.V h) (D.SF h) n

/-- The backward state of a head after `n` rows. -/
def sB (h n : ℕ) : ℕ → ℕ → ℝ := Scl (hd (rv D.GB) h) (hd (rv D.KB) h) (hd (rv D.V) h) (D.SB h) n

/-- The forward output of a head. -/
def oF (h : ℕ) : ℕ → ℕ → ℝ := Ocl (hd D.GF h) (hd (fun t j => qact (D.Q t j)) h) (hd D.KF h) (hd D.V h) (D.SF h)

/-- The backward output of a head, by the number of rows gone. -/
def oB (h : ℕ) : ℕ → ℕ → ℝ := Ocl (hd (rv D.GB) h) (hd (rv fun t j => qact (D.Q t j)) h) (hd (rv D.KB) h) (hd (rv D.V) h) (D.SB h)

end RealData

theorem st_indep (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (v227 : FVec Ideal S128x128 .f32) (v229 : FVec Ideal S128x128 .f32) (v231 : FVec Ideal S128x128 .f32) (v233 : FVec Ideal S128x128 .f32) (v235 : FVec Ideal S128x128 .f32) (v237 : FVec Ideal S128x128 .f32) (X_arg2 : BufTy.Contents (Elt Ideal) arg2.view.ty) (X_arg5 : BufTy.Contents (Elt Ideal) arg5.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (init : (Sq × Sq × Sq × Sq × Sq × Sq × Sq × Sq)) (k : ℕ) (hk : k ≤ 16) :
    (∀ f f' (t : Fin 2048) (cc : Fin 512), t.val < 128 * k → arg17.view.read (Elt Ideal) (arg17.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).2.1) (ix2 t cc) = arg17.view.read (Elt Ideal) (arg17.view.writes (Elt Ideal) f' (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).2.1) (ix2 t cc)) ∧
    (∀ f f' (t : Fin 2048) (cc : Fin 512), 2048 ≤ t.val + 128 * k → arg18.view.read (Elt Ideal) (arg18.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).2.2) (ix2 t cc) = arg18.view.read (Elt Ideal) (arg18.view.writes (Elt Ideal) f' (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).2.2) (ix2 t cc)) := by
  induction k with
  | zero => exact ⟨fun f f' t cc h => absurd h (by omega), fun f f' t cc h => absurd h (by have := t.isLt; omega)⟩
  | succ k ih =>
    obtain ⟨ihF, ihB⟩ := ih (by omega)
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init ⟨k, by rw [trips_eq]; omega⟩
    simp only [] at e
    rw [e]
    refine ⟨fun f f' t cc ht => ?_, fun f f' t cc ht => ?_⟩
    · dsimp only [tripL_k0_t1, tripR_k0_t1]
      rw [trip_piecesF]
      by_cases hb : t.val < 128 * k
      · rw [band_out (o := 128 * k) _ _ _ _ _ _ _ _ _ _ (off14_eq _) (off10_eq _) (off6_eq _) (off2_eq _) _ t cc (Or.inl hb),
          band_out (o := 128 * k) _ _ _ _ _ _ _ _ _ _ (off14_eq _) (off10_eq _) (off6_eq _) (off2_eq _) _ t cc (Or.inl hb)]
        exact ihF f f' t cc hb
      · exact band_indep (o := 128 * k) _ _ _ _ _ _ _ _ _ _ (off14_eq _) (off10_eq _) (off6_eq _) (off2_eq _) f f' t cc (by omega) (by omega)
    · dsimp only [tripL_k0_t1, tripR_k0_t1]
      rw [trip_piecesB]
      by_cases hb : 2048 ≤ t.val + 128 * k
      · rw [band_out (o := 128 * (15 - k)) _ _ _ _ _ _ _ _ _ _ (off16_eq _) (off12_eq _) (off8_eq _) (off4_eq _) _ t cc (Or.inr (by omega)),
          band_out (o := 128 * (15 - k)) _ _ _ _ _ _ _ _ _ _ (off16_eq _) (off12_eq _) (off8_eq _) (off4_eq _) _ t cc (Or.inr (by omega))]
        exact ihB f f' t cc hb
      · exact band_indep (o := 128 * (15 - k)) _ _ _ _ _ _ _ _ _ _ (off16_eq _) (off12_eq _) (off8_eq _) (off4_eq _) f f' t cc (by omega) (by omega)

set_option maxHeartbeats 800000 in
theorem st_real (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (v227 : FVec Ideal S128x128 .f32) (v229 : FVec Ideal S128x128 .f32) (v231 : FVec Ideal S128x128 .f32) (v233 : FVec Ideal S128x128 .f32) (v235 : FVec Ideal S128x128 .f32) (v237 : FVec Ideal S128x128 .f32) (X_arg2 : BufTy.Contents (Elt Ideal) arg2.view.ty) (X_arg5 : BufTy.Contents (Elt Ideal) arg5.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (init : (Sq × Sq × Sq × Sq × Sq × Sq × Sq × Sq))
    (D : RealData)
    (h2 : IsR3 (arg2.view.read (Elt Ideal) X_arg2) D.Q) (h5 : IsR3 (arg5.view.read (Elt Ideal) X_arg5) D.V)
    (h13 : IsR (arg13.view.read (Elt Ideal) X_arg13) D.KF) (h14 : IsR (arg14.view.read (Elt Ideal) X_arg14) D.KB)
    (h15 : IsR (arg15.view.read (Elt Ideal) X_arg15) (fun t j => CE D.GF (t + 1) j - CE D.GF (128 * (t / 128)) j))
    (h16 : IsR (arg16.view.read (Elt Ideal) X_arg16) (fun t j => CE (rv D.GB) (2047 - t + 1) j - CE (rv D.GB) (128 * ((2047 - t) / 128)) j))
    (hinit : IsR init.1 (D.SF 0) ∧ IsR init.2.1 (D.SB 0) ∧ IsR init.2.2.1 (D.SF 1) ∧ IsR init.2.2.2.1 (D.SB 1) ∧ IsR init.2.2.2.2.1 (D.SF 2) ∧ IsR init.2.2.2.2.2.1 (D.SB 2) ∧ IsR init.2.2.2.2.2.2.1 (D.SF 3) ∧ IsR init.2.2.2.2.2.2.2 (D.SB 3)) (k : ℕ) (hk : k ≤ 16) :
    (IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.1 (D.sF 0 (128 * k)) ∧
    IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.2.1 (D.sB 0 (128 * k)) ∧
    IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.2.2.1 (D.sF 1 (128 * k)) ∧
    IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.2.2.2.1 (D.sB 1 (128 * k)) ∧
    IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.2.2.2.2.1 (D.sF 2 (128 * k)) ∧
    IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.2.2.2.2.2.1 (D.sB 2 (128 * k)) ∧
    IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.2.2.2.2.2.2.1 (D.sF 3 (128 * k)) ∧
    IsR (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).1.2.2.2.2.2.2.2 (D.sB 3 (128 * k))) ∧
    (∀ f (t : Fin 2048) (cc : Fin 512), t.val < 128 * k → arg17.view.read (Elt Ideal) (arg17.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).2.1) (ix2 t cc) = ((D.oF (cc.val / 128) t.val (cc.val % 128) : ℝ) : EReal)) ∧
    (∀ f (t : Fin 2048) (cc : Fin 512), 2048 ≤ t.val + 128 * k → arg18.view.read (Elt Ideal) (arg18.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k).2.2) (ix2 t cc) = ((D.oB (cc.val / 128) (2047 - t.val) (cc.val % 128) : ℝ) : EReal)) := by
  induction k with
  | zero =>
    refine ⟨?_, fun f t cc h => absurd h (by omega), fun f t cc h => absurd h (by have := t.isLt; omega)⟩
    obtain ⟨a0, a1, a2, a3, a4, a5, a6, a7⟩ := hinit
    have zz : ∀ (G K V S : ℕ → ℕ → ℝ) (X : Sq), IsR X S → IsR X (Scl G K V S (128 * 0)) := fun G K V S X h =>
      h.congr fun c j _ _ => by simp [Scl, CE]
    refine ⟨?_, ?_, ?_, ?_, ?_, ?_, ?_, ?_⟩
    · exact zz (hd D.GF 0) (hd D.KF 0) (hd D.V 0) (D.SF 0) _ a0
    · exact zz (hd (rv D.GB) 0) (hd (rv D.KB) 0) (hd (rv D.V) 0) (D.SB 0) _ a1
    · exact zz (hd D.GF 1) (hd D.KF 1) (hd D.V 1) (D.SF 1) _ a2
    · exact zz (hd (rv D.GB) 1) (hd (rv D.KB) 1) (hd (rv D.V) 1) (D.SB 1) _ a3
    · exact zz (hd D.GF 2) (hd D.KF 2) (hd D.V 2) (D.SF 2) _ a4
    · exact zz (hd (rv D.GB) 2) (hd (rv D.KB) 2) (hd (rv D.V) 2) (D.SB 2) _ a5
    · exact zz (hd D.GF 3) (hd D.KF 3) (hd D.V 3) (D.SF 3) _ a6
    · exact zz (hd (rv D.GB) 3) (hd (rv D.KB) 3) (hd (rv D.V) 3) (D.SB 3) _ a7
  | succ k ih =>
    obtain ⟨⟨a0, a1, a2, a3, a4, a5, a6, a7⟩, ihF, ihB⟩ := ih (by omega)
    have hk' : k < 16 := by omega
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init ⟨k, by rw [trips_eq]; omega⟩
    simp only [] at e
    rw [e]
    generalize (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v227 v229 v231 v233 v235 v237 X_arg2 X_arg5 X_arg13 X_arg14 X_arg15 X_arg16 init k) = st at *
    generalize hkk : (⟨k, by rw [trips_eq]; omega⟩ : Fin k0_t1_loop.trips) = kk
    have hv : kk.val = k := by rw [← hkk]
    have qF0 : IsR (k0_pay2 (F := Ideal) (View.readAt (Elt Ideal) arg2.view (Rect.unit (s := S1x2048x512) (k0_off1 kk) S1x128x128.size (k0_off1_inb kk)).toLoadRect X_arg2)) (fun r j => hd (fun t j => qact (D.Q t j)) 0 (128 * k + r) j) :=
      pay2_real (IsR3.load _ _ h2 _ ((off1_eq kk).trans (by rw [hv])))
    have vF0 : IsR (k0_pay3 (F := Ideal) (View.readAt (Elt Ideal) arg5.view (Rect.unit (s := S1x2048x512) (k0_off1 kk) S1x128x128.size (k0_off1_inb kk)).toLoadRect X_arg5)) (fun r j => hd D.V 0 (128 * k + r) j) :=
      pay3_real (IsR3.load _ _ h5 _ ((off1_eq kk).trans (by rw [hv])))
    have kF0 : IsR (View.readAt (Elt Ideal) arg13.view (Rect.unit (s := S2048x512) (k0_off2 kk) S128x128.size (k0_off2_inb kk)).toLoadRect X_arg13) (fun r j => hd D.KF 0 (128 * k + r) j) :=
      IsR.load _ _ h13 _ ((off2_eq kk).trans (by rw [hv]))
    have bF0 : IsR (View.readAt (Elt Ideal) arg15.view (Rect.unit (s := S2048x512) (k0_off2 kk) S128x128.size (k0_off2_inb kk)).toLoadRect X_arg15) (fun r j => CE (hd D.GF 0) (128 * k + r + 1) j - CE (hd D.GF 0) (128 * k) j) :=
      (IsR.load _ _ h15 _ ((off2_eq kk).trans (by rw [hv]))).congr fun r j hr _ => by
        rw [show (128 * k + r) / 128 = k by omega]; rfl
    have qB0 : IsR (k0_pay2 (F := Ideal) (View.readAt (Elt Ideal) arg2.view (Rect.unit (s := S1x2048x512) (k0_off3 kk) S1x128x128.size (k0_off3_inb kk)).toLoadRect X_arg2)) (fun r j => hd (rv fun t j => qact (D.Q t j)) 0 (128 * k + (127 - r)) j) :=
      (pay2_real (IsR3.load _ _ h2 _ ((off3_eq kk).trans (by rw [hv])))).congr fun r j hr _ => by
        show qact (D.Q (128 * (15 - k) + r) (0 + j)) = qact (D.Q (2047 - (128 * k + (127 - r))) (0 + j))
        rw [show 2047 - (128 * k + (127 - r)) = 128 * (15 - k) + r by omega]
    have vB0 : IsR (k0_pay3 (F := Ideal) (View.readAt (Elt Ideal) arg5.view (Rect.unit (s := S1x2048x512) (k0_off3 kk) S1x128x128.size (k0_off3_inb kk)).toLoadRect X_arg5)) (fun r j => hd (rv D.V) 0 (128 * k + (127 - r)) j) :=
      (pay3_real (IsR3.load _ _ h5 _ ((off3_eq kk).trans (by rw [hv])))).congr fun r j hr _ => by
        show D.V (128 * (15 - k) + r) (0 + j) = D.V (2047 - (128 * k + (127 - r))) (0 + j)
        rw [show 2047 - (128 * k + (127 - r)) = 128 * (15 - k) + r by omega]
    have kB0 : IsR (View.readAt (Elt Ideal) arg14.view (Rect.unit (s := S2048x512) (k0_off4 kk) S128x128.size (k0_off4_inb kk)).toLoadRect X_arg14) (fun r j => hd (rv D.KB) 0 (128 * k + (127 - r)) j) :=
      (IsR.load _ _ h14 _ ((off4_eq kk).trans (by rw [hv]))).congr fun r j hr _ => by
        show D.KB (128 * (15 - k) + r) (0 + j) = D.KB (2047 - (128 * k + (127 - r))) (0 + j)
        rw [show 2047 - (128 * k + (127 - r)) = 128 * (15 - k) + r by omega]
    have bB0 : IsR (View.readAt (Elt Ideal) arg16.view (Rect.unit (s := S2048x512) (k0_off4 kk) S128x128.size (k0_off4_inb kk)).toLoadRect X_arg16) (fun r j => CE (hd (rv D.GB) 0) (128 * k + (127 - r) + 1) j - CE (hd (rv D.GB) 0) (128 * k) j) :=
      (IsR.load _ _ h16 _ ((off4_eq kk).trans (by rw [hv]))).congr fun r j hr _ => by
        rw [show 2047 - (128 * (15 - k) + r) = 128 * k + (127 - r) by omega, show (128 * k + (127 - r)) / 128 = k by omega]; rfl
    have qF1 : IsR (k0_pay2 (F := Ideal) (View.readAt (Elt Ideal) arg2.view (Rect.unit (s := S1x2048x512) (k0_off5 kk) S1x128x128.size (k0_off5_inb kk)).toLoadRect X_arg2)) (fun r j => hd (fun t j => qact (D.Q t j)) 1 (128 * k + r) j) :=
      pay2_real (IsR3.load _ _ h2 _ ((off5_eq kk).trans (by rw [hv])))
    have vF1 : IsR (k0_pay3 (F := Ideal) (View.readAt (Elt Ideal) arg5.view (Rect.unit (s := S1x2048x512) (k0_off5 kk) S1x128x128.size (k0_off5_inb kk)).toLoadRect X_arg5)) (fun r j => hd D.V 1 (128 * k + r) j) :=
      pay3_real (IsR3.load _ _ h5 _ ((off5_eq kk).trans (by rw [hv])))
    have kF1 : IsR (View.readAt (Elt Ideal) arg13.view (Rect.unit (s := S2048x512) (k0_off6 kk) S128x128.size (k0_off6_inb kk)).toLoadRect X_arg13) (fun r j => hd D.KF 1 (128 * k + r) j) :=
      IsR.load _ _ h13 _ ((off6_eq kk).trans (by rw [hv]))
    have bF1 : IsR (View.readAt (Elt Ideal) arg15.view (Rect.unit (s := S2048x512) (k0_off6 kk) S128x128.size (k0_off6_inb kk)).toLoadRect X_arg15) (fun r j => CE (hd D.GF 1) (128 * k + r + 1) j - CE (hd D.GF 1) (128 * k) j) :=
      (IsR.load _ _ h15 _ ((off6_eq kk).trans (by rw [hv]))).congr fun r j hr _ => by
        rw [show (128 * k + r) / 128 = k by omega]; rfl
    have qB1 : IsR (k0_pay2 (F := Ideal) (View.readAt (Elt Ideal) arg2.view (Rect.unit (s := S1x2048x512) (k0_off7 kk) S1x128x128.size (k0_off7_inb kk)).toLoadRect X_arg2)) (fun r j => hd (rv fun t j => qact (D.Q t j)) 1 (128 * k + (127 - r)) j) :=
      (pay2_real (IsR3.load _ _ h2 _ ((off7_eq kk).trans (by rw [hv])))).congr fun r j hr _ => by
        show qact (D.Q (128 * (15 - k) + r) (128 + j)) = qact (D.Q (2047 - (128 * k + (127 - r))) (128 + j))
        rw [show 2047 - (128 * k + (127 - r)) = 128 * (15 - k) + r by omega]
    have vB1 : IsR (k0_pay3 (F := Ideal) (View.readAt (Elt Ideal) arg5.view (Rect.unit (s := S1x2048x512) (k0_off7 kk) S1x128x128.size (k0_off7_inb kk)).toLoadRect X_arg5)) (fun r j => hd (rv D.V) 1 (128 * k + (127 - r)) j) :=
      (pay3_real (IsR3.load _ _ h5 _ ((off7_eq kk).trans (by rw [hv])))).congr fun r j hr _ => by
        show D.V (128 * (15 - k) + r) (128 + j) = D.V (2047 - (128 * k + (127 - r))) (128 + j)
        rw [show 2047 - (128 * k + (127 - r)) = 128 * (15 - k) + r by omega]
    have kB1 : IsR (View.readAt (Elt Ideal) arg14.view (Rect.unit (s := S2048x512) (k0_off8 kk) S128x128.size (k0_off8_inb kk)).toLoadRect X_arg14) (fun r j => hd (rv D.KB) 1 (128 * k + (127 - r)) j) :=
      (IsR.load _ _ h14 _ ((off8_eq kk).trans (by rw [hv]))).congr fun r j hr _ => by
        show D.KB (128 * (15 - k) + r) (128 + j) = D.KB (2047 - (128 * k + (127 - r))) (128 + j)
        rw [show 2047 - (128 * k + (127 - r)) = 128 * (15 - k) + r by omega]
    have bB1 : IsR (View.readAt (Elt Ideal) arg16.view (Rect.unit (s := S2048x512) (k0_off8 kk) S128x128.size (k0_off8_inb kk)).toLoadRect X_arg16) (fun r j => CE (hd (rv D.GB) 1) (128 * k + (127 - r) + 1) j - CE (hd (rv D.GB) 1) (128 * k) j) :=
      (IsR.load _ _ h16 _ ((off8_eq kk).trans (by rw [hv]))).congr fun r j hr _ => by
        rw [show 2047 - (128 * (15 - k) + r) = 128 * k + (127 - r) by omega, show (128 * k + (127 - r)) / 128 = k by omega]; rfl
    have qF2 : IsR (k0_pay2 (F := Ideal) (View.readAt (Elt Ideal) arg2.view (Rect.unit (s := S1x2048x512) (k0_off9 kk) S1x128x128.size (k0_off9_inb kk)).toLoadRect X_arg2)) (fun r j => hd (fun t j => qact (D.Q t j)) 2 (128 * k + r) j) :=
      pay2_real (IsR3.load _ _ h2 _ ((off9_eq kk).trans (by rw [hv])))
    have vF2 : IsR (k0_pay3 (F := Ideal) (View.readAt (Elt Ideal) arg5.view (Rect.unit (s := S1x2048x512) (k0_off9 kk) S1x128x128.size (k0_off9_inb kk)).toLoadRect X_arg5)) (fun r j => hd D.V 2 (128 * k + r) j) :=
      pay3_real (IsR3.load _ _ h5 _ ((off9_eq kk).trans (by rw [hv])))
    have kF2 : IsR (View.readAt (Elt Ideal) arg13.view (Rect.unit (s := S2048x512) (k0_off10 kk) S128x128.size (k0_off10_inb kk)).toLoadRect X_arg13) (fun r j => hd D.KF 2 (128 * k + r) j) :=
      IsR.load _ _ h13 _ ((off10_eq kk).trans (by rw [hv]))
    have bF2 : IsR (View.readAt (Elt Ideal) arg15.view (Rect.unit (s := S2048x512) (k0_off10 kk) S128x128.size (k0_off10_inb kk)).toLoadRect X_arg15) (fun r j => CE (hd D.GF 2) (128 * k + r + 1) j - CE (hd D.GF 2) (128 * k) j) :=
      (IsR.load _ _ h15 _ ((off10_eq kk).trans (by rw [hv]))).congr fun r j hr _ => by
        rw [show (128 * k + r) / 128 = k by omega]; rfl
    have qB2 : IsR (k0_pay2 (F := Ideal) (View.readAt (Elt Ideal) arg2.view (Rect.unit (s := S1x2048x512) (k0_off11 kk) S1x128x128.size (k0_off11_inb kk)).toLoadRect X_arg2)) (fun r j => hd (rv fun t j => qact (D.Q t j)) 2 (128 * k + (127 - r)) j) :=
      (pay2_real (IsR3.load _ _ h2 _ ((off11_eq kk).trans (by rw [hv])))).congr fun r j hr _ => by
        show qact (D.Q (128 * (15 - k) + r) (256 + j)) = qact (D.Q (2047 - (128 * k + (127 - r))) (256 + j))
        rw [show 2047 - (128 * k + (127 - r)) = 128 * (15 - k) + r by omega]
    have vB2 : IsR (k0_pay3 (F := Ideal) (View.readAt (Elt Ideal) arg5.view (Rect.unit (s := S1x2048x512) (k0_off11 kk) S1x128x128.size (k0_off11_inb kk)).toLoadRect X_arg5)) (fun r j => hd (rv D.V) 2 (128 * k + (127 - r)) j) :=
      (pay3_real (IsR3.load _ _ h5 _ ((off11_eq kk).trans (by rw [hv])))).congr fun r j hr _ => by
        show D.V (128 * (15 - k) + r) (256 + j) = D.V (2047 - (128 * k + (127 - r))) (256 + j)
        rw [show 2047 - (128 * k + (127 - r)) = 128 * (15 - k) + r by omega]
    have kB2 : IsR (View.readAt (Elt Ideal) arg14.view (Rect.unit (s := S2048x512) (k0_off12 kk) S128x128.size (k0_off12_inb kk)).toLoadRect X_arg14) (fun r j => hd (rv D.KB) 2 (128 * k + (127 - r)) j) :=
      (IsR.load _ _ h14 _ ((off12_eq kk).trans (by rw [hv]))).congr fun r j hr _ => by
        show D.KB (128 * (15 - k) + r) (256 + j) = D.KB (2047 - (128 * k + (127 - r))) (256 + j)
        rw [show 2047 - (128 * k + (127 - r)) = 128 * (15 - k) + r by omega]
    have bB2 : IsR (View.readAt (Elt Ideal) arg16.view (Rect.unit (s := S2048x512) (k0_off12 kk) S128x128.size (k0_off12_inb kk)).toLoadRect X_arg16) (fun r j => CE (hd (rv D.GB) 2) (128 * k + (127 - r) + 1) j - CE (hd (rv D.GB) 2) (128 * k) j) :=
      (IsR.load _ _ h16 _ ((off12_eq kk).trans (by rw [hv]))).congr fun r j hr _ => by
        rw [show 2047 - (128 * (15 - k) + r) = 128 * k + (127 - r) by omega, show (128 * k + (127 - r)) / 128 = k by omega]; rfl
    have qF3 : IsR (k0_pay2 (F := Ideal) (View.readAt (Elt Ideal) arg2.view (Rect.unit (s := S1x2048x512) (k0_off13 kk) S1x128x128.size (k0_off13_inb kk)).toLoadRect X_arg2)) (fun r j => hd (fun t j => qact (D.Q t j)) 3 (128 * k + r) j) :=
      pay2_real (IsR3.load _ _ h2 _ ((off13_eq kk).trans (by rw [hv])))
    have vF3 : IsR (k0_pay3 (F := Ideal) (View.readAt (Elt Ideal) arg5.view (Rect.unit (s := S1x2048x512) (k0_off13 kk) S1x128x128.size (k0_off13_inb kk)).toLoadRect X_arg5)) (fun r j => hd D.V 3 (128 * k + r) j) :=
      pay3_real (IsR3.load _ _ h5 _ ((off13_eq kk).trans (by rw [hv])))
    have kF3 : IsR (View.readAt (Elt Ideal) arg13.view (Rect.unit (s := S2048x512) (k0_off14 kk) S128x128.size (k0_off14_inb kk)).toLoadRect X_arg13) (fun r j => hd D.KF 3 (128 * k + r) j) :=
      IsR.load _ _ h13 _ ((off14_eq kk).trans (by rw [hv]))
    have bF3 : IsR (View.readAt (Elt Ideal) arg15.view (Rect.unit (s := S2048x512) (k0_off14 kk) S128x128.size (k0_off14_inb kk)).toLoadRect X_arg15) (fun r j => CE (hd D.GF 3) (128 * k + r + 1) j - CE (hd D.GF 3) (128 * k) j) :=
      (IsR.load _ _ h15 _ ((off14_eq kk).trans (by rw [hv]))).congr fun r j hr _ => by
        rw [show (128 * k + r) / 128 = k by omega]; rfl
    have qB3 : IsR (k0_pay2 (F := Ideal) (View.readAt (Elt Ideal) arg2.view (Rect.unit (s := S1x2048x512) (k0_off15 kk) S1x128x128.size (k0_off15_inb kk)).toLoadRect X_arg2)) (fun r j => hd (rv fun t j => qact (D.Q t j)) 3 (128 * k + (127 - r)) j) :=
      (pay2_real (IsR3.load _ _ h2 _ ((off15_eq kk).trans (by rw [hv])))).congr fun r j hr _ => by
        show qact (D.Q (128 * (15 - k) + r) (384 + j)) = qact (D.Q (2047 - (128 * k + (127 - r))) (384 + j))
        rw [show 2047 - (128 * k + (127 - r)) = 128 * (15 - k) + r by omega]
    have vB3 : IsR (k0_pay3 (F := Ideal) (View.readAt (Elt Ideal) arg5.view (Rect.unit (s := S1x2048x512) (k0_off15 kk) S1x128x128.size (k0_off15_inb kk)).toLoadRect X_arg5)) (fun r j => hd (rv D.V) 3 (128 * k + (127 - r)) j) :=
      (pay3_real (IsR3.load _ _ h5 _ ((off15_eq kk).trans (by rw [hv])))).congr fun r j hr _ => by
        show D.V (128 * (15 - k) + r) (384 + j) = D.V (2047 - (128 * k + (127 - r))) (384 + j)
        rw [show 2047 - (128 * k + (127 - r)) = 128 * (15 - k) + r by omega]
    have kB3 : IsR (View.readAt (Elt Ideal) arg14.view (Rect.unit (s := S2048x512) (k0_off16 kk) S128x128.size (k0_off16_inb kk)).toLoadRect X_arg14) (fun r j => hd (rv D.KB) 3 (128 * k + (127 - r)) j) :=
      (IsR.load _ _ h14 _ ((off16_eq kk).trans (by rw [hv]))).congr fun r j hr _ => by
        show D.KB (128 * (15 - k) + r) (384 + j) = D.KB (2047 - (128 * k + (127 - r))) (384 + j)
        rw [show 2047 - (128 * k + (127 - r)) = 128 * (15 - k) + r by omega]
    have bB3 : IsR (View.readAt (Elt Ideal) arg16.view (Rect.unit (s := S2048x512) (k0_off16 kk) S128x128.size (k0_off16_inb kk)).toLoadRect X_arg16) (fun r j => CE (hd (rv D.GB) 3) (128 * k + (127 - r) + 1) j - CE (hd (rv D.GB) 3) (128 * k) j) :=
      (IsR.load _ _ h16 _ ((off16_eq kk).trans (by rw [hv]))).congr fun r j hr _ => by
        rw [show 2047 - (128 * (15 - k) + r) = 128 * k + (127 - r) by omega, show (128 * k + (127 - r)) / 128 = k by omega]; rfl
    have sF0 := stF_step (G := hd D.GF 0) (K := hd D.KF 0) (V := hd D.V 0) (S0 := D.SF 0) (n := 128 * k) a0 vF0 kF0 bF0
    have oF0 := outF_step (G := hd D.GF 0) (Q := hd (fun t j => qact (D.Q t j)) 0) (K := hd D.KF 0) (V := hd D.V 0) (S0 := D.SF 0) (n := 128 * k) a0 qF0 vF0 kF0 bF0
    have sB0 := stB_step (G := hd (rv D.GB) 0) (K := hd (rv D.KB) 0) (V := hd (rv D.V) 0) (S0 := D.SB 0) (n := 128 * k) a1 vB0 kB0 bB0
    have oB0 := outB_step (G := hd (rv D.GB) 0) (Q := hd (rv fun t j => qact (D.Q t j)) 0) (K := hd (rv D.KB) 0) (V := hd (rv D.V) 0) (S0 := D.SB 0) (n := 128 * k) a1 qB0 vB0 kB0 bB0
    have sF1 := stF_step (G := hd D.GF 1) (K := hd D.KF 1) (V := hd D.V 1) (S0 := D.SF 1) (n := 128 * k) a2 vF1 kF1 bF1
    have oF1 := outF_step (G := hd D.GF 1) (Q := hd (fun t j => qact (D.Q t j)) 1) (K := hd D.KF 1) (V := hd D.V 1) (S0 := D.SF 1) (n := 128 * k) a2 qF1 vF1 kF1 bF1
    have sB1 := stB_step (G := hd (rv D.GB) 1) (K := hd (rv D.KB) 1) (V := hd (rv D.V) 1) (S0 := D.SB 1) (n := 128 * k) a3 vB1 kB1 bB1
    have oB1 := outB_step (G := hd (rv D.GB) 1) (Q := hd (rv fun t j => qact (D.Q t j)) 1) (K := hd (rv D.KB) 1) (V := hd (rv D.V) 1) (S0 := D.SB 1) (n := 128 * k) a3 qB1 vB1 kB1 bB1
    have sF2 := stF_step (G := hd D.GF 2) (K := hd D.KF 2) (V := hd D.V 2) (S0 := D.SF 2) (n := 128 * k) a4 vF2 kF2 bF2
    have oF2 := outF_step (G := hd D.GF 2) (Q := hd (fun t j => qact (D.Q t j)) 2) (K := hd D.KF 2) (V := hd D.V 2) (S0 := D.SF 2) (n := 128 * k) a4 qF2 vF2 kF2 bF2
    have sB2 := stB_step (G := hd (rv D.GB) 2) (K := hd (rv D.KB) 2) (V := hd (rv D.V) 2) (S0 := D.SB 2) (n := 128 * k) a5 vB2 kB2 bB2
    have oB2 := outB_step (G := hd (rv D.GB) 2) (Q := hd (rv fun t j => qact (D.Q t j)) 2) (K := hd (rv D.KB) 2) (V := hd (rv D.V) 2) (S0 := D.SB 2) (n := 128 * k) a5 qB2 vB2 kB2 bB2
    have sF3 := stF_step (G := hd D.GF 3) (K := hd D.KF 3) (V := hd D.V 3) (S0 := D.SF 3) (n := 128 * k) a6 vF3 kF3 bF3
    have oF3 := outF_step (G := hd D.GF 3) (Q := hd (fun t j => qact (D.Q t j)) 3) (K := hd D.KF 3) (V := hd D.V 3) (S0 := D.SF 3) (n := 128 * k) a6 qF3 vF3 kF3 bF3
    have sB3 := stB_step (G := hd (rv D.GB) 3) (K := hd (rv D.KB) 3) (V := hd (rv D.V) 3) (S0 := D.SB 3) (n := 128 * k) a7 vB3 kB3 bB3
    have oB3 := outB_step (G := hd (rv D.GB) 3) (Q := hd (rv fun t j => qact (D.Q t j)) 3) (K := hd (rv D.KB) 3) (V := hd (rv D.V) 3) (S0 := D.SB 3) (n := 128 * k) a7 qB3 vB3 kB3 bB3
    have e128 : 128 * (k + 1) = 128 * k + 128 := by ring
    refine ⟨?_, fun f t cc ht => ?_, fun f t cc ht => ?_⟩
    · rw [e128]
      dsimp only [tripL_k0_t1, tripR_k0_t1]
      rw [trip_carry]
      exact ⟨sF0, sB0, sF1, sB1, sF2, sB2, sF3, sB3⟩
    · dsimp only [tripL_k0_t1, tripR_k0_t1]
      rw [trip_piecesF]
      by_cases hb : t.val < 128 * k
      · rw [band_out (o := 128 * k) _ _ _ _ _ _ _ _ _ _ ((off14_eq kk).trans (by rw [hv])) ((off10_eq kk).trans (by rw [hv])) ((off6_eq kk).trans (by rw [hv])) ((off2_eq kk).trans (by rw [hv])) _ t cc (Or.inl hb)]
        exact ihF f t cc hb
      · refine (band_real (o := 128 * k) _ _ _ _ _ _ _ _ _ _ ((off14_eq kk).trans (by rw [hv])) ((off10_eq kk).trans (by rw [hv])) ((off6_eq kk).trans (by rw [hv])) ((off2_eq kk).trans (by rw [hv]))
          (fun h r c => Ocl (hd D.GF h) (hd (fun t j => qact (D.Q t j)) h) (hd D.KF h) (hd D.V h) (D.SF h) (128 * k + r) c) oF3 oF2 oF1 oF0 f t cc (by omega) (by omega)).trans ?_
        rw [show 128 * k + (t.val - 128 * k) = t.val by omega]; rfl
    · dsimp only [tripL_k0_t1, tripR_k0_t1]
      rw [trip_piecesB]
      by_cases hb : 2048 ≤ t.val + 128 * k
      · rw [band_out (o := 128 * (15 - k)) _ _ _ _ _ _ _ _ _ _ ((off16_eq kk).trans (by rw [hv])) ((off12_eq kk).trans (by rw [hv])) ((off8_eq kk).trans (by rw [hv])) ((off4_eq kk).trans (by rw [hv])) _ t cc (Or.inr (by omega))]
        exact ihB f t cc hb
      · have ht2 := t.isLt
        refine (band_real (o := 128 * (15 - k)) _ _ _ _ _ _ _ _ _ _ ((off16_eq kk).trans (by rw [hv])) ((off12_eq kk).trans (by rw [hv])) ((off8_eq kk).trans (by rw [hv])) ((off4_eq kk).trans (by rw [hv]))
          (fun h r c => Ocl (hd (rv D.GB) h) (hd (rv fun t j => qact (D.Q t j)) h) (hd (rv D.KB) h) (hd (rv D.V) h) (D.SB h) (128 * k + (127 - r)) c) oB3 oB2 oB1 oB0 f t cc (by omega) (by omega)).trans ?_
        rw [show 128 * k + (127 - (t.val - 128 * (15 - k))) = 2047 - t.val by omega]; rfl

end Cert.Hgrn
-- ==== Proof.Gates.lean ====
module

public import proofs.«01_k».proof.Proof.Loop
public import Idealize.ShloMosaic.Lib.IdealHost

@[expose] public section

set_option maxRecDepth 16384

noncomputable section

open scoped BigOperators

namespace Cert.Hgrn

open Idealize.ShloMosaic hiding ix2
open Idealize.ShloMosaic.TcCoe
open Idealize.ShloMosaic.ValueIdx
open Cert.KernelIdeal Cert.KernelIdeal.Gen

/-- Sixteen blocks of 128 rows one under the other. -/
theorem IsR.conc16 {X : Fin 16 → (⟨2, ![128, 512]⟩ : Shape).Idx → EReal} {Q : ℕ → ℕ → ℕ → ℝ} (hX : ∀ p, IsR (X p) (Q p.val))
    (h : Shape.Concatenates ((List.ofFn fun p : Fin 16 => (⟨⟨2, ![128, 512]⟩, X p⟩ : (s : Shape) × (s.Idx → EReal))).map (·.1)) ⟨2, ![2048, 512]⟩ 0) :
    IsR (concatenate ⟨2, ![2048, 512]⟩ 0 (List.ofFn fun p : Fin 16 => (⟨⟨2, ![128, 512]⟩, X p⟩ : (s : Shape) × (s.Idx → EReal))) h)
      (fun t j => Q (t / 128) (t % 128) j) := by
  intro t j
  have hj := t.isLt
  have hd : t.val / 128 < 16 := Nat.div_lt_of_lt_mul (by omega)
  rw [concatenate_ofFn_apply (t := ⟨2, ![2048, 512]⟩) (s₁ := ⟨2, ![128, 512]⟩) (0 : Fin 2) X h rfl 128 rfl (ix2 t j) ⟨t.val / 128, hd⟩ rfl
    (ix2 ⟨t.val % 128, Nat.mod_lt _ (by decide)⟩ j) rfl
    (fun b hb => by match b with | ⟨0, _⟩ => exact absurd rfl hb | ⟨1, _⟩ => rfl)]
  exact hX ⟨t.val / 128, hd⟩ _ j

theorem IsR.rowN {m' n : ℕ} {X : (⟨2, ![1, n]⟩ : Shape).Idx → EReal} {Q : ℕ → ℕ → ℝ} (hX : IsR X Q) (hn : n ≠ 1)
    (h : (⟨2, ![1, n]⟩ : Shape).Broadcasts ⟨2, ![m', n]⟩) :
    IsR (broadcastTo ⟨2, ![m', n]⟩ X h) (fun _ j => Q 0 j) := by
  intro t j
  rw [broadcastTo_apply X h (ix2 t j) (ix2 0 j) (fun a => by
    match a with
    | ⟨0, _⟩ => rfl
    | ⟨1, _⟩ => exact (if_neg hn).symm)]
  exact hX _ _

theorem IsR.log {m n : ℕ} {φ : FTy} {X : FVec Ideal ⟨2, ![m, n]⟩ φ} {P : ℕ → ℕ → ℝ} (hX : IsR X P)
    (hp : ∀ t j, t < m → j < n → 0 < P t j) : IsR (Idealize.ShloMosaic.log X) (fun t j => Real.log (P t j)) := fun t j =>
  (congrArg Ideal.log (hX t j)).trans ((Ideal.log_coe _).trans (if_neg (not_le.mpr (hp _ _ t.isLt j.isLt))))

/-! ### The gates -/

/-- The forget gate of a lower bound and a raw gate. -/
def fgate (lb z : ℝ) : ℝ := lb + (1 - lb) * (1 + Real.exp (-z))⁻¹

theorem fgate_pos {lb z : ℝ} (h0 : 0 < lb) (h1 : lb ≤ 1) : 0 < fgate lb z := by
  unfold fgate
  have : 0 ≤ (1 - lb) * (1 + Real.exp (-z))⁻¹ := mul_nonneg (by linarith) (by positivity)
  linarith

theorem one_eq : (Ideal.ofBits .f32 0x3F800000#32 : EReal) = ((1 : ℝ) : EReal) := by rw [Ideal.ofBits_one_f32]; rfl
theorem zero_eq : (Ideal.ofBits .f32 0x00000000#32 : EReal) = ((0 : ℝ) : EReal) := by rw [Ideal.ofBits_zero_f32]; rfl

section Gate
variable {z : FVec Ideal S1x2048x512 .bf16} {lb : FVec Ideal S1x1x512 .f32} {Z L : ℕ → ℕ → ℝ}

theorem gate_real (hz : IsR3 z Z) (hl : IsR3 lb L) : IsR (k0_pay238 (F := Ideal) z lb) (fun t j => fgate (L 0 j) (Z t j)) := by
  have hz' := (IsR.ext' (φ := .bf16) (ψ := .f32) (hz.drop (φ := .bf16) shapeCasts_S1x2048x512_S2048x512) bitsLt_bf16_f32).logistic (φ := .f32)
  have hl' := hl.drop (φ := .f32) shapeCasts_S1x1x512_S1x512
  have h1 := (IsR.splat (φ := .f32) one_eq).sub (φ := .f32) hl'
  exact ((hl'.rowN (m' := 2048) (by norm_num) broadcasts_S1x512_S2048x512).add (φ := .f32)
    ((h1.rowN (m' := 2048) (by norm_num) broadcasts_S1x512_S2048x512).mul (φ := .f32) hz')).congr fun t j _ _ => rfl

theorem key_real (hz : IsR3 z Z) (hl : IsR3 lb L) : IsR (k0_pay240 (F := Ideal) z lb) (fun t j => 1 - fgate (L 0 j) (Z t j)) :=
  IsR.reshape ((IsR.splat (φ := .f32) one_eq).sub (φ := .f32) (gate_real hz hl)) shapeCasts_S2048x512_S2048x512

end Gate

/-! ### Sums of log decays over a chunk -/

/-- The sums of one chunk: a triangle of ones times the leading and the trailing part. -/
def csum (tri : FVec Ideal S128x128 .bf16) (a b : FVec Ideal S128x512 .bf16) : FVec Ideal S128x512 .f32 :=
  addf (matmul dot_S128x128_S128x512_S128x512_1_0_0_1_n_n none tri a (constant S128x512 .f32 0x00000000#32))
    (matmul dot_S128x128_S128x512_S128x512_1_0_0_1_n_n none tri b (constant S128x512 .f32 0x00000000#32))

theorem csum_real {tri : FVec Ideal S128x128 .bf16} {a b : FVec Ideal S128x512 .bf16} {T A : ℕ → ℕ → ℝ}
    (ht : IsR tri T) (ha : IsR a A) (hb : IsR b (fun _ _ => 0)) :
    IsR (csum tri a b) (fun r j => ∑ s ∈ Finset.range 128, T r s * A s j) := by
  have hz : IsR (constant (F := Ideal) S128x512 .f32 0x00000000#32) (fun _ _ => 0) := IsR.constf zero_eq
  exact ((IsR.dotNN (φ₁ := .bf16) (φ₂ := .bf16) (p := none) (d := dot_S128x128_S128x512_S128x512_1_0_0_1_n_n) rfl ht ha hz).add (φ := .f32)
    (IsR.dotNN (φ₁ := .bf16) (φ₂ := .bf16) (p := none) (d := dot_S128x128_S128x512_S128x512_1_0_0_1_n_n) rfl ht hb hz)).congr
    fun r j _ _ => by simp

/-- The parts of one chunk. -/
def csums (tri : FVec Ideal S128x128 .bf16) (hi lo : FVec Ideal S2048x512 .bf16) : Fin 16 → FVec Ideal S128x512 .f32 := ![
  csum tri (extractStridedSlice S128x512 ![0, 0] hi slices_S2048x512_o0_0_S128x512) (extractStridedSlice S128x512 ![0, 0] lo slices_S2048x512_o0_0_S128x512),
  csum tri (extractStridedSlice S128x512 ![128, 0] hi slices_S2048x512_o128_0_S128x512) (extractStridedSlice S128x512 ![128, 0] lo slices_S2048x512_o128_0_S128x512),
  csum tri (extractStridedSlice S128x512 ![256, 0] hi slices_S2048x512_o256_0_S128x512) (extractStridedSlice S128x512 ![256, 0] lo slices_S2048x512_o256_0_S128x512),
  csum tri (extractStridedSlice S128x512 ![384, 0] hi slices_S2048x512_o384_0_S128x512) (extractStridedSlice S128x512 ![384, 0] lo slices_S2048x512_o384_0_S128x512),
  csum tri (extractStridedSlice S128x512 ![512, 0] hi slices_S2048x512_o512_0_S128x512) (extractStridedSlice S128x512 ![512, 0] lo slices_S2048x512_o512_0_S128x512),
  csum tri (extractStridedSlice S128x512 ![640, 0] hi slices_S2048x512_o640_0_S128x512) (extractStridedSlice S128x512 ![640, 0] lo slices_S2048x512_o640_0_S128x512),
  csum tri (extractStridedSlice S128x512 ![768, 0] hi slices_S2048x512_o768_0_S128x512) (extractStridedSlice S128x512 ![768, 0] lo slices_S2048x512_o768_0_S128x512),
  csum tri (extractStridedSlice S128x512 ![896, 0] hi slices_S2048x512_o896_0_S128x512) (extractStridedSlice S128x512 ![896, 0] lo slices_S2048x512_o896_0_S128x512),
  csum tri (extractStridedSlice S128x512 ![1024, 0] hi slices_S2048x512_o1024_0_S128x512) (extractStridedSlice S128x512 ![1024, 0] lo slices_S2048x512_o1024_0_S128x512),
  csum tri (extractStridedSlice S128x512 ![1152, 0] hi slices_S2048x512_o1152_0_S128x512) (extractStridedSlice S128x512 ![1152, 0] lo slices_S2048x512_o1152_0_S128x512),
  csum tri (extractStridedSlice S128x512 ![1280, 0] hi slices_S2048x512_o1280_0_S128x512) (extractStridedSlice S128x512 ![1280, 0] lo slices_S2048x512_o1280_0_S128x512),
  csum tri (extractStridedSlice S128x512 ![1408, 0] hi slices_S2048x512_o1408_0_S128x512) (extractStridedSlice S128x512 ![1408, 0] lo slices_S2048x512_o1408_0_S128x512),
  csum tri (extractStridedSlice S128x512 ![1536, 0] hi slices_S2048x512_o1536_0_S128x512) (extractStridedSlice S128x512 ![1536, 0] lo slices_S2048x512_o1536_0_S128x512),
  csum tri (extractStridedSlice S128x512 ![1664, 0] hi slices_S2048x512_o1664_0_S128x512) (extractStridedSlice S128x512 ![1664, 0] lo slices_S2048x512_o1664_0_S128x512),
  csum tri (extractStridedSlice S128x512 ![1792, 0] hi slices_S2048x512_o1792_0_S128x512) (extractStridedSlice S128x512 ![1792, 0] lo slices_S2048x512_o1792_0_S128x512),
  csum tri (extractStridedSlice S128x512 ![1920, 0] hi slices_S2048x512_o1920_0_S128x512) (extractStridedSlice S128x512 ![1920, 0] lo slices_S2048x512_o1920_0_S128x512)]

theorem csums_real {tri : FVec Ideal S128x128 .bf16} {hi lo : FVec Ideal S2048x512 .bf16} {T A : ℕ → ℕ → ℝ}
    (ht : IsR tri T) (ha : IsR hi A) (hb : IsR lo (fun _ _ => 0)) (p : Fin 16) :
    IsR (csums tri hi lo p) (fun r j => ∑ s ∈ Finset.range 128, T r s * A (128 * p.val + s) j) := by
  fin_cases p
  · exact (csum_real ht (ha.slice slices_S2048x512_o0_0_S128x512) (hb.slice slices_S2048x512_o0_0_S128x512)).congr fun r j _ _ => by simp
  · exact (csum_real ht (ha.slice slices_S2048x512_o128_0_S128x512) (hb.slice slices_S2048x512_o128_0_S128x512)).congr fun r j _ _ => by simp
  · exact (csum_real ht (ha.slice slices_S2048x512_o256_0_S128x512) (hb.slice slices_S2048x512_o256_0_S128x512)).congr fun r j _ _ => by simp
  · exact (csum_real ht (ha.slice slices_S2048x512_o384_0_S128x512) (hb.slice slices_S2048x512_o384_0_S128x512)).congr fun r j _ _ => by simp
  · exact (csum_real ht (ha.slice slices_S2048x512_o512_0_S128x512) (hb.slice slices_S2048x512_o512_0_S128x512)).congr fun r j _ _ => by simp
  · exact (csum_real ht (ha.slice slices_S2048x512_o640_0_S128x512) (hb.slice slices_S2048x512_o640_0_S128x512)).congr fun r j _ _ => by simp
  · exact (csum_real ht (ha.slice slices_S2048x512_o768_0_S128x512) (hb.slice slices_S2048x512_o768_0_S128x512)).congr fun r j _ _ => by simp
  · exact (csum_real ht (ha.slice slices_S2048x512_o896_0_S128x512) (hb.slice slices_S2048x512_o896_0_S128x512)).congr fun r j _ _ => by simp
  · exact (csum_real ht (ha.slice slices_S2048x512_o1024_0_S128x512) (hb.slice slices_S2048x512_o1024_0_S128x512)).congr fun r j _ _ => by simp
  · exact (csum_real ht (ha.slice slices_S2048x512_o1152_0_S128x512) (hb.slice slices_S2048x512_o1152_0_S128x512)).congr fun r j _ _ => by simp
  · exact (csum_real ht (ha.slice slices_S2048x512_o1280_0_S128x512) (hb.slice slices_S2048x512_o1280_0_S128x512)).congr fun r j _ _ => by simp
  · exact (csum_real ht (ha.slice slices_S2048x512_o1408_0_S128x512) (hb.slice slices_S2048x512_o1408_0_S128x512)).congr fun r j _ _ => by simp
  · exact (csum_real ht (ha.slice slices_S2048x512_o1536_0_S128x512) (hb.slice slices_S2048x512_o1536_0_S128x512)).congr fun r j _ _ => by simp
  · exact (csum_real ht (ha.slice slices_S2048x512_o1664_0_S128x512) (hb.slice slices_S2048x512_o1664_0_S128x512)).congr fun r j _ _ => by simp
  · exact (csum_real ht (ha.slice slices_S2048x512_o1792_0_S128x512) (hb.slice slices_S2048x512_o1792_0_S128x512)).congr fun r j _ _ => by simp
  · exact (csum_real ht (ha.slice slices_S2048x512_o1920_0_S128x512) (hb.slice slices_S2048x512_o1920_0_S128x512)).congr fun r j _ _ => by simp

/-- The sums of all chunks. -/
def cums (tri : FVec Ideal S128x128 .bf16) (hi lo : FVec Ideal S2048x512 .bf16) : FVec Ideal S2048x512 .f32 :=
  shapeCast S2048x512 (concatenate S2048x512 0 [⟨S128x512, csums tri hi lo 0⟩, ⟨S128x512, csums tri hi lo 1⟩, ⟨S128x512, csums tri hi lo 2⟩, ⟨S128x512, csums tri hi lo 3⟩, ⟨S128x512, csums tri hi lo 4⟩, ⟨S128x512, csums tri hi lo 5⟩, ⟨S128x512, csums tri hi lo 6⟩, ⟨S128x512, csums tri hi lo 7⟩, ⟨S128x512, csums tri hi lo 8⟩, ⟨S128x512, csums tri hi lo 9⟩, ⟨S128x512, csums tri hi lo 10⟩, ⟨S128x512, csums tri hi lo 11⟩, ⟨S128x512, csums tri hi lo 12⟩, ⟨S128x512, csums tri hi lo 13⟩, ⟨S128x512, csums tri hi lo 14⟩, ⟨S128x512, csums tri hi lo 15⟩] concatenates_S128x512_S128x512_S128x512_S128x512_S128x512_S128x512_S128x512_S128x512_S128x512_S128x512_S128x512_S128x512_S128x512_S128x512_S128x512_S128x512_S2048x512_d0) shapeCasts_S2048x512_S2048x512

theorem cums_real {tri : FVec Ideal S128x128 .bf16} {hi lo : FVec Ideal S2048x512 .bf16} {T A : ℕ → ℕ → ℝ}
    (ht : IsR tri T) (ha : IsR hi A) (hb : IsR lo (fun _ _ => 0)) :
    IsR (cums tri hi lo) (fun t j => ∑ s ∈ Finset.range 128, T (t % 128) s * A (128 * (t / 128) + s) j) :=
  IsR.reshape (IsR.conc16 (X := csums tri hi lo) (Q := fun p r j => ∑ s ∈ Finset.range 128, T r s * A (128 * p + s) j) (csums_real ht ha hb) concatenates_S128x512_S128x512_S128x512_S128x512_S128x512_S128x512_S128x512_S128x512_S128x512_S128x512_S128x512_S128x512_S128x512_S128x512_S128x512_S128x512_S2048x512_d0) shapeCasts_S2048x512_S2048x512

/-- The leading part of a log decay. -/
def hiP (g : FVec Ideal S2048x512 .f32) : FVec Ideal S2048x512 .bf16 := truncf .bf16 g bitsLt_bf16_f32
/-- The trailing part of a log decay. -/
def loP (g : FVec Ideal S2048x512 .f32) : FVec Ideal S2048x512 .bf16 :=
  truncf .bf16 (subf g (extf .f32 (hiP g) bitsLt_bf16_f32)) bitsLt_bf16_f32

theorem loP_real {g : FVec Ideal S2048x512 .f32} {G : ℕ → ℕ → ℝ} (hg : IsR g G) : IsR (loP g) (fun _ _ => 0) :=
  (IsR.trunc (φ := .f32) (ψ := .bf16) (hg.sub (φ := .f32) (IsR.ext' (φ := .bf16) (ψ := .f32) (IsR.trunc (φ := .f32) (ψ := .bf16) hg bitsLt_bf16_f32) bitsLt_bf16_f32)) bitsLt_bf16_f32).congr
    fun t j _ _ => sub_self _

/-- The sums forward of the log gates. -/
def cumF (z : FVec Ideal S1x2048x512 .bf16) (lb : FVec Ideal S1x1x512 .f32) : FVec Ideal S2048x512 .f32 :=
  cums (k0_pay241 (F := Ideal)) (hiP (Idealize.ShloMosaic.log (k0_pay238 (F := Ideal) z lb))) (loP (Idealize.ShloMosaic.log (k0_pay238 (F := Ideal) z lb)))
/-- The sums backward of the log gates. -/
def cumB (z : FVec Ideal S1x2048x512 .bf16) (lb : FVec Ideal S1x1x512 .f32) : FVec Ideal S2048x512 .f32 :=
  cums (k0_pay263 (F := Ideal)) (hiP (Idealize.ShloMosaic.log (k0_pay238 (F := Ideal) z lb))) (loP (Idealize.ShloMosaic.log (k0_pay238 (F := Ideal) z lb)))

theorem select_real {c : IVec S128x128 1} {a b : FVec Ideal S128x128 .f32} {M : ℕ → ℕ → Prop} [∀ t s, Decidable (M t s)] {P Q : ℕ → ℕ → ℝ}
    (hm : ∀ t s : Fin 128, c (ix2 t s) = if M t.val s.val then 1#1 else 0#1) (ha : IsR a P) (hb : IsR b Q) :
    IsR (select c a b) (fun t s => if M t s then P t s else Q t s) := fun t s => by
  rw [select_apply, hm]
  by_cases h : M t.val s.val
  · simp only [if_pos h]; exact (if_pos rfl).trans (ha t s)
  · simp only [if_neg h]; exact (if_neg (by decide)).trans (hb t s)

theorem triF_real : IsR (k0_pay241 (F := Ideal)) (fun r s => if s ≤ r then 1 else 0) :=
  IsR.trunc (φ := .f32) (ψ := .bf16) (select_real (M := fun t s => s ≤ t) lowerMask_apply (IsR.splat (φ := .f32) one_eq) (IsR.splat (φ := .f32) zero_eq)) bitsLt_bf16_f32
theorem triB_real : IsR (k0_pay263 (F := Ideal)) (fun r s => if r ≤ s then 1 else 0) :=
  IsR.trunc (φ := .f32) (ψ := .bf16) (select_real (M := fun t s => t ≤ s) upperMask_apply (IsR.splat (φ := .f32) one_eq) (IsR.splat (φ := .f32) zero_eq)) bitsLt_bf16_f32

theorem CE_add (G : ℕ → ℕ → ℝ) (a n j : ℕ) : CE G (a + n) j = CE G a j + ∑ s ∈ Finset.range n, G (a + s) j :=
  Finset.sum_range_add (fun s => G s j) a n

theorem tri_sum (A : ℕ → ℝ) (r : ℕ) (hr : r < 128) :
    ∑ s ∈ Finset.range 128, (if s ≤ r then (1 : ℝ) else 0) * A s = ∑ s ∈ Finset.range (r + 1), A s := by
  rw [← Finset.sum_subset (Finset.range_subset_range.mpr (show r + 1 ≤ 128 by omega))
    (fun s _ hs => by rw [if_neg (by simp only [Finset.mem_range] at hs; omega), zero_mul])]
  refine Finset.sum_congr rfl fun s hs => ?_
  rw [if_pos (by simp only [Finset.mem_range] at hs; omega), one_mul]

theorem cumF_real {z : FVec Ideal S1x2048x512 .bf16} {lb : FVec Ideal S1x1x512 .f32} {Z L : ℕ → ℕ → ℝ} (hz : IsR3 z Z) (hl : IsR3 lb L)
    (hL : ∀ j, j < 512 → 0 < L 0 j ∧ L 0 j ≤ 1) :
    IsR (cumF z lb) (fun t j => CE (fun t j => Real.log (fgate (L 0 j) (Z t j))) (t + 1) j - CE (fun t j => Real.log (fgate (L 0 j) (Z t j))) (128 * (t / 128)) j) := by
  have hg := (gate_real hz hl).log (φ := .f32) fun t j _ hj => fgate_pos (hL j hj).1 (hL j hj).2
  refine (cums_real triF_real (IsR.trunc (φ := .f32) (ψ := .bf16) hg bitsLt_bf16_f32) (loP_real hg)).congr fun t j ht hj => ?_
  rw [tri_sum _ _ (Nat.mod_lt _ (by norm_num))]
  have e : t + 1 = 128 * (t / 128) + (t % 128 + 1) := by omega
  conv_rhs => rw [e, CE_add]
  ring

theorem cumB_real {z : FVec Ideal S1x2048x512 .bf16} {lb : FVec Ideal S1x1x512 .f32} {Z L : ℕ → ℕ → ℝ} (hz : IsR3 z Z) (hl : IsR3 lb L)
    (hL : ∀ j, j < 512 → 0 < L 0 j ∧ L 0 j ≤ 1) :
    IsR (cumB z lb) (fun t j => CE (rv fun t j => Real.log (fgate (L 0 j) (Z t j))) (2047 - t + 1) j - CE (rv fun t j => Real.log (fgate (L 0 j) (Z t j))) (128 * ((2047 - t) / 128)) j) := by
  have hg := (gate_real hz hl).log (φ := .f32) fun t j _ hj => fgate_pos (hL j hj).1 (hL j hj).2
  refine (cums_real triB_real (IsR.trunc (φ := .f32) (ψ := .bf16) hg bitsLt_bf16_f32) (loP_real hg)).congr fun t j ht hj => ?_
  have hr : t % 128 < 128 := Nat.mod_lt _ (by norm_num)
  have e : 2047 - t + 1 = 128 * ((2047 - t) / 128) + ((2047 - t) % 128 + 1) := by omega
  conv_rhs => rw [e, CE_add]
  rw [add_sub_cancel_left, ← tri_sum _ _ (Nat.mod_lt _ (by norm_num)),
    ← Finset.sum_range_reflect (fun s => (if s ≤ (2047 - t) % 128 then (1 : ℝ) else 0) * _) 128]
  refine Finset.sum_congr rfl fun s hs => ?_
  simp only [Finset.mem_range] at hs
  have e1 : (t % 128 ≤ s) = (128 - 1 - s ≤ (2047 - t) % 128) := propext (by omega)
  have e2 : 2047 - (128 * ((2047 - t) / 128) + (128 - 1 - s)) = 128 * (t / 128) + s := by omega
  simp only [e1, rv, e2]

end Cert.Hgrn
-- ==== Proof.Block.lean ====
module

public import proofs.«01_k».proof.Proof.Run
public import proofs.«01_k».proof.Proof.Gates
public import Idealize.ShloMosaic.Lib.VecWindow
public import Idealize.ShloMosaic.Lib.Pointwise.Reduce

@[expose] public section

set_option maxRecDepth 16384

noncomputable section

namespace Cert.Hgrn

open Idealize.ShloMosaic hiding ix2
open Idealize.ShloMosaic.TcCoe
open Idealize.ShloMosaic.ValueIdx
open Cert.KernelIdeal Cert.KernelIdeal.Gen

/-- What the sixteen trips leave: the carried states, and the pieces written into the two output scratches. -/
def lastSt (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (x0 x1 x2 x3 x4 : Vec Ideal S1x2048x512 .bf16) (x5 x6 x7 : Vec Ideal S1x1x512 .f32) (x8 x9 : Vec Ideal S1x4x128x128 .f32) :=
  st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay282 (F := Ideal) (View.readAt (Elt Ideal) arg10.view (Rect.unit (s := S1x4x128x128) ![0, 0, 0, 0] S1x1x128x128.size inb_S1x4x128x128_S1x1x128x128_0_0_0_0).toLoadRect (harg10.unread x8))) (k0_pay282 (F := Ideal) (View.readAt (Elt Ideal) arg11.view (Rect.unit (s := S1x4x128x128) ![0, 0, 0, 0] S1x1x128x128.size inb_S1x4x128x128_S1x1x128x128_0_0_0_0).toLoadRect (harg11.unread x9))) (k0_pay282 (F := Ideal) (View.readAt (Elt Ideal) arg10.view (Rect.unit (s := S1x4x128x128) ![0, 1, 0, 0] S1x1x128x128.size inb_S1x4x128x128_S1x1x128x128_0_1_0_0).toLoadRect (harg10.unread x8))) (k0_pay282 (F := Ideal) (View.readAt (Elt Ideal) arg11.view (Rect.unit (s := S1x4x128x128) ![0, 1, 0, 0] S1x1x128x128.size inb_S1x4x128x128_S1x1x128x128_0_1_0_0).toLoadRect (harg11.unread x9))) (k0_pay282 (F := Ideal) (View.readAt (Elt Ideal) arg10.view (Rect.unit (s := S1x4x128x128) ![0, 2, 0, 0] S1x1x128x128.size inb_S1x4x128x128_S1x1x128x128_0_2_0_0).toLoadRect (harg10.unread x8))) (k0_pay282 (F := Ideal) (View.readAt (Elt Ideal) arg11.view (Rect.unit (s := S1x4x128x128) ![0, 2, 0, 0] S1x1x128x128.size inb_S1x4x128x128_S1x1x128x128_0_2_0_0).toLoadRect (harg11.unread x9))) (harg2.unread x0) (harg5.unread x3) (arg13.view.writes (Elt Ideal) arg13.view.junk [⟨Rect.unit (s := S2048x512) ![0, 0] S2048x512.size inb_S2048x512_S2048x512_0_0, k0_pay240 (F := Ideal) (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg14.view.writes (Elt Ideal) arg14.view.junk [⟨Rect.unit (s := S2048x512) ![0, 0] S2048x512.size inb_S2048x512_S2048x512_0_0, k0_pay240 (F := Ideal) (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) (arg15.view.writes (Elt Ideal) arg15.view.junk [⟨Rect.unit (s := S2048x512) ![0, 0] S2048x512.size inb_S2048x512_S2048x512_0_0, cumF (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg16.view.writes (Elt Ideal) arg16.view.junk [⟨Rect.unit (s := S2048x512) ![0, 0] S2048x512.size inb_S2048x512_S2048x512_0_0, cumB (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) ((k0_pay282 (F := Ideal) (View.readAt (Elt Ideal) arg10.view (Rect.unit (s := S1x4x128x128) ![0, 0, 0, 0] S1x1x128x128.size inb_S1x4x128x128_S1x1x128x128_0_0_0_0).toLoadRect (harg10.unread x8))), (k0_pay282 (F := Ideal) (View.readAt (Elt Ideal) arg11.view (Rect.unit (s := S1x4x128x128) ![0, 0, 0, 0] S1x1x128x128.size inb_S1x4x128x128_S1x1x128x128_0_0_0_0).toLoadRect (harg11.unread x9))), (k0_pay282 (F := Ideal) (View.readAt (Elt Ideal) arg10.view (Rect.unit (s := S1x4x128x128) ![0, 1, 0, 0] S1x1x128x128.size inb_S1x4x128x128_S1x1x128x128_0_1_0_0).toLoadRect (harg10.unread x8))), (k0_pay282 (F := Ideal) (View.readAt (Elt Ideal) arg11.view (Rect.unit (s := S1x4x128x128) ![0, 1, 0, 0] S1x1x128x128.size inb_S1x4x128x128_S1x1x128x128_0_1_0_0).toLoadRect (harg11.unread x9))), (k0_pay282 (F := Ideal) (View.readAt (Elt Ideal) arg10.view (Rect.unit (s := S1x4x128x128) ![0, 2, 0, 0] S1x1x128x128.size inb_S1x4x128x128_S1x1x128x128_0_2_0_0).toLoadRect (harg10.unread x8))), (k0_pay282 (F := Ideal) (View.readAt (Elt Ideal) arg11.view (Rect.unit (s := S1x4x128x128) ![0, 2, 0, 0] S1x1x128x128.size inb_S1x4x128x128_S1x1x128x128_0_2_0_0).toLoadRect (harg11.unread x9))), (k0_pay282 (F := Ideal) (View.readAt (Elt Ideal) arg10.view (Rect.unit (s := S1x4x128x128) ![0, 3, 0, 0] S1x1x128x128.size inb_S1x4x128x128_S1x1x128x128_0_3_0_0).toLoadRect (harg10.unread x8))), (k0_pay282 (F := Ideal) (View.readAt (Elt Ideal) arg11.view (Rect.unit (s := S1x4x128x128) ![0, 3, 0, 0] S1x1x128x128.size inb_S1x4x128x128_S1x1x128x128_0_3_0_0).toLoadRect (harg11.unread x9)))) (Scf.trips k0_t1_loop.lb k0_t1_loop.ub k0_t1_loop.st)

variable (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole)
  (x0 x1 x2 x3 x4 : Vec Ideal S1x2048x512 .bf16) (x5 x6 x7 : Vec Ideal S1x1x512 .f32) (x8 x9 : Vec Ideal S1x4x128x128 .f32)

set_option maxHeartbeats 1000000 in
theorem run_list (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) :
    (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18).1 =
      [⟨Rect.unit (s := S1x2048x512) ![0, 0, 384] S1x2048x128.size inb_S1x2048x512_S1x2048x128_0_0_384, k0_pay293 (F := Ideal) (View.readAt (Elt Ideal) arg17.view (Rect.unit (s := S2048x512) ![0, 384] S2048x128.size inb_S2048x512_S2048x128_0_384).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 384] S2048x128.size inb_S2048x512_S2048x128_0_384).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 384] S1x1x128.size inb_S1x1x512_S1x1x128_0_0_384).toLoadRect (harg9.unread x7)) (View.readAt (Elt Ideal) arg6.view (Rect.unit (s := S1x2048x512) ![0, 0, 384] S1x2048x128.size inb_S1x2048x512_S1x2048x128_0_0_384).toLoadRect (harg6.unread x4))⟩,
       ⟨Rect.unit (s := S1x2048x512) ![0, 0, 256] S1x2048x128.size inb_S1x2048x512_S1x2048x128_0_0_256, k0_pay293 (F := Ideal) (View.readAt (Elt Ideal) arg17.view (Rect.unit (s := S2048x512) ![0, 256] S2048x128.size inb_S2048x512_S2048x128_0_256).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 256] S2048x128.size inb_S2048x512_S2048x128_0_256).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 256] S1x1x128.size inb_S1x1x512_S1x1x128_0_0_256).toLoadRect (harg9.unread x7)) (View.readAt (Elt Ideal) arg6.view (Rect.unit (s := S1x2048x512) ![0, 0, 256] S1x2048x128.size inb_S1x2048x512_S1x2048x128_0_0_256).toLoadRect (harg6.unread x4))⟩,
       ⟨Rect.unit (s := S1x2048x512) ![0, 0, 128] S1x2048x128.size inb_S1x2048x512_S1x2048x128_0_0_128, k0_pay293 (F := Ideal) (View.readAt (Elt Ideal) arg17.view (Rect.unit (s := S2048x512) ![0, 128] S2048x128.size inb_S2048x512_S2048x128_0_128).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 128] S2048x128.size inb_S2048x512_S2048x128_0_128).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 128] S1x1x128.size inb_S1x1x512_S1x1x128_0_0_128).toLoadRect (harg9.unread x7)) (View.readAt (Elt Ideal) arg6.view (Rect.unit (s := S1x2048x512) ![0, 0, 128] S1x2048x128.size inb_S1x2048x512_S1x2048x128_0_0_128).toLoadRect (harg6.unread x4))⟩,
       ⟨Rect.unit (s := S1x2048x512) ![0, 0, 0] S1x2048x128.size inb_S1x2048x512_S1x2048x128_0_0_0, k0_pay293 (F := Ideal) (View.readAt (Elt Ideal) arg17.view (Rect.unit (s := S2048x512) ![0, 0] S2048x128.size inb_S2048x512_S2048x128_0_0).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 0] S2048x128.size inb_S2048x512_S2048x128_0_0).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 0] S1x1x128.size inb_S1x1x512_S1x1x128_0_0_0).toLoadRect (harg9.unread x7)) (View.readAt (Elt Ideal) arg6.view (Rect.unit (s := S1x2048x512) ![0, 0, 0] S1x2048x128.size inb_S1x2048x512_S1x2048x128_0_0_0).toLoadRect (harg6.unread x4))⟩] := by
  unfold kernelRun
  rfl

/-! ### The gated normal form of one row -/

/-- One entry of a head's row of outputs `o`: the row over its root mean square, the weight, the gate. -/
def epi (o : Fin 128 → EReal) (j : Fin 128) (gn g : EReal) : EReal :=
  o j * Ideal.rsqrt (Ideal.div (∑ k : Fin 128, o k * o k) (Ideal.ofBits .f32 0x43000000#32) + Ideal.ofBits .f32 0x358637BD#32) * gn * (g * Ideal.logistic g)

theorem pay293_apply (a b : FVec Ideal S2048x128 .f32) (gn : FVec Ideal S1x1x128 .f32) (g : FVec Ideal S1x2048x128 .bf16) (t : Fin 2048) (j : Fin 128) :
    k0_pay293 (F := Ideal) a b gn g (ValueIdx.ix3 (0 : Fin 1) t j)
      = epi (fun k => a (ix2 t k) + b (ix2 t k)) j (gn (ValueIdx.ix3 (0 : Fin 1) (0 : Fin 1) j)) (g (ValueIdx.ix3 (0 : Fin 1) t j)) := by
  unfold k0_pay293
  simp only []
  refine (shapeCast_addUnit_apply ![2048, 128] _ shapeCasts_S2048x128_S1x2048x128 (ValueIdx.ix3 (0 : Fin 1) t j)).trans ?_
  have ey : (fun a : Fin 2 => (ValueIdx.ix3 (0 : Fin 1) t j : (⟨3, ![1, 2048, 128]⟩ : Shape).Idx) a.succ) = (ix2 t j : (⟨2, ![2048, 128]⟩ : Shape).Idx) := funext fun a => by
    match a with
    | ⟨0, _⟩ => rfl
    | ⟨1, _⟩ => rfl
  refine (congrArg _ ey).trans ?_
  have hg : shapeCast S2048x128 g shapeCasts_S1x2048x128_S2048x128 (ix2 t j) = g (ValueIdx.ix3 (0 : Fin 1) t j) := by
    refine (shapeCast_dropUnit_apply ![2048, 128] g shapeCasts_S1x2048x128_S2048x128 (ix2 t j)).trans (congrArg g (funext fun a => ?_))
    match a with
    | ⟨0, _⟩ => rfl
    | ⟨1, _⟩ => rfl
    | ⟨2, _⟩ => rfl
  have hgn : broadcastTo S2048x128 (shapeCast S1x128 gn shapeCasts_S1x1x128_S1x128) broadcasts_S1x128_S2048x128 (ix2 t j) = gn (ValueIdx.ix3 (0 : Fin 1) (0 : Fin 1) j) := by
    refine (broadcastTo_apply _ broadcasts_S1x128_S2048x128 (ix2 t j) (ix2 (0 : Fin 1) j) (fun a => by
      match a with
      | ⟨0, _⟩ => rfl
      | ⟨1, _⟩ => rfl)).trans ?_
    refine (shapeCast_dropUnit_apply ![1, 128] gn shapeCasts_S1x1x128_S1x128 (ix2 (0 : Fin 1) j)).trans (congrArg gn (funext fun a => ?_))
    match a with
    | ⟨0, _⟩ => rfl
    | ⟨1, _⟩ => rfl
    | ⟨2, _⟩ => rfl
  have hs : ∀ v : FVec Ideal S2048x128 .f32, shapeCast S2048x1 (multiReduction .add [1] S2048 v 0x00000000#32 reduces_S2048x128_S2048 (.inl rfl) rfl) shapeCasts_S2048_S2048x1 (ix2 t (0 : Fin 1))
      = ∑ k : Fin 128, v (ix2 t k) := fun v => by
    refine (shapeCast_apply _ shapeCasts_S2048_S2048x1 (ix2 t (0 : Fin 1)) (ValueIdx.ix1 t) ?_).trans ?_
    · rw [Shape.rowMajor_val_one, Shape.rowMajor_val_two]; show t.val = t.val * 1 + 0; omega
    · exact Ideal.reduceAdd_r2_a1 reduces_S2048x128_S2048 v (ValueIdx.ix1 t)
  have hb : ∀ v : FVec Ideal S2048x1 .f32, broadcastTo S2048x128 v broadcasts_S2048x1_S2048x128 (ix2 t j) = v (ix2 t (0 : Fin 1)) := fun v =>
    broadcastTo_apply _ broadcasts_S2048x1_S2048x128 (ix2 t j) (ix2 t (0 : Fin 1)) (fun a => by
      match a with
      | ⟨0, _⟩ => rfl
      | ⟨1, _⟩ => rfl)
  have hr := (hb (rsqrt (addf (divf (shapeCast S2048x1 (multiReduction .add [1] S2048 (mulf (addf a b) (addf a b)) 0x00000000#32 reduces_S2048x128_S2048 (.inl rfl) rfl) shapeCasts_S2048_S2048x1) (broadcast S2048x1 (Scalar.ofBits (F := Ideal) .f32 0x43000000#32))) (broadcast S2048x1 (Scalar.ofBits (F := Ideal) .f32 0x358637BD#32))))).trans
    (congrArg (fun s => Ideal.rsqrt (Ideal.div s (Ideal.ofBits .f32 0x43000000#32) + Ideal.ofBits .f32 0x358637BD#32)) (hs (mulf (addf a b) (addf a b))))
  refine (congrArg₂ (fun r g : EReal => (a (ix2 t j) + b (ix2 t j)) * r * broadcastTo S2048x128 (shapeCast S1x128 gn shapeCasts_S1x1x128_S1x128) broadcasts_S1x128_S2048x128 (ix2 t j) * (g * Ideal.logistic g)) hr hg).trans ?_
  exact congrArg (fun n : EReal => (a (ix2 t j) + b (ix2 t j)) * Ideal.rsqrt (Ideal.div (∑ k : Fin 128, (a (ix2 t k) + b (ix2 t k)) * (a (ix2 t k) + b (ix2 t k))) (Ideal.ofBits .f32 0x43000000#32) + Ideal.ofBits .f32 0x358637BD#32) * n * (g (ValueIdx.ix3 (0 : Fin 1) t j) * Ideal.logistic (g (ValueIdx.ix3 (0 : Fin 1) t j)))) hgn

section Slabs
variable {κ : Kind} {sp : Space}

theorem load_slab (v : View sig κ sp S2048x512 .f32) (X : v.ty.Contents (Elt Ideal)) {p : ℕ}
    (inb : ∀ a, ![0, p] a + S2048x128.size a ≤ S2048x512.size a) (t : Fin 2048) (j : Fin 128) (q : Fin 512) (hq : q.val = p + j.val) :
    v.readAt (Elt Ideal) (Rect.unit (s := S2048x512) ![0, p] S2048x128.size inb).toLoadRect X (ix2 t j) = v.read (Elt Ideal) X (ix2 t q) := by
  refine congrArg (v.read (Elt Ideal) X) (funext fun a => Fin.ext ?_)
  match a with
  | ⟨0, _⟩ => show 0 + 1 * t.val = t.val; omega
  | ⟨1, _⟩ => show p + 1 * j.val = q.val; omega

theorem load_slab3 {m : ℕ} {e : EltTy} {n' : ℕ} (v : View sig κ sp ⟨3, ![1, m, 512]⟩ e) (X : v.ty.Contents (Elt Ideal)) {p : ℕ}
    (inb : ∀ a, ![0, 0, p] a + ![1, m, 128] a ≤ (⟨3, ![1, m, 512]⟩ : Shape).size a) (t : Fin m) (j : Fin 128) (q : Fin 512) (hq : q.val = p + j.val) :
    v.readAt (Elt Ideal) (Rect.unit (s := ⟨3, ![1, m, 512]⟩) ![0, 0, p] ![1, m, 128] inb).toLoadRect X (ValueIdx.ix3 (0 : Fin 1) t j) = v.read (Elt Ideal) X (ValueIdx.ix3 (0 : Fin 1) t q) := by
  refine congrArg (v.read (Elt Ideal) X) (funext fun a => Fin.ext ?_)
  match a with
  | ⟨0, _⟩ => rfl
  | ⟨1, _⟩ => show 0 + 1 * t.val = t.val; omega
  | ⟨2, _⟩ => show p + 1 * j.val = q.val; omega

/-- Four slabs of columns side by side, each entry read in its own slab. -/
theorem four_slabs (v : View sig κ sp S1x2048x512 .bf16) (f : v.ty.Contents (Elt Ideal)) (P : Fin 4 → FVec Ideal S1x2048x128 .bf16)
    (i3 : ∀ a, ![0, 0, 384] a + S1x2048x128.size a ≤ S1x2048x512.size a) (i2 : ∀ a, ![0, 0, 256] a + S1x2048x128.size a ≤ S1x2048x512.size a)
    (i1 : ∀ a, ![0, 0, 128] a + S1x2048x128.size a ≤ S1x2048x512.size a) (i0 : ∀ a, ![0, 0, 0] a + S1x2048x128.size a ≤ S1x2048x512.size a)
    (t : Fin 2048) (cc : Fin 512) (h : Fin 4) (j : Fin 128) (hc : cc.val = 128 * h.val + j.val) :
    v.read (Elt Ideal) (v.writes (Elt Ideal) f [⟨Rect.unit (s := S1x2048x512) ![0, 0, 384] S1x2048x128.size i3, P 3⟩, ⟨Rect.unit (s := S1x2048x512) ![0, 0, 256] S1x2048x128.size i2, P 2⟩,
      ⟨Rect.unit (s := S1x2048x512) ![0, 0, 128] S1x2048x128.size i1, P 1⟩, ⟨Rect.unit (s := S1x2048x512) ![0, 0, 0] S1x2048x128.size i0, P 0⟩]) (ValueIdx.ix3 (0 : Fin 1) t cc) = P h (ValueIdx.ix3 (0 : Fin 1) t j) := by
  have hj := j.isLt
  have m3 (hc : cc.val < 384) (L) := View.read_writes_cons_unit_of_not_mem v f i3 (P 3) L (ValueIdx.ix3 (0 : Fin 1) t cc) rfl (2 : Fin 3) (Or.inl hc)
  have m2 (hc : cc.val < 256) (L) := View.read_writes_cons_unit_of_not_mem v f i2 (P 2) L (ValueIdx.ix3 (0 : Fin 1) t cc) rfl (2 : Fin 3) (Or.inl hc)
  have m1 (hc : cc.val < 128) (L) := View.read_writes_cons_unit_of_not_mem v f i1 (P 1) L (ValueIdx.ix3 (0 : Fin 1) t cc) rfl (2 : Fin 3) (Or.inl hc)
  match h with
  | ⟨0, _⟩ =>
    simp only [] at hc
    rw [m3 (by omega), m2 (by omega), m1 (by omega)]
    exact View.read_writes_cons_unit_of_mem v f i0 (P 0) _ (ValueIdx.ix3 (0 : Fin 1) t cc) (ValueIdx.ix3 (0 : Fin 1) t j) rfl (fun a => by
      match a with
      | ⟨0, _⟩ => rfl
      | ⟨1, _⟩ => show t.val = 0 + t.val; omega
      | ⟨2, _⟩ => show cc.val = 0 + j.val; omega)
  | ⟨1, _⟩ =>
    simp only [] at hc
    rw [m3 (by omega), m2 (by omega)]
    exact View.read_writes_cons_unit_of_mem v f i1 (P 1) _ (ValueIdx.ix3 (0 : Fin 1) t cc) (ValueIdx.ix3 (0 : Fin 1) t j) rfl (fun a => by
      match a with
      | ⟨0, _⟩ => rfl
      | ⟨1, _⟩ => show t.val = 0 + t.val; omega
      | ⟨2, _⟩ => show cc.val = 128 + j.val; omega)
  | ⟨2, _⟩ =>
    simp only [] at hc
    rw [m3 (by omega)]
    exact View.read_writes_cons_unit_of_mem v f i2 (P 2) _ (ValueIdx.ix3 (0 : Fin 1) t cc) (ValueIdx.ix3 (0 : Fin 1) t j) rfl (fun a => by
      match a with
      | ⟨0, _⟩ => rfl
      | ⟨1, _⟩ => show t.val = 0 + t.val; omega
      | ⟨2, _⟩ => show cc.val = 256 + j.val; omega)
  | ⟨3, _⟩ =>
    simp only [] at hc
    exact View.read_writes_cons_unit_of_mem v f i3 (P 3) _ (ValueIdx.ix3 (0 : Fin 1) t cc) (ValueIdx.ix3 (0 : Fin 1) t j) rfl (fun a => by
      match a with
      | ⟨0, _⟩ => rfl
      | ⟨1, _⟩ => show t.val = 0 + t.val; omega
      | ⟨2, _⟩ => show cc.val = 384 + j.val; omega)

end Slabs

/-- The block the body leaves, entry by entry, from the two output scratches. -/
theorem block_apply (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f12 : arg12.view.ty.Contents (Elt Ideal))
    (t : Fin 2048) (cc : Fin 512) (h : Fin 4) (j : Fin 128) (hc : cc.val = 128 * h.val + j.val) :
    arg12.view.read (Elt Ideal) (arg12.view.writes (Elt Ideal) f12 (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18).1) (ValueIdx.ix3 (0 : Fin 1) t cc)
      = epi (fun k => arg17.view.read (Elt Ideal) (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1) (ix2 t ⟨128 * h.val + k.val, by omega⟩) + arg18.view.read (Elt Ideal) (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2) (ix2 t ⟨128 * h.val + k.val, by omega⟩)) j
          (x7 (ValueIdx.ix3 (0 : Fin 1) (0 : Fin 1) cc)) (x4 (ValueIdx.ix3 (0 : Fin 1) t cc)) := by
  rw [run_list]
  refine (four_slabs arg12.view f12 ![k0_pay293 (F := Ideal) (View.readAt (Elt Ideal) arg17.view (Rect.unit (s := S2048x512) ![0, 0] S2048x128.size inb_S2048x512_S2048x128_0_0).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 0] S2048x128.size inb_S2048x512_S2048x128_0_0).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 0] S1x1x128.size inb_S1x1x512_S1x1x128_0_0_0).toLoadRect (harg9.unread x7)) (View.readAt (Elt Ideal) arg6.view (Rect.unit (s := S1x2048x512) ![0, 0, 0] S1x2048x128.size inb_S1x2048x512_S1x2048x128_0_0_0).toLoadRect (harg6.unread x4)), k0_pay293 (F := Ideal) (View.readAt (Elt Ideal) arg17.view (Rect.unit (s := S2048x512) ![0, 128] S2048x128.size inb_S2048x512_S2048x128_0_128).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 128] S2048x128.size inb_S2048x512_S2048x128_0_128).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 128] S1x1x128.size inb_S1x1x512_S1x1x128_0_0_128).toLoadRect (harg9.unread x7)) (View.readAt (Elt Ideal) arg6.view (Rect.unit (s := S1x2048x512) ![0, 0, 128] S1x2048x128.size inb_S1x2048x512_S1x2048x128_0_0_128).toLoadRect (harg6.unread x4)), k0_pay293 (F := Ideal) (View.readAt (Elt Ideal) arg17.view (Rect.unit (s := S2048x512) ![0, 256] S2048x128.size inb_S2048x512_S2048x128_0_256).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 256] S2048x128.size inb_S2048x512_S2048x128_0_256).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 256] S1x1x128.size inb_S1x1x512_S1x1x128_0_0_256).toLoadRect (harg9.unread x7)) (View.readAt (Elt Ideal) arg6.view (Rect.unit (s := S1x2048x512) ![0, 0, 256] S1x2048x128.size inb_S1x2048x512_S1x2048x128_0_0_256).toLoadRect (harg6.unread x4)), k0_pay293 (F := Ideal) (View.readAt (Elt Ideal) arg17.view (Rect.unit (s := S2048x512) ![0, 384] S2048x128.size inb_S2048x512_S2048x128_0_384).toLoadRect (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1)) (View.readAt (Elt Ideal) arg18.view (Rect.unit (s := S2048x512) ![0, 384] S2048x128.size inb_S2048x512_S2048x128_0_384).toLoadRect (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2)) (View.readAt (Elt Ideal) arg9.view (Rect.unit (s := S1x1x512) ![0, 0, 384] S1x1x128.size inb_S1x1x512_S1x1x128_0_0_384).toLoadRect (harg9.unread x7)) (View.readAt (Elt Ideal) arg6.view (Rect.unit (s := S1x2048x512) ![0, 0, 384] S1x2048x128.size inb_S1x2048x512_S1x2048x128_0_0_384).toLoadRect (harg6.unread x4))] inb_S1x2048x512_S1x2048x128_0_0_384 inb_S1x2048x512_S1x2048x128_0_0_256 inb_S1x2048x512_S1x2048x128_0_0_128 inb_S1x2048x512_S1x2048x128_0_0_0 t cc h j hc).trans ?_
  match h with
  | ⟨0, _⟩ =>
    refine (pay293_apply _ _ _ _ t j).trans ?_
    have e17 (k : Fin 128) := load_slab arg17.view (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1) inb_S2048x512_S2048x128_0_0 t k ⟨128*0 + k.val, by omega⟩ (by simp only [])
    have e18 (k : Fin 128) := load_slab arg18.view (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2) inb_S2048x512_S2048x128_0_0 t k ⟨128*0 + k.val, by omega⟩ (by simp only [])
    have e9 := (load_slab3 (n' := 0) arg9.view (harg9.unread x7) inb_S1x1x512_S1x1x128_0_0_0 (0 : Fin 1) j cc hc).trans (congrFun (harg9.read_unread x7) _)
    have e6 := (load_slab3 (n' := 0) arg6.view (harg6.unread x4) inb_S1x2048x512_S1x2048x128_0_0_0 t j cc hc).trans (congrFun (harg6.read_unread x4) _)
    have eo := funext fun k : Fin 128 => congrArg₂ (fun a b : EReal => a + b) (e17 k) (e18 k)
    exact (congrArg (fun o => epi o j _ _) eo).trans (congrArg₂ (fun a b => epi _ j a b) e9 e6)
  | ⟨1, _⟩ =>
    refine (pay293_apply _ _ _ _ t j).trans ?_
    have e17 (k : Fin 128) := load_slab arg17.view (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1) inb_S2048x512_S2048x128_0_128 t k ⟨128*1 + k.val, by omega⟩ (by simp only [])
    have e18 (k : Fin 128) := load_slab arg18.view (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2) inb_S2048x512_S2048x128_0_128 t k ⟨128*1 + k.val, by omega⟩ (by simp only [])
    have e9 := (load_slab3 (n' := 0) arg9.view (harg9.unread x7) inb_S1x1x512_S1x1x128_0_0_128 (0 : Fin 1) j cc hc).trans (congrFun (harg9.read_unread x7) _)
    have e6 := (load_slab3 (n' := 0) arg6.view (harg6.unread x4) inb_S1x2048x512_S1x2048x128_0_0_128 t j cc hc).trans (congrFun (harg6.read_unread x4) _)
    have eo := funext fun k : Fin 128 => congrArg₂ (fun a b : EReal => a + b) (e17 k) (e18 k)
    exact (congrArg (fun o => epi o j _ _) eo).trans (congrArg₂ (fun a b => epi _ j a b) e9 e6)
  | ⟨2, _⟩ =>
    refine (pay293_apply _ _ _ _ t j).trans ?_
    have e17 (k : Fin 128) := load_slab arg17.view (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1) inb_S2048x512_S2048x128_0_256 t k ⟨128*2 + k.val, by omega⟩ (by simp only [])
    have e18 (k : Fin 128) := load_slab arg18.view (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2) inb_S2048x512_S2048x128_0_256 t k ⟨128*2 + k.val, by omega⟩ (by simp only [])
    have e9 := (load_slab3 (n' := 0) arg9.view (harg9.unread x7) inb_S1x1x512_S1x1x128_0_0_256 (0 : Fin 1) j cc hc).trans (congrFun (harg9.read_unread x7) _)
    have e6 := (load_slab3 (n' := 0) arg6.view (harg6.unread x4) inb_S1x2048x512_S1x2048x128_0_0_256 t j cc hc).trans (congrFun (harg6.read_unread x4) _)
    have eo := funext fun k : Fin 128 => congrArg₂ (fun a b : EReal => a + b) (e17 k) (e18 k)
    exact (congrArg (fun o => epi o j _ _) eo).trans (congrArg₂ (fun a b => epi _ j a b) e9 e6)
  | ⟨3, _⟩ =>
    refine (pay293_apply _ _ _ _ t j).trans ?_
    have e17 (k : Fin 128) := load_slab arg17.view (arg17.view.writes (Elt Ideal) f17 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1) inb_S2048x512_S2048x128_0_384 t k ⟨128*3 + k.val, by omega⟩ (by simp only [])
    have e18 (k : Fin 128) := load_slab arg18.view (arg18.view.writes (Elt Ideal) f18 (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2) inb_S2048x512_S2048x128_0_384 t k ⟨128*3 + k.val, by omega⟩ (by simp only [])
    have e9 := (load_slab3 (n' := 0) arg9.view (harg9.unread x7) inb_S1x1x512_S1x1x128_0_0_384 (0 : Fin 1) j cc hc).trans (congrFun (harg9.read_unread x7) _)
    have e6 := (load_slab3 (n' := 0) arg6.view (harg6.unread x4) inb_S1x2048x512_S1x2048x128_0_0_384 t j cc hc).trans (congrFun (harg6.read_unread x4) _)
    have eo := funext fun k : Fin 128 => congrArg₂ (fun a b : EReal => a + b) (e17 k) (e18 k)
    exact (congrArg (fun o => epi o j _ _) eo).trans (congrArg₂ (fun a b => epi _ j a b) e9 e6)

theorem last_eq : lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 = st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay282 (F := Ideal) (View.readAt (Elt Ideal) arg10.view (Rect.unit (s := S1x4x128x128) ![0, 0, 0, 0] S1x1x128x128.size inb_S1x4x128x128_S1x1x128x128_0_0_0_0).toLoadRect (harg10.unread x8))) (k0_pay282 (F := Ideal) (View.readAt (Elt Ideal) arg11.view (Rect.unit (s := S1x4x128x128) ![0, 0, 0, 0] S1x1x128x128.size inb_S1x4x128x128_S1x1x128x128_0_0_0_0).toLoadRect (harg11.unread x9))) (k0_pay282 (F := Ideal) (View.readAt (Elt Ideal) arg10.view (Rect.unit (s := S1x4x128x128) ![0, 1, 0, 0] S1x1x128x128.size inb_S1x4x128x128_S1x1x128x128_0_1_0_0).toLoadRect (harg10.unread x8))) (k0_pay282 (F := Ideal) (View.readAt (Elt Ideal) arg11.view (Rect.unit (s := S1x4x128x128) ![0, 1, 0, 0] S1x1x128x128.size inb_S1x4x128x128_S1x1x128x128_0_1_0_0).toLoadRect (harg11.unread x9))) (k0_pay282 (F := Ideal) (View.readAt (Elt Ideal) arg10.view (Rect.unit (s := S1x4x128x128) ![0, 2, 0, 0] S1x1x128x128.size inb_S1x4x128x128_S1x1x128x128_0_2_0_0).toLoadRect (harg10.unread x8))) (k0_pay282 (F := Ideal) (View.readAt (Elt Ideal) arg11.view (Rect.unit (s := S1x4x128x128) ![0, 2, 0, 0] S1x1x128x128.size inb_S1x4x128x128_S1x1x128x128_0_2_0_0).toLoadRect (harg11.unread x9))) (harg2.unread x0) (harg5.unread x3) (arg13.view.writes (Elt Ideal) arg13.view.junk [⟨Rect.unit (s := S2048x512) ![0, 0] S2048x512.size inb_S2048x512_S2048x512_0_0, k0_pay240 (F := Ideal) (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg14.view.writes (Elt Ideal) arg14.view.junk [⟨Rect.unit (s := S2048x512) ![0, 0] S2048x512.size inb_S2048x512_S2048x512_0_0, k0_pay240 (F := Ideal) (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) (arg15.view.writes (Elt Ideal) arg15.view.junk [⟨Rect.unit (s := S2048x512) ![0, 0] S2048x512.size inb_S2048x512_S2048x512_0_0, cumF (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg16.view.writes (Elt Ideal) arg16.view.junk [⟨Rect.unit (s := S2048x512) ![0, 0] S2048x512.size inb_S2048x512_S2048x512_0_0, cumB (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) ((k0_pay282 (F := Ideal) (View.readAt (Elt Ideal) arg10.view (Rect.unit (s := S1x4x128x128) ![0, 0, 0, 0] S1x1x128x128.size inb_S1x4x128x128_S1x1x128x128_0_0_0_0).toLoadRect (harg10.unread x8))), (k0_pay282 (F := Ideal) (View.readAt (Elt Ideal) arg11.view (Rect.unit (s := S1x4x128x128) ![0, 0, 0, 0] S1x1x128x128.size inb_S1x4x128x128_S1x1x128x128_0_0_0_0).toLoadRect (harg11.unread x9))), (k0_pay282 (F := Ideal) (View.readAt (Elt Ideal) arg10.view (Rect.unit (s := S1x4x128x128) ![0, 1, 0, 0] S1x1x128x128.size inb_S1x4x128x128_S1x1x128x128_0_1_0_0).toLoadRect (harg10.unread x8))), (k0_pay282 (F := Ideal) (View.readAt (Elt Ideal) arg11.view (Rect.unit (s := S1x4x128x128) ![0, 1, 0, 0] S1x1x128x128.size inb_S1x4x128x128_S1x1x128x128_0_1_0_0).toLoadRect (harg11.unread x9))), (k0_pay282 (F := Ideal) (View.readAt (Elt Ideal) arg10.view (Rect.unit (s := S1x4x128x128) ![0, 2, 0, 0] S1x1x128x128.size inb_S1x4x128x128_S1x1x128x128_0_2_0_0).toLoadRect (harg10.unread x8))), (k0_pay282 (F := Ideal) (View.readAt (Elt Ideal) arg11.view (Rect.unit (s := S1x4x128x128) ![0, 2, 0, 0] S1x1x128x128.size inb_S1x4x128x128_S1x1x128x128_0_2_0_0).toLoadRect (harg11.unread x9))), (k0_pay282 (F := Ideal) (View.readAt (Elt Ideal) arg10.view (Rect.unit (s := S1x4x128x128) ![0, 3, 0, 0] S1x1x128x128.size inb_S1x4x128x128_S1x1x128x128_0_3_0_0).toLoadRect (harg10.unread x8))), (k0_pay282 (F := Ideal) (View.readAt (Elt Ideal) arg11.view (Rect.unit (s := S1x4x128x128) ![0, 3, 0, 0] S1x1x128x128.size inb_S1x4x128x128_S1x1x128x128_0_3_0_0).toLoadRect (harg11.unread x9)))) 16 :=
  congrArg (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay282 (F := Ideal) (View.readAt (Elt Ideal) arg10.view (Rect.unit (s := S1x4x128x128) ![0, 0, 0, 0] S1x1x128x128.size inb_S1x4x128x128_S1x1x128x128_0_0_0_0).toLoadRect (harg10.unread x8))) (k0_pay282 (F := Ideal) (View.readAt (Elt Ideal) arg11.view (Rect.unit (s := S1x4x128x128) ![0, 0, 0, 0] S1x1x128x128.size inb_S1x4x128x128_S1x1x128x128_0_0_0_0).toLoadRect (harg11.unread x9))) (k0_pay282 (F := Ideal) (View.readAt (Elt Ideal) arg10.view (Rect.unit (s := S1x4x128x128) ![0, 1, 0, 0] S1x1x128x128.size inb_S1x4x128x128_S1x1x128x128_0_1_0_0).toLoadRect (harg10.unread x8))) (k0_pay282 (F := Ideal) (View.readAt (Elt Ideal) arg11.view (Rect.unit (s := S1x4x128x128) ![0, 1, 0, 0] S1x1x128x128.size inb_S1x4x128x128_S1x1x128x128_0_1_0_0).toLoadRect (harg11.unread x9))) (k0_pay282 (F := Ideal) (View.readAt (Elt Ideal) arg10.view (Rect.unit (s := S1x4x128x128) ![0, 2, 0, 0] S1x1x128x128.size inb_S1x4x128x128_S1x1x128x128_0_2_0_0).toLoadRect (harg10.unread x8))) (k0_pay282 (F := Ideal) (View.readAt (Elt Ideal) arg11.view (Rect.unit (s := S1x4x128x128) ![0, 2, 0, 0] S1x1x128x128.size inb_S1x4x128x128_S1x1x128x128_0_2_0_0).toLoadRect (harg11.unread x9))) (harg2.unread x0) (harg5.unread x3) (arg13.view.writes (Elt Ideal) arg13.view.junk [⟨Rect.unit (s := S2048x512) ![0, 0] S2048x512.size inb_S2048x512_S2048x512_0_0, k0_pay240 (F := Ideal) (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg14.view.writes (Elt Ideal) arg14.view.junk [⟨Rect.unit (s := S2048x512) ![0, 0] S2048x512.size inb_S2048x512_S2048x512_0_0, k0_pay240 (F := Ideal) (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) (arg15.view.writes (Elt Ideal) arg15.view.junk [⟨Rect.unit (s := S2048x512) ![0, 0] S2048x512.size inb_S2048x512_S2048x512_0_0, cumF (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg16.view.writes (Elt Ideal) arg16.view.junk [⟨Rect.unit (s := S2048x512) ![0, 0] S2048x512.size inb_S2048x512_S2048x512_0_0, cumB (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) ((k0_pay282 (F := Ideal) (View.readAt (Elt Ideal) arg10.view (Rect.unit (s := S1x4x128x128) ![0, 0, 0, 0] S1x1x128x128.size inb_S1x4x128x128_S1x1x128x128_0_0_0_0).toLoadRect (harg10.unread x8))), (k0_pay282 (F := Ideal) (View.readAt (Elt Ideal) arg11.view (Rect.unit (s := S1x4x128x128) ![0, 0, 0, 0] S1x1x128x128.size inb_S1x4x128x128_S1x1x128x128_0_0_0_0).toLoadRect (harg11.unread x9))), (k0_pay282 (F := Ideal) (View.readAt (Elt Ideal) arg10.view (Rect.unit (s := S1x4x128x128) ![0, 1, 0, 0] S1x1x128x128.size inb_S1x4x128x128_S1x1x128x128_0_1_0_0).toLoadRect (harg10.unread x8))), (k0_pay282 (F := Ideal) (View.readAt (Elt Ideal) arg11.view (Rect.unit (s := S1x4x128x128) ![0, 1, 0, 0] S1x1x128x128.size inb_S1x4x128x128_S1x1x128x128_0_1_0_0).toLoadRect (harg11.unread x9))), (k0_pay282 (F := Ideal) (View.readAt (Elt Ideal) arg10.view (Rect.unit (s := S1x4x128x128) ![0, 2, 0, 0] S1x1x128x128.size inb_S1x4x128x128_S1x1x128x128_0_2_0_0).toLoadRect (harg10.unread x8))), (k0_pay282 (F := Ideal) (View.readAt (Elt Ideal) arg11.view (Rect.unit (s := S1x4x128x128) ![0, 2, 0, 0] S1x1x128x128.size inb_S1x4x128x128_S1x1x128x128_0_2_0_0).toLoadRect (harg11.unread x9))), (k0_pay282 (F := Ideal) (View.readAt (Elt Ideal) arg10.view (Rect.unit (s := S1x4x128x128) ![0, 3, 0, 0] S1x1x128x128.size inb_S1x4x128x128_S1x1x128x128_0_3_0_0).toLoadRect (harg10.unread x8))), (k0_pay282 (F := Ideal) (View.readAt (Elt Ideal) arg11.view (Rect.unit (s := S1x4x128x128) ![0, 3, 0, 0] S1x1x128x128.size inb_S1x4x128x128_S1x1x128x128_0_3_0_0).toLoadRect (harg11.unread x9))))) trips_eq

theorem read17_indep (f f' : arg17.view.ty.Contents (Elt Ideal)) (t : Fin 2048) (cc : Fin 512) :
    arg17.view.read (Elt Ideal) (arg17.view.writes (Elt Ideal) f (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1) (ix2 t cc) = arg17.view.read (Elt Ideal) (arg17.view.writes (Elt Ideal) f' (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.1) (ix2 t cc) := by
  rw [last_eq]
  exact (st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ (harg2.unread x0) (harg5.unread x3) _ _ _ _ _ 16 (le_refl _)).1 f f' t cc (by omega)

theorem read18_indep (f f' : arg18.view.ty.Contents (Elt Ideal)) (t : Fin 2048) (cc : Fin 512) :
    arg18.view.read (Elt Ideal) (arg18.view.writes (Elt Ideal) f (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2) (ix2 t cc) = arg18.view.read (Elt Ideal) (arg18.view.writes (Elt Ideal) f' (lastSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9).2.2) (ix2 t cc) := by
  rw [last_eq]
  exact (st_indep Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ (harg2.unread x0) (harg5.unread x3) _ _ _ _ _ 16 (le_refl _)).2 f f' t cc (by omega)

/-- What the body leaves does not depend on what the output and the scratches held before. -/
theorem block_indep (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f12 : arg12.view.ty.Contents (Elt Ideal)) (f13' : Buf (Elt Ideal) (arg13.view.loc (c : Thread nD τ))) (f14' : Buf (Elt Ideal) (arg14.view.loc (c : Thread nD τ))) (f15' : Buf (Elt Ideal) (arg15.view.loc (c : Thread nD τ))) (f16' : Buf (Elt Ideal) (arg16.view.loc (c : Thread nD τ))) (f17' : Buf (Elt Ideal) (arg17.view.loc (c : Thread nD τ))) (f18' : Buf (Elt Ideal) (arg18.view.loc (c : Thread nD τ))) (f12' : arg12.view.ty.Contents (Elt Ideal)) :
    arg12.view.read (Elt Ideal) (arg12.view.writes (Elt Ideal) f12 (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18).1) = arg12.view.read (Elt Ideal) (arg12.view.writes (Elt Ideal) f12' (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13' f14' f15' f16' f17' f18').1) := by
  funext y
  have ey : y = ValueIdx.ix3 (0 : Fin 1) (y 1) (y 2) := funext fun a => by
    match a with
    | ⟨0, _⟩ => exact Fin.ext (Nat.lt_one_iff.mp (y 0).isLt)
    | ⟨1, _⟩ => rfl
    | ⟨2, _⟩ => rfl
  rw [ey]
  have hlt : (y 2).val < 512 := (y 2).isLt
  have hc : (y 2).val = 128 * ((y 2).val / 128) + (y 2).val % 128 := by omega
  refine (block_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18 f12 (y 1) (y 2) ⟨(y 2).val / 128, by omega⟩ ⟨(y 2).val % 128, by omega⟩ hc).trans
    (Eq.trans ?_ (block_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13' f14' f15' f16' f17' f18' f12' (y 1) (y 2) ⟨(y 2).val / 128, by omega⟩ ⟨(y 2).val % 128, by omega⟩ hc).symm)
  exact congrArg (fun o => epi o _ _ _) (funext fun k => congrArg₂ (fun a b : EReal => a + b)
    (read17_indep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f17 f17' _ _) (read18_indep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f18 f18' _ _))

/-- The real arrays of a block whose inputs are real. -/
def blockData (Q : ℕ → ℕ → ℝ) (ZF : ℕ → ℕ → ℝ) (ZB : ℕ → ℕ → ℝ) (V : ℕ → ℕ → ℝ) (LF : ℕ → ℕ → ℝ) (LB : ℕ → ℕ → ℝ) (SF SB : ℕ → ℕ → ℕ → ℝ) : RealData where
  Q := Q
  V := V
  KF := fun t j => 1 - fgate (LF 0 j) (ZF t j)
  KB := fun t j => 1 - fgate (LB 0 j) (ZB t j)
  GF := fun t j => Real.log (fgate (LF 0 j) (ZF t j))
  GB := fun t j => Real.log (fgate (LB 0 j) (ZB t j))
  SF := SF
  SB := SB

theorem load_state {κ : Kind} {sp : Space} (v : View sig κ sp S1x4x128x128 .f32) (X : v.ty.Contents (Elt Ideal)) {h : ℕ} {S : ℕ → ℕ → ℕ → ℝ}
    (hX : ∀ (h : Fin 4) (a b : Fin 128), v.read (Elt Ideal) X (ValueIdx.ix4 (0 : Fin 1) h a b) = ((S h.val a.val b.val : ℝ) : EReal)) (hh : h < 4)
    (inb : ∀ a, ![0, h, 0, 0] a + S1x1x128x128.size a ≤ S1x4x128x128.size a) :
    IsR (k0_pay282 (F := Ideal) (v.readAt (Elt Ideal) (Rect.unit (s := S1x4x128x128) ![0, h, 0, 0] S1x1x128x128.size inb).toLoadRect X)) (S h) := by
  intro a b
  unfold k0_pay282
  refine (shapeCast_apply _ shapeCasts_S1x1x128x128_S128x128 (ix2 a b) (ValueIdx.ix4 (0 : Fin 1) (0 : Fin 1) a b) ?_).trans ?_
  · rw [Shape.rowMajor_val_four, Shape.rowMajor_val_two]; show ((0 * 1 + 0) * 128 + a.val) * 128 + b.val = a.val * 128 + b.val; omega
  · refine (congrArg (v.read (Elt Ideal) X) (funext fun q => Fin.ext ?_)).trans (hX ⟨h, hh⟩ a b)
    match q with
    | ⟨0, _⟩ => rfl
    | ⟨1, _⟩ => show h + 1 * 0 = h; omega
    | ⟨2, _⟩ => show 0 + 1 * a.val = a.val; omega
    | ⟨3, _⟩ => show 0 + 1 * b.val = b.val; omega

theorem read_one {κ : Kind} {sp : Space} (v : View sig κ sp S2048x512 .f32) (f : v.ty.Contents (Elt Ideal)) {w : FVec Ideal S2048x512 .f32} {P : ℕ → ℕ → ℝ} (hw : IsR w P)
    (inb : ∀ a, ![0, 0] a + S2048x512.size a ≤ S2048x512.size a) :
    IsR (v.read (Elt Ideal) (v.writes (Elt Ideal) f [⟨Rect.unit (s := S2048x512) ![0, 0] S2048x512.size inb, w⟩])) P := by
  rw [View.read_writes_full]; exact hw

theorem load_all {s : Shape} {e : EltTy} {a : Memref sig .tc .vmem s e} (ha : a.IsWhole) (x : s.Idx → Elt Ideal e) {off : Fin s.rank → ℕ} (inb : ∀ a, off a + s.size a ≤ s.size a) :
    a.view.readAt (Elt Ideal) (Rect.unit off s.size inb).toLoadRect (ha.unread x) = x := by
  rw [View.readAt_full]; exact ha.read_unread x

set_option maxHeartbeats 1000000 in
/-- The block the body leaves, entry by entry, where the inputs are real. -/
theorem block_real (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f12 : arg12.view.ty.Contents (Elt Ideal))
    (Q : ℕ → ℕ → ℝ) (ZF : ℕ → ℕ → ℝ) (ZB : ℕ → ℕ → ℝ) (V : ℕ → ℕ → ℝ) (LF : ℕ → ℕ → ℝ) (LB : ℕ → ℕ → ℝ) (SF SB : ℕ → ℕ → ℕ → ℝ)
    (h0 : IsR3 x0 Q) (h1 : IsR3 x1 ZF) (h2 : IsR3 x2 ZB) (h3 : IsR3 x3 V) (h5 : IsR3 x5 LF) (h6 : IsR3 x6 LB)
    (h8 : ∀ (h : Fin 4) (a b : Fin 128), x8 (ValueIdx.ix4 (0 : Fin 1) h a b) = ((SF h.val a.val b.val : ℝ) : EReal))
    (h9 : ∀ (h : Fin 4) (a b : Fin 128), x9 (ValueIdx.ix4 (0 : Fin 1) h a b) = ((SB h.val a.val b.val : ℝ) : EReal))
    (hLF : ∀ j, j < 512 → 0 < LF 0 j ∧ LF 0 j ≤ 1) (hLB : ∀ j, j < 512 → 0 < LB 0 j ∧ LB 0 j ≤ 1)
    (t : Fin 2048) (cc : Fin 512) (h : Fin 4) (j : Fin 128) (hc : cc.val = 128 * h.val + j.val) :
    arg12.view.read (Elt Ideal) (arg12.view.writes (Elt Ideal) f12 (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18).1) (ValueIdx.ix3 (0 : Fin 1) t cc)
      = epi (fun k => (((blockData Q ZF ZB V LF LB SF SB).oF h.val t.val k.val + (blockData Q ZF ZB V LF LB SF SB).oB h.val (2047 - t.val) k.val : ℝ) : EReal)) j
          (x7 (ValueIdx.ix3 (0 : Fin 1) (0 : Fin 1) cc)) (x4 (ValueIdx.ix3 (0 : Fin 1) t cc)) := by
  have r2 : IsR3 (arg2.view.read (Elt Ideal) (harg2.unread x0)) Q := by rw [harg2.read_unread]; exact h0
  have r5 : IsR3 (arg5.view.read (Elt Ideal) (harg5.unread x3)) V := by rw [harg5.read_unread]; exact h3
  have g1 : IsR3 (View.readAt (Elt Ideal) arg3.view (Rect.unit (s := S1x2048x512) ![0, 0, 0] S1x2048x512.size inb_S1x2048x512_S1x2048x512_0_0_0).toLoadRect (harg3.unread x1)) ZF := by rw [load_all harg3]; exact h1
  have g2 : IsR3 (View.readAt (Elt Ideal) arg4.view (Rect.unit (s := S1x2048x512) ![0, 0, 0] S1x2048x512.size inb_S1x2048x512_S1x2048x512_0_0_0).toLoadRect (harg4.unread x2)) ZB := by rw [load_all harg4]; exact h2
  have g5 : IsR3 (View.readAt (Elt Ideal) arg7.view (Rect.unit (s := S1x1x512) ![0, 0, 0] S1x1x512.size inb_S1x1x512_S1x1x512_0_0_0).toLoadRect (harg7.unread x5)) LF := by rw [load_all harg7]; exact h5
  have g6 : IsR3 (View.readAt (Elt Ideal) arg8.view (Rect.unit (s := S1x1x512) ![0, 0, 0] S1x1x512.size inb_S1x1x512_S1x1x512_0_0_0).toLoadRect (harg8.unread x6)) LB := by rw [load_all harg8]; exact h6
  have r13 := read_one arg13.view arg13.view.junk (key_real g1 g5) inb_S2048x512_S2048x512_0_0
  have r14 := read_one arg14.view arg14.view.junk (key_real g2 g6) inb_S2048x512_S2048x512_0_0
  have r15 := read_one arg15.view arg15.view.junk (cumF_real g1 g5 hLF) inb_S2048x512_S2048x512_0_0
  have r16 := read_one arg16.view arg16.view.junk (cumB_real g2 g6 hLB) inb_S2048x512_S2048x512_0_0
  have s10 : ∀ (h : Fin 4) (a b : Fin 128), arg10.view.read (Elt Ideal) (harg10.unread x8) (ValueIdx.ix4 (0 : Fin 1) h a b) = ((SF h.val a.val b.val : ℝ) : EReal) := by
    rw [harg10.read_unread]; exact h8
  have s11 : ∀ (h : Fin 4) (a b : Fin 128), arg11.view.read (Elt Ideal) (harg11.unread x9) (ValueIdx.ix4 (0 : Fin 1) h a b) = ((SB h.val a.val b.val : ℝ) : EReal) := by
    rw [harg11.read_unread]; exact h9
  have key := (st_real Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay282 (F := Ideal) (View.readAt (Elt Ideal) arg10.view (Rect.unit (s := S1x4x128x128) ![0, 0, 0, 0] S1x1x128x128.size inb_S1x4x128x128_S1x1x128x128_0_0_0_0).toLoadRect (harg10.unread x8))) (k0_pay282 (F := Ideal) (View.readAt (Elt Ideal) arg11.view (Rect.unit (s := S1x4x128x128) ![0, 0, 0, 0] S1x1x128x128.size inb_S1x4x128x128_S1x1x128x128_0_0_0_0).toLoadRect (harg11.unread x9))) (k0_pay282 (F := Ideal) (View.readAt (Elt Ideal) arg10.view (Rect.unit (s := S1x4x128x128) ![0, 1, 0, 0] S1x1x128x128.size inb_S1x4x128x128_S1x1x128x128_0_1_0_0).toLoadRect (harg10.unread x8))) (k0_pay282 (F := Ideal) (View.readAt (Elt Ideal) arg11.view (Rect.unit (s := S1x4x128x128) ![0, 1, 0, 0] S1x1x128x128.size inb_S1x4x128x128_S1x1x128x128_0_1_0_0).toLoadRect (harg11.unread x9))) (k0_pay282 (F := Ideal) (View.readAt (Elt Ideal) arg10.view (Rect.unit (s := S1x4x128x128) ![0, 2, 0, 0] S1x1x128x128.size inb_S1x4x128x128_S1x1x128x128_0_2_0_0).toLoadRect (harg10.unread x8))) (k0_pay282 (F := Ideal) (View.readAt (Elt Ideal) arg11.view (Rect.unit (s := S1x4x128x128) ![0, 2, 0, 0] S1x1x128x128.size inb_S1x4x128x128_S1x1x128x128_0_2_0_0).toLoadRect (harg11.unread x9))) (harg2.unread x0) (harg5.unread x3) (arg13.view.writes (Elt Ideal) arg13.view.junk [⟨Rect.unit (s := S2048x512) ![0, 0] S2048x512.size inb_S2048x512_S2048x512_0_0, k0_pay240 (F := Ideal) (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg14.view.writes (Elt Ideal) arg14.view.junk [⟨Rect.unit (s := S2048x512) ![0, 0] S2048x512.size inb_S2048x512_S2048x512_0_0, k0_pay240 (F := Ideal) (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) (arg15.view.writes (Elt Ideal) arg15.view.junk [⟨Rect.unit (s := S2048x512) ![0, 0] S2048x512.size inb_S2048x512_S2048x512_0_0, cumF (View.readAt (Elt Ideal) arg3.view (Rect.unit (s := S1x2048x512) ![0, 0, 0] S1x2048x512.size inb_S1x2048x512_S1x2048x512_0_0_0).toLoadRect (harg3.unread x1)) (View.readAt (Elt Ideal) arg7.view (Rect.unit (s := S1x1x512) ![0, 0, 0] S1x1x512.size inb_S1x1x512_S1x1x512_0_0_0).toLoadRect (harg7.unread x5))⟩]) (arg16.view.writes (Elt Ideal) arg16.view.junk [⟨Rect.unit (s := S2048x512) ![0, 0] S2048x512.size inb_S2048x512_S2048x512_0_0, cumB (View.readAt (Elt Ideal) arg4.view (Rect.unit (s := S1x2048x512) ![0, 0, 0] S1x2048x512.size inb_S1x2048x512_S1x2048x512_0_0_0).toLoadRect (harg4.unread x2)) (View.readAt (Elt Ideal) arg8.view (Rect.unit (s := S1x1x512) ![0, 0, 0] S1x1x512.size inb_S1x1x512_S1x1x512_0_0_0).toLoadRect (harg8.unread x6))⟩]) ((k0_pay282 (F := Ideal) (View.readAt (Elt Ideal) arg10.view (Rect.unit (s := S1x4x128x128) ![0, 0, 0, 0] S1x1x128x128.size inb_S1x4x128x128_S1x1x128x128_0_0_0_0).toLoadRect (harg10.unread x8))), (k0_pay282 (F := Ideal) (View.readAt (Elt Ideal) arg11.view (Rect.unit (s := S1x4x128x128) ![0, 0, 0, 0] S1x1x128x128.size inb_S1x4x128x128_S1x1x128x128_0_0_0_0).toLoadRect (harg11.unread x9))), (k0_pay282 (F := Ideal) (View.readAt (Elt Ideal) arg10.view (Rect.unit (s := S1x4x128x128) ![0, 1, 0, 0] S1x1x128x128.size inb_S1x4x128x128_S1x1x128x128_0_1_0_0).toLoadRect (harg10.unread x8))), (k0_pay282 (F := Ideal) (View.readAt (Elt Ideal) arg11.view (Rect.unit (s := S1x4x128x128) ![0, 1, 0, 0] S1x1x128x128.size inb_S1x4x128x128_S1x1x128x128_0_1_0_0).toLoadRect (harg11.unread x9))), (k0_pay282 (F := Ideal) (View.readAt (Elt Ideal) arg10.view (Rect.unit (s := S1x4x128x128) ![0, 2, 0, 0] S1x1x128x128.size inb_S1x4x128x128_S1x1x128x128_0_2_0_0).toLoadRect (harg10.unread x8))), (k0_pay282 (F := Ideal) (View.readAt (Elt Ideal) arg11.view (Rect.unit (s := S1x4x128x128) ![0, 2, 0, 0] S1x1x128x128.size inb_S1x4x128x128_S1x1x128x128_0_2_0_0).toLoadRect (harg11.unread x9))), (k0_pay282 (F := Ideal) (View.readAt (Elt Ideal) arg10.view (Rect.unit (s := S1x4x128x128) ![0, 3, 0, 0] S1x1x128x128.size inb_S1x4x128x128_S1x1x128x128_0_3_0_0).toLoadRect (harg10.unread x8))), (k0_pay282 (F := Ideal) (View.readAt (Elt Ideal) arg11.view (Rect.unit (s := S1x4x128x128) ![0, 3, 0, 0] S1x1x128x128.size inb_S1x4x128x128_S1x1x128x128_0_3_0_0).toLoadRect (harg11.unread x9)))) (blockData Q ZF ZB V LF LB SF SB) r2 r5 r13 r14 r15 r16
 ⟨load_state _ _ s10 (by norm_num) _, load_state _ _ s11 (by norm_num) _, load_state _ _ s10 (by norm_num) _, load_state _ _ s11 (by norm_num) _,
      load_state _ _ s10 (by norm_num) _, load_state _ _ s11 (by norm_num) _, load_state _ _ s10 (by norm_num) _, load_state _ _ s11 (by norm_num) _⟩ 16 (le_refl _)).2
  refine (block_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18 f12 t cc h j hc).trans ?_
  refine congrArg (fun o => epi o j _ _) (funext fun k => ?_)
  rw [last_eq]
  have hk := k.isLt
  have ed : (128 * h.val + k.val) / 128 = h.val := by omega
  have em : (128 * h.val + k.val) % 128 = k.val := by omega
  refine (congrArg₂ (fun a b : EReal => a + b) (key.1 f17 t ⟨128 * h.val + k.val, by omega⟩ (by omega)) (key.2 f18 t ⟨128 * h.val + k.val, by omega⟩ (by omega))).trans ?_
  simp only [ed, em]
  exact (EReal.coe_add _ _).symm

end Cert.Hgrn
-- ==== Proof.Launched.lean ====
module

public import proofs.«01_k».proof.Proof.Block
public import Idealize.ShloMosaic.Lib.Claim

@[expose] public section

set_option maxRecDepth 16384

noncomputable section

namespace Cert.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- The block the body leaves in the output window. -/
def outBlk (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (x0 : Vec Ideal S1x2048x512 .bf16) (x1 : Vec Ideal S1x2048x512 .bf16) (x2 : Vec Ideal S1x2048x512 .bf16) (x3 : Vec Ideal S1x2048x512 .bf16) (x4 : Vec Ideal S1x2048x512 .bf16) (x5 : Vec Ideal S1x1x512 .f32) (x6 : Vec Ideal S1x1x512 .f32) (x7 : Vec Ideal S1x1x512 .f32) (x8 : Vec Ideal S1x4x128x128 .f32) (x9 : Vec Ideal S1x4x128x128 .f32) : Vec Ideal S1x2048x512 .bf16 :=
  arg12.view.read (Elt Ideal) (arg12.view.writes (Elt Ideal) arg12.view.junk (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 arg13.view.junk arg14.view.junk arg15.view.junk arg16.view.junk arg17.view.junk arg18.view.junk).1)

/-- The body's run from owned memrefs to owned memrefs, the output's block named. -/
theorem run_owns (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x4x128x128 .f32) (harg10 : arg10.IsWhole) (arg11 : Memref sig .tc .vmem S1x4x128x128 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (x0 : Vec Ideal S1x2048x512 .bf16) (x1 : Vec Ideal S1x2048x512 .bf16) (x2 : Vec Ideal S1x2048x512 .bf16) (x3 : Vec Ideal S1x2048x512 .bf16) (x4 : Vec Ideal S1x2048x512 .bf16) (x5 : Vec Ideal S1x1x512 .f32) (x6 : Vec Ideal S1x1x512 .f32) (x7 : Vec Ideal S1x1x512 .f32) (x8 : Vec Ideal S1x4x128x128 .f32) (x9 : Vec Ideal S1x4x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outBlk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := Ideal)) Variants.none c none) E (cc0_hgrn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e12 : ∀ d, (owns (c : Thread nD τ) arg12 fullShare d : sProp 𝕄) = iprop(∃ f, ⌜arg12.view.read (Elt Ideal) f = d⌝ ∗ (arg12.view.loc (c : Thread nD τ) ↦[arg12.view.set]{fullShare} f)) := fun _ => rfl
  have e13 : ∀ d, (owns (c : Thread nD τ) arg13 fullShare d : sProp 𝕄) = iprop(∃ f, ⌜arg13.view.read (Elt Ideal) f = d⌝ ∗ (arg13.view.loc (c : Thread nD τ) ↦[arg13.view.set]{fullShare} f)) := fun _ => rfl
  have e14 : ∀ d, (owns (c : Thread nD τ) arg14 fullShare d : sProp 𝕄) = iprop(∃ f, ⌜arg14.view.read (Elt Ideal) f = d⌝ ∗ (arg14.view.loc (c : Thread nD τ) ↦[arg14.view.set]{fullShare} f)) := fun _ => rfl
  have e15 : ∀ d, (owns (c : Thread nD τ) arg15 fullShare d : sProp 𝕄) = iprop(∃ f, ⌜arg15.view.read (Elt Ideal) f = d⌝ ∗ (arg15.view.loc (c : Thread nD τ) ↦[arg15.view.set]{fullShare} f)) := fun _ => rfl
  have e16 : ∀ d, (owns (c : Thread nD τ) arg16 fullShare d : sProp 𝕄) = iprop(∃ f, ⌜arg16.view.read (Elt Ideal) f = d⌝ ∗ (arg16.view.loc (c : Thread nD τ) ↦[arg16.view.set]{fullShare} f)) := fun _ => rfl
  have e17 : ∀ d, (owns (c : Thread nD τ) arg17 fullShare d : sProp 𝕄) = iprop(∃ f, ⌜arg17.view.read (Elt Ideal) f = d⌝ ∗ (arg17.view.loc (c : Thread nD τ) ↦[arg17.view.set]{fullShare} f)) := fun _ => rfl
  have e18 : ∀ d, (owns (c : Thread nD τ) arg18 fullShare d : sProp 𝕄) = iprop(∃ f, ⌜arg18.view.read (Elt Ideal) f = d⌝ ∗ (arg18.view.loc (c : Thread nD τ) ↦[arg18.view.set]{fullShare} f)) := fun _ => rfl
  simp only [e12, e13, e14, e15, e16, e17, e18]
  iintro ⟨H0, H1, H2, H3, H4, H5, H6, H7, H8, H9, ⟨%d10, %f12, %g12, H10⟩, ⟨%d13, %f13, %g13, HS0⟩, ⟨%d14, %f14, %g14, HS1⟩, ⟨%d15, %f15, %g15, HS2⟩, ⟨%d16, %f16, %g16, HS3⟩, ⟨%d17, %f17, %g17, HS4⟩, ⟨%d18, %f18, %g18, HS5⟩, Hk⟩
  iapply ((kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18).2 E K f12)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro
    exact block_indep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 f13 f14 f15 f16 f17 f18 f12 arg13.view.junk arg14.view.junk arg15.view.junk arg16.view.junk arg17.view.junk arg18.view.junk arg12.view.junk
  isplitl [HS0]; · iexact HS0
  isplitl [HS1]; · iexact HS1
  isplitl [HS2]; · iexact HS2
  isplitl [HS3]; · iexact HS3
  isplitl [HS4]; · iexact HS4
  iexact HS5

abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x512 .bf16 := win0_10.stage (cfg0.slots t 10)
abbrev hs0_10 (t : Fin cfg0.N) : (ms0_10 t).IsWhole := hstage0_10 ((cfg0.slots t 10).cast nbuf0_10)
abbrev scM0_0 : Memref sig .tc .vmem S2048x512 .f32 := Memref.whole cc0_scratch0
abbrev scM0_1 : Memref sig .tc .vmem S2048x512 .f32 := Memref.whole cc0_scratch1
abbrev scM0_2 : Memref sig .tc .vmem S2048x512 .f32 := Memref.whole cc0_scratch2
abbrev scM0_3 : Memref sig .tc .vmem S2048x512 .f32 := Memref.whole cc0_scratch3
abbrev scM0_4 : Memref sig .tc .vmem S2048x512 .f32 := Memref.whole cc0_scratch4
abbrev scM0_5 : Memref sig .tc .vmem S2048x512 .f32 := Memref.whole cc0_scratch5

/-- The pipeline's invariant, its scratch buffers as owned memrefs. -/
theorem phi_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

variable (m : (ℓ : Loc nD τ sig) → Buf (Elt Ideal) ℓ) (ρ : Dev nD → PrngReg)

/-- The block of the result at grid point `t`. -/
def outAt (c : Dev nD) (t : Fin cfg0.N) : Vec Ideal S1x2048x512 .bf16 :=
  outBlk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- The pipeline's data: the arrays as the launch finds them, each input's block kept, the output's block named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, phi_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_owns c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every array at its final contents, and every counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and the counters at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Hgrn
-- ==== Proof.Entry.lean ====
module

public import proofs.«01_k».proof.Proof.Gen.KernelIdeal.Frame
public import proofs.«01_k».proof.Proof.Gen.ReferenceIdeal.Read

@[expose] public section

set_option maxRecDepth 16384

noncomputable section

namespace Cert.Hgrn

open Idealize.ShloMosaic Idealize.ShloMosaic.TcCoe Idealize.ShloMosaic.Tactic
open Idealize.ShloMosaic.StableHlo
open Cert.KernelIdeal Cert.KernelIdeal.Gen

variable (m : (ℓ : Loc nD τ sig) → Buf (Elt Ideal) ℓ)

/-- The forward lower bounds as the launch finds them. -/
theorem entry_lbF (c : Dev nD) : V m c main_v17 = shapeCast S1x1x2048 (Cert.ReferenceIdeal.Read.val_main_v13 (F := Ideal) (m ((c : Thread nD τ).loc main_arg1))) shapeCasts_S2048_S1x1x2048 := by
  show StableHlo.after (List.flatten [hostOps0, hostOps0_1, hostOps0_2]) (fun b => m (c, b)) (Proc.devRef .tc main_v17) = _
  simp only [List.flatten_cons, List.flatten_nil, List.append_nil, StableHlo.after_append]
  simp only [hostOps0, hostOps0_1, hostOps0_2, TRef.binary, TRef.nullary, TRef.unary, TRef.toBuf, TRef.ofBuf, cast_eq]
  after_results_simp
  rfl

/-- The backward lower bounds as the launch finds them. -/
theorem entry_lbB (c : Dev nD) : V m c main_v18 = shapeCast S1x1x2048 (Cert.ReferenceIdeal.Read.val_main_v15 (F := Ideal) (m ((c : Thread nD τ).loc main_arg1))) shapeCasts_S2048_S1x1x2048 := by
  show StableHlo.after (List.flatten [hostOps0, hostOps0_1, hostOps0_2]) (fun b => m (c, b)) (Proc.devRef .tc main_v18) = _
  simp only [List.flatten_cons, List.flatten_nil, List.append_nil, StableHlo.after_append]
  simp only [hostOps0, hostOps0_1, hostOps0_2, TRef.binary, TRef.nullary, TRef.unary, TRef.toBuf, TRef.ofBuf, cast_eq]
  after_results_simp
  rfl

/-- The normalization's weights as the launch finds them. -/
theorem entry_gn (c : Dev nD) : V m c main_v19 = shapeCast S1x1x2048 (shapeCast S2048 (m ((c : Thread nD τ).loc main_arg2) : FVec Ideal S1x2048 .f32) shapeCasts_S1x2048_S2048) shapeCasts_S2048_S1x1x2048 := by
  show StableHlo.after (List.flatten [hostOps0, hostOps0_1, hostOps0_2]) (fun b => m (c, b)) (Proc.devRef .tc main_v19) = _
  simp only [List.flatten_cons, List.flatten_nil, List.append_nil, StableHlo.after_append]
  simp only [hostOps0, hostOps0_1, hostOps0_2, TRef.binary, TRef.nullary, TRef.unary, TRef.toBuf, TRef.ofBuf, cast_eq]
  after_results_simp
  rfl

theorem row_cast (x : FVec Ideal S2048 .f32) (i : S1x1x2048.Idx) : (shapeCast S1x1x2048 x shapeCasts_S2048_S1x1x2048) i = x (ValueIdx.ix1 (i 2)) := by
  have h0 : (i 0).val < 1 := (i 0).isLt
  have h1 : (i 1).val < 1 := (i 1).isLt
  refine shapeCast_apply x shapeCasts_S2048_S1x1x2048 i (ValueIdx.ix1 (i 2)) ?_
  rw [Shape.rowMajor_val_one, Shape.rowMajor_val_three]
  show (i 2).val = ((i 0).val * 1 + (i 1).val) * 2048 + (i 2).val
  omega

theorem flat_cast (x : FVec Ideal S1x2048 .f32) (k : Fin 2048) : (shapeCast S2048 x shapeCasts_S1x2048_S2048) (ValueIdx.ix1 k) = x (ValueIdx.ix2 (0 : Fin 1) k) := by
  refine shapeCast_apply x shapeCasts_S1x2048_S2048 (ValueIdx.ix1 k) (ValueIdx.ix2 (0 : Fin 1) k) ?_
  rw [Shape.rowMajor_val_one, Shape.rowMajor_val_two]
  show 0 * 2048 + k.val = k.val
  omega

end Cert.Hgrn
-- ==== Proof.RefGates.lean ====
module

public import proofs.«01_k».proof.Proof.Gates
public import proofs.«01_k».proof.Proof.Gen.ReferenceIdeal.Read
public import Idealize.ShloMosaic.Lib.IdealHost
public import Idealize.ShloMosaic.Lib.Pointwise.Reduce

@[expose] public section

set_option maxRecDepth 16384

noncomputable section

open scoped BigOperators
open Finset

namespace Cert.Hgrn

open Idealize.ShloMosaic hiding ix2
open Idealize.ShloMosaic.ValueIdx
open Cert.ReferenceIdeal Cert.ReferenceIdeal.Gen Cert.ReferenceIdeal.Read

/-- A rank-three array of real numbers, by coordinates. -/
def R3 {a b c : ℕ} (x : (⟨3, ![a, b, c]⟩ : Shape).Idx → EReal) (F : ℕ → ℕ → ℕ → ℝ) : Prop :=
  ∀ i, x i = ((F (i 0).val (i 1).val (i 2).val : ℝ) : EReal)

/-- A rank-four array of real numbers, by coordinates. -/
def R4 {a b c d : ℕ} (x : (⟨4, ![a, b, c, d]⟩ : Shape).Idx → EReal) (F : ℕ → ℕ → ℕ → ℕ → ℝ) : Prop :=
  ∀ i, x i = ((F (i 0).val (i 1).val (i 2).val (i 3).val : ℝ) : EReal)

/-- A vector of real numbers, by its coordinate. -/
def R1 {a : ℕ} (x : (⟨1, ![a]⟩ : Shape).Idx → EReal) (F : ℕ → ℝ) : Prop :=
  ∀ i, x i = ((F (i 0).val : ℝ) : EReal)

theorem one_add_exp_pos (z : ℝ) : 0 < 1 + Real.exp (-z) := by positivity

/-- The logistic function as the reference spells it. -/
theorem sig_real (z : ℝ) : Ideal.div (Ideal.ofBits .f32 0x3F800000#32) (Ideal.ofBits .f32 0x3F800000#32 + Ideal.exp (-(z : EReal))) = (((1 + Real.exp (-z))⁻¹ : ℝ) : EReal) := by
  rw [one_eq, ← EReal.coe_neg, Ideal.exp_coe, ← EReal.coe_add, Ideal.div_coe (one_add_exp_pos z).ne', ← EReal.coe_mul]
  congr 1
  rw [one_mul, one_div]

theorem log_real {r : ℝ} (h : 0 < r) : Ideal.log (r : EReal) = ((Real.log r : ℝ) : EReal) := by
  rw [Ideal.log_coe, if_neg (not_le.2 h)]

/-- The split of the columns into heads. -/
theorem split_heads {b t h k : ℕ} (ht : t < 2048) (hh : h < 16) (hk : k < 128) (F : ℕ → ℕ → ℕ → ℝ) :
    F ((((b * 2048 + t) * 16 + h) * 128 + k) / 4194304) ((((b * 2048 + t) * 16 + h) * 128 + k) / 2048 % 2048) ((((b * 2048 + t) * 16 + h) * 128 + k) % 2048) = F b t (128 * h + k) := by
  have e0 : (((b * 2048 + t) * 16 + h) * 128 + k) / 4194304 = b := by omega
  have e1 : (((b * 2048 + t) * 16 + h) * 128 + k) / 2048 % 2048 = t := by omega
  have e2 : (((b * 2048 + t) * 16 + h) * 128 + k) % 2048 = 128 * h + k := by omega
  rw [e0, e1, e2]

section Gates
variable {x0 : FVec Ideal S4x2048x18432 .bf16} {x1 : FVec Ideal S2x2x2048 .f32} {P : ℕ → ℕ → ℕ → ℝ} {LF LB : ℕ → ℝ}

theorem r18 (h : ∀ (b : Fin 4) (t : Fin 2048) (j : Fin 18432), j.val < 10240 → x0 (ValueIdx.ix3 b t j) = ((P b.val t.val j.val : ℝ) : EReal)) :
    R3 (val_main_v18 (F := Ideal) x0) P := by
  intro i
  have hi : (i 2).val < 10240 := (i 2).isLt
  refine (val_main_v17_apply (F := Ideal) x0 i).trans (Eq.trans (congrArg x0 (funext fun a => ?_)) (h (i 0) (i 1) ⟨(i 2).val, by omega⟩ hi))
  match a with
  | ⟨0, _⟩ => rfl
  | ⟨1, _⟩ => rfl
  | ⟨2, _⟩ => rfl

variable (h : R3 (val_main_v18 (F := Ideal) x0) P)
include h

theorem r19 : R3 (val_main_v19 (F := Ideal) x0) P := fun i => (val_main_v19_apply (F := Ideal) x0 i).trans (h (idx_main_v19 i))
theorem r20 : R3 (val_main_v20 (F := Ideal) x0) (fun b t j => P b t (2048 + j)) := fun i => (val_main_v20_apply (F := Ideal) x0 i).trans (h (idx_main_v20 i))
theorem r21 : R3 (val_main_v21 (F := Ideal) x0) (fun b t j => P b t (4096 + j)) := fun i => (val_main_v21_apply (F := Ideal) x0 i).trans (h (idx_main_v21 i))
theorem r22 : R3 (val_main_v22 (F := Ideal) x0) (fun b t j => P b t (6144 + j)) := fun i => (val_main_v22_apply (F := Ideal) x0 i).trans (h (idx_main_v22 i))

theorem r24 : R3 (val_main_v24 (F := Ideal) x0) (fun b t j => P b t j * (1 + Real.exp (-(P b t j)))⁻¹) := by
  intro i
  refine (congrArg₂ (fun a s : EReal => a * s) (r19 h i) (Eq.trans ?_ (sig_real _))).trans (EReal.coe_mul _ _).symm
  refine Eq.trans ?_ (congrArg (fun a : EReal => Ideal.div (Ideal.ofBits .f32 0x3F800000#32) (Ideal.ofBits .f32 0x3F800000#32 + Ideal.exp (-a))) (r19 h i))
  rw [val_main_call1_v5_apply, val_main_call1_v4_apply, val_main_call1_v3_apply, val_main_call1_v2_apply]
  rfl

theorem r27 : R4 (val_main_v27 (F := Ideal) x0) (fun b t hh k => qact (P b t (128 * hh + k))) := by
  intro i
  have e : val_main_v25 (F := Ideal) x0 i = _ := (val_main_v25_apply (F := Ideal) x0 i).trans ((r24 h (idx_main_v25 i)).trans
    (congrArg (fun r : ℝ => (r : EReal)) (split_heads (b := (i 0).val) (i 1).isLt (i 2).isLt (i 3).isLt (fun b t j => P b t j * (1 + Real.exp (-(P b t j)))⁻¹))))
  refine (congrArg₂ (fun a s : EReal => a * s) e (Eq.trans ?_ qscale_eq)).trans (EReal.coe_mul _ _).symm
  rw [val_main_v26_apply]; rfl

theorem r66 : R4 (val_main_v66 (F := Ideal) x0) (fun b t hh k => P b t (6144 + (128 * hh + k))) := by
  intro i
  exact (val_main_v66_apply (F := Ideal) x0 i).trans ((r22 h (idx_main_v66 i)).trans
    (congrArg (fun r : ℝ => (r : EReal)) (split_heads (b := (i 0).val) (i 1).isLt (i 2).isLt (i 3).isLt (fun b t j => P b t (6144 + j)))))

theorem rfF (hL : R1 (val_main_v13 (F := Ideal) x1) LF) : R3 (val_main_v41 (F := Ideal) x0 x1) (fun b t j => fgate (LF j) (P b t (2048 + j))) := by
  intro i
  have eL : val_main_v40 (F := Ideal) x1 i = ((LF (i 2).val : ℝ) : EReal) := by
    rw [val_main_v40_apply, val_main_v39_apply]; exact hL _
  have eM : val_main_v37 (F := Ideal) x1 i = ((1 - LF (i 2).val : ℝ) : EReal) := by
    rw [val_main_v37_apply, val_main_v36_apply, val_main_v29_apply, val_main_v28_apply]
    exact (congrArg₂ (fun a s : EReal => a - s) one_eq (hL _)).trans (EReal.coe_sub _ _).symm
  have eS : val_main_v35 (F := Ideal) x0 i = (((1 + Real.exp (-(P (i 0).val (i 1).val (2048 + (i 2).val))))⁻¹ : ℝ) : EReal) := by
    refine Eq.trans ?_ (sig_real _)
    refine Eq.trans ?_ (congrArg (fun a : EReal => Ideal.div (Ideal.ofBits .f32 0x3F800000#32) (Ideal.ofBits .f32 0x3F800000#32 + Ideal.exp (-a))) (r20 h i))
    rw [val_main_v35_apply, val_main_v34_apply, val_main_v33_apply, val_main_v32_apply]
    rfl
  refine (congrArg₂ (fun a s : EReal => a + s) eL ((congrArg₂ (fun a s : EReal => a * s) eM eS).trans (EReal.coe_mul _ _).symm)).trans ((EReal.coe_add _ _).symm.trans ?_)
  rfl

theorem rlogF (hL : R1 (val_main_v13 (F := Ideal) x1) LF) (hp : ∀ j, j < 2048 → 0 < LF j ∧ LF j ≤ 1) :
    R4 (val_main_v43 (F := Ideal) x0 x1) (fun b t hh k => Real.log (fgate (LF (128 * hh + k)) (P b t (2048 + (128 * hh + k))))) := by
  intro i
  have e : R3 (val_main_v42 (F := Ideal) x0 x1) (fun b t j => Real.log (fgate (LF j) (P b t (2048 + j)))) := by
    intro i
    have hj := hp (i 2).val (i 2).isLt
    exact (congrArg Ideal.log (rfF h hL i)).trans (log_real (fgate_pos hj.1 hj.2))
  exact (val_main_v43_apply (F := Ideal) x0 x1 i).trans ((e (idx_main_v43 i)).trans
    (congrArg (fun r : ℝ => (r : EReal)) (split_heads (b := (i 0).val) (i 1).isLt (i 2).isLt (i 3).isLt (fun b t j => Real.log (fgate (LF j) (P b t (2048 + j)))))))

theorem rkeyF (hL : R1 (val_main_v13 (F := Ideal) x1) LF) :
    R4 (val_main_v46 (F := Ideal) x0 x1) (fun b t hh k => 1 - fgate (LF (128 * hh + k)) (P b t (2048 + (128 * hh + k)))) := by
  intro i
  have e : R3 (val_main_v45 (F := Ideal) x0 x1) (fun b t j => 1 - fgate (LF j) (P b t (2048 + j))) := by
    intro i
    rw [val_main_v45_apply, val_main_v44_apply]
    exact (congrArg₂ (fun a s : EReal => a - s) one_eq (rfF h hL i)).trans (EReal.coe_sub _ _).symm
  exact (val_main_v46_apply (F := Ideal) x0 x1 i).trans ((e (idx_main_v46 i)).trans
    (congrArg (fun r : ℝ => (r : EReal)) (split_heads (b := (i 0).val) (i 1).isLt (i 2).isLt (i 3).isLt (fun b t j => 1 - fgate (LF j) (P b t (2048 + j))))))

theorem rfB (hL : R1 (val_main_v15 (F := Ideal) x1) LB) : R3 (val_main_v60 (F := Ideal) x0 x1) (fun b t j => fgate (LB j) (P b t (4096 + j))) := by
  intro i
  have eL : val_main_v59 (F := Ideal) x1 i = ((LB (i 2).val : ℝ) : EReal) := by
    rw [val_main_v59_apply, val_main_v58_apply]; exact hL _
  have eM : val_main_v56 (F := Ideal) x1 i = ((1 - LB (i 2).val : ℝ) : EReal) := by
    rw [val_main_v56_apply, val_main_v55_apply, val_main_v48_apply, val_main_v47_apply]
    exact (congrArg₂ (fun a s : EReal => a - s) one_eq (hL _)).trans (EReal.coe_sub _ _).symm
  have eS : val_main_v54 (F := Ideal) x0 i = (((1 + Real.exp (-(P (i 0).val (i 1).val (4096 + (i 2).val))))⁻¹ : ℝ) : EReal) := by
    refine Eq.trans ?_ (sig_real _)
    refine Eq.trans ?_ (congrArg (fun a : EReal => Ideal.div (Ideal.ofBits .f32 0x3F800000#32) (Ideal.ofBits .f32 0x3F800000#32 + Ideal.exp (-a))) (r21 h i))
    rw [val_main_v54_apply, val_main_v53_apply, val_main_v52_apply, val_main_v51_apply]
    rfl
  refine (congrArg₂ (fun a s : EReal => a + s) eL ((congrArg₂ (fun a s : EReal => a * s) eM eS).trans (EReal.coe_mul _ _).symm)).trans ((EReal.coe_add _ _).symm.trans ?_)
  rfl

theorem rlogB (hL : R1 (val_main_v15 (F := Ideal) x1) LB) (hp : ∀ j, j < 2048 → 0 < LB j ∧ LB j ≤ 1) :
    R4 (val_main_v62 (F := Ideal) x0 x1) (fun b t hh k => Real.log (fgate (LB (128 * hh + k)) (P b t (4096 + (128 * hh + k))))) := by
  intro i
  have e : R3 (val_main_v61 (F := Ideal) x0 x1) (fun b t j => Real.log (fgate (LB j) (P b t (4096 + j)))) := by
    intro i
    have hj := hp (i 2).val (i 2).isLt
    exact (congrArg Ideal.log (rfB h hL i)).trans (log_real (fgate_pos hj.1 hj.2))
  exact (val_main_v62_apply (F := Ideal) x0 x1 i).trans ((e (idx_main_v62 i)).trans
    (congrArg (fun r : ℝ => (r : EReal)) (split_heads (b := (i 0).val) (i 1).isLt (i 2).isLt (i 3).isLt (fun b t j => Real.log (fgate (LB j) (P b t (4096 + j)))))))

theorem rkeyB (hL : R1 (val_main_v15 (F := Ideal) x1) LB) :
    R4 (val_main_v65 (F := Ideal) x0 x1) (fun b t hh k => 1 - fgate (LB (128 * hh + k)) (P b t (4096 + (128 * hh + k)))) := by
  intro i
  have e : R3 (val_main_v64 (F := Ideal) x0 x1) (fun b t j => 1 - fgate (LB j) (P b t (4096 + j))) := by
    intro i
    rw [val_main_v64_apply, val_main_v63_apply]
    exact (congrArg₂ (fun a s : EReal => a - s) one_eq (rfB h hL i)).trans (EReal.coe_sub _ _).symm
  exact (val_main_v65_apply (F := Ideal) x0 x1 i).trans ((e (idx_main_v65 i)).trans
    (congrArg (fun r : ℝ => (r : EReal)) (split_heads (b := (i 0).val) (i 1).isLt (i 2).isLt (i 3).isLt (fun b t j => 1 - fgate (LB j) (P b t (4096 + j))))))

end Gates

end Cert.Hgrn
-- ==== Proof.Window.lean ====
module

public import Idealize.ShloMosaic.Lib.StableHlo
public import Idealize.ShloMosaic.PureOps
public import Idealize.ShloMosaic.Lib.IdealHost
public import Idealize.ShloMosaic.Lib.ValueIdxCore

@[expose] public section

set_option maxRecDepth 16384

noncomputable section

open scoped BigOperators
open Finset

namespace Cert.Hgrn

open Idealize.ShloMosaic
open Idealize.ShloMosaic.ValueIdx

theorem foldl_add {ι : Type} (f : ι → EReal) : ∀ (l : List ι) (v : EReal), l.foldl (fun r n => r + f n) v = v + (l.map f).sum
  | [], v => by simp
  | a :: l, v => by
    rw [List.foldl_cons, foldl_add f l, List.map_cons, List.sum_cons, add_assoc]

/-- A window's sum: what each place of the window reads, the padding reading the initial value. -/
theorem window_sum {s t u : Shape} {φ : FTy} (window strides lo hi : Fin s.rank → ℕ) (x : FVec Ideal s φ) (init : u.Idx → Ideal φ)
    (h : s.ReduceWindows window strides lo hi t) (hu : 0 < u.numel) (j : t.Idx) :
    (Host.reduceWindowAdd (F := Ideal) window strides lo hi x init h hu j : EReal)
      = (init (Shape.Idx.first hu) : EReal) + ∑ w : (⟨s.rank, window⟩ : Shape).Idx,
          (if hin : ∀ a, lo a ≤ (j (a.cast h.1.symm)).val * strides a + (w a).val ∧ (j (a.cast h.1.symm)).val * strides a + (w a).val - lo a < s.size a
            then x (fun a => ⟨(j (a.cast h.1.symm)).val * strides a + (w a).val - lo a, (hin a).2⟩) else init (Shape.Idx.first hu) : EReal) := by
  refine (foldl_add (fun n : Fin (⟨s.rank, window⟩ : Shape).numel => (if hin : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a
            then x (fun a => ⟨(j (a.cast h.1.symm)).val * strides a + ((⟨s.rank, window⟩ : Shape).rowMajor.symm n a).val - lo a, (hin a).2⟩) else init (Shape.Idx.first hu) : EReal)) _ _).trans ?_
  rw [← Fin.sum_univ_def]
  refine congrArg _ ?_
  exact Equiv.sum_comp (⟨s.rank, window⟩ : Shape).rowMajor.symm (fun w : (⟨s.rank, window⟩ : Shape).Idx =>
    (if hin : ∀ a, lo a ≤ (j (a.cast h.1.symm)).val * strides a + (w a).val ∧ (j (a.cast h.1.symm)).val * strides a + (w a).val - lo a < s.size a
            then x (fun a => ⟨(j (a.cast h.1.symm)).val * strides a + (w a).val - lo a, (hin a).2⟩) else init (Shape.Idx.first hu) : EReal))

/-- The places of a window that is long on its third axis only. -/
def placesEquiv (N : ℕ) : Fin N ≃ (⟨4, ![1, 1, N, 1]⟩ : Shape).Idx where
  toFun w := ValueIdx.ix4 (0 : Fin 1) (0 : Fin 1) w (0 : Fin 1)
  invFun i := i 2
  left_inv w := rfl
  right_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- Sums up to and including a place along the third of four axes. -/
theorem cumsum4 {A B D : ℕ} {φ : FTy} (x : FVec Ideal ⟨4, ![A, B, 2048, D]⟩ φ) (init : (⟨0, ![]⟩ : Shape).Idx → Ideal φ) (hi : ∀ i, init i = (0 : EReal))
    (h : (⟨4, ![A, B, 2048, D]⟩ : Shape).ReduceWindows ![1, 1, 2048, 1] ![1, 1, 1, 1] ![0, 0, 2047, 0] ![0, 0, 0, 0] ⟨4, ![A, B, 2048, D]⟩) (hu : 0 < (⟨0, ![]⟩ : Shape).numel)
    (b : Fin A) (hh : Fin B) (t : Fin 2048) (k : Fin D) (G : ℕ → EReal) (hG : ∀ s : Fin 2048, x (ValueIdx.ix4 b hh s k) = G s.val) :
    (Host.reduceWindowAdd (F := Ideal) ![1, 1, 2048, 1] ![1, 1, 1, 1] ![0, 0, 2047, 0] ![0, 0, 0, 0] x init h hu (ValueIdx.ix4 b hh t k) : EReal) = ∑ s ∈ range (t.val + 1), G s := by
  rw [window_sum, hi, zero_add]
  refine (Equiv.sum_comp (placesEquiv 2048) _).symm.trans ?_
  have ht := t.isLt
  have e : ∀ w : Fin 2048, (if hin : ∀ a : Fin 4, (![0, 0, 2047, 0] : Fin 4 → ℕ) a ≤ ((ValueIdx.ix4 b hh t k : (⟨4, ![A, B, 2048, D]⟩ : Shape).Idx) (a.cast h.1.symm)).val * (![1, 1, 1, 1] : Fin 4 → ℕ) a + (placesEquiv 2048 w a).val ∧ ((ValueIdx.ix4 b hh t k : (⟨4, ![A, B, 2048, D]⟩ : Shape).Idx) (a.cast h.1.symm)).val * (![1, 1, 1, 1] : Fin 4 → ℕ) a + (placesEquiv 2048 w a).val - (![0, 0, 2047, 0] : Fin 4 → ℕ) a < (⟨4, ![A, B, 2048, D]⟩ : Shape).size a
            then x (fun a => ⟨((ValueIdx.ix4 b hh t k : (⟨4, ![A, B, 2048, D]⟩ : Shape).Idx) (a.cast h.1.symm)).val * (![1, 1, 1, 1] : Fin 4 → ℕ) a + (placesEquiv 2048 w a).val - (![0, 0, 2047, 0] : Fin 4 → ℕ) a, (hin a).2⟩) else (0 : EReal))
        = (fun n : ℕ => if 2047 ≤ t.val + n then G (t.val + n - 2047) else 0) w.val := by
    intro w
    have hw := w.isLt
    by_cases hc : 2047 ≤ t.val + w.val
    · rw [dif_pos]
      · simp only [hc, if_true]
        refine Eq.trans (congrArg x (funext fun a => Fin.ext ?_)) (hG ⟨t.val + w.val - 2047, by omega⟩)
        match a with
        | ⟨0, _⟩ => show b.val * 1 + 0 - 0 = b.val; omega
        | ⟨1, _⟩ => show hh.val * 1 + 0 - 0 = hh.val; omega
        | ⟨2, _⟩ => show t.val * 1 + w.val - 2047 = t.val + w.val - 2047; omega
        | ⟨3, _⟩ => show k.val * 1 + 0 - 0 = k.val; omega
      · intro a
        match a with
        | ⟨0, _⟩ => have := b.isLt; show 0 ≤ b.val * 1 + 0 ∧ b.val * 1 + 0 - 0 < A; omega
        | ⟨1, _⟩ => have := hh.isLt; show 0 ≤ hh.val * 1 + 0 ∧ hh.val * 1 + 0 - 0 < B; omega
        | ⟨2, _⟩ => show 2047 ≤ t.val * 1 + w.val ∧ t.val * 1 + w.val - 2047 < 2048; omega
        | ⟨3, _⟩ => have := k.isLt; show 0 ≤ k.val * 1 + 0 ∧ k.val * 1 + 0 - 0 < D; omega
    · rw [dif_neg]
      · simp only [hc, if_false]
      · intro hin
        have h2 := (hin 2).1
        have h3 : 2047 ≤ t.val * 1 + w.val := h2
        omega
  refine (Finset.sum_congr rfl fun w _ => e w).trans ?_
  rw [Fin.sum_univ_eq_sum_range (fun n : ℕ => if 2047 ≤ t.val + n then G (t.val + n - 2047) else 0) 2048, ← Finset.sum_filter]
  refine Finset.sum_bij' (fun n _ => t.val + n - 2047) (fun s _ => s + 2047 - t.val) ?_ ?_ ?_ ?_ ?_
  · intro n hn; rw [mem_filter, mem_range] at hn; rw [mem_range]; omega
  · intro s hs; rw [mem_range] at hs; rw [mem_filter, mem_range]; omega
  · intro n hn; rw [mem_filter, mem_range] at hn; omega
  · intro s hs; rw [mem_range] at hs; omega
  · intro n hn; rfl

/-- The places of a window of two on the first of three axes. -/
def pairEquiv : Fin 2 ≃ (⟨3, ![2, 1, 1]⟩ : Shape).Idx where
  toFun w := ValueIdx.ix3 w (0 : Fin 1) (0 : Fin 1)
  invFun i := i 0
  left_inv w := rfl
  right_inv i := by
    funext a
    match a with
    | ⟨0, _⟩ => rfl
    | ⟨1, _⟩ => exact Subsingleton.elim (α := Fin 1) _ _
    | ⟨2, _⟩ => exact Subsingleton.elim (α := Fin 1) _ _

/-- The first of two partial sums along the first axis is the first entry. -/
theorem cumsum_first {B D : ℕ} {φ : FTy} (x : FVec Ideal ⟨3, ![2, B, D]⟩ φ) (init : (⟨0, ![]⟩ : Shape).Idx → Ideal φ) (hi : ∀ i, init i = (0 : EReal))
    (h : (⟨3, ![2, B, D]⟩ : Shape).ReduceWindows ![2, 1, 1] ![1, 1, 1] ![1, 0, 0] ![0, 0, 0] ⟨3, ![2, B, D]⟩) (hu : 0 < (⟨0, ![]⟩ : Shape).numel)
    (b : Fin B) (k : Fin D) :
    (Host.reduceWindowAdd (F := Ideal) ![2, 1, 1] ![1, 1, 1] ![1, 0, 0] ![0, 0, 0] x init h hu (ValueIdx.ix3 (0 : Fin 2) b k) : EReal) = x (ValueIdx.ix3 (0 : Fin 2) b k) := by
  rw [window_sum, hi, zero_add]
  refine (Equiv.sum_comp pairEquiv _).symm.trans ?_
  rw [Fin.sum_univ_two, dif_neg, dif_pos, zero_add]
  · refine congrArg x (funext fun a => Fin.ext ?_)
    match a with
    | ⟨0, _⟩ => rfl
    | ⟨1, _⟩ => show b.val * 1 + 0 - 0 = b.val; omega
    | ⟨2, _⟩ => show k.val * 1 + 0 - 0 = k.val; omega
  · intro a
    match a with
    | ⟨0, _⟩ => show 1 ≤ 0 * 1 + 1 ∧ 0 * 1 + 1 - 1 < 2; omega
    | ⟨1, _⟩ => have := b.isLt; show 0 ≤ b.val * 1 + 0 ∧ b.val * 1 + 0 - 0 < B; omega
    | ⟨2, _⟩ => have := k.isLt; show 0 ≤ k.val * 1 + 0 ∧ k.val * 1 + 0 - 0 < D; omega
  · intro hin
    have h0 : 1 ≤ 0 * 1 + 0 := (hin 0).1
    omega

end Cert.Hgrn
-- ==== Proof.RefScan.lean ====
module

public import proofs.«01_k».proof.Proof.RefGates
public import proofs.«01_k».proof.Proof.Window

@[expose] public section

set_option maxRecDepth 16384

noncomputable section

open scoped BigOperators
open Finset

namespace Cert.Hgrn

open Idealize.ShloMosaic hiding ix2
open Idealize.ShloMosaic.ValueIdx
open Cert.ReferenceIdeal Cert.ReferenceIdeal.Gen Cert.ReferenceIdeal.Read

/-- Rows in the opposite order. -/
theorem R4.reverse {a c d : ℕ} {x : (⟨4, ![a, 2048, c, d]⟩ : Shape).Idx → EReal} {F : ℕ → ℕ → ℕ → ℕ → ℝ} (h : R4 x F) :
    R4 (Host.reverse [1] x) (fun b t hh k => F b (2047 - t) hh k) := by
  intro i
  refine (h (fun a => if a ∈ [1] then (i a).rev else i a)).trans (congrArg (fun r : ℝ => (r : EReal)) ?_)
  have e1 : ((fun a => if a ∈ [1] then (i a).rev else i a : (⟨4, ![a, 2048, c, d]⟩ : Shape).Idx) 1).val = 2047 - (i 1).val := by
    have hi : (i 1).val < 2048 := (i 1).isLt
    show ((i 1).rev).val = _
    rw [Fin.val_rev]
    show 2048 - ((i 1).val + 1) = _
    omega
  rw [e1]
  rfl

/-- Rows before columns of heads, read in the other order. -/
theorem select_le (t s : ℕ) (ht : t < 2048) (hs : s < 2048) (x y : EReal) :
    Scalar.select (IntOp.cmpi .sge (BitVec.ofNat 32 t) (BitVec.ofNat 32 s)) x y = if s ≤ t then x else y := by
  have e : IntOp.cmpi .sge (BitVec.ofNat 32 t) (BitVec.ofNat 32 s) = BitVec.ofBool (decide (s ≤ t)) := by
    have e1 : (BitVec.ofNat 32 t).toInt = (t : ℤ) := by rw [BitVec.toInt_ofNat']; exact Int.bmod_eq_of_le (by norm_num <;> omega) (by omega)
    have e2 : (BitVec.ofNat 32 s).toInt = (s : ℤ) := by rw [BitVec.toInt_ofNat']; exact Int.bmod_eq_of_le (by norm_num <;> omega) (by omega)
    simp [IntOp.cmpi, BitVec.sle, e1, e2]
  rw [e]
  by_cases hc : s ≤ t
  · simp [hc, Scalar.select]
  · simp [hc, Scalar.select]

/-- The reference's two sums are the recurrence's output. -/
theorem scan_sum (G Q K V S0 : ℕ → ℕ → ℝ) (t c : ℕ) (ht : t < 2048) (z : EReal) (hz : z = 0) (A : Fin 2048 → Fin 128 → EReal)
    (hA : ∀ s k, A s k = ((Q t k.val * K s.val k.val * (if s.val ≤ t then Real.exp (CE G (t + 1) k.val - CE G (s.val + 1) k.val) else 0) : ℝ) : EReal))
    (W : Fin 2048 → EReal) (hW : ∀ s, W s = ((V s.val c : ℝ) : EReal))
    (B : Fin 128 → EReal) (hB : ∀ k, B k = ((Q t k.val * Real.exp (CE G (t + 1) k.val) : ℝ) : EReal))
    (S : Fin 128 → EReal) (hS : ∀ k, S k = ((S0 c k.val : ℝ) : EReal)) :
    (∑ s, (z + ∑ k, A s k) * W s) + ∑ k, B k * S k = ((Ocl G Q K V S0 t c : ℝ) : EReal) := by
  have e1 : ∀ s : Fin 2048, (z + ∑ k, A s k) * W s
      = (((∑ k ∈ range 128, Q t k * K s.val k * (if s.val ≤ t then Real.exp (CE G (t + 1) k - CE G (s.val + 1) k) else 0)) * V s.val c : ℝ) : EReal) := by
    intro s
    rw [hz, zero_add, hW, ← Fin.sum_univ_eq_sum_range (fun k => Q t k * K s.val k * (if s.val ≤ t then Real.exp (CE G (t + 1) k - CE G (s.val + 1) k) else 0)) 128,
      EReal.coe_mul, coe_sum, Finset.sum_congr rfl fun k _ => hA s k]
  have e2 : ∀ k : Fin 128, B k * S k = ((Q t k.val * Real.exp (CE G (t + 1) k.val) * S0 c k.val : ℝ) : EReal) := by
    intro k; rw [hB, hS, ← EReal.coe_mul]
  rw [Finset.sum_congr rfl fun s _ => e1 s, Finset.sum_congr rfl fun k _ => e2 k, ← coe_sum, ← coe_sum, ← EReal.coe_add]
  congr 1
  unfold Ocl
  rw [Fin.sum_univ_eq_sum_range (fun k => Q t k * Real.exp (CE G (t + 1) k) * S0 c k) 128,
    Fin.sum_univ_eq_sum_range (fun s => (∑ k ∈ range 128, Q t k * K s k * (if s ≤ t then Real.exp (CE G (t + 1) k - CE G (s + 1) k) else 0)) * V s c) 2048]
  congr 1
  symm
  refine Finset.sum_subset_zero_on_sdiff (fun s hs => ?_) (fun s hs => ?_) (fun s hs => ?_)
  · rw [mem_range] at *; omega
  · rw [mem_sdiff, mem_range, mem_range] at hs
    have : ¬ s ≤ t := by omega
    simp [this]
  · rw [mem_range] at hs
    have : s ≤ t := by omega
    simp [this]

section Scan
variable {x0 : FVec Ideal S4x2048x18432 .bf16} {x1 : FVec Ideal S2x2x2048 .f32} {x3 : FVec Ideal S4x16x128x128 .f32}
  {Q K V G S : ℕ → ℕ → ℕ → ℕ → ℝ}

theorem rcumF (hG : R4 (val_main_v43 (F := Ideal) x0 x1) G) :
    R4 (val_main_v72 (F := Ideal) x0 x1) (fun b hh t k => CE (fun s k => G b s hh k) (t + 1) k) := by
  intro i
  rw [ValueIdx.eq_ix4 i]
  refine (cumsum4 (val_main_v71 (F := Ideal) x0 x1) (val_main_call2_call0_v0 (F := Ideal)) ?_ _ _ (i 0) (i 1) (i 2) (i 3) (fun s => ((G (i 0).val s (i 1).val (i 3).val : ℝ) : EReal)) ?_).trans ?_
  · intro i
    rw [val_main_call2_call0_v0_apply, val_main_call2_call0_cst_apply]
    exact zero_eq.trans EReal.coe_zero
  · intro s
    exact (val_main_v71_apply (F := Ideal) x0 x1 _).trans (hG _)
  · exact (coe_sum _ _).symm

theorem decF (hG : R4 (val_main_v43 (F := Ideal) x0 x1) G) (i : S4x16x2048x2048x128.Idx) :
    val_main_v88 (F := Ideal) x0 x1 i = (((if (i 3).val ≤ (i 2).val then Real.exp (CE (fun s k => G (i 0).val s (i 1).val k) ((i 2).val + 1) (i 4).val - CE (fun s k => G (i 0).val s (i 1).val k) ((i 3).val + 1) (i 4).val) else 0) : ℝ) : EReal) := by
  have h2 : (i 2).val < 2048 := (i 2).isLt
  have h3 : (i 3).val < 2048 := (i 3).isLt
  have em : ∀ x y : EReal, Scalar.select (val_main_call3_v1 (F := Ideal) i) x y = if (i 3).val ≤ (i 2).val then x else y := by
    intro x y
    refine Eq.trans ?_ (select_le (i 2).val (i 3).val h2 h3 x y)
    rw [val_main_call3_v1_apply, val_main_v80_apply, val_main_v79_apply, val_main_v77_apply, val_main_v78_apply, val_main_v74_apply, val_main_v76_apply]
    rfl
  have em2 : ∀ x y : EReal, Scalar.select (val_main_call4_v1 (F := Ideal) i) x y = if (i 3).val ≤ (i 2).val then x else y := by
    intro x y
    refine Eq.trans ?_ (select_le (i 2).val (i 3).val h2 h3 x y)
    rw [val_main_call4_v1_apply, val_main_v80_apply, val_main_v79_apply, val_main_v77_apply, val_main_v78_apply, val_main_v74_apply, val_main_v76_apply]
    rfl
  have ed : val_main_v85 (F := Ideal) x0 x1 i = ((CE (fun s k => G (i 0).val s (i 1).val k) ((i 2).val + 1) (i 4).val - CE (fun s k => G (i 0).val s (i 1).val k) ((i 3).val + 1) (i 4).val : ℝ) : EReal) := by
    rw [val_main_v85_apply, val_main_v83_apply, val_main_v84_apply, val_main_v81_apply, val_main_v82_apply]
    exact (congrArg₂ (fun a s : EReal => a - s) (rcumF hG _) (rcumF hG _)).trans (EReal.coe_sub _ _).symm
  rw [val_main_v88_apply]
  refine (em2 _ _).trans ?_
  by_cases hc : (i 3).val ≤ (i 2).val
  · rw [if_pos hc, if_pos hc, val_main_v87_apply, val_main_v86_apply]
    refine (congrArg Ideal.exp ((em _ _).trans ((if_pos hc).trans ed))).trans ((Ideal.exp_coe _))
  · rw [if_neg hc, if_neg hc, val_main_call4_v2_apply]
    exact zero_eq

theorem scanF (hQ : R4 (val_main_v27 (F := Ideal) x0) Q) (hK : R4 (val_main_v46 (F := Ideal) x0 x1) K) (hV : R4 (val_main_v66 (F := Ideal) x0) V)
    (hG : R4 (val_main_v43 (F := Ideal) x0 x1) G) (hS : R4 x3 S) :
    R4 (val_main_v101 (F := Ideal) x0 x1 x3) (fun b t hh c => Ocl (fun s k => G b s hh k) (fun s k => Q b s hh k) (fun s k => K b s hh k) (fun s k => V b s hh k) (fun c k => S b hh c k) t c) := by
  intro i
  have h1 : (i 1).val < 2048 := (i 1).isLt
  rw [val_main_v101_apply, val_main_v100_apply, val_main_v96_apply, val_main_v99_apply]
  simp only [val_main_v95_apply]
  refine scan_sum _ _ _ _ _ (i 1).val (i 3).val h1 _ (zero_eq.trans EReal.coe_zero) _ ?_ _ ?_ _ ?_ _ ?_
  · intro s k
    rw [val_main_v94_apply, val_main_v93_apply, val_main_v91_apply, val_main_v89_apply, val_main_v92_apply, val_main_v90_apply, val_main_v68_apply, val_main_v69_apply]
    refine (congrArg₂ (fun a s : EReal => a * s) ((congrArg₂ (fun a s : EReal => a * s) (hQ _) (hK _)).trans (EReal.coe_mul _ _).symm) (decF hG _)).trans (EReal.coe_mul _ _).symm
  · intro s
    rw [val_main_v70_apply]
    exact hV _
  · intro k
    rw [val_main_v98_apply, val_main_v68_apply, val_main_v97_apply]
    have e1 : val_main_v27 (F := Ideal) x0 (idx_main_v68 (lidx_main_v99 (idx_main_v101 i) k)) = ((Q (i 0).val (i 1).val (i 2).val k.val : ℝ) : EReal) := hQ _
    have e2 : val_main_v72 (F := Ideal) x0 x1 (lidx_main_v99 (idx_main_v101 i) k) = ((CE (fun s k => G (i 0).val s (i 2).val k) ((i 1).val + 1) k.val : ℝ) : EReal) := rcumF hG _
    rw [e1, e2, Ideal.hostUnary_exp_def, Ideal.exp_coe]
    exact (EReal.coe_mul _ _).symm
  · intro k
    rw [val_main_v67_apply]
    exact hS _

theorem rcumB (hG : R4 (val_main_v105 (F := Ideal) x0 x1) G) :
    R4 (val_main_v111 (F := Ideal) x0 x1) (fun b hh t k => CE (fun s k => G b s hh k) (t + 1) k) := by
  intro i
  rw [ValueIdx.eq_ix4 i]
  refine (cumsum4 (val_main_v110 (F := Ideal) x0 x1) (val_main_call5_call0_v0 (F := Ideal)) ?_ _ _ (i 0) (i 1) (i 2) (i 3) (fun s => ((G (i 0).val s (i 1).val (i 3).val : ℝ) : EReal)) ?_).trans ?_
  · intro i
    rw [val_main_call5_call0_v0_apply, val_main_call5_call0_cst_apply]
    exact zero_eq.trans EReal.coe_zero
  · intro s
    exact (val_main_v110_apply (F := Ideal) x0 x1 _).trans (hG _)
  · exact (coe_sum _ _).symm

theorem decB (hG : R4 (val_main_v105 (F := Ideal) x0 x1) G) (i : S4x16x2048x2048x128.Idx) :
    val_main_v127 (F := Ideal) x0 x1 i = (((if (i 3).val ≤ (i 2).val then Real.exp (CE (fun s k => G (i 0).val s (i 1).val k) ((i 2).val + 1) (i 4).val - CE (fun s k => G (i 0).val s (i 1).val k) ((i 3).val + 1) (i 4).val) else 0) : ℝ) : EReal) := by
  have h2 : (i 2).val < 2048 := (i 2).isLt
  have h3 : (i 3).val < 2048 := (i 3).isLt
  have em : ∀ x y : EReal, Scalar.select (val_main_call6_v1 (F := Ideal) i) x y = if (i 3).val ≤ (i 2).val then x else y := by
    intro x y
    refine Eq.trans ?_ (select_le (i 2).val (i 3).val h2 h3 x y)
    rw [val_main_call6_v1_apply, val_main_v119_apply, val_main_v118_apply, val_main_v116_apply, val_main_v117_apply, val_main_v113_apply, val_main_v115_apply]
    rfl
  have em2 : ∀ x y : EReal, Scalar.select (val_main_call7_v1 (F := Ideal) i) x y = if (i 3).val ≤ (i 2).val then x else y := by
    intro x y
    refine Eq.trans ?_ (select_le (i 2).val (i 3).val h2 h3 x y)
    rw [val_main_call7_v1_apply, val_main_v119_apply, val_main_v118_apply, val_main_v116_apply, val_main_v117_apply, val_main_v113_apply, val_main_v115_apply]
    rfl
  have ed : val_main_v124 (F := Ideal) x0 x1 i = ((CE (fun s k => G (i 0).val s (i 1).val k) ((i 2).val + 1) (i 4).val - CE (fun s k => G (i 0).val s (i 1).val k) ((i 3).val + 1) (i 4).val : ℝ) : EReal) := by
    rw [val_main_v124_apply, val_main_v122_apply, val_main_v123_apply, val_main_v120_apply, val_main_v121_apply]
    exact (congrArg₂ (fun a s : EReal => a - s) (rcumB hG _) (rcumB hG _)).trans (EReal.coe_sub _ _).symm
  rw [val_main_v127_apply]
  refine (em2 _ _).trans ?_
  by_cases hc : (i 3).val ≤ (i 2).val
  · rw [if_pos hc, if_pos hc, val_main_v126_apply, val_main_v125_apply]
    refine (congrArg Ideal.exp ((em _ _).trans ((if_pos hc).trans ed))).trans ((Ideal.exp_coe _))
  · rw [if_neg hc, if_neg hc, val_main_call7_v2_apply]
    exact zero_eq

theorem scanB (hQ : R4 (val_main_v102 (F := Ideal) x0) Q) (hK : R4 (val_main_v103 (F := Ideal) x0 x1) K) (hV : R4 (val_main_v104 (F := Ideal) x0) V)
    (hG : R4 (val_main_v105 (F := Ideal) x0 x1) G) (hS : R4 x3 S) :
    R4 (val_main_v140 (F := Ideal) x0 x1 x3) (fun b t hh c => Ocl (fun s k => G b s hh k) (fun s k => Q b s hh k) (fun s k => K b s hh k) (fun s k => V b s hh k) (fun c k => S b hh c k) t c) := by
  intro i
  have h1 : (i 1).val < 2048 := (i 1).isLt
  rw [val_main_v140_apply, val_main_v139_apply, val_main_v135_apply, val_main_v138_apply]
  simp only [val_main_v134_apply]
  refine scan_sum _ _ _ _ _ (i 1).val (i 3).val h1 _ (zero_eq.trans EReal.coe_zero) _ ?_ _ ?_ _ ?_ _ ?_
  · intro s k
    rw [val_main_v133_apply, val_main_v132_apply, val_main_v130_apply, val_main_v128_apply, val_main_v131_apply, val_main_v129_apply, val_main_v107_apply, val_main_v108_apply]
    refine (congrArg₂ (fun a s : EReal => a * s) ((congrArg₂ (fun a s : EReal => a * s) (hQ _) (hK _)).trans (EReal.coe_mul _ _).symm) (decB hG _)).trans (EReal.coe_mul _ _).symm
  · intro s
    rw [val_main_v109_apply]
    exact hV _
  · intro k
    rw [val_main_v137_apply, val_main_v107_apply, val_main_v136_apply]
    have e1 : val_main_v102 (F := Ideal) x0 (idx_main_v107 (lidx_main_v138 (idx_main_v140 i) k)) = ((Q (i 0).val (i 1).val (i 2).val k.val : ℝ) : EReal) := hQ _
    have e2 : val_main_v111 (F := Ideal) x0 x1 (lidx_main_v138 (idx_main_v140 i) k) = ((CE (fun s k => G (i 0).val s (i 2).val k) ((i 1).val + 1) k.val : ℝ) : EReal) := rcumB hG _
    rw [e1, e2, Ideal.hostUnary_exp_def, Ideal.exp_coe]
    exact (EReal.coe_mul _ _).symm
  · intro k
    rw [val_main_v106_apply]
    exact hS _

end Scan

end Cert.Hgrn
-- ==== Proof.RefOut.lean ====
module

public import proofs.«01_k».proof.Proof.RefScan
public import proofs.«01_k».proof.Proof.Block

@[expose] public section

set_option maxRecDepth 16384

noncomputable section

open scoped BigOperators
open Finset

namespace Cert.Hgrn

open Idealize.ShloMosaic hiding ix2
open Idealize.ShloMosaic.ValueIdx
open Cert.ReferenceIdeal Cert.ReferenceIdeal.Gen Cert.ReferenceIdeal.Read

/-- The forward output of one head of one batch, from the projected columns, the lower bounds and the entering state. -/
def fwdO (P : ℕ → ℕ → ℕ → ℝ) (L : ℕ → ℝ) (S : ℕ → ℕ → ℕ → ℕ → ℝ) (b hh : ℕ) : ℕ → ℕ → ℝ :=
  Ocl (fun s k => Real.log (fgate (L (128 * hh + k)) (P b s (2048 + (128 * hh + k))))) (fun s k => qact (P b s (128 * hh + k)))
    (fun s k => 1 - fgate (L (128 * hh + k)) (P b s (2048 + (128 * hh + k)))) (fun s k => P b s (6144 + (128 * hh + k))) (fun c k => S b hh c k)

/-- The backward output of one head of one batch, by the number of rows gone. -/
def bwdO (P : ℕ → ℕ → ℕ → ℝ) (L : ℕ → ℝ) (S : ℕ → ℕ → ℕ → ℕ → ℝ) (b hh : ℕ) : ℕ → ℕ → ℝ :=
  Ocl (fun s k => Real.log (fgate (L (128 * hh + k)) (P b (2047 - s) (4096 + (128 * hh + k))))) (fun s k => qact (P b (2047 - s) (128 * hh + k)))
    (fun s k => 1 - fgate (L (128 * hh + k)) (P b (2047 - s) (4096 + (128 * hh + k)))) (fun s k => P b (2047 - s) (6144 + (128 * hh + k))) (fun c k => S b hh c k)

section Out
variable {x0 : FVec Ideal S4x2048x18432 .bf16} {x1 : FVec Ideal S2x2x2048 .f32} {x2 : FVec Ideal S1x2048 .f32} {x3 x4 : FVec Ideal S4x16x128x128 .f32}
  {P : ℕ → ℕ → ℕ → ℝ} {LF LB : ℕ → ℝ} {SF SB : ℕ → ℕ → ℕ → ℕ → ℝ}
  (h : R3 (val_main_v18 (F := Ideal) x0) P) (hLF : R1 (val_main_v13 (F := Ideal) x1) LF) (hLB : R1 (val_main_v15 (F := Ideal) x1) LB)
  (hpF : ∀ j, j < 2048 → 0 < LF j ∧ LF j ≤ 1) (hpB : ∀ j, j < 2048 → 0 < LB j ∧ LB j ≤ 1) (hSF : R4 x3 SF) (hSB : R4 x4 SB)
include h hLF hLB hpF hpB hSF hSB

theorem r142 : R4 (val_main_v142 (F := Ideal) x0 x1 x3 x4) (fun b t hh c => fwdO P LF SF b hh t c + bwdO P LB SB b hh (2047 - t) c) := by
  have eF := scanF (r27 h) (rkeyF h hLF) (r66 h) (rlogF h hLF hpF) hSF
  have eB := (scanB (x0 := x0) (x1 := x1) (r27 h).reverse (rkeyB h hLB).reverse (r66 h).reverse (rlogB h hLB hpB).reverse hSB).reverse
  intro i
  exact (congrArg₂ (fun a s : EReal => a + s) (eF i) (eB i)).trans (EReal.coe_add _ _).symm

theorem ref_out (b : Fin 4) (t : Fin 2048) (col : Fin 2048) (hh : Fin 16) (j : Fin 128) (hc : col.val = 128 * hh.val + j.val) :
    val_main_v159 (F := Ideal) x0 x1 x2 x3 x4 (ValueIdx.ix3 b t col)
      = epi (fun k => ((fwdO P LF SF b.val hh.val t.val k.val + bwdO P LB SB b.val hh.val (2047 - t.val) k.val : ℝ) : EReal)) j
          (x2 (ix2 (0 : Fin 1) col)) (x0 (ValueIdx.ix3 b t ⟨8192 + col.val, by omega⟩)) := by
  have e := r142 h hLF hLB hpF hpB hSF hSB
  have hj := j.isLt
  have ht := t.isLt
  have hb := b.isLt
  have hhl := hh.isLt
  have ei : idx_main_v153 (ValueIdx.ix3 b t col) = ValueIdx.ix4 b t hh j := by
    funext a
    match a with
    | ⟨0, _⟩ => exact Fin.ext (show ((b.val * 2048 + t.val) * 2048 + col.val) / 4194304 = b.val by omega)
    | ⟨1, _⟩ => exact Fin.ext (show ((b.val * 2048 + t.val) * 2048 + col.val) / 2048 % 2048 = t.val by omega)
    | ⟨2, _⟩ => exact Fin.ext (show ((b.val * 2048 + t.val) * 2048 + col.val) / 128 % 16 = hh.val by omega)
    | ⟨3, _⟩ => exact Fin.ext (show ((b.val * 2048 + t.val) * 2048 + col.val) % 128 = j.val by omega)
  have eo : ∀ k : Fin 128, val_main_v142 (F := Ideal) x0 x1 x3 x4 (ValueIdx.ix4 b t hh k)
      = ((fwdO P LF SF b.val hh.val t.val k.val + bwdO P LB SB b.val hh.val (2047 - t.val) k.val : ℝ) : EReal) := fun k => e _
  have er : val_main_v151 (F := Ideal) x0 x1 x3 x4 (ValueIdx.ix4 b t hh j)
      = Ideal.rsqrt (Ideal.div (∑ k : Fin 128, ((fwdO P LF SF b.val hh.val t.val k.val + bwdO P LB SB b.val hh.val (2047 - t.val) k.val : ℝ) : EReal) * ((fwdO P LF SF b.val hh.val t.val k.val + bwdO P LB SB b.val hh.val (2047 - t.val) k.val : ℝ) : EReal)) (Ideal.ofBits .f32 0x43000000#32) + Ideal.ofBits .f32 0x358637BD#32) := by
    have ek : ∀ k : Fin 128, val_main_v143 (F := Ideal) x0 x1 x3 x4 (idx_main_v144 (idx_main_v145 (idx_main_v151 (ValueIdx.ix4 b t hh j))) k)
        = ((fwdO P LF SF b.val hh.val t.val k.val + bwdO P LB SB b.val hh.val (2047 - t.val) k.val : ℝ) : EReal) * ((fwdO P LF SF b.val hh.val t.val k.val + bwdO P LB SB b.val hh.val (2047 - t.val) k.val : ℝ) : EReal) := by
      intro k
      have ei : idx_main_v144 (idx_main_v145 (idx_main_v151 (ValueIdx.ix4 b t hh j))) k = ValueIdx.ix4 b t hh k := by
        funext a
        match a with
        | ⟨0, _⟩ => rfl
        | ⟨1, _⟩ => rfl
        | ⟨2, _⟩ => rfl
        | ⟨3, _⟩ => rfl
      rw [ei, val_main_v143_apply, eo k]
      rfl
    rw [val_main_v151_apply, val_main_v150_apply, val_main_v149_apply, val_main_v148_apply, val_main_v147_apply, val_main_v146_apply, val_main_v145_apply, val_main_v144_apply,
      Finset.sum_congr rfl fun k _ => ek k, val_main_cst_17_apply, val_main_cst_18_apply, val_main_cst_19_apply]
    generalize (∑ k : Fin 128, ((fwdO P LF SF b.val hh.val t.val k.val + bwdO P LB SB b.val hh.val (2047 - t.val) k.val : ℝ) : EReal) * ((fwdO P LF SF b.val hh.val t.val k.val + bwdO P LB SB b.val hh.val (2047 - t.val) k.val : ℝ) : EReal)) = s
    show Ideal.rsqrt (Ideal.div (Ideal.ofBits .f32 0x00000000#32 + s) (Ideal.ofBits .f32 0x43000000#32) + Ideal.ofBits .f32 0x358637BD#32) = _
    rw [show (Ideal.ofBits .f32 0x00000000#32 : EReal) = 0 from zero_eq.trans EReal.coe_zero, zero_add]
  have eg : val_main_v155 (F := Ideal) x2 (ValueIdx.ix3 b t col) = x2 (ix2 (0 : Fin 1) col) := by
    rw [val_main_v155_apply, val_main_v154_apply, val_main_v16_apply]
    refine congrArg x2 (funext fun a => ?_)
    match a with
    | ⟨0, _⟩ => rfl
    | ⟨1, _⟩ => exact Fin.ext (Nat.mod_eq_of_lt col.isLt)
  have ez : val_main_v23 (F := Ideal) x0 (ValueIdx.ix3 b t col) = x0 (ValueIdx.ix3 b t ⟨8192 + col.val, by omega⟩) := by
    rw [val_main_v23_apply]
    refine (val_main_v17_apply (F := Ideal) x0 _).trans (congrArg x0 (funext fun a => ?_))
    match a with
    | ⟨0, _⟩ => rfl
    | ⟨1, _⟩ => rfl
    | ⟨2, _⟩ => rfl
  have es : val_main_v157 (F := Ideal) x0 (ValueIdx.ix3 b t col)
      = (fun g : EReal => g * Ideal.logistic g) (x0 (ValueIdx.ix3 b t ⟨8192 + col.val, by omega⟩)) := by
    rw [val_main_v157_apply, val_main_call8_v5_apply, val_main_call8_v4_apply, val_main_call8_v3_apply, val_main_call8_v2_apply, val_main_call8_v1_apply, val_main_call8_v0_apply, val_main_call8_cst_apply, ez]
    generalize x0 (ValueIdx.ix3 b t ⟨8192 + col.val, by omega⟩) = g
    show (g * Ideal.div (Ideal.ofBits .f32 0x3F800000#32) (Ideal.ofBits .f32 0x3F800000#32 + Ideal.exp (-g)) : EReal) = g * Ideal.logistic g
    rw [Ideal.ofBits_one_f32]
    rfl
  rw [val_main_v159_apply, val_main_v158_apply, val_main_v156_apply, val_main_v153_apply, ei, val_main_v152_apply, er, eo j, eg, es]
  rfl

end Out

end Cert.Hgrn
-- ==== Proof.Bounds.lean ====
module

public import proofs.«01_k».proof.Proof.RefGates
public import proofs.«01_k».proof.Proof.Window
public import Idealize.ShloMosaic.Lib.Pointwise.Reduce

@[expose] public section

set_option maxRecDepth 16384

noncomputable section

open scoped BigOperators
open Finset

namespace Cert.Hgrn

open Idealize.ShloMosaic hiding ix2
open Cert.ReferenceIdeal Cert.ReferenceIdeal.Gen Cert.ReferenceIdeal.Read

section Bounds
variable {x1 : FVec Ideal S2x2x2048 .f32} (h : ∀ i, ∃ r : ℝ, x1 i = (r : EReal))
include h

/-- The greater of the two layers' weights is a number. -/
theorem v0_real (j : S2x2048.Idx) : ∃ r : ℝ, val_main_v0 (F := Ideal) x1 j = (r : EReal) := by
  unfold val_main_v0
  simp only [pointwise]
  obtain ⟨a, ha⟩ := h (ix3 (0 : Fin 2) (j 0) (j 1))
  obtain ⟨b, hb⟩ := h (ix3 (1 : Fin 2) (j 0) (j 1))
  rw [val_main_cst_apply]
  have hn : (FloatOps.ofBits (F := Ideal) .f32 0xFF800000#32 : EReal) = ⊥ := by
    show Ideal.ieee 8 23 (0xFF800000#32) = ⊥
    simp [Ideal.ieee]
  have e2 : (univ : Finset (Fin 2)) = {0, 1} := by decide
  rw [hn, e2, fold_insert (by decide), fold_singleton, ha, hb]
  exact ⟨max a b, by rw [max_eq_left (bot_le : (⊥ : EReal) ≤ (b : EReal))]; exact (Monotone.map_max (f := fun r : ℝ => (r : EReal)) EReal.coe_strictMono.monotone).symm⟩

theorem v4_real (d : Fin 2) (j : Fin 2048) : ∃ r : ℝ, ∀ k : Fin 2, val_main_v4 (F := Ideal) x1 (ValueIdx.ix3 k d j) = (r : EReal) := by
  obtain ⟨r, hr⟩ := v0_real h (ValueIdx.ix2 d j)
  refine ⟨r, fun k => ?_⟩
  rw [val_main_v4_apply, val_main_v3_apply, val_main_v2_apply, val_main_v1_apply, val_main_cst_0_apply]
  have e : idx_main_v3 (idx_main_v4 (ValueIdx.ix3 k d j)) = ValueIdx.ix2 d j := by
    funext a
    match a with
    | ⟨0, _⟩ => rfl
    | ⟨1, _⟩ => rfl
  rw [e, hr]
  show max (Ideal.ofBits .f32 0xFF800000#32 : EReal) (r : EReal) = r
  have hb : (Ideal.ofBits .f32 0xFF800000#32 : EReal) = ⊥ := by
    show Ideal.ieee 8 23 (0xFF800000#32) = ⊥
    simp [Ideal.ieee]
  rw [hb]
  exact bot_sup_eq _

/-- The first row of the lower bounds lies between zero and one. -/
theorem v11_bound (d : Fin 2) (j : Fin 2048) : ∃ r : ℝ, val_main_v11 (F := Ideal) x1 (ValueIdx.ix3 (0 : Fin 2) d j) = (r : EReal) ∧ 0 < r ∧ r ≤ 1 := by
  obtain ⟨m, hm⟩ := v4_real h d j
  obtain ⟨a, ha⟩ := h (ValueIdx.ix3 (0 : Fin 2) d j)
  obtain ⟨b, hb⟩ := h (ValueIdx.ix3 (1 : Fin 2) d j)
  have e0 : val_main_v6 (F := Ideal) x1 (ValueIdx.ix3 (0 : Fin 2) d j) = ((Real.exp (a - m) : ℝ) : EReal) := by
    rw [val_main_v6_apply, val_main_v5_apply, ha, show val_main_v4 (F := Ideal) x1 (ValueIdx.ix3 (0 : Fin 2) d j) = (m : EReal) from hm 0]
    show Ideal.exp ((a : EReal) - (m : EReal)) = _
    rw [← EReal.coe_sub, Ideal.exp_coe]
  have e1 : val_main_v6 (F := Ideal) x1 (ValueIdx.ix3 (1 : Fin 2) d j) = ((Real.exp (b - m) : ℝ) : EReal) := by
    rw [val_main_v6_apply, val_main_v5_apply, hb, show val_main_v4 (F := Ideal) x1 (ValueIdx.ix3 (1 : Fin 2) d j) = (m : EReal) from hm 1]
    show Ideal.exp ((b : EReal) - (m : EReal)) = _
    rw [← EReal.coe_sub, Ideal.exp_coe]
  have hpa := Real.exp_pos (a - m)
  have hpb := Real.exp_pos (b - m)
  refine ⟨Real.exp (a - m) * (1 / (Real.exp (a - m) + Real.exp (b - m))), ?_, by positivity, ?_⟩
  · unfold val_main_v11
    refine (cumsum_first (val_main_v10 (F := Ideal) x1) (val_main_call0_call0_v0 (F := Ideal)) ?_ _ _ d j).trans ?_
    · intro i
      rw [val_main_call0_call0_v0_apply, val_main_call0_call0_cst_apply]
      exact zero_eq.trans EReal.coe_zero
    · have es : val_main_v9 (F := Ideal) x1 (ValueIdx.ix3 (0 : Fin 2) d j) = ((Real.exp (a - m) + Real.exp (b - m) : ℝ) : EReal) := by
        rw [val_main_v9_apply, val_main_v8_apply, val_main_v7_apply, Fin.sum_univ_two]
        have i0 : idx_main_v7 (idx_main_v8 (idx_main_v9 (ValueIdx.ix3 (0 : Fin 2) d j))) (0 : Fin 2) = ValueIdx.ix3 (0 : Fin 2) d j := by
          funext a
          match a with
          | ⟨0, _⟩ => rfl
          | ⟨1, _⟩ => rfl
          | ⟨2, _⟩ => rfl
        have i1 : idx_main_v7 (idx_main_v8 (idx_main_v9 (ValueIdx.ix3 (0 : Fin 2) d j))) (1 : Fin 2) = ValueIdx.ix3 (1 : Fin 2) d j := by
          funext a
          match a with
          | ⟨0, _⟩ => rfl
          | ⟨1, _⟩ => rfl
          | ⟨2, _⟩ => rfl
        rw [i0, i1, e0, e1, val_main_cst_1_apply, ← EReal.coe_add]
        exact (congrArg (fun z : EReal => z + _) (zero_eq.trans EReal.coe_zero)).trans (zero_add _)
      rw [val_main_v10_apply, e0, es]
      show Ideal.div _ _ = _
      rw [Ideal.div_coe (by positivity), ← EReal.coe_mul]
  · rw [mul_one_div, div_le_one (by positivity)]
    linarith

theorem lbF : ∃ L : ℕ → ℝ, R1 (val_main_v13 (F := Ideal) x1) L ∧ ∀ j, j < 2048 → 0 < L j ∧ L j ≤ 1 := by
  refine ⟨fun j => if hj : j < 2048 then (v11_bound h (0 : Fin 2) ⟨j, hj⟩).choose else 0, fun i => ?_, fun j hj => ?_⟩
  · have hi : (i 0).val < 2048 := (i 0).isLt
    simp only [hi, dif_pos]
    refine Eq.trans ?_ (v11_bound h (0 : Fin 2) ⟨(i 0).val, hi⟩).choose_spec.1
    rw [val_main_v13_apply, val_main_v12_apply]
    refine congrArg (val_main_v11 (F := Ideal) x1) (funext fun a => ?_)
    match a with
    | ⟨0, _⟩ => rfl
    | ⟨1, _⟩ => rfl
    | ⟨2, _⟩ => exact Fin.ext (by show _ = (i 0).val; simp [idx_main_v12, idx_main_v13, Nat.mod_eq_of_lt hi])
  · simp only [hj, dif_pos]
    exact (v11_bound h (0 : Fin 2) ⟨j, hj⟩).choose_spec.2

theorem lbB : ∃ L : ℕ → ℝ, R1 (val_main_v15 (F := Ideal) x1) L ∧ ∀ j, j < 2048 → 0 < L j ∧ L j ≤ 1 := by
  refine ⟨fun j => if hj : j < 2048 then (v11_bound h (1 : Fin 2) ⟨j, hj⟩).choose else 0, fun i => ?_, fun j hj => ?_⟩
  · have hi : (i 0).val < 2048 := (i 0).isLt
    simp only [hi, dif_pos]
    refine Eq.trans ?_ (v11_bound h (1 : Fin 2) ⟨(i 0).val, hi⟩).choose_spec.1
    rw [val_main_v15_apply, val_main_v14_apply]
    refine congrArg (val_main_v11 (F := Ideal) x1) (funext fun a => ?_)
    match a with
    | ⟨0, _⟩ => rfl
    | ⟨1, _⟩ => rfl
    | ⟨2, _⟩ => exact Fin.ext (by show _ = (i 0).val; simp [idx_main_v14, idx_main_v15, Nat.mod_eq_of_lt hi])
  · simp only [hj, dif_pos]
    exact (v11_bound h (1 : Fin 2) ⟨j, hj⟩).choose_spec.2

end Bounds

end Cert.Hgrn
-- ==== Proof.Finite.lean ====
module

public import proofs.«01_k».proof.Pre_finite
public import Idealize.ShloMosaic.Lib.ReduceAll
public import Idealize.ShloMosaic.Lib.IdealHost
public import Idealize.ShloMosaic.Lib.ValueIdxCore

@[expose] public section

set_option maxRecDepth 16384

noncomputable section

namespace Cert.Hgrn

open Idealize.ShloMosaic
open Idealize.ShloMosaic.ValueIdx
open Cert.Pre_finite

/-- A value of size below infinity is a real number. -/
theorem real_of_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have h2 : max x (-x) < ⊤ := by
    by_contra hc
    simp [Ideal.cmp, hc] at h
  induction x using EReal.rec with
  | bot => simp at h2
  | coe r => exact ⟨r, rfl⟩
  | top => simp at h2

instance : Subsingleton S_.Idx := ⟨fun a b => funext fun i => i.elim0⟩

/-- What the precondition says of the arguments. -/
theorem finite_args [Facts] {x0 : FVec Ideal S4x2048x18432 .bf16} {x1 : FVec Ideal S2x2x2048 .f32} {x2 : FVec Ideal S1x2048 .f32} {x3 x4 : FVec Ideal S4x16x128x128 .f32}
    (h : fn (F := Ideal) x0 x1 x2 x3 x4 = fun _ => 1#1) :
    (∀ (b : Fin 4) (t : Fin 2048) (j : Fin 18432), j.val < 10240 → ∃ r : ℝ, x0 (ValueIdx.ix3 b t j) = (r : EReal))
      ∧ (∀ i, ∃ r : ℝ, x1 i = (r : EReal)) ∧ (∀ i, ∃ r : ℝ, x3 i = (r : EReal)) ∧ (∀ i, ∃ r : ℝ, x4 i = (r : EReal)) := by
  have h0 := congrFun h ix0
  dsimp only [fn, fn_part1] at h0
  obtain ⟨h0, a4⟩ := IntOp.andi_eq_one.1 h0
  obtain ⟨h0, a3⟩ := IntOp.andi_eq_one.1 h0
  obtain ⟨a0, a1⟩ := IntOp.andi_eq_one.1 h0
  refine ⟨fun b t j hj => ?_, fun i => ?_, fun i => ?_, fun i => ?_⟩
  · have e := Host.reduce_andi_all _ _ _ _ _ a0 (ValueIdx.ix3 b t ⟨j.val, hj⟩ : S4x2048x10240.Idx)
    obtain ⟨r, hr⟩ := real_of_lt e
    refine ⟨r, Eq.trans (congrArg x0 (funext fun a => ?_)) hr⟩
    match a with
    | ⟨0, _⟩ => exact Fin.ext (Nat.zero_add _).symm
    | ⟨1, _⟩ => exact Fin.ext (Nat.zero_add _).symm
    | ⟨2, _⟩ => exact Fin.ext (Nat.zero_add _).symm
  · exact real_of_lt (Host.reduce_andi_all _ _ _ _ _ a1 i)
  · exact real_of_lt (Host.reduce_andi_all _ _ _ _ _ a3 i)
  · exact real_of_lt (Host.reduce_andi_all _ _ _ _ _ a4 i)

end Cert.Hgrn
-- ==== Proof.Result.lean ====
module

public import proofs.«01_k».proof.Proof.Launched
public import proofs.«01_k».proof.Proof.Entry
public import proofs.«01_k».proof.Proof.RefOut
public import proofs.«01_k».proof.Proof.Bounds
public import proofs.«01_k».proof.Proof.Finite
public import Idealize.ShloMosaic.Lib.Pipeline.ValueKit

@[expose] public section

set_option maxRecDepth 16384

noncomputable section

namespace Cert.Hgrn

open Idealize.ShloMosaic Idealize.ShloMosaic.TcCoe Idealize.ShloMosaic.Tactic
open Idealize.ShloMosaic.Pipeline (Dat Cfg Window)
open Cert.KernelIdeal Cert.KernelIdeal.Gen

variable (m : (ℓ : Loc nD τ sig) → Buf (Elt Ideal) ℓ)

theorem idx_q : ∀ t : Fin grid0.N, win0_0.index t = ![(grid0.coords t 0).val, 0, (grid0.coords t 1).val] := by decide +kernel
theorem idx_zf : ∀ t : Fin grid0.N, win0_1.index t = ![(grid0.coords t 0).val, 0, 4 + (grid0.coords t 1).val] := by decide +kernel
theorem idx_zb : ∀ t : Fin grid0.N, win0_2.index t = ![(grid0.coords t 0).val, 0, 8 + (grid0.coords t 1).val] := by decide +kernel
theorem idx_v : ∀ t : Fin grid0.N, win0_3.index t = ![(grid0.coords t 0).val, 0, 12 + (grid0.coords t 1).val] := by decide +kernel
theorem idx_g : ∀ t : Fin grid0.N, win0_4.index t = ![(grid0.coords t 0).val, 0, 16 + (grid0.coords t 1).val] := by decide +kernel
theorem idx_5 : ∀ t : Fin grid0.N, win0_5.index t = ![0, 0, (grid0.coords t 1).val] := by decide +kernel
theorem idx_6 : ∀ t : Fin grid0.N, win0_6.index t = ![0, 0, (grid0.coords t 1).val] := by decide +kernel
theorem idx_7 : ∀ t : Fin grid0.N, win0_7.index t = ![0, 0, (grid0.coords t 1).val] := by decide +kernel
theorem idx_8 : ∀ t : Fin grid0.N, win0_8.index t = ![(grid0.coords t 0).val, (grid0.coords t 1).val, 0, 0] := by decide +kernel
theorem idx_9 : ∀ t : Fin grid0.N, win0_9.index t = ![(grid0.coords t 0).val, (grid0.coords t 1).val, 0, 0] := by decide +kernel
theorem idx_10 : ∀ t : Fin grid0.N, win0_10.index t = ![(grid0.coords t 0).val, 0, (grid0.coords t 1).val] := by decide +kernel

/-- The queries' block. -/
theorem blk_q (c : Dev nD) (t : Fin grid0.N) (r : Fin 2048) (k : Fin 512) (i : S4x2048x18432.Idx)
    (e0 : (i 0).val = (grid0.coords t 0).val) (e1 : (i 1).val = r.val) (e2 : (i 2).val = 0 + (512 * (grid0.coords t 1).val + k.val)) :
    (iblk m c 0 t : Vec Ideal S1x2048x512 .bf16) (ValueIdx.ix3 (0 : Fin 1) r k) = m ((c : Thread nD τ).loc main_arg0) i := by
  rw [← V_main_arg0 m c]
  refine congrArg (V m c main_arg0) (funext fun a => Fin.ext ?_)
  match a with
  | ⟨0, _⟩ => refine (win0_0.rect_emb_val t (ValueIdx.ix3 (0 : Fin 1) r k) (0 : Fin 3)).trans (Eq.trans ?_ e0.symm); rw [idx_q]; show (grid0.coords t 0).val * 1 + 0 = (grid0.coords t 0).val; omega
  | ⟨1, _⟩ => refine (win0_0.rect_emb_val t (ValueIdx.ix3 (0 : Fin 1) r k) (1 : Fin 3)).trans (Eq.trans ?_ e1.symm); rw [idx_q]; show 0 * 2048 + r.val = r.val; omega
  | ⟨2, _⟩ => refine (win0_0.rect_emb_val t (ValueIdx.ix3 (0 : Fin 1) r k) (2 : Fin 3)).trans (Eq.trans ?_ e2.symm); rw [idx_q]; show (grid0.coords t 1).val * 512 + k.val = 0 + (512 * (grid0.coords t 1).val + k.val); omega

/-- The forward gates' block. -/
theorem blk_zf (c : Dev nD) (t : Fin grid0.N) (r : Fin 2048) (k : Fin 512) (i : S4x2048x18432.Idx)
    (e0 : (i 0).val = (grid0.coords t 0).val) (e1 : (i 1).val = r.val) (e2 : (i 2).val = 2048 + (512 * (grid0.coords t 1).val + k.val)) :
    (iblk m c 1 t : Vec Ideal S1x2048x512 .bf16) (ValueIdx.ix3 (0 : Fin 1) r k) = m ((c : Thread nD τ).loc main_arg0) i := by
  rw [← V_main_arg0 m c]
  refine congrArg (V m c main_arg0) (funext fun a => Fin.ext ?_)
  match a with
  | ⟨0, _⟩ => refine (win0_1.rect_emb_val t (ValueIdx.ix3 (0 : Fin 1) r k) (0 : Fin 3)).trans (Eq.trans ?_ e0.symm); rw [idx_zf]; show (grid0.coords t 0).val * 1 + 0 = (grid0.coords t 0).val; omega
  | ⟨1, _⟩ => refine (win0_1.rect_emb_val t (ValueIdx.ix3 (0 : Fin 1) r k) (1 : Fin 3)).trans (Eq.trans ?_ e1.symm); rw [idx_zf]; show 0 * 2048 + r.val = r.val; omega
  | ⟨2, _⟩ => refine (win0_1.rect_emb_val t (ValueIdx.ix3 (0 : Fin 1) r k) (2 : Fin 3)).trans (Eq.trans ?_ e2.symm); rw [idx_zf]; show (4 + (grid0.coords t 1).val) * 512 + k.val = 2048 + (512 * (grid0.coords t 1).val + k.val); omega

/-- The backward gates' block. -/
theorem blk_zb (c : Dev nD) (t : Fin grid0.N) (r : Fin 2048) (k : Fin 512) (i : S4x2048x18432.Idx)
    (e0 : (i 0).val = (grid0.coords t 0).val) (e1 : (i 1).val = r.val) (e2 : (i 2).val = 4096 + (512 * (grid0.coords t 1).val + k.val)) :
    (iblk m c 2 t : Vec Ideal S1x2048x512 .bf16) (ValueIdx.ix3 (0 : Fin 1) r k) = m ((c : Thread nD τ).loc main_arg0) i := by
  rw [← V_main_arg0 m c]
  refine congrArg (V m c main_arg0) (funext fun a => Fin.ext ?_)
  match a with
  | ⟨0, _⟩ => refine (win0_2.rect_emb_val t (ValueIdx.ix3 (0 : Fin 1) r k) (0 : Fin 3)).trans (Eq.trans ?_ e0.symm); rw [idx_zb]; show (grid0.coords t 0).val * 1 + 0 = (grid0.coords t 0).val; omega
  | ⟨1, _⟩ => refine (win0_2.rect_emb_val t (ValueIdx.ix3 (0 : Fin 1) r k) (1 : Fin 3)).trans (Eq.trans ?_ e1.symm); rw [idx_zb]; show 0 * 2048 + r.val = r.val; omega
  | ⟨2, _⟩ => refine (win0_2.rect_emb_val t (ValueIdx.ix3 (0 : Fin 1) r k) (2 : Fin 3)).trans (Eq.trans ?_ e2.symm); rw [idx_zb]; show (8 + (grid0.coords t 1).val) * 512 + k.val = 4096 + (512 * (grid0.coords t 1).val + k.val); omega

/-- The values' block. -/
theorem blk_v (c : Dev nD) (t : Fin grid0.N) (r : Fin 2048) (k : Fin 512) (i : S4x2048x18432.Idx)
    (e0 : (i 0).val = (grid0.coords t 0).val) (e1 : (i 1).val = r.val) (e2 : (i 2).val = 6144 + (512 * (grid0.coords t 1).val + k.val)) :
    (iblk m c 3 t : Vec Ideal S1x2048x512 .bf16) (ValueIdx.ix3 (0 : Fin 1) r k) = m ((c : Thread nD τ).loc main_arg0) i := by
  rw [← V_main_arg0 m c]
  refine congrArg (V m c main_arg0) (funext fun a => Fin.ext ?_)
  match a with
  | ⟨0, _⟩ => refine (win0_3.rect_emb_val t (ValueIdx.ix3 (0 : Fin 1) r k) (0 : Fin 3)).trans (Eq.trans ?_ e0.symm); rw [idx_v]; show (grid0.coords t 0).val * 1 + 0 = (grid0.coords t 0).val; omega
  | ⟨1, _⟩ => refine (win0_3.rect_emb_val t (ValueIdx.ix3 (0 : Fin 1) r k) (1 : Fin 3)).trans (Eq.trans ?_ e1.symm); rw [idx_v]; show 0 * 2048 + r.val = r.val; omega
  | ⟨2, _⟩ => refine (win0_3.rect_emb_val t (ValueIdx.ix3 (0 : Fin 1) r k) (2 : Fin 3)).trans (Eq.trans ?_ e2.symm); rw [idx_v]; show (12 + (grid0.coords t 1).val) * 512 + k.val = 6144 + (512 * (grid0.coords t 1).val + k.val); omega

/-- The output gates' block. -/
theorem blk_g (c : Dev nD) (t : Fin grid0.N) (r : Fin 2048) (k : Fin 512) (i : S4x2048x18432.Idx)
    (e0 : (i 0).val = (grid0.coords t 0).val) (e1 : (i 1).val = r.val) (e2 : (i 2).val = 8192 + (512 * (grid0.coords t 1).val + k.val)) :
    (iblk m c 4 t : Vec Ideal S1x2048x512 .bf16) (ValueIdx.ix3 (0 : Fin 1) r k) = m ((c : Thread nD τ).loc main_arg0) i := by
  rw [← V_main_arg0 m c]
  refine congrArg (V m c main_arg0) (funext fun a => Fin.ext ?_)
  match a with
  | ⟨0, _⟩ => refine (win0_4.rect_emb_val t (ValueIdx.ix3 (0 : Fin 1) r k) (0 : Fin 3)).trans (Eq.trans ?_ e0.symm); rw [idx_g]; show (grid0.coords t 0).val * 1 + 0 = (grid0.coords t 0).val; omega
  | ⟨1, _⟩ => refine (win0_4.rect_emb_val t (ValueIdx.ix3 (0 : Fin 1) r k) (1 : Fin 3)).trans (Eq.trans ?_ e1.symm); rw [idx_g]; show 0 * 2048 + r.val = r.val; omega
  | ⟨2, _⟩ => refine (win0_4.rect_emb_val t (ValueIdx.ix3 (0 : Fin 1) r k) (2 : Fin 3)).trans (Eq.trans ?_ e2.symm); rw [idx_g]; show (16 + (grid0.coords t 1).val) * 512 + k.val = 8192 + (512 * (grid0.coords t 1).val + k.val); omega

/-- The forward lower bounds' block. -/
theorem blk_5 (c : Dev nD) (t : Fin grid0.N) (k : Fin 512) (i : S1x1x2048.Idx)
    (e0 : (i 0).val = 0) (e1 : (i 1).val = 0) (e2 : (i 2).val = 512 * (grid0.coords t 1).val + k.val) :
    (iblk m c 5 t : Vec Ideal S1x1x512 .f32) (ValueIdx.ix3 (0 : Fin 1) (0 : Fin 1) k) = V m c main_v17 i := by
  refine congrArg (V m c main_v17) (funext fun a => Fin.ext ?_)
  match a with
  | ⟨0, _⟩ => refine (win0_5.rect_emb_val t (ValueIdx.ix3 (0 : Fin 1) (0 : Fin 1) k) (0 : Fin 3)).trans (Eq.trans ?_ e0.symm); rw [idx_5]; rfl
  | ⟨1, _⟩ => refine (win0_5.rect_emb_val t (ValueIdx.ix3 (0 : Fin 1) (0 : Fin 1) k) (1 : Fin 3)).trans (Eq.trans ?_ e1.symm); rw [idx_5]; rfl
  | ⟨2, _⟩ => refine (win0_5.rect_emb_val t (ValueIdx.ix3 (0 : Fin 1) (0 : Fin 1) k) (2 : Fin 3)).trans (Eq.trans ?_ e2.symm); rw [idx_5]; show (grid0.coords t 1).val * 512 + k.val = 512 * (grid0.coords t 1).val + k.val; omega

/-- The backward lower bounds' block. -/
theorem blk_6 (c : Dev nD) (t : Fin grid0.N) (k : Fin 512) (i : S1x1x2048.Idx)
    (e0 : (i 0).val = 0) (e1 : (i 1).val = 0) (e2 : (i 2).val = 512 * (grid0.coords t 1).val + k.val) :
    (iblk m c 6 t : Vec Ideal S1x1x512 .f32) (ValueIdx.ix3 (0 : Fin 1) (0 : Fin 1) k) = V m c main_v18 i := by
  refine congrArg (V m c main_v18) (funext fun a => Fin.ext ?_)
  match a with
  | ⟨0, _⟩ => refine (win0_6.rect_emb_val t (ValueIdx.ix3 (0 : Fin 1) (0 : Fin 1) k) (0 : Fin 3)).trans (Eq.trans ?_ e0.symm); rw [idx_6]; rfl
  | ⟨1, _⟩ => refine (win0_6.rect_emb_val t (ValueIdx.ix3 (0 : Fin 1) (0 : Fin 1) k) (1 : Fin 3)).trans (Eq.trans ?_ e1.symm); rw [idx_6]; rfl
  | ⟨2, _⟩ => refine (win0_6.rect_emb_val t (ValueIdx.ix3 (0 : Fin 1) (0 : Fin 1) k) (2 : Fin 3)).trans (Eq.trans ?_ e2.symm); rw [idx_6]; show (grid0.coords t 1).val * 512 + k.val = 512 * (grid0.coords t 1).val + k.val; omega

/-- The normalization weights' block. -/
theorem blk_7 (c : Dev nD) (t : Fin grid0.N) (k : Fin 512) (i : S1x1x2048.Idx)
    (e0 : (i 0).val = 0) (e1 : (i 1).val = 0) (e2 : (i 2).val = 512 * (grid0.coords t 1).val + k.val) :
    (iblk m c 7 t : Vec Ideal S1x1x512 .f32) (ValueIdx.ix3 (0 : Fin 1) (0 : Fin 1) k) = V m c main_v19 i := by
  refine congrArg (V m c main_v19) (funext fun a => Fin.ext ?_)
  match a with
  | ⟨0, _⟩ => refine (win0_7.rect_emb_val t (ValueIdx.ix3 (0 : Fin 1) (0 : Fin 1) k) (0 : Fin 3)).trans (Eq.trans ?_ e0.symm); rw [idx_7]; rfl
  | ⟨1, _⟩ => refine (win0_7.rect_emb_val t (ValueIdx.ix3 (0 : Fin 1) (0 : Fin 1) k) (1 : Fin 3)).trans (Eq.trans ?_ e1.symm); rw [idx_7]; rfl
  | ⟨2, _⟩ => refine (win0_7.rect_emb_val t (ValueIdx.ix3 (0 : Fin 1) (0 : Fin 1) k) (2 : Fin 3)).trans (Eq.trans ?_ e2.symm); rw [idx_7]; show (grid0.coords t 1).val * 512 + k.val = 512 * (grid0.coords t 1).val + k.val; omega

/-- The forward states' block. -/
theorem blk_8 (c : Dev nD) (t : Fin grid0.N) (h : Fin 4) (a b : Fin 128) (i : S4x16x128x128.Idx)
    (e0 : (i 0).val = (grid0.coords t 0).val) (e1 : (i 1).val = 4 * (grid0.coords t 1).val + h.val) (e2 : (i 2).val = a.val) (e3 : (i 3).val = b.val) :
    (iblk m c 8 t : Vec Ideal S1x4x128x128 .f32) (ValueIdx.ix4 (0 : Fin 1) h a b) = m ((c : Thread nD τ).loc main_arg3) i := by
  rw [← V_main_arg3 m c]
  refine congrArg (V m c main_arg3) (funext fun q => Fin.ext ?_)
  match q with
  | ⟨0, _⟩ => refine (win0_8.rect_emb_val t (ValueIdx.ix4 (0 : Fin 1) h a b) (0 : Fin 4)).trans (Eq.trans ?_ e0.symm); rw [idx_8]; show (grid0.coords t 0).val * 1 + 0 = (grid0.coords t 0).val; omega
  | ⟨1, _⟩ => refine (win0_8.rect_emb_val t (ValueIdx.ix4 (0 : Fin 1) h a b) (1 : Fin 4)).trans (Eq.trans ?_ e1.symm); rw [idx_8]; show (grid0.coords t 1).val * 4 + h.val = 4 * (grid0.coords t 1).val + h.val; omega
  | ⟨2, _⟩ => refine (win0_8.rect_emb_val t (ValueIdx.ix4 (0 : Fin 1) h a b) (2 : Fin 4)).trans (Eq.trans ?_ e2.symm); rw [idx_8]; show 0 * 128 + a.val = a.val; omega
  | ⟨3, _⟩ => refine (win0_8.rect_emb_val t (ValueIdx.ix4 (0 : Fin 1) h a b) (3 : Fin 4)).trans (Eq.trans ?_ e3.symm); rw [idx_8]; show 0 * 128 + b.val = b.val; omega

/-- The backward states' block. -/
theorem blk_9 (c : Dev nD) (t : Fin grid0.N) (h : Fin 4) (a b : Fin 128) (i : S4x16x128x128.Idx)
    (e0 : (i 0).val = (grid0.coords t 0).val) (e1 : (i 1).val = 4 * (grid0.coords t 1).val + h.val) (e2 : (i 2).val = a.val) (e3 : (i 3).val = b.val) :
    (iblk m c 9 t : Vec Ideal S1x4x128x128 .f32) (ValueIdx.ix4 (0 : Fin 1) h a b) = m ((c : Thread nD τ).loc main_arg4) i := by
  rw [← V_main_arg4 m c]
  refine congrArg (V m c main_arg4) (funext fun q => Fin.ext ?_)
  match q with
  | ⟨0, _⟩ => refine (win0_9.rect_emb_val t (ValueIdx.ix4 (0 : Fin 1) h a b) (0 : Fin 4)).trans (Eq.trans ?_ e0.symm); rw [idx_9]; show (grid0.coords t 0).val * 1 + 0 = (grid0.coords t 0).val; omega
  | ⟨1, _⟩ => refine (win0_9.rect_emb_val t (ValueIdx.ix4 (0 : Fin 1) h a b) (1 : Fin 4)).trans (Eq.trans ?_ e1.symm); rw [idx_9]; show (grid0.coords t 1).val * 4 + h.val = 4 * (grid0.coords t 1).val + h.val; omega
  | ⟨2, _⟩ => refine (win0_9.rect_emb_val t (ValueIdx.ix4 (0 : Fin 1) h a b) (2 : Fin 4)).trans (Eq.trans ?_ e2.symm); rw [idx_9]; show 0 * 128 + a.val = a.val; omega
  | ⟨3, _⟩ => refine (win0_9.rect_emb_val t (ValueIdx.ix4 (0 : Fin 1) h a b) (3 : Fin 4)).trans (Eq.trans ?_ e3.symm); rw [idx_9]; show 0 * 128 + b.val = b.val; omega

/-- The forward output of a head of a block is that of the head of the array. -/
theorem oF_eq (P : ℕ → ℕ → ℕ → ℝ) (LF LB : ℕ → ℝ) (SF SB : ℕ → ℕ → ℕ → ℕ → ℝ) (b g h : ℕ) :
    (blockData (fun s k => P b s (0 + (512 * g + k))) (fun s k => P b s (2048 + (512 * g + k))) (fun s k => P b s (4096 + (512 * g + k))) (fun s k => P b s (6144 + (512 * g + k)))
      (fun _ k => LF (512 * g + k)) (fun _ k => LB (512 * g + k)) (fun h => SF b (4 * g + h)) (fun h => SB b (4 * g + h))).oF h = fwdO P LF SF b (4 * g + h) := by
  have e : ∀ k, 512 * g + (128 * h + k) = 128 * (4 * g + h) + k := fun k => by omega
  unfold RealData.oF blockData hd fwdO
  simp only [e, zero_add]

/-- The backward output likewise. -/
theorem oB_eq (P : ℕ → ℕ → ℕ → ℝ) (LF LB : ℕ → ℝ) (SF SB : ℕ → ℕ → ℕ → ℕ → ℝ) (b g h : ℕ) :
    (blockData (fun s k => P b s (0 + (512 * g + k))) (fun s k => P b s (2048 + (512 * g + k))) (fun s k => P b s (4096 + (512 * g + k))) (fun s k => P b s (6144 + (512 * g + k)))
      (fun _ k => LF (512 * g + k)) (fun _ k => LB (512 * g + k)) (fun h => SF b (4 * g + h)) (fun h => SB b (4 * g + h))).oB h = bwdO P LB SB b (4 * g + h) := by
  have e : ∀ k, 512 * g + (128 * h + k) = 128 * (4 * g + h) + k := fun k => by omega
  unfold RealData.oB blockData hd rv bwdO
  simp only [e, zero_add]

section Value
variable (c : Dev nD) {P : ℕ → ℕ → ℕ → ℝ} {LF LB : ℕ → ℝ} {SF SB : ℕ → ℕ → ℕ → ℕ → ℝ}
  (h0 : ∀ (b : Fin 4) (t : Fin 2048) (j : Fin 18432), j.val < 10240 → (m ((c : Thread nD τ).loc main_arg0) : FVec Ideal S4x2048x18432 .bf16) (ValueIdx.ix3 b t j) = ((P b.val t.val j.val : ℝ) : EReal))
  (hLF : R1 (Cert.ReferenceIdeal.Read.val_main_v13 (F := Ideal) (m ((c : Thread nD τ).loc main_arg1))) LF)
  (hLB : R1 (Cert.ReferenceIdeal.Read.val_main_v15 (F := Ideal) (m ((c : Thread nD τ).loc main_arg1))) LB)
  (hpF : ∀ j, j < 2048 → 0 < LF j ∧ LF j ≤ 1) (hpB : ∀ j, j < 2048 → 0 < LB j ∧ LB j ≤ 1)
  (hSF : R4 (m ((c : Thread nD τ).loc main_arg3) : FVec Ideal S4x16x128x128 .f32) SF) (hSB : R4 (m ((c : Thread nD τ).loc main_arg4) : FVec Ideal S4x16x128x128 .f32) SB)
include h0 hLF hLB hpF hpB hSF hSB

/-- One block of the result against the reference's entries. -/
theorem block_value (t : Fin grid0.N) (r : Fin 2048) (cc : Fin 512) (b : Fin 4) (col : Fin 2048) (hb : b.val = (grid0.coords t 0).val) (hcol : col.val = 512 * (grid0.coords t 1).val + cc.val) :
    outAt m c t (ValueIdx.ix3 (0 : Fin 1) r cc)
      = Cert.ReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (ValueIdx.ix3 b r col) := by
  obtain ⟨g, hg⟩ : ∃ g, g = (grid0.coords t 1).val := ⟨_, rfl⟩
  have hg4 : g < 4 := by rw [hg]; exact (grid0.coords t 1).isLt
  have hb4 := b.isLt
  have hcc := cc.isLt
  have hcl := col.isLt
  rw [← hg] at hcol
  have e0 : IsR3 (iblk m c 0 t : Vec Ideal S1x2048x512 .bf16) (fun s k => P b.val s (0 + (512 * g + k))) := fun s k => by
    have hk := k.isLt
    exact (blk_q m c t s k (ValueIdx.ix3 b s ⟨0 + (512 * g + k.val), by omega⟩) hb rfl (by rw [← hg])).trans (h0 _ _ _ (by show 0 + (512 * g + k.val) < 10240; omega))
  have e1 : IsR3 (iblk m c 1 t : Vec Ideal S1x2048x512 .bf16) (fun s k => P b.val s (2048 + (512 * g + k))) := fun s k => by
    have hk := k.isLt
    exact (blk_zf m c t s k (ValueIdx.ix3 b s ⟨2048 + (512 * g + k.val), by omega⟩) hb rfl (by rw [← hg])).trans (h0 _ _ _ (by show 2048 + (512 * g + k.val) < 10240; omega))
  have e2 : IsR3 (iblk m c 2 t : Vec Ideal S1x2048x512 .bf16) (fun s k => P b.val s (4096 + (512 * g + k))) := fun s k => by
    have hk := k.isLt
    exact (blk_zb m c t s k (ValueIdx.ix3 b s ⟨4096 + (512 * g + k.val), by omega⟩) hb rfl (by rw [← hg])).trans (h0 _ _ _ (by show 4096 + (512 * g + k.val) < 10240; omega))
  have e3 : IsR3 (iblk m c 3 t : Vec Ideal S1x2048x512 .bf16) (fun s k => P b.val s (6144 + (512 * g + k))) := fun s k => by
    have hk := k.isLt
    exact (blk_v m c t s k (ValueIdx.ix3 b s ⟨6144 + (512 * g + k.val), by omega⟩) hb rfl (by rw [← hg])).trans (h0 _ _ _ (by show 6144 + (512 * g + k.val) < 10240; omega))
  have e5 : IsR3 (iblk m c 5 t : Vec Ideal S1x1x512 .f32) (fun _ k => LF (512 * g + k)) := fun s k => by
    have hk := k.isLt
    obtain rfl : s = 0 := Subsingleton.elim _ _
    refine (blk_5 m c t k (ValueIdx.ix3 (0 : Fin 1) (0 : Fin 1) ⟨512 * g + k.val, by omega⟩) rfl rfl (by rw [← hg])).trans ?_
    rw [entry_lbF m c]
    exact (row_cast _ _).trans (hLF _)
  have e6 : IsR3 (iblk m c 6 t : Vec Ideal S1x1x512 .f32) (fun _ k => LB (512 * g + k)) := fun s k => by
    have hk := k.isLt
    obtain rfl : s = 0 := Subsingleton.elim _ _
    refine (blk_6 m c t k (ValueIdx.ix3 (0 : Fin 1) (0 : Fin 1) ⟨512 * g + k.val, by omega⟩) rfl rfl (by rw [← hg])).trans ?_
    rw [entry_lbB m c]
    exact (row_cast _ _).trans (hLB _)
  have e7 : (iblk m c 7 t : Vec Ideal S1x1x512 .f32) (ValueIdx.ix3 (0 : Fin 1) (0 : Fin 1) cc) = (m ((c : Thread nD τ).loc main_arg2) : FVec Ideal S1x2048 .f32) (ValueIdx.ix2 (0 : Fin 1) col) := by
    refine (blk_7 m c t cc (ValueIdx.ix3 (0 : Fin 1) (0 : Fin 1) col) rfl rfl (by rw [← hg]; exact hcol)).trans ?_
    rw [entry_gn m c]
    exact (row_cast _ _).trans (flat_cast _ _)
  have e4 : (iblk m c 4 t : Vec Ideal S1x2048x512 .bf16) (ValueIdx.ix3 (0 : Fin 1) r cc) = (m ((c : Thread nD τ).loc main_arg0) : FVec Ideal S4x2048x18432 .bf16) (ValueIdx.ix3 b r ⟨8192 + col.val, by omega⟩) :=
    blk_g m c t r cc (ValueIdx.ix3 b r ⟨8192 + col.val, by omega⟩) hb rfl (by rw [← hg, ← hcol])
  have e8 : ∀ (h : Fin 4) (p q : Fin 128), (iblk m c 8 t : Vec Ideal S1x4x128x128 .f32) (ValueIdx.ix4 (0 : Fin 1) h p q) = ((SF b.val (4 * g + h.val) p.val q.val : ℝ) : EReal) := fun h p q =>
    (blk_8 m c t h p q (ValueIdx.ix4 b ⟨4 * g + h.val, by omega⟩ p q) hb (by rw [← hg]) rfl rfl).trans (hSF _)
  have e9 : ∀ (h : Fin 4) (p q : Fin 128), (iblk m c 9 t : Vec Ideal S1x4x128x128 .f32) (ValueIdx.ix4 (0 : Fin 1) h p q) = ((SB b.val (4 * g + h.val) p.val q.val : ℝ) : EReal) := fun h p q =>
    (blk_9 m c t h p q (ValueIdx.ix4 b ⟨4 * g + h.val, by omega⟩ p q) hb (by rw [← hg]) rfl rfl).trans (hSB _)
  have key := block_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    scM0_0.view.junk scM0_1.view.junk scM0_2.view.junk scM0_3.view.junk scM0_4.view.junk scM0_5.view.junk (ms0_10 t).view.junk
    _ _ _ _ _ _ (fun h => SF b.val (4 * g + h)) (fun h => SB b.val (4 * g + h)) e0 e1 e2 e3 e5 e6 e8 e9 (fun j hj => hpF _ (by omega)) (fun j hj => hpB _ (by omega)) r cc ⟨cc.val / 128, by omega⟩ ⟨cc.val % 128, by omega⟩ (by show cc.val = 128 * (cc.val / 128) + cc.val % 128; omega)
  refine Eq.trans key ?_
  rw [oF_eq, oB_eq, e7, e4]
  exact (ref_out (r18 h0) hLF hLB hpF hpB hSF hSB b r col ⟨4 * g + cc.val / 128, by omega⟩ ⟨cc.val % 128, by omega⟩ (by show col.val = 128 * (4 * g + cc.val / 128) + cc.val % 128; omega)).symm

/-- The result array after the run. -/
theorem array_value : (dats m 0 c).arrAt 10 (cfgs 0).N
      = (Cert.ReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S4x2048x2048.Idx → EReal) := by
  refine (dats m 0 c).arrAt_eq_of_covers 10 _ (by decide +kernel) fun t hf y => ?_
  blk_simp
  rw [after0_10]
  have hy0 : ((y : S1x2048x512.Idx) 0).val < 1 := ((y : S1x2048x512.Idx) 0).isLt
  have hy1 : ((y : S1x2048x512.Idx) 1).val < 2048 := ((y : S1x2048x512.Idx) 1).isLt
  have hy2 : ((y : S1x2048x512.Idx) 2).val < 512 := ((y : S1x2048x512.Idx) 2).isLt
  have hb : (grid0.coords t 0).val < 4 := (grid0.coords t 0).isLt
  have hg : (grid0.coords t 1).val < 4 := (grid0.coords t 1).isLt
  have ey : (y : S1x2048x512.Idx) = ValueIdx.ix3 (0 : Fin 1) ⟨((y : S1x2048x512.Idx) 1).val, hy1⟩ ⟨((y : S1x2048x512.Idx) 2).val, hy2⟩ := by
    funext a
    match a with
    | ⟨0, _⟩ => exact Fin.ext (by show ((y : S1x2048x512.Idx) 0).val = 0; omega)
    | ⟨1, _⟩ => rfl
    | ⟨2, _⟩ => rfl
  refine (congrArg (outAt m c t) ey).trans ((block_value m c h0 hLF hLB hpF hpB hSF hSB t _ _ ⟨(grid0.coords t 0).val, hb⟩
    ⟨512 * (grid0.coords t 1).val + ((y : S1x2048x512.Idx) 2).val, by omega⟩ rfl rfl).trans ?_)
  refine congrArg (Cert.ReferenceIdeal.Read.val_main_v159 (F := Ideal) _ _ _ _ _) (funext fun a => Fin.ext ?_)
  match a with
  | ⟨0, _⟩ => refine Eq.trans ?_ (win0_10.rect_emb_val t y (0 : Fin 3)).symm; rw [idx_10]; show (grid0.coords t 0).val = (grid0.coords t 0).val * 1 + ((y : S1x2048x512.Idx) 0).val; omega
  | ⟨1, _⟩ => refine Eq.trans ?_ (win0_10.rect_emb_val t y (1 : Fin 3)).symm; rw [idx_10]; show ((y : S1x2048x512.Idx) 1).val = 0 * 2048 + ((y : S1x2048x512.Idx) 1).val; omega
  | ⟨2, _⟩ => refine Eq.trans ?_ (win0_10.rect_emb_val t y (2 : Fin 3)).symm; rw [idx_10]; show 512 * (grid0.coords t 1).val + ((y : S1x2048x512.Idx) 2).val = (grid0.coords t 1).val * 512 + ((y : S1x2048x512.Idx) 2).val; omega

end Value

end Cert.Hgrn
-- ==== Proof.Final.lean ====
module

public import proofs.«01_k».proof.Defs
public import proofs.«01_k».proof.Proof.Result
public import proofs.«01_k».proof.Proof.Gen.ReferenceIdeal.Run
public import Idealize.ShloMosaic.Lib.Quiescent

@[expose] public section

noncomputable section

namespace Cert.Hgrn

open Idealize.ShloMosaic Idealize.ShloMosaic.TcCoe Idealize.SL.Sem
open Cert.KernelIdeal Cert.KernelIdeal.Gen

/-- Under the precondition the array that the kernel leaves is the reference's. -/
theorem value_of_finite [Cert.Pre_finite.Facts] (m : (ℓ : Loc nD τ sig) → Buf (Elt Ideal) ℓ) (c : Dev nD)
    (h : Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) :
    (dats m 0 c).arrAt 10 (cfgs 0).N
      = (Cert.ReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S4x2048x2048.Idx → EReal) := by
  obtain ⟨h0, h1, h3, h4⟩ := finite_args h
  obtain ⟨LF, hLF, hpF⟩ := lbF h1
  obtain ⟨LB, hLB, hpB⟩ := lbB h1
  have state : ∀ x : (⟨4, ![4, 16, 128, 128]⟩ : Shape).Idx → EReal, (∀ i, ∃ r : ℝ, x i = (r : EReal)) → ∃ S : ℕ → ℕ → ℕ → ℕ → ℝ, R4 x S := by
    intro x hx
    choose f hf using hx
    refine ⟨fun a b p q => if k : a < 4 ∧ b < 16 ∧ p < 128 ∧ q < 128 then f (ValueIdx.ix4 ⟨a, k.1⟩ ⟨b, k.2.1⟩ ⟨p, k.2.2.1⟩ ⟨q, k.2.2.2⟩) else 0, fun i => ?_⟩
    have k : (i 0).val < 4 ∧ (i 1).val < 16 ∧ (i 2).val < 128 ∧ (i 3).val < 128 := ⟨(i 0).isLt, (i 1).isLt, (i 2).isLt, (i 3).isLt⟩
    rw [hf i]
    beta_reduce
    rw [dif_pos k]
    refine congrArg (fun j => ((f j : ℝ) : EReal)) (funext fun a => ?_)
    match a with
    | ⟨0, _⟩ => rfl
    | ⟨1, _⟩ => rfl
    | ⟨2, _⟩ => rfl
    | ⟨3, _⟩ => rfl
  obtain ⟨SF, hSF⟩ := state _ h3
  obtain ⟨SB, hSB⟩ := state _ h4
  refine array_value m c (P := fun b t j => if k : b < 4 ∧ t < 2048 ∧ j < 18432 then EReal.toReal ((m ((c : Thread nD τ).loc main_arg0) : FVec Ideal S4x2048x18432 .bf16) (ValueIdx.ix3 ⟨b, k.1⟩ ⟨t, k.2.1⟩ ⟨j, k.2.2⟩)) else 0)
    (fun b t j hj => ?_) hLF hLB (fun j hj => hpF j hj) (fun j hj => hpB j hj) hSF hSB
  obtain ⟨r, hr⟩ := h0 b t j hj
  rw [dif_pos ⟨b.isLt, t.isLt, j.isLt⟩]
  exact hr.trans (congrArg (fun x : EReal => ((x.toReal : ℝ) : EReal)) hr.symm)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's value depends on its arguments alone. -/
theorem val_congr {x0 y0 x1 y1 x2 y2 x3 y3 x4 y4} (h0 : x0 = y0) (h1 : x1 = y1) (h2 : x2 = y2) (h3 : x3 = y3) (h4 : x4 = y4) :
    Cert.ReferenceIdeal.Read.val_main_v159 (F := Ideal) x0 x1 x2 x3 x4 = Cert.ReferenceIdeal.Read.val_main_v159 (F := Ideal) y0 y1 y2 y3 y4 := by
  rw [h0, h1, h2, h3, h4]

/-- Kernel and reference compute one function. -/
theorem equal [Cert.Pre_finite.Facts] : Cert.algebraic_KernelIdeal_ReferenceIdeal_pre_finite := by
  intro m g m' g' hpre hag
  refine ⟨fun c => (Cert.ReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S4x2048x2048.Idx → EReal), ?_, ?_⟩
  · exact (θ_run Cert.KernelIdeal.defs _ _).mono (fun r h c => ⟨((h.2.1 c).1 10).trans (value_of_finite m c (hpre c)), h.1.1 c⟩)
      (θ_run_and (frame_ideal m g) (run_main_quiescent m g))
  · refine (θ_run Cert.ReferenceIdeal.defs _ _).mono (fun r h c => ⟨((h c).1.trans (Cert.ReferenceIdeal.Read.val_main_v159_eq (F := Ideal) _)).trans ?_, (h c).2⟩)
      (Cert.ReferenceIdeal.Value.run (F := Ideal) m' g')
    obtain ⟨a0, a1, a2, a3, a4⟩ := hag c
    exact val_congr a0 a1 a2 a3 a4

end Cert.Hgrn
-- ==== Proof.Product.lean ====
module

public import Idealize.ShloMosaic.Lib.ValueIdx
public import Idealize.ShloMosaic.Lib.MatmulPlain
public import Idealize.ShloMosaic.Lib.Pipeline.Value
public import Idealize.ShloMosaic.Lib.IdealHost

@[expose] public section

noncomputable section

open scoped BigOperators

namespace Cert.Layer

open Idealize.ShloMosaic

/-- A row of one array times a column of another, entries taken at the indices given. -/
def dots {A B : Type} {K : ℕ} (x : A → EReal) (w : B → EReal) (p : Fin K → A) (q : Fin K → B) : EReal := ∑ k : Fin K, x (p k) * w (q k)

/-- The logistic function, written out by its quotient. -/
theorem quot_logistic (a : EReal) :
    Ideal.div (Ideal.ofBits .f32 0x3F800000#32) (Ideal.ofBits .f32 0x3F800000#32 + Ideal.exp (-a)) = Ideal.logistic a := by
  rw [Ideal.ofBits_one_f32]
  rfl

/-- A product from a zero accumulator, entry by entry. -/
theorem prod_apply {M K N : ℕ} {φ₁ φ₂ : FTy} (X : FVec Ideal ⟨2, ![M, K]⟩ φ₁) (Y : FVec Ideal ⟨2, ![K, N]⟩ φ₂) (r : Fin M) (j : Fin N) :
    matmul (F := Ideal) (DotDims.plain M K N) none X Y (constant ⟨2, ![M, N]⟩ .f32 0x00000000#32) (ValueIdx.ix2 r j)
      = ∑ k : Fin K, X (ValueIdx.ix2 r k) * Y (ValueIdx.ix2 k j) := by
  refine (Ideal.matmul_plain_apply none X Y _ r j).trans ?_
  have h : (constant ⟨2, ![M, N]⟩ .f32 0x00000000#32 : FVec Ideal ⟨2, ![M, N]⟩ .f32) (ValueIdx.ix2 r j) = 0 := Ideal.ofBits_zero_f32
  rw [h, zero_add]

/-- A block without its unit axis. -/
theorem drop_apply {α : Type} {M K : ℕ} (X : (⟨3, ![1, M, K]⟩ : Shape).Idx → α) (h : (⟨3, ![1, M, K]⟩ : Shape).ShapeCasts ⟨2, ![M, K]⟩) (r : Fin M) (k : Fin K) :
    shapeCast ⟨2, ![M, K]⟩ X h (ValueIdx.ix2 r k) = X (ValueIdx.ix3 (0 : Fin 1) r k) := by
  refine shapeCast_apply X h (ValueIdx.ix2 r k) (ValueIdx.ix3 (0 : Fin 1) r k) ?_
  rw [Shape.rowMajor_val_three, Shape.rowMajor_val_two]
  show (0 * M + r.val) * K + k.val = r.val * K + k.val
  rw [Nat.zero_mul, Nat.zero_add]

/-- A block with a unit axis put in front. -/
theorem put_apply {α : Type} {M K : ℕ} (X : (⟨2, ![M, K]⟩ : Shape).Idx → α) (h : (⟨2, ![M, K]⟩ : Shape).ShapeCasts ⟨3, ![1, M, K]⟩) (r : Fin M) (k : Fin K) :
    shapeCast ⟨3, ![1, M, K]⟩ X h (ValueIdx.ix3 (0 : Fin 1) r k) = X (ValueIdx.ix2 r k) := by
  refine shapeCast_apply X h (ValueIdx.ix3 (0 : Fin 1) r k) (ValueIdx.ix2 r k) ?_
  rw [Shape.rowMajor_val_three, Shape.rowMajor_val_two]
  show r.val * K + k.val = (0 * M + r.val) * K + k.val
  rw [Nat.zero_mul, Nat.zero_add]

end Cert.Layer
-- ==== Proof.Out.lean ====
module

public import proofs.«01_k».proof.Defs
public import proofs.«01_k».proof.Proof.Product
public import proofs.«01_k».proof.Proof.Gen.OutKernel.Frame
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.ValueLayout
public import Idealize.ShloMosaic.Lib.Quiescent

@[expose] public section

set_option maxRecDepth 16384

noncomputable section

open scoped BigOperators

namespace Cert.Layer.Out

open Idealize.ShloMosaic Idealize.ShloMosaic.TcCoe Idealize.ShloMosaic.Tactic Idealize.SL.Sem
open Idealize.ShloMosaic.Pipeline (Dat Cfg Window)
open Cert.OutKernelIdeal Cert.OutKernelIdeal.Gen

variable (m : (ℓ : Loc nD τ sig) → Buf (Elt Ideal) ℓ)

/-- An addend and a scaled sum. -/
def scaled (x g s : EReal) : EReal := x + g * s

/-- The weights' copy, entry by entry. -/
theorem pay1 (w : Vec Ideal S4096x512 .f32) (i : S4096x512.Idx) : k0_pay1 w i = w i := by
  unfold k0_pay1
  refine (shapeCast_apply _ shapeCasts_S4096x512_S4096x512 i i rfl).trans ?_
  exact shapeCast_apply w shapeCasts_S4096x512_S4096x512 i i rfl

/-- The body's result, entry by entry. -/
theorem pay2 (x : Vec Ideal S1024x512 .f32) (g : Vec Ideal S1x1x512 .f32) (y : Vec Ideal S1024x4096 .bf16) (w : Vec Ideal S4096x512 .bf16) (r : Fin 1024) (j : Fin 512) :
    k0_pay2 x g y w (ValueIdx.ix2 r j)
      = scaled (x (ValueIdx.ix2 r j)) (g (ValueIdx.ix3 (0 : Fin 1) (0 : Fin 1) j)) (dots y w (fun k : Fin 4096 => ValueIdx.ix2 r k) (fun k => ValueIdx.ix2 k j)) := by
  have hx : shapeCast S1024x512 x shapeCasts_S1024x512_S1024x512 (ValueIdx.ix2 r j) = x (ValueIdx.ix2 r j) := shapeCast_apply x shapeCasts_S1024x512_S1024x512 _ _ rfl
  have hg : broadcastTo S1024x512 (shapeCast S1x512 g shapeCasts_S1x1x512_S1x512) broadcasts_S1x512_S1024x512 (ValueIdx.ix2 r j) = g (ValueIdx.ix3 (0 : Fin 1) (0 : Fin 1) j) :=
    (ValueIdx.broadcastTo_1b_ab_apply (shapeCast S1x512 g shapeCasts_S1x1x512_S1x512) broadcasts_S1x512_S1024x512 r j).trans (drop_apply g shapeCasts_S1x1x512_S1x512 (0 : Fin 1) j)
  have hs : matmul (F := Ideal) (φ₁ := .bf16) (φ₂ := .bf16) dot_S1024x4096_S4096x512_S1024x512_1_0_0_1_n_n none (shapeCast S1024x4096 y shapeCasts_S1024x4096_S1024x4096) w (constant S1024x512 .f32 0x00000000#32) (ValueIdx.ix2 r j)
      = dots y w (fun k : Fin 4096 => ValueIdx.ix2 r k) (fun k => ValueIdx.ix2 k j) := by
    refine (prod_apply (φ₁ := .bf16) (φ₂ := .bf16) _ _ r j).trans (Finset.sum_congr rfl fun k _ => ?_)
    exact congrArg (· * _) (shapeCast_apply y shapeCasts_S1024x4096_S1024x4096 _ _ rfl)
  unfold k0_pay2
  exact congrArg₂ (· + ·) hx (congrArg₂ (· * ·) hg hs)

theorem entry0 (c : Dev nD) : V m c main_v0 = shapeCast S8192x4096 (m ((c : Thread nD τ).loc main_arg0) : FVec Ideal S4x2048x4096 .bf16) shapeCasts_S4x2048x4096_S8192x4096 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S4096x4096 (m ((c : Thread nD τ).loc main_arg1) : FVec Ideal S1x4096x4096 .f32) shapeCasts_S1x4096x4096_S4096x4096 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem entry2 (c : Dev nD) : V m c main_v2 = shapeCast S8192x4096 (m ((c : Thread nD τ).loc main_arg2) : FVec Ideal S4x2048x4096 .f32) shapeCasts_S4x2048x4096_S8192x4096 := by
  show StableHlo.after hostOps0 (fun b => m (c, b)) (Proc.devRef .tc main_v2) = _
  simp only [hostOps0, StableHlo.TRef.binary, StableHlo.TRef.nullary, StableHlo.TRef.unary, StableHlo.TRef.toBuf, StableHlo.TRef.ofBuf, cast_eq]
  after_results_simp
  rfl

theorem entry3 (c : Dev nD) : V m c main_v3 = shapeCast S4x1x4096 (m ((c : Thread nD τ).loc main_arg3) : FVec Ideal S4x4096 .f32) shapeCasts_S4x4096_S4x1x4096 := by
  show StableHlo.after hostOps0 (fun b => m (c, b)) (Proc.devRef .tc main_v3) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![t.val % 8, 0] := by decide +kernel
theorem idx_1 : ∀ t : Fin grid0.N, win0_1.index t = ![0, t.val / 8] := by decide +kernel
theorem idx_2 : ∀ t : Fin grid0.N, win0_2.index t = ![t.val % 8, t.val / 8] := by decide +kernel
theorem idx_3 : ∀ t : Fin grid0.N, win0_3.index t = ![t.val % 8 / 2, 0, t.val / 8] := by decide +kernel
theorem idx_4 : ∀ t : Fin grid0.N, win0_4.index t = ![t.val % 8, t.val / 8] := by decide +kernel

theorem lt_N (t : Fin grid0.N) : t.val < 64 := lt_of_lt_of_eq t.isLt N_0

/-- The rows' block at a point. -/
theorem blk_0 (c : Dev nD) (t : Fin grid0.N) (r : Fin 1024) (k : Fin 4096) (i : S4x2048x4096.Idx)
    (e0 : (i 0).val = (1024 * (t.val % 8) + r.val) / 2048) (e1 : (i 1).val = (1024 * (t.val % 8) + r.val) % 2048) (e2 : (i 2).val = k.val) :
    (iblk m c 0 t : Vec Ideal S1024x4096 .bf16) (ValueIdx.ix2 r k) = (m ((c : Thread nD τ).loc main_arg0) : FVec Ideal S4x2048x4096 .bf16) i := by
  have hr := r.isLt
  have hk := k.isLt
  have ht := lt_N t
  refine Eq.trans (b := V m c main_v0 (ValueIdx.ix2 ⟨1024 * (t.val % 8) + r.val, by omega⟩ k)) (congrArg (V m c main_v0) (funext fun q => Fin.ext ?_)) ?_
  · match q with
    | ⟨0, _⟩ => refine (win0_0.rect_emb_val t (ValueIdx.ix2 r k) (0 : Fin 2)).trans ?_; rw [idx_0]; show t.val % 8 * 1024 + r.val = 1024 * (t.val % 8) + r.val; omega
    | ⟨1, _⟩ => refine (win0_0.rect_emb_val t (ValueIdx.ix2 r k) (1 : Fin 2)).trans ?_; rw [idx_0]; show 0 * 4096 + k.val = k.val; omega
  · rw [entry0]
    refine shapeCast_apply _ shapeCasts_S4x2048x4096_S8192x4096 _ i ?_
    rw [Shape.rowMajor_val_three, Shape.rowMajor_val_two]
    show ((i 0).val * 2048 + (i 1).val) * 4096 + (i 2).val = (1024 * (t.val % 8) + r.val) * 4096 + (k.val)
    rw [e0, e1, e2]
    omega

/-- The addend's block at a point. -/
theorem blk_2 (c : Dev nD) (t : Fin grid0.N) (r : Fin 1024) (k : Fin 512) (i : S4x2048x4096.Idx)
    (e0 : (i 0).val = (1024 * (t.val % 8) + r.val) / 2048) (e1 : (i 1).val = (1024 * (t.val % 8) + r.val) % 2048) (e2 : (i 2).val = 512 * (t.val / 8) + k.val) :
    (iblk m c 2 t : Vec Ideal S1024x512 .f32) (ValueIdx.ix2 r k) = (m ((c : Thread nD τ).loc main_arg2) : FVec Ideal S4x2048x4096 .f32) i := by
  have hr := r.isLt
  have hk := k.isLt
  have ht := lt_N t
  refine Eq.trans (b := V m c main_v2 (ValueIdx.ix2 ⟨1024 * (t.val % 8) + r.val, by omega⟩ ⟨512 * (t.val / 8) + k.val, by omega⟩)) (congrArg (V m c main_v2) (funext fun q => Fin.ext ?_)) ?_
  · match q with
    | ⟨0, _⟩ => refine (win0_2.rect_emb_val t (ValueIdx.ix2 r k) (0 : Fin 2)).trans ?_; rw [idx_2]; show t.val % 8 * 1024 + r.val = 1024 * (t.val % 8) + r.val; omega
    | ⟨1, _⟩ => refine (win0_2.rect_emb_val t (ValueIdx.ix2 r k) (1 : Fin 2)).trans ?_; rw [idx_2]; show t.val / 8 * 512 + k.val = 512 * (t.val / 8) + k.val; omega
  · rw [entry2]
    refine shapeCast_apply _ shapeCasts_S4x2048x4096_S8192x4096 _ i ?_
    rw [Shape.rowMajor_val_three, Shape.rowMajor_val_two]
    show ((i 0).val * 2048 + (i 1).val) * 4096 + (i 2).val = (1024 * (t.val % 8) + r.val) * 4096 + (512 * (t.val / 8) + k.val)
    rw [e0, e1, e2]
    omega

/-- The weights' block at a point. -/
theorem blk_1 (c : Dev nD) (t : Fin grid0.N) (k : Fin 4096) (j : Fin 512) (i : S1x4096x4096.Idx)
    (e1 : (i 1).val = k.val) (e2 : (i 2).val = 512 * (t.val / 8) + j.val) :
    (iblk m c 1 t : Vec Ideal S4096x512 .f32) (ValueIdx.ix2 k j) = (m ((c : Thread nD τ).loc main_arg1) : FVec Ideal S1x4096x4096 .f32) i := by
  have ht := lt_N t
  have hj := j.isLt
  have hi : (i 0).val < 1 := (i 0).isLt
  refine Eq.trans (b := V m c main_v1 (ValueIdx.ix2 k ⟨512 * (t.val / 8) + j.val, by omega⟩)) (congrArg (V m c main_v1) (funext fun q => Fin.ext ?_)) ?_
  · match q with
    | ⟨0, _⟩ => refine (win0_1.rect_emb_val t (ValueIdx.ix2 k j) (0 : Fin 2)).trans ?_; rw [idx_1]; show 0 * 4096 + k.val = k.val; omega
    | ⟨1, _⟩ => refine (win0_1.rect_emb_val t (ValueIdx.ix2 k j) (1 : Fin 2)).trans ?_; rw [idx_1]; show t.val / 8 * 512 + j.val = 512 * (t.val / 8) + j.val; omega
  · rw [entry1]
    refine shapeCast_apply _ shapeCasts_S1x4096x4096_S4096x4096 _ i ?_
    rw [Shape.rowMajor_val_three, Shape.rowMajor_val_two]
    show ((i 0).val * 4096 + (i 1).val) * 4096 + (i 2).val = k.val * 4096 + (512 * (t.val / 8) + j.val)
    rw [e1, e2]
    omega

/-- The scales' block at a point. -/
theorem blk_3 (c : Dev nD) (t : Fin grid0.N) (j : Fin 512) (i : S4x4096.Idx)
    (e0 : (i 0).val = t.val % 8 / 2) (e1 : (i 1).val = 512 * (t.val / 8) + j.val) :
    (iblk m c 3 t : Vec Ideal S1x1x512 .f32) (ValueIdx.ix3 (0 : Fin 1) (0 : Fin 1) j) = (m ((c : Thread nD τ).loc main_arg3) : FVec Ideal S4x4096 .f32) i := by
  have ht := lt_N t
  have hj := j.isLt
  refine Eq.trans (b := V m c main_v3 (ValueIdx.ix3 ⟨t.val % 8 / 2, by omega⟩ (0 : Fin 1) ⟨512 * (t.val / 8) + j.val, by omega⟩)) (congrArg (V m c main_v3) (funext fun q => Fin.ext ?_)) ?_
  · match q with
    | ⟨0, _⟩ => refine (win0_3.rect_emb_val t (ValueIdx.ix3 (0 : Fin 1) (0 : Fin 1) j) (0 : Fin 3)).trans ?_; rw [idx_3]; show t.val % 8 / 2 * 1 + 0 = t.val % 8 / 2; omega
    | ⟨1, _⟩ => refine (win0_3.rect_emb_val t (ValueIdx.ix3 (0 : Fin 1) (0 : Fin 1) j) (1 : Fin 3)).trans ?_; rw [idx_3]; show 0 * 1 + 0 = 0; omega
    | ⟨2, _⟩ => refine (win0_3.rect_emb_val t (ValueIdx.ix3 (0 : Fin 1) (0 : Fin 1) j) (2 : Fin 3)).trans ?_; rw [idx_3]; show t.val / 8 * 512 + j.val = 512 * (t.val / 8) + j.val; omega
  · rw [entry3]
    refine shapeCast_apply _ shapeCasts_S4x4096_S4x1x4096 _ i ?_
    rw [Shape.rowMajor_val_three, Shape.rowMajor_val_two]
    show (i 0).val * 4096 + (i 1).val = (t.val % 8 / 2 * 1 + 0) * 4096 + (512 * (t.val / 8) + j.val)
    rw [e0, e1]
    omega

theorem scr_A (c : Dev nD) (t : Fin cfg0.N) (h : t.val % 8 = 0) : ∀ i, (outsAt0 m c t.val t.isLt).2 i = (iblk m c 1 t : Vec Ideal S4096x512 .f32) i := by
  intro i
  rw [outsAt0_A m c t h]
  frame_out
  exact pay1 _ i

theorem scr_B (c : Dev nD) (t : Fin cfg0.N) (h : ¬t.val % 8 = 0) : ∀ i, (outsAt0 m c t.val t.isLt).2 i = (outsAt0 m c (t.val - 1) (Nat.lt_of_le_of_lt (Nat.sub_le _ _) t.isLt)).2 i := by
  intro i
  rw [outsAt0_B m c t h]
  rfl

/-- The carried copy of the weights at a point is that point's block. -/
theorem scr (c : Dev nD) (t : Fin cfg0.N) (k : Fin 4096) (j : Fin 512) (i : S1x4096x4096.Idx)
    (e1 : (i 1).val = k.val) (e2 : (i 2).val = 512 * (t.val / 8) + j.val) :
    (outsAt0 m c t.val t.isLt).2 (ValueIdx.ix2 k j) = (m ((c : Thread nD τ).loc main_arg1) : FVec Ideal S1x4096x4096 .f32) i := by
  refine (Pipeline.eq_of_write_hold_apply (fun n h => (outsAt0 m c n h).2) 8 (fun t => (iblk m c 1 t : Vec Ideal S4096x512 .f32)) (scr_A m c) (scr_B m c) t (ValueIdx.ix2 k j)).trans ?_
  refine blk_1 m c _ k j i e1 (e2.trans ?_)
  show 512 * (t.val / 8) + j.val = 512 * (8 * (t.val / 8) / 8) + j.val
  omega

/-- What a point leaves in its block of the result. -/
theorem out (c : Dev nD) (t : Fin cfg0.N) (r : Fin 1024) (j : Fin 512) (p : Fin 4096 → S4x2048x4096.Idx) (q : Fin 4096 → S1x4096x4096.Idx) (u : S4x2048x4096.Idx) (v : S4x4096.Idx)
    (hp : ∀ k, (p k 0).val = (1024 * (t.val % 8) + r.val) / 2048 ∧ (p k 1).val = (1024 * (t.val % 8) + r.val) % 2048 ∧ (p k 2).val = k.val)
    (hq : ∀ k, (q k 1).val = k.val ∧ (q k 2).val = 512 * (t.val / 8) + j.val)
    (hu : (u 0).val = (1024 * (t.val % 8) + r.val) / 2048 ∧ (u 1).val = (1024 * (t.val % 8) + r.val) % 2048 ∧ (u 2).val = 512 * (t.val / 8) + j.val)
    (hv : (v 0).val = t.val % 8 / 2 ∧ (v 1).val = 512 * (t.val / 8) + j.val) :
    (outsAt0 m c t.val t.isLt).1 (ValueIdx.ix2 r j)
      = scaled ((m ((c : Thread nD τ).loc main_arg2) : FVec Ideal S4x2048x4096 .f32) u) ((m ((c : Thread nD τ).loc main_arg3) : FVec Ideal S4x4096 .f32) v)
          (dots (m ((c : Thread nD τ).loc main_arg0) : FVec Ideal S4x2048x4096 .bf16) (m ((c : Thread nD τ).loc main_arg1) : FVec Ideal S1x4096x4096 .f32) p q) := by
  have hx := blk_2 m c t r j u hu.1 hu.2.1 hu.2.2
  have hg := blk_3 m c t j v hv.1 hv.2
  by_cases h : t.val % 8 = 0
  · rw [outsAt0_A m c t h]
    frame_out
    refine (pay2 _ _ _ _ r j).trans (congr (congrArg₂ scaled hx hg) (Finset.sum_congr rfl fun k _ => ?_))
    refine congrArg₂ (· * ·) (blk_0 m c t r k _ (hp k).1 (hp k).2.1 (hp k).2.2) ?_
    exact (pay1 _ _).trans (blk_1 m c t k j _ (hq k).1 (hq k).2)
  · have e : ∀ i, (outsAt0 m c (t.val - 1) (Nat.lt_of_le_of_lt (Nat.sub_le _ _) t.isLt)).2 i = (outsAt0 m c t.val t.isLt).2 i := fun i => (scr_B m c t h i).symm
    rw [outsAt0_B m c t h]
    frame_out
    refine (pay2 _ _ _ _ r j).trans (congr (congrArg₂ scaled hx hg) (Finset.sum_congr rfl fun k _ => ?_))
    refine congrArg₂ (· * ·) (blk_0 m c t r k _ (hp k).1 (hp k).2.1 (hp k).2.2) ?_
    exact (congrFun (read_unread_whole cc0_scratch0 _ _) _).trans ((e _).trans (scr m c t k j _ (hq k).1 (hq k).2))

open Cert.OutReferenceIdeal.Read in
/-- The reference's value, entry by entry. -/
theorem ref_value (x : FVec Ideal S4x2048x4096 .bf16) (w : FVec Ideal S1x4096x4096 .f32) (z : FVec Ideal S4x2048x4096 .f32) (g : FVec Ideal S4x4096 .f32) (i : S8192x4096.Idx)
    (p : Fin 4096 → S4x2048x4096.Idx) (q : Fin 4096 → S1x4096x4096.Idx) (u : S4x2048x4096.Idx) (v : S4x4096.Idx)
    (hp : ∀ k, (p k 0).val = (i 0).val / 2048 ∧ (p k 1).val = (i 0).val % 2048 ∧ (p k 2).val = k.val)
    (hq : ∀ k, (q k 1).val = k.val ∧ (q k 2).val = (i 1).val)
    (hu : (u 0).val = (i 0).val / 2048 ∧ (u 1).val = (i 0).val % 2048 ∧ (u 2).val = (i 1).val)
    (hv : (v 0).val = (i 0).val / 2048 ∧ (v 1).val = (i 1).val) :
    val_main_v7 (F := Ideal) x w z g i = scaled (z u) (g v) (dots x w p q) := by
  have h0 : (i 0).val < 8192 := (i 0).isLt
  have h1 : (i 1).val < 4096 := (i 1).isLt
  rw [val_main_v7_apply, val_main_v6_apply, val_main_v5_apply, val_main_v4_apply, val_main_v3_apply]
  show scaled (z (idx_main_v7 i)) (g (idx_main_v3 (idx_main_v4 (idx_main_v7 i)))) (val_main_v2 (F := Ideal) x w (idx_main_v7 i)) = _
  refine congr (congrArg₂ scaled (congrArg z (funext fun a => Fin.ext ?_)) (congrArg g (funext fun a => Fin.ext ?_))) ((val_main_v2_apply x w _).trans (Finset.sum_congr rfl fun k _ => ?_))
  · match a with
    | ⟨0, _⟩ => refine Eq.trans ?_ hu.1.symm; show ((i 0).val * 4096 + (i 1).val) / 8388608 = (i 0).val / 2048; omega
    | ⟨1, _⟩ => refine Eq.trans ?_ hu.2.1.symm; show ((i 0).val * 4096 + (i 1).val) / 4096 % 2048 = (i 0).val % 2048; omega
    | ⟨2, _⟩ => refine Eq.trans ?_ hu.2.2.symm; show ((i 0).val * 4096 + (i 1).val) % 4096 = (i 1).val; omega
  · match a with
    | ⟨0, _⟩ => refine Eq.trans ?_ hv.1.symm; show ((i 0).val * 4096 + (i 1).val) / 8388608 = (i 0).val / 2048; omega
    | ⟨1, _⟩ => refine Eq.trans ?_ hv.2.symm; show ((i 0).val * 4096 + (i 1).val) % 4096 = (i 1).val; omega
  · have hk := k.isLt
    obtain ⟨p0, p1, p2⟩ := hp k
    obtain ⟨q1, q2⟩ := hq k
    have q0 : (q k 0).val < 1 := (q k 0).isLt
    rw [val_main_v0_apply, val_main_v1_apply]
    refine congrArg₂ (· * ·) (congrArg x (funext fun a => Fin.ext ?_)) (congrArg w (funext fun a => Fin.ext ?_))
    · match a with
      | ⟨0, _⟩ => refine Eq.trans ?_ p0.symm; show ((i 0).val * 4096 + (i 1).val) / 8388608 = (i 0).val / 2048; omega
      | ⟨1, _⟩ => refine Eq.trans ?_ p1.symm; show ((i 0).val * 4096 + (i 1).val) / 4096 % 2048 = (i 0).val % 2048; omega
      | ⟨2, _⟩ => exact p2.symm
    · match a with
      | ⟨0, _⟩ => show 0 = (q k 0).val; omega
      | ⟨1, _⟩ => refine Eq.trans ?_ q1.symm; show (k.val * 4096 + ((i 0).val * 4096 + (i 1).val) % 4096) / 4096 % 4096 = k.val; omega
      | ⟨2, _⟩ => refine Eq.trans ?_ q2.symm; show (k.val * 4096 + ((i 0).val * 4096 + (i 1).val) % 4096) % 4096 = (i 1).val; omega

/-- The array that the kernel leaves is the reference's. -/
theorem value (c : Dev nD) : (dats m 0 c).arrAt 4 cfg0.N
      = (Cert.OutReferenceIdeal.Read.val_main_v7 (F := Ideal) (m ((c : Thread nD τ).loc main_arg0)) (m ((c : Thread nD τ).loc main_arg1)) (m ((c : Thread nD τ).loc main_arg2)) (m ((c : Thread nD τ).loc main_arg3)) : S8192x4096.Idx → EReal) := by
  refine (dats m 0 c).arrAt_eq_of_covers 4 _ (by decide +kernel) fun t hf y => ?_
  blk_simp
  rw [after0_4]
  have ht := lt_N t
  have hy0 : ((y : S1024x512.Idx) 0).val < 1024 := ((y : S1024x512.Idx) 0).isLt
  have hy1 : ((y : S1024x512.Idx) 1).val < 512 := ((y : S1024x512.Idx) 1).isLt
  have ey : (y : S1024x512.Idx) = ValueIdx.ix2 ⟨((y : S1024x512.Idx) 0).val, hy0⟩ ⟨((y : S1024x512.Idx) 1).val, hy1⟩ := by
    funext a
    match a with
    | ⟨0, _⟩ => rfl
    | ⟨1, _⟩ => rfl
  have i0 := win0_4.rect_emb_val t y (0 : Fin 2)
  have i1 := win0_4.rect_emb_val t y (1 : Fin 2)
  rw [idx_4] at i0 i1
  have i0' : (((cfg0.win 4).blk t).view.emb y 0).val = t.val % 8 * 1024 + ((y : S1024x512.Idx) 0).val := i0
  have i1' : (((cfg0.win 4).blk t).view.emb y 1).val = t.val / 8 * 512 + ((y : S1024x512.Idx) 1).val := i1
  have a0 : (1024 * (t.val % 8) + ((y : S1024x512.Idx) 0).val) / 2048 = (((cfg0.win 4).blk t).view.emb y 0).val / 2048 := by
    refine Eq.trans ?_ (congrArg (· / 2048) i0'.symm); show (1024 * (t.val % 8) + ((y : S1024x512.Idx) 0).val) / 2048 = (t.val % 8 * 1024 + ((y : S1024x512.Idx) 0).val) / 2048; omega
  have a1 : (1024 * (t.val % 8) + ((y : S1024x512.Idx) 0).val) % 2048 = (((cfg0.win 4).blk t).view.emb y 0).val % 2048 := by
    refine Eq.trans ?_ (congrArg (· % 2048) i0'.symm); show (1024 * (t.val % 8) + ((y : S1024x512.Idx) 0).val) % 2048 = (t.val % 8 * 1024 + ((y : S1024x512.Idx) 0).val) % 2048; omega
  have a2 : 512 * (t.val / 8) + ((y : S1024x512.Idx) 1).val = (((cfg0.win 4).blk t).view.emb y 1).val := by
    refine Eq.trans ?_ i1'.symm; omega
  have a3 : t.val % 8 / 2 = (((cfg0.win 4).blk t).view.emb y 0).val / 2048 := by
    refine Eq.trans ?_ (congrArg (· / 2048) i0'.symm); show t.val % 8 / 2 = (t.val % 8 * 1024 + ((y : S1024x512.Idx) 0).val) / 2048; omega
  refine (congrArg (outsAt0 m c t.val t.isLt).1 ey).trans ((out m c t _ _
    (fun k => ValueIdx.ix3 ⟨(1024 * (t.val % 8) + ((y : S1024x512.Idx) 0).val) / 2048, by omega⟩ ⟨(1024 * (t.val % 8) + ((y : S1024x512.Idx) 0).val) % 2048, by omega⟩ k)
    (fun k => ValueIdx.ix3 (0 : Fin 1) k ⟨512 * (t.val / 8) + ((y : S1024x512.Idx) 1).val, by omega⟩)
    (ValueIdx.ix3 ⟨(1024 * (t.val % 8) + ((y : S1024x512.Idx) 0).val) / 2048, by omega⟩ ⟨(1024 * (t.val % 8) + ((y : S1024x512.Idx) 0).val) % 2048, by omega⟩ ⟨512 * (t.val / 8) + ((y : S1024x512.Idx) 1).val, by omega⟩)
    (ValueIdx.ix2 ⟨t.val % 8 / 2, by omega⟩ ⟨512 * (t.val / 8) + ((y : S1024x512.Idx) 1).val, by omega⟩)
    (fun k => ⟨rfl, rfl, rfl⟩) (fun k => ⟨rfl, rfl⟩) ⟨rfl, rfl, rfl⟩ ⟨rfl, rfl⟩).trans (Eq.symm (ref_value _ _ _ _ _ _ _ _ _ ?_ ?_ ?_ ?_)))
  · exact fun k => ⟨a0, a1, rfl⟩
  · exact fun k => ⟨rfl, a2⟩
  · exact ⟨a0, a1, a2⟩
  · exact ⟨a3, a2⟩

theorem frame_kernel : Cert.quiescent_OutKernel := fun m ρ _ => Cert.OutKernel.Gen.frame m ρ
theorem frame_ideal : Cert.quiescent_OutKernelIdeal := fun m ρ _ => Cert.OutKernelIdeal.Gen.frame m ρ
theorem frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem val_congr {x0 y0 x1 y1 x2 y2 x3 y3} (h0 : x0 = y0) (h1 : x1 = y1) (h2 : x2 = y2) (h3 : x3 = y3) :
    Cert.OutReferenceIdeal.Read.val_main_v7 (F := Ideal) x0 x1 x2 x3 = Cert.OutReferenceIdeal.Read.val_main_v7 (F := Ideal) y0 y1 y2 y3 := by
  rw [h0, h1, h2, h3]

/-- Kernel and reference compute one function. -/
theorem equal : Cert.algebraic_OutKernelIdeal_OutReferenceIdeal := by
  intro m g m' g' _ hag
  refine ⟨fun c => (Cert.OutReferenceIdeal.Read.val_main_v7 (F := Ideal) (m ((c : Thread nD τ).loc main_arg0)) (m ((c : Thread nD τ).loc main_arg1)) (m ((c : Thread nD τ).loc main_arg2)) (m ((c : Thread nD τ).loc main_arg3)) : S8192x4096.Idx → EReal), ?_, ?_⟩
  · exact (θ_run Cert.OutKernelIdeal.defs _ _).mono (fun r h c => ⟨(h c).1.trans (value m c), (h c).2⟩)
      (Cert.OutKernelIdeal.Value.run_blocks (F := Ideal) m g)
  · refine (θ_run Cert.OutReferenceIdeal.defs _ _).mono (fun r h c => ⟨((h c).1.trans (Cert.OutReferenceIdeal.Read.val_main_v7_eq (F := Ideal) _ _ _ _)).trans ?_, (h c).2⟩)
      (Cert.OutReferenceIdeal.Value.run (F := Ideal) m' g')
    obtain ⟨a0, a1, a2, a3⟩ := hag c
    exact val_congr a0 a1 a2 a3

end Cert.Layer.Out
-- ==== Proof.Conv.lean ====
module

public import proofs.«01_k».proof.Defs
public import proofs.«01_k».proof.Proof.Product
public import proofs.«01_k».proof.Proof.Gen.ConvKernel.Frame
public import proofs.«01_k».proof.Proof.Gen.ConvKernelIdeal.Value
public import proofs.«01_k».proof.Proof.Gen.ConvReferenceIdeal.Run
public import proofs.«01_k».proof.Proof.Gen.ConvReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.KernelVsHost
public import Idealize.ShloMosaic.Lib.ValueLayout
public import Idealize.ShloMosaic.Lib.Quiescent

@[expose] public section

set_option maxRecDepth 16384

noncomputable section

open scoped BigOperators

namespace Cert.Layer.Conv

open Idealize.ShloMosaic Idealize.ShloMosaic.TcCoe Idealize.ShloMosaic.Tactic Idealize.SL.Sem
open Idealize.ShloMosaic.Pipeline (Dat Cfg Window)
open Cert.ConvKernelIdeal Cert.ConvKernelIdeal.Gen

variable (m : (ℓ : Loc nD τ sig) → Buf (Elt Ideal) ℓ)

/-- Three neighbours under three weights, and an offset. -/
def taps (a b d u v w z : EReal) : EReal := a * u + b * v + d * w + z

/-- The weights' copy, entry by entry. -/
theorem pay1 (w : Vec Ideal S4096x512 .f32) (i : S4096x512.Idx) : k0_pay1 w i = w i := by
  unfold k0_pay1
  refine (shapeCast_apply _ shapeCasts_S4096x512_S4096x512 i i rfl).trans ?_
  exact shapeCast_apply w shapeCasts_S4096x512_S4096x512 i i rfl

/-- A row of the block times a column of the weights. -/
def prod (X : Vec Ideal S1x1x512x4096 .bf16) (W : Vec Ideal S4096x512 .bf16) (r j : Fin 512) : EReal :=
  dots X W (fun k : Fin 4096 => ValueIdx.ix4 (0 : Fin 1) (0 : Fin 1) r k) (fun k => ValueIdx.ix2 k j)

theorem flat (X : Vec Ideal S1x1x512x4096 .bf16) (r : Fin 512) (k : Fin 4096) :
    shapeCast S512x4096 X shapeCasts_S1x1x512x4096_S512x4096 (ValueIdx.ix2 r k) = X (ValueIdx.ix4 (0 : Fin 1) (0 : Fin 1) r k) := by
  refine shapeCast_apply X shapeCasts_S1x1x512x4096_S512x4096 _ _ ?_
  rw [Shape.rowMajor_val_four, Shape.rowMajor_val_two]
  show ((0 * 1 + 0) * 512 + r.val) * 4096 + k.val = r.val * 4096 + k.val
  omega

theorem pay2 (X : Vec Ideal S1x1x512x4096 .bf16) (W : Vec Ideal S4096x512 .bf16) (r j : Fin 512) : k0_pay2 X W (ValueIdx.ix2 r j) = prod X W r j := by
  unfold k0_pay2 prod dots
  refine (prod_apply (φ₁ := .bf16) (φ₂ := .bf16) _ _ r j).trans (Finset.sum_congr rfl fun k _ => ?_)
  exact congrArg (· * _) (flat X r k)

theorem pay3 (X : Vec Ideal S1x1x512x4096 .bf16) (W : Vec Ideal S4096x512 .bf16) (r j : Fin 512) : k0_pay3 X W (ValueIdx.ix2 r j) = prod X W r j := by
  unfold k0_pay3 prod dots
  refine (prod_apply (φ₁ := .bf16) (φ₂ := .bf16) _ _ r j).trans (Finset.sum_congr rfl fun k _ => ?_)
  exact congrArg (· * _) (flat X r k)

/-- The row before, around the end. -/
def bef (r : Fin 512) : Fin 512 := ⟨(r.val + 511) % 512, Nat.mod_lt _ (by decide)⟩

/-- The row after, around the end. -/
def aft (r : Fin 512) : Fin 512 := ⟨(r.val + 1) % 512, Nat.mod_lt _ (by decide)⟩

theorem roll_bef (x : FVec Ideal S512x512 .f32) (r j : Fin 512) : dynamicRotate 0 1#32 none x rotates_S512x512_d0 (ValueIdx.ix2 r j) = x (ValueIdx.ix2 (bef r) j) := by
  refine dynamicRotate_apply 0 1#32 x rotates_S512x512_d0 _ _ fun b => ?_
  match b with
  | ⟨0, _⟩ =>
    show (r.val + 511) % 512 = (r.val + 512 - 1 % 512) % 512
    omega
  | ⟨1, _⟩ => rfl

theorem roll_aft (x : FVec Ideal S512x512 .f32) (r j : Fin 512) : dynamicRotate 0 511#32 none x rotates_S512x512_d0 (ValueIdx.ix2 r j) = x (ValueIdx.ix2 (aft r) j) := by
  refine dynamicRotate_apply 0 511#32 x rotates_S512x512_d0 _ _ fun b => ?_
  match b with
  | ⟨0, _⟩ =>
    show (r.val + 1) % 512 = (r.val + 512 - 511 % 512) % 512
    omega
  | ⟨1, _⟩ => rfl

theorem rows : ∀ r : Fin 512, k0_pay4 (ValueIdx.ix2 r (0 : Fin 512)) = BitVec.ofNat 32 (r.val % 32) := by decide +kernel

theorem row (r j : Fin 512) : k0_pay4 (ValueIdx.ix2 r j) = BitVec.ofNat 32 (r.val % 32) := rows r

/-- The marks on the rows that have one before. -/
theorem mark (r j : Fin 512) : k0_pay5 (ValueIdx.ix2 r j) = if r.val % 32 = 0 then 0#1 else 1#1 := by
  have h : ∀ r : Fin 512, Scalar.cmpi .ne (BitVec.ofNat 32 (r.val % 32)) 0#32 = if r.val % 32 = 0 then 0#1 else 1#1 := by decide +kernel
  refine Eq.trans ?_ (h r)
  unfold k0_pay5
  exact congrArg (fun v => Scalar.cmpi .ne v 0#32) (row r j)

/-- The marks on the rows that have one after. -/
theorem mark_aft (r j : Fin 512) : cmpi .ne k0_pay4 (broadcast S512x512 31#32) (ValueIdx.ix2 r j) = if r.val % 32 = 31 then 0#1 else 1#1 := by
  have h : ∀ r : Fin 512, Scalar.cmpi .ne (BitVec.ofNat 32 (r.val % 32)) 31#32 = if r.val % 32 = 31 then 0#1 else 1#1 := by decide +kernel
  refine Eq.trans ?_ (h r)
  exact congrArg (fun v => Scalar.cmpi .ne v 31#32) (row r j)

theorem choose (p : Prop) [Decidable p] (a b : EReal) : Scalar.select (if p then 0#1 else 1#1) a b = if p then b else a := by
  by_cases h : p
  · rw [if_pos h, if_pos h]; rfl
  · rw [if_neg h, if_neg h]; rfl

theorem same (v : Vec Ideal S3x512 .f32) (i : S3x512.Idx) : k0_pay8 v i = v i := by
  unfold k0_pay8
  exact shapeCast_apply v shapeCasts_S3x512_S3x512 _ _ rfl

/-- The first weight row, over every row. -/
theorem wrow0 (v : Vec Ideal S3x512 .f32) (r j : Fin 512) :
    broadcastTo S512x512 (extractStridedSlice S1x512 ![0, 0] (k0_pay8 v) slices_S3x512_o0_0_S1x512) broadcasts_S1x512_S512x512 (ValueIdx.ix2 r j) = v (ValueIdx.ix2 (0 : Fin 3) j) := by
  refine Eq.trans ?_ (same v _)
  generalize k0_pay8 v = y
  have e : extractStridedSlice S1x512 ![0, 0] y slices_S3x512_o0_0_S1x512 (ValueIdx.ix2 (0 : Fin 1) j) = y (ValueIdx.ix2 (0 : Fin 3) j) :=
    extractStridedSlice_apply ![0, 0] y slices_S3x512_o0_0_S1x512 (ValueIdx.ix2 (0 : Fin 1) j) (ValueIdx.ix2 (0 : Fin 3) j) fun a => by
      match a with
      | ⟨0, _⟩ => rfl
      | ⟨1, _⟩ => exact (Nat.zero_add _).symm
  exact (ValueIdx.broadcastTo_1b_ab_apply _ broadcasts_S1x512_S512x512 r j).trans e

/-- The second weight row, over every row. -/
theorem wrow1 (v : Vec Ideal S3x512 .f32) (r j : Fin 512) :
    broadcastTo S512x512 (extractStridedSlice S1x512 ![1, 0] (k0_pay8 v) slices_S3x512_o1_0_S1x512) broadcasts_S1x512_S512x512 (ValueIdx.ix2 r j) = v (ValueIdx.ix2 (1 : Fin 3) j) := by
  refine Eq.trans ?_ (same v _)
  generalize k0_pay8 v = y
  have e : extractStridedSlice S1x512 ![1, 0] y slices_S3x512_o1_0_S1x512 (ValueIdx.ix2 (0 : Fin 1) j) = y (ValueIdx.ix2 (1 : Fin 3) j) :=
    extractStridedSlice_apply ![1, 0] y slices_S3x512_o1_0_S1x512 (ValueIdx.ix2 (0 : Fin 1) j) (ValueIdx.ix2 (1 : Fin 3) j) fun a => by
      match a with
      | ⟨0, _⟩ => rfl
      | ⟨1, _⟩ => exact (Nat.zero_add _).symm
  exact (ValueIdx.broadcastTo_1b_ab_apply _ broadcasts_S1x512_S512x512 r j).trans e

/-- The third weight row, over every row. -/
theorem wrow2 (v : Vec Ideal S3x512 .f32) (r j : Fin 512) :
    broadcastTo S512x512 (extractStridedSlice S1x512 ![2, 0] (k0_pay8 v) slices_S3x512_o2_0_S1x512) broadcasts_S1x512_S512x512 (ValueIdx.ix2 r j) = v (ValueIdx.ix2 (2 : Fin 3) j) := by
  refine Eq.trans ?_ (same v _)
  generalize k0_pay8 v = y
  have e : extractStridedSlice S1x512 ![2, 0] y slices_S3x512_o2_0_S1x512 (ValueIdx.ix2 (0 : Fin 1) j) = y (ValueIdx.ix2 (2 : Fin 3) j) :=
    extractStridedSlice_apply ![2, 0] y slices_S3x512_o2_0_S1x512 (ValueIdx.ix2 (0 : Fin 1) j) (ValueIdx.ix2 (2 : Fin 3) j) fun a => by
      match a with
      | ⟨0, _⟩ => rfl
      | ⟨1, _⟩ => exact (Nat.zero_add _).symm
  exact (ValueIdx.broadcastTo_1b_ab_apply _ broadcasts_S1x512_S512x512 r j).trans e

theorem brow (v : Vec Ideal S1x512 .f32) (r j : Fin 512) :
    broadcastTo S512x512 (k0_pay9 v) broadcasts_S1x512_S512x512 (ValueIdx.ix2 r j) = v (ValueIdx.ix2 (0 : Fin 1) j) := by
  refine (ValueIdx.broadcastTo_1b_ab_apply _ broadcasts_S1x512_S512x512 r j).trans ?_
  unfold k0_pay9
  exact shapeCast_apply v shapeCasts_S1x512_S1x512 _ _ rfl

theorem unflat (v : FVec Ideal S512x512 .bf16) (r j : Fin 512) :
    shapeCast S1x1x512x512 v shapeCasts_S512x512_S1x1x512x512 (ValueIdx.ix4 (0 : Fin 1) (0 : Fin 1) r j) = v (ValueIdx.ix2 r j) := by
  refine shapeCast_apply v shapeCasts_S512x512_S1x1x512x512 _ _ ?_
  rw [Shape.rowMajor_val_four, Shape.rowMajor_val_two]
  show r.val * 512 + j.val = ((0 * 1 + 0) * 512 + r.val) * 512 + j.val
  omega

/-- What the body computes at a first row of a pair. -/
def lower (X Y : Vec Ideal S1x1x512x4096 .bf16) (W : Vec Ideal S4096x512 .bf16) (G : Vec Ideal S3x512 .f32) (B : Vec Ideal S1x512 .f32) (r j : Fin 512) : EReal :=
  taps (if r.val % 32 = 0 then 0 else prod Y W (bef r) j) (prod X W r j) (prod Y W r j)
    (G (ValueIdx.ix2 (0 : Fin 3) j)) (G (ValueIdx.ix2 (1 : Fin 3) j)) (G (ValueIdx.ix2 (2 : Fin 3) j)) (B (ValueIdx.ix2 (0 : Fin 1) j))

/-- What the body computes at a second row of a pair. -/
def upper (X Y : Vec Ideal S1x1x512x4096 .bf16) (W : Vec Ideal S4096x512 .bf16) (G : Vec Ideal S3x512 .f32) (B : Vec Ideal S1x512 .f32) (r j : Fin 512) : EReal :=
  taps (prod X W r j) (prod Y W r j) (if r.val % 32 = 31 then 0 else prod X W (aft r) j)
    (G (ValueIdx.ix2 (0 : Fin 3) j)) (G (ValueIdx.ix2 (1 : Fin 3) j)) (G (ValueIdx.ix2 (2 : Fin 3) j)) (B (ValueIdx.ix2 (0 : Fin 1) j))

theorem pay10 (X Y : Vec Ideal S1x1x512x4096 .bf16) (W : Vec Ideal S4096x512 .bf16) (G : Vec Ideal S3x512 .f32) (B : Vec Ideal S1x512 .f32) (r j : Fin 512) :
    k0_pay10 (k0_pay2 X W) (k0_pay3 Y W) k0_pay5 (k0_pay6 Y W) (k0_pay7 (F := Ideal)) G B (ValueIdx.ix4 (0 : Fin 1) (0 : Fin 1) r j) = lower X Y W G B r j := by
  have hs : select k0_pay5 (k0_pay6 Y W) (k0_pay7 (F := Ideal)) (ValueIdx.ix2 r j) = if r.val % 32 = 0 then 0 else prod Y W (bef r) j := by
    have hz : k0_pay7 (F := Ideal) (ValueIdx.ix2 r j) = 0 := Ideal.ofBits_zero_f32
    have hr : k0_pay6 Y W (ValueIdx.ix2 r j) = prod Y W (bef r) j := by
      unfold k0_pay6
      exact (roll_bef _ r j).trans (pay3 Y W (bef r) j)
    show Scalar.select (k0_pay5 (ValueIdx.ix2 r j)) (k0_pay6 Y W (ValueIdx.ix2 r j)) (k0_pay7 (F := Ideal) (ValueIdx.ix2 r j)) = _
    rw [hz, hr, mark]
    exact choose _ _ _
  unfold k0_pay10
  refine (unflat _ r j).trans ?_
  refine congrArg₂ (· + ·) (congrArg₂ (· + ·) (congrArg₂ (· + ·) (congrArg₂ (· * ·) hs ?_) (congrArg₂ (· * ·) (pay2 X W r j) ?_)) (congrArg₂ (· * ·) (pay3 Y W r j) ?_)) (brow B r j)
  · exact wrow0 G r j
  · exact wrow1 G r j
  · exact wrow2 G r j

theorem pay11 (X Y : Vec Ideal S1x1x512x4096 .bf16) (W : Vec Ideal S4096x512 .bf16) (G : Vec Ideal S3x512 .f32) (B : Vec Ideal S1x512 .f32) (r j : Fin 512) :
    k0_pay11 (k0_pay2 X W) (k0_pay3 Y W) k0_pay4 G B (ValueIdx.ix4 (0 : Fin 1) (0 : Fin 1) r j) = upper X Y W G B r j := by
  have hs : select (cmpi .ne k0_pay4 (broadcast S512x512 31#32)) (dynamicRotate 0 511#32 none (k0_pay2 X W) rotates_S512x512_d0) (broadcast S512x512 (Scalar.ofBits .f32 0x00000000#32 : Ideal .f32)) (ValueIdx.ix2 r j)
      = if r.val % 32 = 31 then 0 else prod X W (aft r) j := by
    have hz : broadcast S512x512 (Scalar.ofBits .f32 0x00000000#32 : Ideal .f32) (ValueIdx.ix2 r j) = 0 := Ideal.ofBits_zero_f32
    have hr : dynamicRotate 0 511#32 none (k0_pay2 X W) rotates_S512x512_d0 (ValueIdx.ix2 r j) = prod X W (aft r) j := (roll_aft _ r j).trans (pay2 X W (aft r) j)
    show Scalar.select (cmpi .ne k0_pay4 (broadcast S512x512 31#32) (ValueIdx.ix2 r j)) (dynamicRotate 0 511#32 none (k0_pay2 X W) rotates_S512x512_d0 (ValueIdx.ix2 r j)) (broadcast S512x512 (Scalar.ofBits .f32 0x00000000#32 : Ideal .f32) (ValueIdx.ix2 r j)) = _
    rw [hz, hr, mark_aft]
    exact choose _ _ _
  unfold k0_pay11
  refine (unflat _ r j).trans ?_
  refine congrArg₂ (· + ·) (congrArg₂ (· + ·) (congrArg₂ (· + ·) (congrArg₂ (· * ·) (pay2 X W r j) ?_) (congrArg₂ (· * ·) (pay3 Y W r j) ?_)) (congrArg₂ (· * ·) hs ?_)) (brow B r j)
  · exact wrow0 G r j
  · exact wrow1 G r j
  · exact wrow2 G r j

/-- What the body computes at an entry of its block. -/
def entry (X Y : Vec Ideal S1x1x512x4096 .bf16) (W : Vec Ideal S4096x512 .bf16) (G : Vec Ideal S3x512 .f32) (B : Vec Ideal S1x512 .f32) (y : S1x2x512x512.Idx) : EReal :=
  if (y 1).val = 0 then lower X Y W G B (y 2) (y 3) else upper X Y W G B (y 2) (y 3)

/-- The first rows of the pairs. -/
theorem piece0 (X Y : Vec Ideal S1x1x512x4096 .bf16) (W : Vec Ideal S4096x512 .bf16) (G : Vec Ideal S3x512 .f32) (B : Vec Ideal S1x512 .f32)
    (x : S1x1x512x512.Idx) (y : S1x2x512x512.Idx) (h1 : (y 1).val = (x 1).val) (h2 : (y 2).val = (x 2).val) (h3 : (y 3).val = (x 3).val) :
    k0_pay10 (k0_pay2 X W) (k0_pay3 Y W) k0_pay5 (k0_pay6 Y W) (k0_pay7 (F := Ideal)) G B x = entry X Y W G B y := by
  have l0 : (x 0).val < 1 := (x 0).isLt
  have l1 : (x 1).val < 1 := (x 1).isLt
  have ex : x = ValueIdx.ix4 (0 : Fin 1) (0 : Fin 1) (y 2) (y 3) := by
    funext a
    refine Fin.ext ?_
    match a with
    | ⟨0, _⟩ => show (x 0).val = 0; omega
    | ⟨1, _⟩ => show (x 1).val = 0; omega
    | ⟨2, _⟩ => exact h2.symm
    | ⟨3, _⟩ => exact h3.symm
  unfold entry
  rw [if_pos (by omega)]
  exact (congrArg _ ex).trans (pay10 X Y W G B (y 2) (y 3))

/-- The second rows of the pairs. -/
theorem piece1 (X Y : Vec Ideal S1x1x512x4096 .bf16) (W : Vec Ideal S4096x512 .bf16) (G : Vec Ideal S3x512 .f32) (B : Vec Ideal S1x512 .f32)
    (x : S1x1x512x512.Idx) (y : S1x2x512x512.Idx) (h1 : (y 1).val = 1 + (x 1).val) (h2 : (y 2).val = (x 2).val) (h3 : (y 3).val = (x 3).val) :
    k0_pay11 (k0_pay2 X W) (k0_pay3 Y W) k0_pay4 G B x = entry X Y W G B y := by
  have l0 : (x 0).val < 1 := (x 0).isLt
  have l1 : (x 1).val < 1 := (x 1).isLt
  have ex : x = ValueIdx.ix4 (0 : Fin 1) (0 : Fin 1) (y 2) (y 3) := by
    funext a
    refine Fin.ext ?_
    match a with
    | ⟨0, _⟩ => show (x 0).val = 0; omega
    | ⟨1, _⟩ => show (x 1).val = 0; omega
    | ⟨2, _⟩ => exact h2.symm
    | ⟨3, _⟩ => exact h3.symm
  unfold entry
  rw [if_neg (by omega)]
  exact (congrArg _ ex).trans (pay11 X Y W G B (y 2) (y 3))

theorem entry0 (c : Dev nD) : V m c main_v0 = shapeCast S4096x24576 (m ((c : Thread nD τ).loc main_arg1) : FVec Ideal S1x4096x24576 .f32) shapeCasts_S1x4096x24576_S4096x24576 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S3x6144 (m ((c : Thread nD τ).loc main_arg2) : FVec Ideal S1x3x6144 .f32) shapeCasts_S1x3x6144_S3x6144 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem entry3 (c : Dev nD) : V m c main_v3 = shapeCast S1x6144 (shapeCast S6144 (m ((c : Thread nD τ).loc main_arg3) : FVec Ideal S1x6144 .f32) shapeCasts_S1x6144_S6144) shapeCasts_S6144_S1x6144 := by
  show StableHlo.after hostOps0 (fun b => m (c, b)) (Proc.devRef .tc main_v3) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![t.val % 8 / 2, 0, t.val % 8 % 2, 0] := by decide +kernel
theorem idx_1 : ∀ t : Fin grid0.N, win0_1.index t = ![t.val % 8 / 2, 1, t.val % 8 % 2, 0] := by decide +kernel
theorem idx_2 : ∀ t : Fin grid0.N, win0_2.index t = ![0, t.val / 8] := by decide +kernel
theorem idx_3 : ∀ t : Fin grid0.N, win0_3.index t = ![0, t.val / 8] := by decide +kernel
theorem idx_4 : ∀ t : Fin grid0.N, win0_4.index t = ![0, t.val / 8] := by decide +kernel
theorem idx_5 : ∀ t : Fin grid0.N, win0_5.index t = ![t.val % 8 / 2, 0, t.val % 8 % 2, t.val / 8] := by decide +kernel

theorem lt_N (t : Fin grid0.N) : t.val < 96 := lt_of_lt_of_eq t.isLt N_0

/-- The first rows' block at a point. -/
theorem blk_0 (c : Dev nD) (t : Fin grid0.N) (r : Fin 512) (k : Fin 4096) (i : S4x2x1024x4096.Idx)
    (e0 : (i 0).val = t.val % 8 / 2) (e1 : (i 1).val = 0) (e2 : (i 2).val = 512 * (t.val % 8 % 2) + r.val) (e3 : (i 3).val = k.val) :
    (iblk m c 0 t : Vec Ideal S1x1x512x4096 .bf16) (ValueIdx.ix4 (0 : Fin 1) (0 : Fin 1) r k) = (m ((c : Thread nD τ).loc main_arg0) : FVec Ideal S4x2x1024x4096 .bf16) i := by
  refine Eq.trans (b := V m c main_arg0 i) (congrArg (V m c main_arg0) (funext fun q => Fin.ext ?_)) (congrFun (V_main_arg0 m c) i)
  match q with
  | ⟨0, _⟩ => refine (win0_0.rect_emb_val t (ValueIdx.ix4 (0 : Fin 1) (0 : Fin 1) r k) (0 : Fin 4)).trans (Eq.trans ?_ e0.symm); rw [idx_0]; show t.val % 8 / 2 * 1 + 0 = t.val % 8 / 2; omega
  | ⟨1, _⟩ => refine (win0_0.rect_emb_val t (ValueIdx.ix4 (0 : Fin 1) (0 : Fin 1) r k) (1 : Fin 4)).trans (Eq.trans ?_ e1.symm); rw [idx_0]; show 0 * 1 + 0 = 0; omega
  | ⟨2, _⟩ => refine (win0_0.rect_emb_val t (ValueIdx.ix4 (0 : Fin 1) (0 : Fin 1) r k) (2 : Fin 4)).trans (Eq.trans ?_ e2.symm); rw [idx_0]; show t.val % 8 % 2 * 512 + r.val = 512 * (t.val % 8 % 2) + r.val; omega
  | ⟨3, _⟩ => refine (win0_0.rect_emb_val t (ValueIdx.ix4 (0 : Fin 1) (0 : Fin 1) r k) (3 : Fin 4)).trans (Eq.trans ?_ e3.symm); rw [idx_0]; show 0 * 4096 + k.val = k.val; omega

/-- The second rows' block at a point. -/
theorem blk_1 (c : Dev nD) (t : Fin grid0.N) (r : Fin 512) (k : Fin 4096) (i : S4x2x1024x4096.Idx)
    (e0 : (i 0).val = t.val % 8 / 2) (e1 : (i 1).val = 1) (e2 : (i 2).val = 512 * (t.val % 8 % 2) + r.val) (e3 : (i 3).val = k.val) :
    (iblk m c 1 t : Vec Ideal S1x1x512x4096 .bf16) (ValueIdx.ix4 (0 : Fin 1) (0 : Fin 1) r k) = (m ((c : Thread nD τ).loc main_arg0) : FVec Ideal S4x2x1024x4096 .bf16) i := by
  refine Eq.trans (b := V m c main_arg0 i) (congrArg (V m c main_arg0) (funext fun q => Fin.ext ?_)) (congrFun (V_main_arg0 m c) i)
  match q with
  | ⟨0, _⟩ => refine (win0_1.rect_emb_val t (ValueIdx.ix4 (0 : Fin 1) (0 : Fin 1) r k) (0 : Fin 4)).trans (Eq.trans ?_ e0.symm); rw [idx_1]; show t.val % 8 / 2 * 1 + 0 = t.val % 8 / 2; omega
  | ⟨1, _⟩ => refine (win0_1.rect_emb_val t (ValueIdx.ix4 (0 : Fin 1) (0 : Fin 1) r k) (1 : Fin 4)).trans (Eq.trans ?_ e1.symm); rw [idx_1]; show 1 * 1 + 0 = 1; omega
  | ⟨2, _⟩ => refine (win0_1.rect_emb_val t (ValueIdx.ix4 (0 : Fin 1) (0 : Fin 1) r k) (2 : Fin 4)).trans (Eq.trans ?_ e2.symm); rw [idx_1]; show t.val % 8 % 2 * 512 + r.val = 512 * (t.val % 8 % 2) + r.val; omega
  | ⟨3, _⟩ => refine (win0_1.rect_emb_val t (ValueIdx.ix4 (0 : Fin 1) (0 : Fin 1) r k) (3 : Fin 4)).trans (Eq.trans ?_ e3.symm); rw [idx_1]; show 0 * 4096 + k.val = k.val; omega

/-- The weights' block at a point. -/
theorem blk_2 (c : Dev nD) (t : Fin grid0.N) (k : Fin 4096) (j : Fin 512) (i : S1x4096x24576.Idx)
    (e1 : (i 1).val = k.val) (e2 : (i 2).val = 512 * (t.val / 8) + j.val) :
    (iblk m c 2 t : Vec Ideal S4096x512 .f32) (ValueIdx.ix2 k j) = (m ((c : Thread nD τ).loc main_arg1) : FVec Ideal S1x4096x24576 .f32) i := by
  have ht := lt_N t
  have hj := j.isLt
  have hi : (i 0).val < 1 := (i 0).isLt
  refine Eq.trans (b := V m c main_v0 (ValueIdx.ix2 k ⟨512 * (t.val / 8) + j.val, by omega⟩)) (congrArg (V m c main_v0) (funext fun q => Fin.ext ?_)) ?_
  · match q with
    | ⟨0, _⟩ => refine (win0_2.rect_emb_val t (ValueIdx.ix2 k j) (0 : Fin 2)).trans ?_; rw [idx_2]; show 0 * 4096 + k.val = k.val; omega
    | ⟨1, _⟩ => refine (win0_2.rect_emb_val t (ValueIdx.ix2 k j) (1 : Fin 2)).trans ?_; rw [idx_2]; show t.val / 8 * 512 + j.val = 512 * (t.val / 8) + j.val; omega
  · rw [entry0]
    refine shapeCast_apply _ shapeCasts_S1x4096x24576_S4096x24576 _ i ?_
    rw [Shape.rowMajor_val_three, Shape.rowMajor_val_two]
    show ((i 0).val * 4096 + (i 1).val) * 24576 + (i 2).val = k.val * 24576 + (512 * (t.val / 8) + j.val)
    rw [e1, e2]
    omega

/-- The convolution weights' block at a point. -/
theorem blk_3 (c : Dev nD) (t : Fin grid0.N) (o : Fin 3) (j : Fin 512) (i : S1x3x6144.Idx)
    (e1 : (i 1).val = o.val) (e2 : (i 2).val = 512 * (t.val / 8) + j.val) :
    (iblk m c 3 t : Vec Ideal S3x512 .f32) (ValueIdx.ix2 o j) = (m ((c : Thread nD τ).loc main_arg2) : FVec Ideal S1x3x6144 .f32) i := by
  have ht := lt_N t
  have hj := j.isLt
  have hi : (i 0).val < 1 := (i 0).isLt
  refine Eq.trans (b := V m c main_v1 (ValueIdx.ix2 o ⟨512 * (t.val / 8) + j.val, by omega⟩)) (congrArg (V m c main_v1) (funext fun q => Fin.ext ?_)) ?_
  · match q with
    | ⟨0, _⟩ => refine (win0_3.rect_emb_val t (ValueIdx.ix2 o j) (0 : Fin 2)).trans ?_; rw [idx_3]; show 0 * 3 + o.val = o.val; omega
    | ⟨1, _⟩ => refine (win0_3.rect_emb_val t (ValueIdx.ix2 o j) (1 : Fin 2)).trans ?_; rw [idx_3]; show t.val / 8 * 512 + j.val = 512 * (t.val / 8) + j.val; omega
  · rw [entry1]
    refine shapeCast_apply _ shapeCasts_S1x3x6144_S3x6144 _ i ?_
    rw [Shape.rowMajor_val_three, Shape.rowMajor_val_two]
    show ((i 0).val * 3 + (i 1).val) * 6144 + (i 2).val = o.val * 6144 + (512 * (t.val / 8) + j.val)
    rw [e1, e2]
    omega

/-- The convolution offsets' block at a point. -/
theorem blk_4 (c : Dev nD) (t : Fin grid0.N) (j : Fin 512) (i : S1x6144.Idx)
    (e1 : (i 1).val = 512 * (t.val / 8) + j.val) :
    (iblk m c 4 t : Vec Ideal S1x512 .f32) (ValueIdx.ix2 (0 : Fin 1) j) = (m ((c : Thread nD τ).loc main_arg3) : FVec Ideal S1x6144 .f32) i := by
  have ht := lt_N t
  have hj := j.isLt
  have hi : (i 0).val < 1 := (i 0).isLt
  refine Eq.trans (b := V m c main_v3 (ValueIdx.ix2 (0 : Fin 1) ⟨512 * (t.val / 8) + j.val, by omega⟩)) (congrArg (V m c main_v3) (funext fun q => Fin.ext ?_)) ?_
  · match q with
    | ⟨0, _⟩ => refine (win0_4.rect_emb_val t (ValueIdx.ix2 (0 : Fin 1) j) (0 : Fin 2)).trans ?_; rw [idx_4]; show 0 * 1 + 0 = 0; omega
    | ⟨1, _⟩ => refine (win0_4.rect_emb_val t (ValueIdx.ix2 (0 : Fin 1) j) (1 : Fin 2)).trans ?_; rw [idx_4]; show t.val / 8 * 512 + j.val = 512 * (t.val / 8) + j.val; omega
  · rw [entry3]
    refine (shapeCast_apply _ shapeCasts_S6144_S1x6144 _ (ValueIdx.ix1 ⟨512 * (t.val / 8) + j.val, by omega⟩) ?_).trans (shapeCast_apply _ shapeCasts_S1x6144_S6144 _ i ?_)
    · rw [Shape.rowMajor_val_one, Shape.rowMajor_val_two]
      show 512 * (t.val / 8) + j.val = 0 * 6144 + (512 * (t.val / 8) + j.val)
      omega
    · rw [Shape.rowMajor_val_one, Shape.rowMajor_val_two]
      show (i 0).val * 6144 + (i 1).val = 512 * (t.val / 8) + j.val
      omega

theorem scr_A (c : Dev nD) (t : Fin cfg0.N) (h : t.val % 8 = 0) : ∀ i, (outsAt0 m c t.val t.isLt).2 i = (iblk m c 2 t : Vec Ideal S4096x512 .f32) i := by
  intro i
  rw [outsAt0_A m c t h]
  frame_out
  exact pay1 _ i

theorem scr_B (c : Dev nD) (t : Fin cfg0.N) (h : ¬t.val % 8 = 0) : ∀ i, (outsAt0 m c t.val t.isLt).2 i = (outsAt0 m c (t.val - 1) (Nat.lt_of_le_of_lt (Nat.sub_le _ _) t.isLt)).2 i := by
  intro i
  rw [outsAt0_B m c t h]
  rfl

/-- The carried copy of the weights at a point is that point's block. -/
theorem scr (c : Dev nD) (t : Fin cfg0.N) (k : Fin 4096) (j : Fin 512) (i : S1x4096x24576.Idx)
    (e1 : (i 1).val = k.val) (e2 : (i 2).val = 512 * (t.val / 8) + j.val) :
    (outsAt0 m c t.val t.isLt).2 (ValueIdx.ix2 k j) = (m ((c : Thread nD τ).loc main_arg1) : FVec Ideal S1x4096x24576 .f32) i := by
  refine (Pipeline.eq_of_write_hold_apply (fun n h => (outsAt0 m c n h).2) 8 (fun t => (iblk m c 2 t : Vec Ideal S4096x512 .f32)) (scr_A m c) (scr_B m c) t (ValueIdx.ix2 k j)).trans ?_
  refine blk_2 m c _ k j i e1 (e2.trans ?_)
  show 512 * (t.val / 8) + j.val = 512 * (8 * (t.val / 8) / 8) + j.val
  omega

/-- What a point leaves in its block, in terms of the weights' copy it leaves. -/
theorem block (c : Dev nD) (t : Fin cfg0.N) (y : S1x2x512x512.Idx) :
    (outsAt0 m c t.val t.isLt).1 y = entry (iblk m c 0 t) (iblk m c 1 t) (outsAt0 m c t.val t.isLt).2 (iblk m c 3 t) (iblk m c 4 t) y := by
  by_cases h : t.val % 8 = 0
  · have w0 : (outsAt0 m c t.val t.isLt).2 = k0_pay1 (iblk m c 2 t) := funext fun i => (scr_A m c t h i).trans (pay1 _ i).symm
    rw [w0, outsAt0_A m c t h]
    frame_out
    canon_tiles x hx
    · exact piece1 _ _ _ _ _ x y (by assumption) (by omega) (by omega)
    · exact piece0 _ _ _ _ _ x y (by omega) (by omega) (by omega)
  · have w0 : View.read (Elt Ideal) (View.whole cc0_scratch0) ((Memref.isWhole_whole cc0_scratch0).unread (outsAt0 m c (t.val - 1) (Nat.lt_of_le_of_lt (Nat.sub_le _ _) t.isLt)).2) = (outsAt0 m c t.val t.isLt).2 :=
      (read_unread_whole cc0_scratch0 _ _).trans (funext fun i => (scr_B m c t h i).symm)
    rw [← w0, outsAt0_B m c t h]
    frame_out
    canon_tiles x hx
    · exact piece1 _ _ _ _ _ x y (by assumption) (by omega) (by omega)
    · exact piece0 _ _ _ _ _ x y (by omega) (by omega) (by omega)

/-- One row of the input, in its own order, times one column of the weights. -/
def lin (x : FVec Ideal S4x2x1024x4096 .bf16) (w : FVec Ideal S1x4096x24576 .f32) (b : Fin 4) (l : ℕ) (j : Fin 6144) : EReal :=
  dots x w (fun k : Fin 4096 => ValueIdx.ix4 b (⟨l % 2, Nat.mod_lt _ (by decide)⟩ : Fin 2) (⟨l / 2 % 1024, Nat.mod_lt _ (by decide)⟩ : Fin 1024) k)
    (fun k => ValueIdx.ix3 (0 : Fin 1) k (⟨j.val, Nat.lt_of_lt_of_le j.isLt (by decide)⟩ : Fin 24576))

/-- The convolution at one row and column. -/
def target (x : FVec Ideal S4x2x1024x4096 .bf16) (w : FVec Ideal S1x4096x24576 .f32) (g : FVec Ideal S1x3x6144 .f32) (z : FVec Ideal S1x6144 .f32) (b : Fin 4) (l : ℕ) (j : Fin 6144) : EReal :=
  taps (if l % 64 = 0 then 0 else lin x w b (l - 1) j) (lin x w b l j) (if l % 64 = 63 then 0 else lin x w b (l + 1) j)
    (g (ValueIdx.ix3 (0 : Fin 1) (0 : Fin 3) j)) (g (ValueIdx.ix3 (0 : Fin 1) (1 : Fin 3) j)) (g (ValueIdx.ix3 (0 : Fin 1) (2 : Fin 3) j)) (z (ValueIdx.ix2 (0 : Fin 1) j))

theorem taps_congr {a a' b b' d d' u u' v v' w w' z z' : EReal} (ha : a = a') (hb : b = b') (hd : d = d') (hu : u = u') (hv : v = v') (hw : w = w') (hz : z = z') :
    taps a b d u v w z = taps a' b' d' u' v' w' z' := by
  rw [ha, hb, hd, hu, hv, hw, hz]

/-- A product of the first rows' block. -/
theorem prod_0 (c : Dev nD) (t : Fin cfg0.N) (r j : Fin 512) (b : Fin 4) (l : ℕ) (J : Fin 6144) (hb : b.val = t.val % 8 / 2)
    (hl : l = 2 * (512 * (t.val % 8 % 2) + r.val)) (hJ : J.val = 512 * (t.val / 8) + j.val) :
    prod (iblk m c 0 t) (outsAt0 m c t.val t.isLt).2 r j = lin (m ((c : Thread nD τ).loc main_arg0)) (m ((c : Thread nD τ).loc main_arg1)) b l J := by
  have hr := r.isLt
  unfold prod lin dots
  refine Finset.sum_congr rfl fun k _ => congrArg₂ (· * ·) (blk_0 m c t r k _ hb ?_ ?_ rfl) (scr m c t k j _ rfl hJ)
  · show l % 2 = 0; omega
  · show l / 2 % 1024 = 512 * (t.val % 8 % 2) + r.val; omega

/-- A product of the second rows' block. -/
theorem prod_1 (c : Dev nD) (t : Fin cfg0.N) (r j : Fin 512) (b : Fin 4) (l : ℕ) (J : Fin 6144) (hb : b.val = t.val % 8 / 2)
    (hl : l = 2 * (512 * (t.val % 8 % 2) + r.val) + 1) (hJ : J.val = 512 * (t.val / 8) + j.val) :
    prod (iblk m c 1 t) (outsAt0 m c t.val t.isLt).2 r j = lin (m ((c : Thread nD τ).loc main_arg0)) (m ((c : Thread nD τ).loc main_arg1)) b l J := by
  have hr := r.isLt
  unfold prod lin dots
  refine Finset.sum_congr rfl fun k _ => congrArg₂ (· * ·) (blk_1 m c t r k _ hb ?_ ?_ rfl) (scr m c t k j _ rfl hJ)
  · show l % 2 = 1; omega
  · show l / 2 % 1024 = 512 * (t.val % 8 % 2) + r.val; omega

/-- What a point leaves in its block of the result. -/
theorem out (c : Dev nD) (t : Fin cfg0.N) (y : S1x2x512x512.Idx) (b : Fin 4) (l : ℕ) (J : Fin 6144) (hb : b.val = t.val % 8 / 2)
    (hl : l = 2 * (512 * (t.val % 8 % 2) + (y 2).val) + (y 1).val) (hJ : J.val = 512 * (t.val / 8) + (y 3).val) :
    (outsAt0 m c t.val t.isLt).1 y = target (m ((c : Thread nD τ).loc main_arg0)) (m ((c : Thread nD τ).loc main_arg1)) (m ((c : Thread nD τ).loc main_arg2)) (m ((c : Thread nD τ).loc main_arg3)) b l J := by
  have h1 : (y 1).val < 2 := (y 1).isLt
  have h2 : (y 2).val < 512 := (y 2).isLt
  have g0 := blk_3 m c t (0 : Fin 3) (y 3) (ValueIdx.ix3 (0 : Fin 1) (0 : Fin 3) J) rfl hJ
  have g1 := blk_3 m c t (1 : Fin 3) (y 3) (ValueIdx.ix3 (0 : Fin 1) (1 : Fin 3) J) rfl hJ
  have g2 := blk_3 m c t (2 : Fin 3) (y 3) (ValueIdx.ix3 (0 : Fin 1) (2 : Fin 3) J) rfl hJ
  have gz := blk_4 m c t (y 3) (ValueIdx.ix2 (0 : Fin 1) J) hJ
  refine (block m c t y).trans ?_
  unfold entry
  by_cases h : (y 1).val = 0
  · rw [if_pos h]
    unfold lower target
    refine taps_congr ?_ (prod_0 m c t (y 2) (y 3) b l J hb (by omega) hJ) ?_ g0 g1 g2 gz
    · by_cases e : (y 2).val % 32 = 0
      · rw [if_pos e, if_pos (by omega)]
      · rw [if_neg e, if_neg (by omega)]
        refine prod_1 m c t (bef (y 2)) (y 3) b (l - 1) J hb ?_ hJ
        show l - 1 = 2 * (512 * (t.val % 8 % 2) + ((y 2).val + 511) % 512) + 1
        omega
    · rw [if_neg (by omega)]
      exact prod_1 m c t (y 2) (y 3) b (l + 1) J hb (by omega) hJ
  · rw [if_neg h]
    unfold upper target
    refine taps_congr ?_ (prod_1 m c t (y 2) (y 3) b l J hb (by omega) hJ) ?_ g0 g1 g2 gz
    · rw [if_neg (by omega)]
      exact prod_0 m c t (y 2) (y 3) b (l - 1) J hb (by omega) hJ
    · by_cases e : (y 2).val % 32 = 31
      · rw [if_pos e, if_pos (by omega)]
      · rw [if_neg e, if_neg (by omega)]
        refine prod_0 m c t (aft (y 2)) (y 3) b (l + 1) J hb ?_ hJ
        show l + 1 = 2 * (512 * (t.val % 8 % 2) + ((y 2).val + 1) % 512)
        omega

section Reference

open Cert.ConvReferenceIdeal.Read

variable (x : FVec Ideal S4x2x1024x4096 .bf16) (w : FVec Ideal S1x4096x24576 .f32) (g : FVec Ideal S1x3x6144 .f32) (z : FVec Ideal S1x6144 .f32)

theorem ref_left (b : Fin 4) (l : Fin 2048) (k : Fin 4096) : val_main_v2 (F := Ideal) x (ValueIdx.ix3 b l k)
    = x (ValueIdx.ix4 b (⟨l.val % 2, Nat.mod_lt _ (by decide)⟩ : Fin 2) (⟨l.val / 2 % 1024, Nat.mod_lt _ (by decide)⟩ : Fin 1024) k) := by
  have hb := b.isLt
  have hl := l.isLt
  have hk := k.isLt
  rw [val_main_v2_apply, val_main_v1_apply]
  refine congrArg x (funext fun a => Fin.ext ?_)
  match a with
  | ⟨0, _⟩ => show ((b.val * 2048 + l.val) * 4096 + k.val) / 8388608 = b.val; omega
  | ⟨1, _⟩ => show ((b.val * 2048 + l.val) * 4096 + k.val) / 4096 % 2 = l.val % 2; omega
  | ⟨2, _⟩ => show ((b.val * 2048 + l.val) * 4096 + k.val) / 8192 % 1024 = l.val / 2 % 1024; omega
  | ⟨3, _⟩ => show ((b.val * 2048 + l.val) * 4096 + k.val) % 4096 = k.val; omega

theorem ref_right (k : Fin 4096) (j : Fin 24576) : val_main_v3 (F := Ideal) w (ValueIdx.ix2 k j) = w (ValueIdx.ix3 (0 : Fin 1) k j) := by
  have hk := k.isLt
  have hj := j.isLt
  rw [val_main_v3_apply]
  refine congrArg w (funext fun a => Fin.ext ?_)
  match a with
  | ⟨0, _⟩ => rfl
  | ⟨1, _⟩ => show (k.val * 24576 + j.val) / 24576 % 4096 = k.val; omega
  | ⟨2, _⟩ => show (k.val * 24576 + j.val) % 24576 = j.val; omega

theorem ref_dot (b : Fin 4) (l : Fin 2048) (j : Fin 6144) : val_main_v5 (F := Ideal) x w (ValueIdx.ix3 b l j) = lin x w b l.val j := by
  rw [val_main_v5_apply]
  refine (val_main_v4_apply x w _).trans ?_
  unfold lin dots
  refine Finset.sum_congr rfl fun k _ => ?_
  refine congrArg₂ (· * ·) (Eq.trans (congrArg (val_main_v2 (F := Ideal) x) (funext fun a => ?_)) (ref_left x b l k)) (Eq.trans (congrArg (val_main_v3 (F := Ideal) w) (funext fun a => ?_)) (ref_right w k ⟨j.val, Nat.lt_of_lt_of_le j.isLt (by decide)⟩))
  · match a with
    | ⟨0, _⟩ => rfl
    | ⟨1, _⟩ => rfl
    | ⟨2, _⟩ => rfl
  · match a with
    | ⟨0, _⟩ => rfl
    | ⟨1, _⟩ => rfl

theorem ref_split (b : Fin 4) (u : Fin 32) (v : Fin 64) (j : Fin 6144) : val_main_v8 (F := Ideal) x w (ValueIdx.ix4 b u v j) = lin x w b (64 * u.val + v.val) j := by
  have hb := b.isLt
  have hu := u.isLt
  have hv := v.isLt
  have hj := j.isLt
  rw [val_main_v8_apply]
  refine Eq.trans (congrArg (val_main_v5 (F := Ideal) x w) (funext fun a => Fin.ext ?_)) (ref_dot x w b ⟨64 * u.val + v.val, by omega⟩ j)
  match a with
  | ⟨0, _⟩ => show (((b.val * 32 + u.val) * 64 + v.val) * 6144 + j.val) / 12582912 = b.val; omega
  | ⟨1, _⟩ => show (((b.val * 32 + u.val) * 64 + v.val) * 6144 + j.val) / 6144 % 2048 = 64 * u.val + v.val; omega
  | ⟨2, _⟩ => show (((b.val * 32 + u.val) * 64 + v.val) * 6144 + j.val) % 6144 = j.val; omega

/-- The padded rows. -/
theorem ref_pad (I : Cert.ConvReferenceIdeal.S4x32x66x6144.Idx) : val_main_v9 (F := Ideal) x w I
    = if (I 2).val = 0 ∨ (I 2).val = 65 then 0 else lin x w (I 0) (64 * (I 1).val + (I 2).val - 1) (I 3) := by
  have h2 : (I 2).val < 66 := (I 2).isLt
  by_cases h : (I 2).val = 0 ∨ (I 2).val = 65
  · rw [if_pos h]
    unfold val_main_v9
    refine (pad_apply_of_not_inside _ _ _ _ _ _ _ I (2 : Fin 4) ?_).trans ?_
    · rintro ⟨k1, k2, k3⟩
      have k1' : 1 ≤ (I 2).val := k1
      have k3' : ((I 2).val - 1) / 1 < 64 := k3
      rw [Nat.div_one] at k3'
      omega
    · show ((((0#32 : BitVec 32).toInt : ℤ) : ℝ) : EReal) = 0
      simp
  · rw [if_neg h]
    refine Eq.trans ?_ ((ref_split x w (I 0) (I 1) ⟨(I 2).val - 1, by omega⟩ (I 3)).trans ?_)
    · unfold val_main_v9
      refine pad_apply_of_inside _ _ _ _ _ _ _ I _ fun a => ?_
      match a with
      | ⟨0, _⟩ => show (I 0).val = 0 + (I 0).val * (0 + 1); omega
      | ⟨1, _⟩ => show (I 1).val = 0 + (I 1).val * (0 + 1); omega
      | ⟨2, _⟩ => show (I 2).val = 1 + ((I 2).val - 1) * (0 + 1); omega
      | ⟨3, _⟩ => show (I 3).val = 0 + (I 3).val * (0 + 1); omega
    · refine congrArg (fun l => lin x w (I 0) l (I 3)) ?_
      show 64 * (I 1).val + ((I 2).val - 1) = 64 * (I 1).val + (I 2).val - 1
      omega

theorem ref_w0 (I : Cert.ConvReferenceIdeal.S4x32x64x6144.Idx) : val_main_v14 (F := Ideal) g I = g (ValueIdx.ix3 (0 : Fin 1) (0 : Fin 3) (I 3)) := by
  have h3 : (I 3).val < 6144 := (I 3).isLt
  rw [val_main_v14_apply, val_main_v13_apply, val_main_v12_apply, val_main_v11_apply, val_main_v6_apply]
  refine congrArg g (funext fun a => Fin.ext ?_)
  match a with
  | ⟨0, _⟩ => rfl
  | ⟨1, _⟩ => show (0 * 6144 + (I 3).val % 6144) / 6144 % 3 = 0; omega
  | ⟨2, _⟩ => show (0 * 6144 + (I 3).val % 6144) % 6144 = (I 3).val; omega

theorem ref_w1 (I : Cert.ConvReferenceIdeal.S4x32x64x6144.Idx) : val_main_v20 (F := Ideal) g I = g (ValueIdx.ix3 (0 : Fin 1) (1 : Fin 3) (I 3)) := by
  have h3 : (I 3).val < 6144 := (I 3).isLt
  rw [val_main_v20_apply, val_main_v19_apply, val_main_v18_apply, val_main_v17_apply, val_main_v6_apply]
  refine congrArg g (funext fun a => Fin.ext ?_)
  match a with
  | ⟨0, _⟩ => rfl
  | ⟨1, _⟩ => show ((1 + 0) * 6144 + (I 3).val % 6144) / 6144 % 3 = 1; omega
  | ⟨2, _⟩ => show ((1 + 0) * 6144 + (I 3).val % 6144) % 6144 = (I 3).val; omega

theorem ref_w2 (I : Cert.ConvReferenceIdeal.S4x32x64x6144.Idx) : val_main_v27 (F := Ideal) g I = g (ValueIdx.ix3 (0 : Fin 1) (2 : Fin 3) (I 3)) := by
  have h3 : (I 3).val < 6144 := (I 3).isLt
  rw [val_main_v27_apply, val_main_v26_apply, val_main_v25_apply, val_main_v24_apply, val_main_v6_apply]
  refine congrArg g (funext fun a => Fin.ext ?_)
  match a with
  | ⟨0, _⟩ => rfl
  | ⟨1, _⟩ => show ((2 + 0) * 6144 + (I 3).val % 6144) / 6144 % 3 = 2; omega
  | ⟨2, _⟩ => show ((2 + 0) * 6144 + (I 3).val % 6144) % 6144 = (I 3).val; omega

theorem ref_z (I : Cert.ConvReferenceIdeal.S4x32x64x6144.Idx) : val_main_v31 (F := Ideal) z I = z (ValueIdx.ix2 (0 : Fin 1) (I 3)) := by
  have h3 : (I 3).val < 6144 := (I 3).isLt
  rw [val_main_v31_apply, val_main_v30_apply, val_main_v7_apply]
  refine congrArg z (funext fun a => Fin.ext ?_)
  match a with
  | ⟨0, _⟩ => rfl
  | ⟨1, _⟩ => show (I 3).val % 6144 = (I 3).val; omega

theorem ref_conv (I : Cert.ConvReferenceIdeal.S4x32x64x6144.Idx) : val_main_v32 (F := Ideal) x w g z I = target x w g z (I 0) (64 * (I 1).val + (I 2).val) (I 3) := by
  have h2 : (I 2).val < 64 := (I 2).isLt
  show taps (val_main_v10 (F := Ideal) x w I) (val_main_v16 (F := Ideal) x w I) (val_main_v23 (F := Ideal) x w I) (val_main_v14 (F := Ideal) g I) (val_main_v20 (F := Ideal) g I) (val_main_v27 (F := Ideal) g I) (val_main_v31 (F := Ideal) z I) = _
  unfold target
  refine taps_congr ?_ ?_ ?_ (ref_w0 g I) (ref_w1 g I) (ref_w2 g I) (ref_z z I)
  · rw [val_main_v10_apply, ref_pad]
    show (if (I 2).val = 0 ∨ (I 2).val = 65 then 0 else lin x w (I 0) (64 * (I 1).val + (I 2).val - 1) (I 3)) = _
    by_cases h : (I 2).val = 0
    · rw [if_pos (by omega), if_pos (by omega)]
    · rw [if_neg (by omega), if_neg (by omega)]
  · rw [val_main_v16_apply, ref_pad]
    show (if 1 + (I 2).val = 0 ∨ 1 + (I 2).val = 65 then 0 else lin x w (I 0) (64 * (I 1).val + (1 + (I 2).val) - 1) (I 3)) = _
    rw [if_neg (by omega)]
    exact congrArg (fun l => lin x w (I 0) l (I 3)) (by omega)
  · rw [val_main_v23_apply, ref_pad]
    show (if 2 + (I 2).val = 0 ∨ 2 + (I 2).val = 65 then 0 else lin x w (I 0) (64 * (I 1).val + (2 + (I 2).val) - 1) (I 3)) = _
    by_cases h : (I 2).val = 63
    · rw [if_pos (by omega), if_pos (by omega)]
    · rw [if_neg (by omega), if_neg (by omega)]
      exact congrArg (fun l => lin x w (I 0) l (I 3)) (by omega)

/-- The reference's value, entry by entry. -/
theorem ref_value (b : Fin 4) (q : Fin 2) (s : Fin 1024) (j : Fin 6144) :
    val_main_v35 (F := Ideal) x w g z (ValueIdx.ix4 b q s j) = target x w g z b (2 * s.val + q.val) j := by
  have hb := b.isLt
  have hq := q.isLt
  have hs := s.isLt
  have hj := j.isLt
  show val_main_v34 (F := Ideal) x w g z (ValueIdx.ix4 b q s j) = _
  rw [val_main_v34_apply, val_main_v33_apply]
  refine Eq.trans (congrArg (val_main_v32 (F := Ideal) x w g z) (funext fun a => Fin.ext ?_)) ((ref_conv x w g z (ValueIdx.ix4 b (⟨s.val / 32, by omega⟩ : Fin 32) (⟨(2 * s.val + q.val) % 64, by omega⟩ : Fin 64) j)).trans ?_)
  · match a with
    | ⟨0, _⟩ => show (((b.val * 1024 + s.val) * 2 + q.val) * 6144 + j.val) / 12582912 = b.val; omega
    | ⟨1, _⟩ => show (((b.val * 1024 + s.val) * 2 + q.val) * 6144 + j.val) / 393216 % 32 = s.val / 32; omega
    | ⟨2, _⟩ => show (((b.val * 1024 + s.val) * 2 + q.val) * 6144 + j.val) / 6144 % 64 = (2 * s.val + q.val) % 64; omega
    | ⟨3, _⟩ => show (((b.val * 1024 + s.val) * 2 + q.val) * 6144 + j.val) % 6144 = j.val; omega
  · refine congrArg (fun l => target x w g z b l j) ?_
    show 64 * (s.val / 32) + (2 * s.val + q.val) % 64 = 2 * s.val + q.val
    omega

end Reference

/-- The array that the kernel leaves is the reference's. -/
theorem value (c : Dev nD) : (dats m 0 c).arrAt 5 cfg0.N
      = (Cert.ConvReferenceIdeal.Read.val_main_v35 (F := Ideal) (m ((c : Thread nD τ).loc main_arg0)) (m ((c : Thread nD τ).loc main_arg1)) (m ((c : Thread nD τ).loc main_arg2)) (m ((c : Thread nD τ).loc main_arg3)) : S4x2x1024x6144.Idx → EReal) := by
  refine (dats m 0 c).arrAt_eq_of_covers 5 _ (by decide +kernel) fun t hf y => ?_
  blk_simp
  rw [after0_5]
  have ht := lt_N t
  have hy0 : ((y : S1x2x512x512.Idx) 0).val < 1 := ((y : S1x2x512x512.Idx) 0).isLt
  have hy1 : ((y : S1x2x512x512.Idx) 1).val < 2 := ((y : S1x2x512x512.Idx) 1).isLt
  have hy2 : ((y : S1x2x512x512.Idx) 2).val < 512 := ((y : S1x2x512x512.Idx) 2).isLt
  have hy3 : ((y : S1x2x512x512.Idx) 3).val < 512 := ((y : S1x2x512x512.Idx) 3).isLt
  have i0 := win0_5.rect_emb_val t y (0 : Fin 4)
  have i1 := win0_5.rect_emb_val t y (1 : Fin 4)
  have i2 := win0_5.rect_emb_val t y (2 : Fin 4)
  have i3 := win0_5.rect_emb_val t y (3 : Fin 4)
  rw [idx_5] at i0 i1 i2 i3
  have i0' : (((cfg0.win 5).blk t).view.emb y 0).val = t.val % 8 / 2 * 1 + ((y : S1x2x512x512.Idx) 0).val := i0
  have i1' : (((cfg0.win 5).blk t).view.emb y 1).val = 0 * 2 + ((y : S1x2x512x512.Idx) 1).val := i1
  have i2' : (((cfg0.win 5).blk t).view.emb y 2).val = t.val % 8 % 2 * 512 + ((y : S1x2x512x512.Idx) 2).val := i2
  have i3' : (((cfg0.win 5).blk t).view.emb y 3).val = t.val / 8 * 512 + ((y : S1x2x512x512.Idx) 3).val := i3
  refine (out m c t y ⟨t.val % 8 / 2, by omega⟩ (2 * (512 * (t.val % 8 % 2) + ((y : S1x2x512x512.Idx) 2).val) + ((y : S1x2x512x512.Idx) 1).val) ⟨512 * (t.val / 8) + ((y : S1x2x512x512.Idx) 3).val, by omega⟩ rfl rfl rfl).trans ?_
  refine Eq.symm (Eq.trans (congrArg _ (funext fun a => Fin.ext ?_)) (ref_value _ _ _ _ ⟨t.val % 8 / 2, by omega⟩ ⟨((y : S1x2x512x512.Idx) 1).val, hy1⟩ ⟨512 * (t.val % 8 % 2) + ((y : S1x2x512x512.Idx) 2).val, by omega⟩ ⟨512 * (t.val / 8) + ((y : S1x2x512x512.Idx) 3).val, by omega⟩))
  match a with
  | ⟨0, _⟩ => refine i0'.trans ?_; show t.val % 8 / 2 * 1 + ((y : S1x2x512x512.Idx) 0).val = t.val % 8 / 2; omega
  | ⟨1, _⟩ => refine i1'.trans ?_; show 0 * 2 + ((y : S1x2x512x512.Idx) 1).val = ((y : S1x2x512x512.Idx) 1).val; omega
  | ⟨2, _⟩ => refine i2'.trans ?_; show t.val % 8 % 2 * 512 + ((y : S1x2x512x512.Idx) 2).val = 512 * (t.val % 8 % 2) + ((y : S1x2x512x512.Idx) 2).val; omega
  | ⟨3, _⟩ => refine i3'.trans ?_; show t.val / 8 * 512 + ((y : S1x2x512x512.Idx) 3).val = 512 * (t.val / 8) + ((y : S1x2x512x512.Idx) 3).val; omega

theorem frame_kernel : Cert.quiescent_ConvKernel := fun m ρ _ => Cert.ConvKernel.Gen.frame m ρ
theorem frame_ideal : Cert.quiescent_ConvKernelIdeal := fun m ρ _ => Cert.ConvKernelIdeal.Gen.frame m ρ
theorem frame_reference : Cert.quiescent_ConvReferenceIdeal := fun m ρ _ =>
  (θ_run Cert.ConvReferenceIdeal.defs _ _).mono (fun r h => ⟨fun c => (h c).2, sem_eq_zero_of_no_sems (by decide) r.2⟩)
    (Cert.ConvReferenceIdeal.Value.run (F := Ideal) m ρ)

theorem val_congr {x0 y0 x1 y1 x2 y2 x3 y3} (h0 : x0 = y0) (h1 : x1 = y1) (h2 : x2 = y2) (h3 : x3 = y3) :
    Cert.ConvReferenceIdeal.Read.val_main_v35 (F := Ideal) x0 x1 x2 x3 = Cert.ConvReferenceIdeal.Read.val_main_v35 (F := Ideal) y0 y1 y2 y3 := by
  rw [h0, h1, h2, h3]

/-- Kernel and reference compute one function. -/
theorem equal : Cert.algebraic_ConvKernelIdeal_ConvReferenceIdeal := by
  intro m g m' g' _ hag
  refine ⟨fun c => (Cert.ConvReferenceIdeal.Read.val_main_v35 (F := Ideal) (m ((c : Thread nD τ).loc main_arg0)) (m ((c : Thread nD τ).loc main_arg1)) (m ((c : Thread nD τ).loc main_arg2)) (m ((c : Thread nD τ).loc main_arg3)) : S4x2x1024x6144.Idx → EReal), ?_, ?_⟩
  · exact (θ_run Cert.ConvKernelIdeal.defs _ _).mono (fun r h c => ⟨(h c).1.trans (value m c), (h c).2⟩)
      (Cert.ConvKernelIdeal.Value.run_blocks (F := Ideal) m g)
  · refine (θ_run Cert.ConvReferenceIdeal.defs _ _).mono (fun r h c => ⟨((h c).1.trans (Cert.ConvReferenceIdeal.Read.val_main_v35_eq (F := Ideal) _ _ _ _)).trans ?_, (h c).2⟩)
      (Cert.ConvReferenceIdeal.Value.run (F := Ideal) m' g')
    obtain ⟨a0, a1, a2, a3⟩ := hag c
    exact val_congr a0 a1 a2 a3

end Cert.Layer.Conv
-- ==== Proof.Ctx.lean ====
module

public import proofs.«01_k».proof.Defs
public import proofs.«01_k».proof.Proof.Product
public import proofs.«01_k».proof.Proof.Gen.CtxKernel.Frame
public import proofs.«01_k».proof.Proof.Gen.CtxKernelIdeal.Value
public import proofs.«01_k».proof.Proof.Gen.CtxReferenceIdeal.Run
public import proofs.«01_k».proof.Proof.Gen.CtxReferenceIdeal.Read
public import Idealize.ShloMosaic.Lib.Pipeline.ValueKit
public import Idealize.ShloMosaic.Lib.Quiescent

@[expose] public section

set_option maxRecDepth 16384

noncomputable section

open scoped BigOperators

namespace Cert.Layer.Ctx

open Idealize.ShloMosaic Idealize.ShloMosaic.TcCoe Idealize.ShloMosaic.Tactic Idealize.SL.Sem
open Idealize.ShloMosaic.Pipeline (Dat Cfg Window)
open Cert.CtxKernelIdeal Cert.CtxKernelIdeal.Gen

variable (m : (ℓ : Loc nD τ sig) → Buf (Elt Ideal) ℓ)

/-- The weights' copy, entry by entry. -/
theorem pay1 (w : Vec Ideal S4096x512 .f32) (i : S4096x512.Idx) : k0_pay1 w i = w i := by
  unfold k0_pay1
  refine (shapeCast_apply _ shapeCasts_S4096x512_S4096x512 i i rfl).trans ?_
  exact shapeCast_apply w shapeCasts_S4096x512_S4096x512 i i rfl

/-- The body's result, entry by entry. -/
theorem pay2 (x : Vec Ideal S1024x4096 .bf16) (w : Vec Ideal S4096x512 .bf16) (r : Fin 1024) (j : Fin 512) :
    k0_pay2 x w (ValueIdx.ix2 r j) = ∑ k : Fin 4096, x (ValueIdx.ix2 r k) * w (ValueIdx.ix2 k j) := by
  unfold k0_pay2
  refine (prod_apply (φ₁ := .bf16) (φ₂ := .bf16) _ _ r j).trans (Finset.sum_congr rfl fun k _ => ?_)
  exact congrArg (· * _) (shapeCast_apply x shapeCasts_S1024x4096_S1024x4096 _ _ rfl)

theorem entry0 (c : Dev nD) : V m c main_v0 = shapeCast S1024x4096 (m ((c : Thread nD τ).loc main_arg0) : FVec Ideal S4x256x4096 .bf16) shapeCasts_S4x256x4096_S1024x4096 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S4096x24576 (m ((c : Thread nD τ).loc main_arg1) : FVec Ideal S1x4096x24576 .f32) shapeCasts_S1x4096x24576_S4096x24576 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![0, 0] := by decide +kernel
theorem idx_1 : ∀ t : Fin grid0.N, win0_1.index t = ![0, 16 + t.val] := by decide +kernel
theorem idx_2 : ∀ t : Fin grid0.N, win0_2.index t = ![0, t.val] := by decide +kernel

theorem lt_N (t : Fin grid0.N) : t.val < 12 := lt_of_lt_of_eq t.isLt N_0

/-- The rows' block at a point. -/
theorem blk_0 (c : Dev nD) (t : Fin grid0.N) (r : Fin 1024) (k : Fin 4096) (i : S4x256x4096.Idx)
    (e0 : (i 0).val = (r.val) / 256) (e1 : (i 1).val = (r.val) % 256) (e2 : (i 2).val = k.val) :
    (iblk m c 0 t : Vec Ideal S1024x4096 .bf16) (ValueIdx.ix2 r k) = (m ((c : Thread nD τ).loc main_arg0) : FVec Ideal S4x256x4096 .bf16) i := by
  have hr := r.isLt
  refine Eq.trans (b := V m c main_v0 (ValueIdx.ix2 ⟨r.val, by omega⟩ k)) (congrArg (V m c main_v0) (funext fun q => Fin.ext ?_)) ?_
  · match q with
    | ⟨0, _⟩ => refine (win0_0.rect_emb_val t (ValueIdx.ix2 r k) (0 : Fin 2)).trans ?_; rw [idx_0]; show 0 * 1024 + r.val = r.val; omega
    | ⟨1, _⟩ => refine (win0_0.rect_emb_val t (ValueIdx.ix2 r k) (1 : Fin 2)).trans ?_; rw [idx_0]; show 0 * 4096 + k.val = k.val; omega
  · rw [entry0]
    refine shapeCast_apply _ shapeCasts_S4x256x4096_S1024x4096 _ i ?_
    rw [Shape.rowMajor_val_three, Shape.rowMajor_val_two]
    show ((i 0).val * 256 + (i 1).val) * 4096 + (i 2).val = (r.val) * 4096 + k.val
    rw [e0, e1, e2]
    omega

/-- The weights' block at a point. -/
theorem blk_1 (c : Dev nD) (t : Fin grid0.N) (k : Fin 4096) (j : Fin 512) (i : S1x4096x24576.Idx)
    (e1 : (i 1).val = k.val) (e2 : (i 2).val = 8192 + (512 * t.val + j.val)) :
    (iblk m c 1 t : Vec Ideal S4096x512 .f32) (ValueIdx.ix2 k j) = (m ((c : Thread nD τ).loc main_arg1) : FVec Ideal S1x4096x24576 .f32) i := by
  have ht := lt_N t
  have hj := j.isLt
  have hi : (i 0).val < 1 := (i 0).isLt
  refine Eq.trans (b := V m c main_v1 (ValueIdx.ix2 k ⟨8192 + (512 * t.val + j.val), by omega⟩)) (congrArg (V m c main_v1) (funext fun q => Fin.ext ?_)) ?_
  · match q with
    | ⟨0, _⟩ => refine (win0_1.rect_emb_val t (ValueIdx.ix2 k j) (0 : Fin 2)).trans ?_; rw [idx_1]; show 0 * 4096 + k.val = k.val; omega
    | ⟨1, _⟩ => refine (win0_1.rect_emb_val t (ValueIdx.ix2 k j) (1 : Fin 2)).trans ?_; rw [idx_1]; show (16 + t.val) * 512 + j.val = 8192 + (512 * t.val + j.val); omega
  · rw [entry1]
    refine shapeCast_apply _ shapeCasts_S1x4096x24576_S4096x24576 _ i ?_
    rw [Shape.rowMajor_val_three, Shape.rowMajor_val_two]
    show ((i 0).val * 4096 + (i 1).val) * 24576 + (i 2).val = k.val * 24576 + (8192 + (512 * t.val + j.val))
    rw [e1, e2]
    omega

/-- What a point leaves in its block of the result. -/
theorem out (c : Dev nD) (t : Fin cfg0.N) (r : Fin 1024) (j : Fin 512) (p : Fin 4096 → S4x256x4096.Idx) (q : Fin 4096 → S1x4096x24576.Idx)
    (hp : ∀ k, (p k 0).val = (r.val) / 256 ∧ (p k 1).val = (r.val) % 256 ∧ (p k 2).val = k.val)
    (hq : ∀ k, (q k 1).val = k.val ∧ (q k 2).val = 8192 + (512 * t.val + j.val)) :
    outsAt0 m c t (ValueIdx.ix2 r j)
      = dots (m ((c : Thread nD τ).loc main_arg0) : FVec Ideal S4x256x4096 .bf16) (m ((c : Thread nD τ).loc main_arg1) : FVec Ideal S1x4096x24576 .f32) p q := by
  unfold outsAt0
  frame_out
  refine (pay2 _ _ r j).trans (Finset.sum_congr rfl fun k _ => ?_)
  refine congrArg₂ (· * ·) (blk_0 m c t r k _ (hp k).1 (hp k).2.1 (hp k).2.2) ?_
  exact (pay1 _ _).trans (blk_1 m c t k j _ (hq k).1 (hq k).2)

open Cert.CtxReferenceIdeal.Read in
/-- The reference's value, entry by entry. -/
theorem ref_value (x : FVec Ideal S4x256x4096 .bf16) (w : FVec Ideal S1x4096x24576 .f32) (i : S1024x6144.Idx) (p : Fin 4096 → S4x256x4096.Idx) (q : Fin 4096 → S1x4096x24576.Idx)
    (hp : ∀ k, (p k 0).val = (i 0).val / 256 ∧ (p k 1).val = (i 0).val % 256 ∧ (p k 2).val = k.val)
    (hq : ∀ k, (q k 1).val = k.val ∧ (q k 2).val = 8192 + (i 1).val) :
    val_main_v5 (F := Ideal) x w i = ∑ k : Fin 4096, x (p k) * w (q k) := by
  have h0 : (i 0).val < 1024 := (i 0).isLt
  have h1 : (i 1).val < 6144 := (i 1).isLt
  rw [val_main_v5_apply, val_main_v4_apply]
  refine Eq.trans (val_main_v3_apply x w _) (Finset.sum_congr rfl fun k _ => ?_)
  have hk := k.isLt
  obtain ⟨p0, p1, p2⟩ := hp k
  obtain ⟨q1, q2⟩ := hq k
  have q0 : (q k 0).val < 1 := (q k 0).isLt
  rw [val_main_v0_apply, val_main_v2_apply, val_main_v1_apply]
  refine congrArg₂ (· * ·) (congrArg x (funext fun a => Fin.ext ?_)) (congrArg w (funext fun a => Fin.ext ?_))
  · match a with
    | ⟨0, _⟩ => refine Eq.trans ?_ p0.symm; show ((i 0).val * 6144 + (i 1).val) / 1572864 = (i 0).val / 256; omega
    | ⟨1, _⟩ => refine Eq.trans ?_ p1.symm; show ((i 0).val * 6144 + (i 1).val) / 6144 % 256 = (i 0).val % 256; omega
    | ⟨2, _⟩ => exact p2.symm
  · match a with
    | ⟨0, _⟩ => show 0 = (q k 0).val; omega
    | ⟨1, _⟩ => refine Eq.trans ?_ q1.symm; show (k.val * 24576 + (8192 + ((i 0).val * 6144 + (i 1).val) % 6144)) / 24576 % 4096 = k.val; omega
    | ⟨2, _⟩ => refine Eq.trans ?_ q2.symm; show (k.val * 24576 + (8192 + ((i 0).val * 6144 + (i 1).val) % 6144)) % 24576 = 8192 + (i 1).val; omega

/-- The array that the kernel leaves is the reference's. -/
theorem value (c : Dev nD) : (dats m 0 c).arrAt 2 cfg0.N
      = (Cert.CtxReferenceIdeal.Read.val_main_v5 (F := Ideal) (m ((c : Thread nD τ).loc main_arg0)) (m ((c : Thread nD τ).loc main_arg1)) : S1024x6144.Idx → EReal) := by
  refine (dats m 0 c).arrAt_eq_of_covers 2 _ (by decide +kernel) fun t hf y => ?_
  blk_simp
  rw [after0_2]
  have ht := lt_N t
  have hy0 : ((y : S1024x512.Idx) 0).val < 1024 := ((y : S1024x512.Idx) 0).isLt
  have hy1 : ((y : S1024x512.Idx) 1).val < 512 := ((y : S1024x512.Idx) 1).isLt
  have ey : (y : S1024x512.Idx) = ValueIdx.ix2 ⟨((y : S1024x512.Idx) 0).val, hy0⟩ ⟨((y : S1024x512.Idx) 1).val, hy1⟩ := by
    funext a
    match a with
    | ⟨0, _⟩ => rfl
    | ⟨1, _⟩ => rfl
  have i0 := win0_2.rect_emb_val t y (0 : Fin 2)
  have i1 := win0_2.rect_emb_val t y (1 : Fin 2)
  rw [idx_2] at i0 i1
  have i0' : (((cfg0.win 2).blk t).view.emb y 0).val = 0 * 1024 + ((y : S1024x512.Idx) 0).val := i0
  have i1' : (((cfg0.win 2).blk t).view.emb y 1).val = t.val * 512 + ((y : S1024x512.Idx) 1).val := i1
  refine (congrArg (outsAt0 m c t) ey).trans ((out m c t _ _
    (fun k => ValueIdx.ix3 ⟨(((y : S1024x512.Idx) 0).val) / 256, by omega⟩ ⟨(((y : S1024x512.Idx) 0).val) % 256, by omega⟩ k)
    (fun k => ValueIdx.ix3 (0 : Fin 1) k ⟨8192 + (512 * t.val + ((y : S1024x512.Idx) 1).val), by omega⟩)
    (fun k => ⟨rfl, rfl, rfl⟩) (fun k => ⟨rfl, rfl⟩)).trans (Eq.symm (ref_value _ _ _ _ _ ?_ ?_)))
  · intro k
    refine ⟨?_, ?_, rfl⟩
    · refine Eq.trans ?_ (congrArg (· / 256) i0'.symm); show (((y : S1024x512.Idx) 0).val) / 256 = (0 * 1024 + ((y : S1024x512.Idx) 0).val) / 256; omega
    · refine Eq.trans ?_ (congrArg (· % 256) i0'.symm); show (((y : S1024x512.Idx) 0).val) % 256 = (0 * 1024 + ((y : S1024x512.Idx) 0).val) % 256; omega
  · intro k
    refine ⟨rfl, ?_⟩
    refine Eq.trans ?_ (congrArg (8192 + ·) i1'.symm); show 8192 + (512 * t.val + ((y : S1024x512.Idx) 1).val) = 8192 + (t.val * 512 + ((y : S1024x512.Idx) 1).val); omega

theorem frame_kernel : Cert.quiescent_CtxKernel := fun m ρ _ => Cert.CtxKernel.Gen.frame m ρ
theorem frame_ideal : Cert.quiescent_CtxKernelIdeal := fun m ρ _ => Cert.CtxKernelIdeal.Gen.frame m ρ
theorem frame_reference : Cert.quiescent_CtxReferenceIdeal := fun m ρ _ =>
  (θ_run Cert.CtxReferenceIdeal.defs _ _).mono (fun r h => ⟨fun c => (h c).2, sem_eq_zero_of_no_sems (by decide) r.2⟩)
    (Cert.CtxReferenceIdeal.Value.run (F := Ideal) m ρ)

theorem val_congr {x0 y0 x1 y1} (h0 : x0 = y0) (h1 : x1 = y1) :
    Cert.CtxReferenceIdeal.Read.val_main_v5 (F := Ideal) x0 x1 = Cert.CtxReferenceIdeal.Read.val_main_v5 (F := Ideal) y0 y1 := by
  rw [h0, h1]

/-- Kernel and reference compute one function. -/
theorem equal : Cert.algebraic_CtxKernelIdeal_CtxReferenceIdeal := by
  intro m g m' g' _ hag
  refine ⟨fun c => (Cert.CtxReferenceIdeal.Read.val_main_v5 (F := Ideal) (m ((c : Thread nD τ).loc main_arg0)) (m ((c : Thread nD τ).loc main_arg1)) : S1024x6144.Idx → EReal), ?_, ?_⟩
  · exact (θ_run Cert.CtxKernelIdeal.defs _ _).mono (fun r h c => ⟨(h c).1.trans (value m c), (h c).2⟩)
      (Cert.CtxKernelIdeal.Value.run_blocks (F := Ideal) m g)
  · refine (θ_run Cert.CtxReferenceIdeal.defs _ _).mono (fun r h c => ⟨((h c).1.trans (Cert.CtxReferenceIdeal.Read.val_main_v5_eq (F := Ideal) _ _)).trans ?_, (h c).2⟩)
      (Cert.CtxReferenceIdeal.Value.run (F := Ideal) m' g')
    obtain ⟨a0, a1⟩ := hag c
    exact val_congr a0 a1

end Cert.Layer.Ctx
-- ==== Proof.Norm.lean ====
module

public import proofs.«01_k».proof.Defs
public import proofs.«01_k».proof.Proof.Product
public import proofs.«01_k».proof.Proof.Gen.NormKernel.Frame
public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pipeline.ValueKit
public import Idealize.ShloMosaic.Lib.ValueLayout
public import Idealize.ShloMosaic.Lib.Quiescent
public import Idealize.ShloMosaic.PureOps.Ideal.Laws

@[expose] public section

set_option maxRecDepth 16384

noncomputable section

open scoped BigOperators

namespace Cert.Layer.Norm

open Idealize.ShloMosaic Idealize.ShloMosaic.TcCoe Idealize.ShloMosaic.Tactic Idealize.SL.Sem
open Idealize.ShloMosaic.Pipeline (Dat Cfg Window)
open Cert.NormKernelIdeal Cert.NormKernelIdeal.Gen

variable (m : (ℓ : Loc nD τ sig) → Buf (Elt Ideal) ℓ)

/-- An entry over its row's root mean square, scaled. -/
def normed (x s g : EReal) : EReal :=
  x * Ideal.rsqrt (Ideal.div s (Ideal.ofBits .f32 0x45800000#32) + Ideal.ofBits .f32 0x358637BD#32) * g

/-- The body's result, entry by entry. -/
theorem pay (x : Vec Ideal S256x4096 .f32) (g : Vec Ideal S1x4096 .f32) (r : Fin 256) (j : Fin 4096) :
    k0_pay1 x g (ValueIdx.ix2 r j)
      = normed (x (ValueIdx.ix2 r j)) (dots x x (fun k : Fin 4096 => ValueIdx.ix2 r k) (fun k => ValueIdx.ix2 r k)) (g (ValueIdx.ix2 (0 : Fin 1) j)) := by
  have hx : ∀ i, shapeCast S256x4096 x shapeCasts_S256x4096_S256x4096 i = x i := fun i => shapeCast_apply x shapeCasts_S256x4096_S256x4096 i i rfl
  have hg : broadcastTo S256x4096 (shapeCast S1x4096 g shapeCasts_S1x4096_S1x4096) broadcasts_S1x4096_S256x4096 (ValueIdx.ix2 r j) = g (ValueIdx.ix2 (0 : Fin 1) j) :=
    (ValueIdx.broadcastTo_1b_ab_apply (shapeCast S1x4096 g shapeCasts_S1x4096_S1x4096) broadcasts_S1x4096_S256x4096 r j).trans (shapeCast_apply g shapeCasts_S1x4096_S1x4096 _ _ rfl)
  have hc : ∀ v : FVec Ideal S256x1 .f32, broadcastTo S256x4096 v broadcasts_S256x1_S256x4096 (ValueIdx.ix2 r j) = v (ValueIdx.ix2 r (0 : Fin 1)) := fun v =>
    broadcastTo_apply v broadcasts_S256x1_S256x4096 _ _ fun a => by
      match a with
      | ⟨0, _⟩ => rfl
      | ⟨1, _⟩ => rfl
  have hs : shapeCast S256x1 (multiReduction .add [1] S256 (mulf (shapeCast S256x4096 x shapeCasts_S256x4096_S256x4096) (shapeCast S256x4096 x shapeCasts_S256x4096_S256x4096)) 0x00000000#32 reduces_S256x4096_S256 (.inl rfl) rfl : FVec Ideal S256 .f32) shapeCasts_S256_S256x1 (ValueIdx.ix2 r (0 : Fin 1))
      = dots x x (fun k : Fin 4096 => ValueIdx.ix2 r k) (fun k => ValueIdx.ix2 r k) := by
    refine (shapeCast_apply _ shapeCasts_S256_S256x1 _ (ValueIdx.ix1 r) ?_).trans ?_
    · rw [Shape.rowMajor_val_one, Shape.rowMajor_val_two]
      show r.val = r.val * 1 + 0
      omega
    · refine (Ideal.multiReduction_add_single _ _ reduces_S256x4096_S256 (.inl rfl) rfl _).trans (Finset.sum_congr rfl fun k _ => ?_)
      have hk : reduces_S256x4096_S256.lift (ValueIdx.ix1 r) k = ValueIdx.ix2 r k := by
        funext a
        match a with
        | ⟨0, _⟩ => rfl
        | ⟨1, _⟩ => rfl
      refine (congrArg _ hk).trans ?_
      exact congrArg₂ (· * ·) (hx _) (hx _)
  unfold k0_pay1
  refine congrArg₂ (· * ·) (congrArg₂ (· * ·) (hx _) ((hc _).trans ?_)) hg
  exact congrArg (fun s : EReal => Ideal.rsqrt (Ideal.div s (Ideal.ofBits .f32 0x45800000#32) + Ideal.ofBits .f32 0x358637BD#32)) hs

theorem entry0 (c : Dev nD) : V m c main_v0 = shapeCast S8192x4096 (m ((c : Thread nD τ).loc main_arg0) : FVec Ideal S4x2048x4096 .f32) shapeCasts_S4x2048x4096_S8192x4096 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S1x4096 (m ((c : Thread nD τ).loc main_arg1) : FVec Ideal S4096 .f32) shapeCasts_S4096_S1x4096 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel

theorem lt_N (t : Fin grid0.N) : t.val < 32 := lt_of_lt_of_eq t.isLt N_0

/-- The rows' block at a point. -/
theorem blk_0 (c : Dev nD) (t : Fin grid0.N) (r : Fin 256) (k : Fin 4096) (i : S4x2048x4096.Idx)
    (e0 : (i 0).val = (256 * t.val + r.val) / 2048) (e1 : (i 1).val = (256 * t.val + r.val) % 2048) (e2 : (i 2).val = k.val) :
    (iblk m c 0 t : Vec Ideal S256x4096 .f32) (ValueIdx.ix2 r k) = (m ((c : Thread nD τ).loc main_arg0) : FVec Ideal S4x2048x4096 .f32) i := by
  have hr := r.isLt
  have ht := lt_N t
  refine Eq.trans (b := V m c main_v0 (ValueIdx.ix2 ⟨256 * t.val + r.val, by omega⟩ k)) (congrArg (V m c main_v0) (funext fun q => Fin.ext ?_)) ?_
  · match q with
    | ⟨0, _⟩ => refine (win0_0.rect_emb_val t (ValueIdx.ix2 r k) (0 : Fin 2)).trans ?_; rw [idx_0]; show t.val * 256 + r.val = 256 * t.val + r.val; omega
    | ⟨1, _⟩ => refine (win0_0.rect_emb_val t (ValueIdx.ix2 r k) (1 : Fin 2)).trans ?_; rw [idx_0]; show 0 * 4096 + k.val = k.val; omega
  · rw [entry0]
    refine shapeCast_apply _ shapeCasts_S4x2048x4096_S8192x4096 _ i ?_
    rw [Shape.rowMajor_val_three, Shape.rowMajor_val_two]
    show ((i 0).val * 2048 + (i 1).val) * 4096 + (i 2).val = (256 * t.val + r.val) * 4096 + k.val
    rw [e0, e1, e2]
    omega

/-- The scales at a point. -/
theorem blk_1 (c : Dev nD) (t : Fin grid0.N) (j : Fin 4096) (i : S4096.Idx) (e : (i 0).val = j.val) :
    (iblk m c 1 t : Vec Ideal S1x4096 .f32) (ValueIdx.ix2 (0 : Fin 1) j) = (m ((c : Thread nD τ).loc main_arg1) : FVec Ideal S4096 .f32) i := by
  refine Eq.trans (b := V m c main_v1 (ValueIdx.ix2 (0 : Fin 1) j)) (congrArg (V m c main_v1) (funext fun q => Fin.ext ?_)) ?_
  · match q with
    | ⟨0, _⟩ => refine (win0_1.rect_emb_val t (ValueIdx.ix2 (0 : Fin 1) j) (0 : Fin 2)).trans ?_; rw [idx_1]; show 0 * 1 + 0 = 0; omega
    | ⟨1, _⟩ => refine (win0_1.rect_emb_val t (ValueIdx.ix2 (0 : Fin 1) j) (1 : Fin 2)).trans ?_; rw [idx_1]; show 0 * 4096 + j.val = j.val; omega
  · rw [entry1]
    refine shapeCast_apply _ shapeCasts_S4096_S1x4096 _ i ?_
    rw [Shape.rowMajor_val_one, Shape.rowMajor_val_two]
    show (i 0).val = 0 * 4096 + j.val
    omega

open Cert.NormReferenceIdeal.Read in
/-- The reference's value, entry by entry. -/
theorem ref_value (x : FVec Ideal S4x2048x4096 .f32) (g : FVec Ideal S4096 .f32) (i : S8192x4096.Idx) (p : Fin 4096 → S4x2048x4096.Idx) (u : S4x2048x4096.Idx) (v : S4096.Idx)
    (hp : ∀ k, (p k 0).val = (i 0).val / 2048 ∧ (p k 1).val = (i 0).val % 2048 ∧ (p k 2).val = k.val)
    (hu : (u 0).val = (i 0).val / 2048 ∧ (u 1).val = (i 0).val % 2048 ∧ (u 2).val = (i 1).val)
    (hv : (v 0).val = (i 1).val) :
    val_main_v13 (F := Ideal) x g i = normed (x u) (dots x x p p) (g v) := by
  have h0 : (i 0).val < 8192 := (i 0).isLt
  have h1 : (i 1).val < 4096 := (i 1).isLt
  have eu : idx_main_v13 i = u := funext fun a => Fin.ext (by
    match a with
    | ⟨0, _⟩ => refine Eq.trans ?_ hu.1.symm; show ((i 0).val * 4096 + (i 1).val) / 8388608 = (i 0).val / 2048; omega
    | ⟨1, _⟩ => refine Eq.trans ?_ hu.2.1.symm; show ((i 0).val * 4096 + (i 1).val) / 4096 % 2048 = (i 0).val % 2048; omega
    | ⟨2, _⟩ => refine Eq.trans ?_ hu.2.2.symm; show ((i 0).val * 4096 + (i 1).val) % 4096 = (i 1).val; omega)
  rw [val_main_v13_apply, val_main_v12_apply, val_main_v9_apply, val_main_v8_apply, val_main_v7_apply, val_main_v6_apply, val_main_v4_apply,
    val_main_v2_apply, val_main_v3_apply, val_main_v5_apply, val_main_v11_apply, val_main_v10_apply, eu]
  show normed (x u) (val_main_v1 (F := Ideal) x (idx_main_v2 (idx_main_v8 u))) (g (idx_main_v10 (idx_main_v11 u))) = _
  refine congr (congrArg (normed (x u)) ?_) (congrArg g (funext fun a => Fin.ext ?_))
  · refine (val_main_v1_apply x _).trans ?_
    have hz : (val_main_cst (F := Ideal)) (Shape.Idx.first Cert.NormReferenceIdeal.Gen.h_S_) = 0 := Ideal.ofBits_zero_f32
    rw [hz, zero_add]
    refine Finset.sum_congr rfl fun k _ => ?_
    obtain ⟨p0, p1, p2⟩ := hp k
    have ep : idx_main_v1 (idx_main_v2 (idx_main_v8 u)) k = p k := funext fun a => Fin.ext (by
      match a with
      | ⟨0, _⟩ => exact hu.1.trans p0.symm
      | ⟨1, _⟩ => exact hu.2.1.trans p1.symm
      | ⟨2, _⟩ => exact p2.symm)
    rw [val_main_v0_apply, ep]
    rfl
  · match a with
    | ⟨0, _⟩ => exact hu.2.2.trans hv.symm

/-- The array that the kernel leaves is the reference's. -/
theorem value (c : Dev nD) : (dats m 0 c).arrAt 2 cfg0.N
      = (Cert.NormReferenceIdeal.Read.val_main_v13 (F := Ideal) (m ((c : Thread nD τ).loc main_arg0)) (m ((c : Thread nD τ).loc main_arg1)) : S8192x4096.Idx → EReal) := by
  refine (dats m 0 c).arrAt_eq_of_covers 2 _ (by decide +kernel) fun t hf y => ?_
  blk_simp
  rw [after0_2]
  frame_out
  have ht := lt_N t
  have hy0 : ((y : S256x4096.Idx) 0).val < 256 := ((y : S256x4096.Idx) 0).isLt
  have hy1 : ((y : S256x4096.Idx) 1).val < 4096 := ((y : S256x4096.Idx) 1).isLt
  have ey : (y : S256x4096.Idx) = ValueIdx.ix2 ⟨((y : S256x4096.Idx) 0).val, hy0⟩ ⟨((y : S256x4096.Idx) 1).val, hy1⟩ := by
    funext a
    match a with
    | ⟨0, _⟩ => rfl
    | ⟨1, _⟩ => rfl
  have i0 := win0_2.rect_emb_val t y (0 : Fin 2)
  have i1 := win0_2.rect_emb_val t y (1 : Fin 2)
  rw [idx_2] at i0 i1
  have i0' : (((cfg0.win 2).blk t).view.emb y 0).val = t.val * 256 + ((y : S256x4096.Idx) 0).val := i0
  have i1' : (((cfg0.win 2).blk t).view.emb y 1).val = 0 * 4096 + ((y : S256x4096.Idx) 1).val := i1
  have a0 : (256 * t.val + ((y : S256x4096.Idx) 0).val) / 2048 = (((cfg0.win 2).blk t).view.emb y 0).val / 2048 := by
    refine Eq.trans ?_ (congrArg (· / 2048) i0'.symm); show (256 * t.val + ((y : S256x4096.Idx) 0).val) / 2048 = (t.val * 256 + ((y : S256x4096.Idx) 0).val) / 2048; omega
  have a1 : (256 * t.val + ((y : S256x4096.Idx) 0).val) % 2048 = (((cfg0.win 2).blk t).view.emb y 0).val % 2048 := by
    refine Eq.trans ?_ (congrArg (· % 2048) i0'.symm); show (256 * t.val + ((y : S256x4096.Idx) 0).val) % 2048 = (t.val * 256 + ((y : S256x4096.Idx) 0).val) % 2048; omega
  have a2 : ((y : S256x4096.Idx) 1).val = (((cfg0.win 2).blk t).view.emb y 1).val := by
    refine Eq.trans ?_ i1'.symm; omega
  refine (congrArg (k0_pay1 (iblk m c 0 t) (iblk m c 1 t)) ey).trans ((pay _ _ _ _).trans ?_)
  have eu := blk_0 m c t ⟨((y : S256x4096.Idx) 0).val, hy0⟩ ⟨((y : S256x4096.Idx) 1).val, hy1⟩
    (ValueIdx.ix3 ⟨(256 * t.val + ((y : S256x4096.Idx) 0).val) / 2048, by omega⟩ ⟨(256 * t.val + ((y : S256x4096.Idx) 0).val) % 2048, by omega⟩ ⟨((y : S256x4096.Idx) 1).val, hy1⟩) rfl rfl rfl
  have eg := blk_1 m c t ⟨((y : S256x4096.Idx) 1).val, hy1⟩ (ValueIdx.ix1 ⟨((y : S256x4096.Idx) 1).val, hy1⟩) rfl
  have es : ∀ k : Fin 4096, (iblk m c 0 t : Vec Ideal S256x4096 .f32) (ValueIdx.ix2 ⟨((y : S256x4096.Idx) 0).val, hy0⟩ k) = _ := fun k => blk_0 m c t ⟨((y : S256x4096.Idx) 0).val, hy0⟩ k
    (ValueIdx.ix3 ⟨(256 * t.val + ((y : S256x4096.Idx) 0).val) / 2048, by omega⟩ ⟨(256 * t.val + ((y : S256x4096.Idx) 0).val) % 2048, by omega⟩ k) rfl rfl rfl
  refine (congr (congrArg₂ normed eu (Finset.sum_congr rfl fun k _ => congrArg (fun e : EReal => e * e) (es k))) eg).trans (Eq.symm (ref_value _ _ _
    (fun k => ValueIdx.ix3 ⟨(256 * t.val + ((y : S256x4096.Idx) 0).val) / 2048, by omega⟩ ⟨(256 * t.val + ((y : S256x4096.Idx) 0).val) % 2048, by omega⟩ k) _ _ ?_ ?_ ?_))
  · exact fun k => ⟨a0, a1, rfl⟩
  · exact ⟨a0, a1, a2⟩
  · exact a2

theorem frame_kernel : Cert.quiescent_NormKernel := fun m ρ _ => Cert.NormKernel.Gen.frame m ρ
theorem frame_ideal : Cert.quiescent_NormKernelIdeal := fun m ρ _ => Cert.NormKernelIdeal.Gen.frame m ρ
theorem frame_reference : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

theorem val_congr {x0 y0 x1 y1} (h0 : x0 = y0) (h1 : x1 = y1) :
    Cert.NormReferenceIdeal.Read.val_main_v13 (F := Ideal) x0 x1 = Cert.NormReferenceIdeal.Read.val_main_v13 (F := Ideal) y0 y1 := by
  rw [h0, h1]

/-- Kernel and reference compute one function. -/
theorem equal : Cert.algebraic_NormKernelIdeal_NormReferenceIdeal := by
  intro m g m' g' _ hag
  refine ⟨fun c => (Cert.NormReferenceIdeal.Read.val_main_v13 (F := Ideal) (m ((c : Thread nD τ).loc main_arg0)) (m ((c : Thread nD τ).loc main_arg1)) : S8192x4096.Idx → EReal), ?_, ?_⟩
  · exact (θ_run Cert.NormKernelIdeal.defs _ _).mono (fun r h c => ⟨(h c).1.trans (value m c), (h c).2⟩)
      (Cert.NormKernelIdeal.Value.run_blocks (F := Ideal) m g)
  · refine (θ_run Cert.NormReferenceIdeal.defs _ _).mono (fun r h c => ⟨((h c).1.trans (Cert.NormReferenceIdeal.Read.val_main_v13_eq (F := Ideal) _ _)).trans ?_, (h c).2⟩)
      (Cert.NormReferenceIdeal.Value.run (F := Ideal) m' g')
    obtain ⟨a0, a1⟩ := hag c
    exact val_congr a0 a1

end Cert.Layer.Norm
-- ==== Proof.Mod.lean ====
module

public import proofs.«01_k».proof.Defs
public import proofs.«01_k».proof.Proof.Norm
public import proofs.«01_k».proof.Proof.Gen.ModKernel.Frame
public import proofs.«01_k».proof.Proof.Gen.ModKernelIdeal.Value
public import proofs.«01_k».proof.Proof.Gen.ModReferenceIdeal.Run
public import proofs.«01_k».proof.Proof.Gen.ModReferenceIdeal.Read
public import Idealize.ShloMosaic.Lib.Pipeline.ValueKit
public import Idealize.ShloMosaic.Lib.ValueLayout
public import Idealize.ShloMosaic.Lib.Quiescent
public import Idealize.ShloMosaic.PureOps.Ideal.Laws

@[expose] public section

set_option maxRecDepth 16384

noncomputable section

open scoped BigOperators

namespace Cert.Layer.Mod

open Idealize.ShloMosaic Idealize.ShloMosaic.TcCoe Idealize.ShloMosaic.Tactic Idealize.SL.Sem
open Idealize.ShloMosaic.Pipeline (Dat Cfg Window)
open Cert.ModKernelIdeal Cert.ModKernelIdeal.Gen

variable (m : (ℓ : Loc nD τ sig) → Buf (Elt Ideal) ℓ)

/-- An entry over its row's root mean square, scaled, then moved by its batch's scale and shift. -/
def modulated (x s g h c : EReal) : EReal :=
  Cert.Layer.Norm.normed x s g * (Ideal.ofBits .f32 0x3F800000#32 + c) + h

/-- The body's result, entry by entry. -/
theorem pay (x : Vec Ideal S1x256x4096 .f32) (g : Vec Ideal S1x4096 .f32) (h c : Vec Ideal S1x1x4096 .f32) (r : Fin 256) (j : Fin 4096) :
    k0_pay1 x g h c (ValueIdx.ix3 (0 : Fin 1) r j)
      = modulated (x (ValueIdx.ix3 (0 : Fin 1) r j)) (dots x x (fun k : Fin 4096 => ValueIdx.ix3 (0 : Fin 1) r k) (fun k => ValueIdx.ix3 (0 : Fin 1) r k))
          (g (ValueIdx.ix2 (0 : Fin 1) j)) (h (ValueIdx.ix3 (0 : Fin 1) (0 : Fin 1) j)) (c (ValueIdx.ix3 (0 : Fin 1) (0 : Fin 1) j)) := by
  have hx : ∀ k : Fin 4096, shapeCast S256x4096 x shapeCasts_S1x256x4096_S256x4096 (ValueIdx.ix2 r k) = x (ValueIdx.ix3 (0 : Fin 1) r k) := fun k =>
    shapeCast_apply x shapeCasts_S1x256x4096_S256x4096 _ _ (by
      rw [Shape.rowMajor_val_three, Shape.rowMajor_val_two]
      show (0 * 256 + r.val) * 4096 + k.val = r.val * 4096 + k.val
      omega)
  have hv : ∀ v : Vec Ideal S1x1x4096 .f32, shapeCast S1x4096 v shapeCasts_S1x1x4096_S1x4096 (ValueIdx.ix2 (0 : Fin 1) j) = v (ValueIdx.ix3 (0 : Fin 1) (0 : Fin 1) j) := fun v =>
    shapeCast_apply v shapeCasts_S1x1x4096_S1x4096 _ _ (by
      rw [Shape.rowMajor_val_three, Shape.rowMajor_val_two]
      show (0 * 1 + 0) * 4096 + j.val = 0 * 4096 + j.val
      omega)
  have hb : ∀ v : FVec Ideal S1x4096 .f32, broadcastTo S256x4096 v broadcasts_S1x4096_S256x4096 (ValueIdx.ix2 r j) = v (ValueIdx.ix2 (0 : Fin 1) j) := fun v =>
    ValueIdx.broadcastTo_1b_ab_apply v broadcasts_S1x4096_S256x4096 r j
  have hc : ∀ v : FVec Ideal S256x1 .f32, broadcastTo S256x4096 v broadcasts_S256x1_S256x4096 (ValueIdx.ix2 r j) = v (ValueIdx.ix2 r (0 : Fin 1)) := fun v =>
    broadcastTo_apply v broadcasts_S256x1_S256x4096 _ _ fun a => by
      match a with
      | ⟨0, _⟩ => rfl
      | ⟨1, _⟩ => rfl
  have hs : shapeCast S256x1 (multiReduction .add [1] S256 (mulf (shapeCast S256x4096 x shapeCasts_S1x256x4096_S256x4096) (shapeCast S256x4096 x shapeCasts_S1x256x4096_S256x4096)) 0x00000000#32 reduces_S256x4096_S256 (.inl rfl) rfl : FVec Ideal S256 .f32) shapeCasts_S256_S256x1 (ValueIdx.ix2 r (0 : Fin 1))
      = dots x x (fun k : Fin 4096 => ValueIdx.ix3 (0 : Fin 1) r k) (fun k => ValueIdx.ix3 (0 : Fin 1) r k) := by
    refine (shapeCast_apply _ shapeCasts_S256_S256x1 _ (ValueIdx.ix1 r) ?_).trans ?_
    · rw [Shape.rowMajor_val_one, Shape.rowMajor_val_two]
      show r.val = r.val * 1 + 0
      omega
    · refine (Ideal.multiReduction_add_single _ _ reduces_S256x4096_S256 (.inl rfl) rfl _).trans (Finset.sum_congr rfl fun k _ => ?_)
      have hk : reduces_S256x4096_S256.lift (ValueIdx.ix1 r) k = ValueIdx.ix2 r k := by
        funext a
        match a with
        | ⟨0, _⟩ => rfl
        | ⟨1, _⟩ => rfl
      refine (congrArg _ hk).trans ?_
      exact congrArg₂ (· * ·) (hx _) (hx _)
  unfold k0_pay1
  refine (shapeCast_apply _ shapeCasts_S256x4096_S1x256x4096 _ (ValueIdx.ix2 r j) (by
    rw [Shape.rowMajor_val_three, Shape.rowMajor_val_two]
    show r.val * 4096 + j.val = (0 * 256 + r.val) * 4096 + j.val
    omega)).trans ?_
  refine congrArg₂ (· + ·) (congrArg₂ (· * ·) (congrArg₂ (· * ·) (congrArg₂ (· * ·) (hx _) ((hc _).trans ?_)) ((hb _).trans (shapeCast_apply g shapeCasts_S1x4096_S1x4096 _ _ rfl))) ((hb _).trans ?_)) ((hb _).trans (hv h))
  · exact congrArg (fun s : EReal => Ideal.rsqrt (Ideal.div s (Ideal.ofBits .f32 0x45800000#32) + Ideal.ofBits .f32 0x358637BD#32)) hs
  · exact congrArg (fun e : EReal => Ideal.ofBits .f32 0x3F800000#32 + e) (hv c)

theorem entry0 (c : Dev nD) : V m c main_arg0 = (m ((c : Thread nD τ).loc main_arg0) : FVec Ideal S4x256x4096 .f32) := by
  show StableHlo.after hostOps0 (fun b => m (c, b)) (Proc.devRef .tc main_arg0) = _
  simp only [hostOps0, StableHlo.TRef.binary, StableHlo.TRef.nullary, StableHlo.TRef.unary, StableHlo.TRef.toBuf, StableHlo.TRef.ofBuf, cast_eq]
  after_results_simp

theorem entry1 (c : Dev nD) : V m c main_v1 = shapeCast S1x4096 (shapeCast S4096 (m ((c : Thread nD τ).loc main_arg1) : FVec Ideal S1x4096 .f32) shapeCasts_S1x4096_S4096) shapeCasts_S4096_S1x4096 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem entry2 (c : Dev nD) : V m c main_v2 = shapeCast S4x1x4096 (m ((c : Thread nD τ).loc main_arg2) : FVec Ideal S4x4096 .f32) shapeCasts_S4x4096_S4x1x4096 := by
  show StableHlo.after hostOps0 (fun b => m (c, b)) (Proc.devRef .tc main_v2) = _
  simp only [hostOps0, StableHlo.TRef.binary, StableHlo.TRef.nullary, StableHlo.TRef.unary, StableHlo.TRef.toBuf, StableHlo.TRef.ofBuf, cast_eq]
  after_results_simp
  rfl

theorem entry3 (c : Dev nD) : V m c main_v3 = shapeCast S4x1x4096 (m ((c : Thread nD τ).loc main_arg3) : FVec Ideal S4x4096 .f32) shapeCasts_S4x4096_S4x1x4096 := by
  show StableHlo.after hostOps0 (fun b => m (c, b)) (Proc.devRef .tc main_v3) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![t.val, 0, 0] := by decide +kernel
theorem idx_1 : ∀ t : Fin grid0.N, win0_1.index t = ![0, 0] := by decide +kernel
theorem idx_2 : ∀ t : Fin grid0.N, win0_2.index t = ![t.val, 0, 0] := by decide +kernel
theorem idx_3 : ∀ t : Fin grid0.N, win0_3.index t = ![t.val, 0, 0] := by decide +kernel
theorem idx_4 : ∀ t : Fin grid0.N, win0_4.index t = ![t.val, 0, 0] := by decide +kernel

theorem lt_N (t : Fin grid0.N) : t.val < 4 := lt_of_lt_of_eq t.isLt N_0

/-- The rows' block at a point. -/
theorem blk_0 (c : Dev nD) (t : Fin grid0.N) (r : Fin 256) (k : Fin 4096) (b : Fin 4) (e : b.val = t.val) :
    (iblk m c 0 t : Vec Ideal S1x256x4096 .f32) (ValueIdx.ix3 (0 : Fin 1) r k) = (m ((c : Thread nD τ).loc main_arg0) : FVec Ideal S4x256x4096 .f32) (ValueIdx.ix3 b r k) := by
  refine Eq.trans (b := V m c main_arg0 (ValueIdx.ix3 b r k)) (congrArg (V m c main_arg0) (funext fun q => Fin.ext ?_)) (congrFun (entry0 m c) _)
  match q with
  | ⟨0, _⟩ => refine (win0_0.rect_emb_val t (ValueIdx.ix3 (0 : Fin 1) r k) (0 : Fin 3)).trans ?_; rw [idx_0]; show t.val * 1 + 0 = b.val; omega
  | ⟨1, _⟩ => refine (win0_0.rect_emb_val t (ValueIdx.ix3 (0 : Fin 1) r k) (1 : Fin 3)).trans ?_; rw [idx_0]; show 0 * 256 + r.val = r.val; omega
  | ⟨2, _⟩ => refine (win0_0.rect_emb_val t (ValueIdx.ix3 (0 : Fin 1) r k) (2 : Fin 3)).trans ?_; rw [idx_0]; show 0 * 4096 + k.val = k.val; omega

/-- The row scales at a point. -/
theorem blk_1 (c : Dev nD) (t : Fin grid0.N) (j : Fin 4096) :
    (iblk m c 1 t : Vec Ideal S1x4096 .f32) (ValueIdx.ix2 (0 : Fin 1) j) = (m ((c : Thread nD τ).loc main_arg1) : FVec Ideal S1x4096 .f32) (ValueIdx.ix2 (0 : Fin 1) j) := by
  refine Eq.trans (b := V m c main_v1 (ValueIdx.ix2 (0 : Fin 1) j)) (congrArg (V m c main_v1) (funext fun q => Fin.ext ?_)) ?_
  · match q with
    | ⟨0, _⟩ => refine (win0_1.rect_emb_val t (ValueIdx.ix2 (0 : Fin 1) j) (0 : Fin 2)).trans ?_; rw [idx_1]; show 0 * 1 + 0 = 0; omega
    | ⟨1, _⟩ => refine (win0_1.rect_emb_val t (ValueIdx.ix2 (0 : Fin 1) j) (1 : Fin 2)).trans ?_; rw [idx_1]; show 0 * 4096 + j.val = j.val; omega
  · rw [entry1]
    refine (shapeCast_apply _ shapeCasts_S4096_S1x4096 _ (ValueIdx.ix1 j) ?_).trans (shapeCast_apply _ shapeCasts_S1x4096_S4096 _ _ ?_)
    · rw [Shape.rowMajor_val_one, Shape.rowMajor_val_two]
      show j.val = 0 * 4096 + j.val
      omega
    · rw [Shape.rowMajor_val_one, Shape.rowMajor_val_two]
      show 0 * 4096 + j.val = j.val
      omega

/-- The shift at a point. -/
theorem blk_2 (c : Dev nD) (t : Fin grid0.N) (j : Fin 4096) (b : Fin 4) (e : b.val = t.val) :
    (iblk m c 2 t : Vec Ideal S1x1x4096 .f32) (ValueIdx.ix3 (0 : Fin 1) (0 : Fin 1) j) = (m ((c : Thread nD τ).loc main_arg2) : FVec Ideal S4x4096 .f32) (ValueIdx.ix2 b j) := by
  refine Eq.trans (b := V m c main_v2 (ValueIdx.ix3 b (0 : Fin 1) j)) (congrArg (V m c main_v2) (funext fun q => Fin.ext ?_)) ?_
  · match q with
    | ⟨0, _⟩ => refine (win0_2.rect_emb_val t (ValueIdx.ix3 (0 : Fin 1) (0 : Fin 1) j) (0 : Fin 3)).trans ?_; rw [idx_2]; show t.val * 1 + 0 = b.val; omega
    | ⟨1, _⟩ => refine (win0_2.rect_emb_val t (ValueIdx.ix3 (0 : Fin 1) (0 : Fin 1) j) (1 : Fin 3)).trans ?_; rw [idx_2]; show 0 * 1 + 0 = 0; omega
    | ⟨2, _⟩ => refine (win0_2.rect_emb_val t (ValueIdx.ix3 (0 : Fin 1) (0 : Fin 1) j) (2 : Fin 3)).trans ?_; rw [idx_2]; show 0 * 4096 + j.val = j.val; omega
  · rw [entry2]
    refine shapeCast_apply _ shapeCasts_S4x4096_S4x1x4096 _ _ ?_
    rw [Shape.rowMajor_val_three, Shape.rowMajor_val_two]
    show b.val * 4096 + j.val = (b.val * 1 + 0) * 4096 + j.val
    omega

/-- The scale at a point. -/
theorem blk_3 (c : Dev nD) (t : Fin grid0.N) (j : Fin 4096) (b : Fin 4) (e : b.val = t.val) :
    (iblk m c 3 t : Vec Ideal S1x1x4096 .f32) (ValueIdx.ix3 (0 : Fin 1) (0 : Fin 1) j) = (m ((c : Thread nD τ).loc main_arg3) : FVec Ideal S4x4096 .f32) (ValueIdx.ix2 b j) := by
  refine Eq.trans (b := V m c main_v3 (ValueIdx.ix3 b (0 : Fin 1) j)) (congrArg (V m c main_v3) (funext fun q => Fin.ext ?_)) ?_
  · match q with
    | ⟨0, _⟩ => refine (win0_3.rect_emb_val t (ValueIdx.ix3 (0 : Fin 1) (0 : Fin 1) j) (0 : Fin 3)).trans ?_; rw [idx_3]; show t.val * 1 + 0 = b.val; omega
    | ⟨1, _⟩ => refine (win0_3.rect_emb_val t (ValueIdx.ix3 (0 : Fin 1) (0 : Fin 1) j) (1 : Fin 3)).trans ?_; rw [idx_3]; show 0 * 1 + 0 = 0; omega
    | ⟨2, _⟩ => refine (win0_3.rect_emb_val t (ValueIdx.ix3 (0 : Fin 1) (0 : Fin 1) j) (2 : Fin 3)).trans ?_; rw [idx_3]; show 0 * 4096 + j.val = j.val; omega
  · rw [entry3]
    refine shapeCast_apply _ shapeCasts_S4x4096_S4x1x4096 _ _ ?_
    rw [Shape.rowMajor_val_three, Shape.rowMajor_val_two]
    show b.val * 4096 + j.val = (b.val * 1 + 0) * 4096 + j.val
    omega

open Cert.ModReferenceIdeal.Read in
/-- The reference's value, entry by entry. -/
theorem ref_value (x : FVec Ideal S4x256x4096 .f32) (g : FVec Ideal S1x4096 .f32) (h c : FVec Ideal S4x4096 .f32) (b : Fin 4) (r : Fin 256) (j : Fin 4096) :
    val_main_v22 (F := Ideal) x g h c (ValueIdx.ix3 b r j)
      = modulated (x (ValueIdx.ix3 b r j)) (dots x x (fun k : Fin 4096 => ValueIdx.ix3 b r k) (fun k => ValueIdx.ix3 b r k)) (g (ValueIdx.ix2 (0 : Fin 1) j))
          (h (ValueIdx.ix2 b j)) (c (ValueIdx.ix2 b j)) := by
  rw [val_main_v22_apply, val_main_v21_apply, val_main_v20_apply, val_main_v19_apply, val_main_v18_apply, val_main_v17_apply, val_main_v16_apply, val_main_v15_apply, val_main_v14_apply,
    val_main_v13_apply, val_main_v12_apply, val_main_v11_apply, val_main_v10_apply, val_main_v9_apply, val_main_v8_apply, val_main_v7_apply, val_main_v6_apply, val_main_v4_apply,
    val_main_v2_apply, val_main_v3_apply, val_main_v5_apply]
  show modulated (x (ValueIdx.ix3 b r j)) (val_main_v1 (F := Ideal) x (idx_main_v2 (idx_main_v8 (ValueIdx.ix3 b r j)))) (g (idx_main_v10 (idx_main_v11 (idx_main_v12 (ValueIdx.ix3 b r j)))))
    (h (idx_main_v19 (idx_main_v20 (ValueIdx.ix3 b r j)))) (c (idx_main_v14 (idx_main_v17 (ValueIdx.ix3 b r j)))) = _
  have es : val_main_v1 (F := Ideal) x (idx_main_v2 (idx_main_v8 (ValueIdx.ix3 b r j))) = dots x x (fun k : Fin 4096 => ValueIdx.ix3 b r k) (fun k => ValueIdx.ix3 b r k) := by
    refine (val_main_v1_apply x _).trans ?_
    have hz : (val_main_cst (F := Ideal)) (Shape.Idx.first Cert.ModReferenceIdeal.Gen.h_S_) = 0 := Ideal.ofBits_zero_f32
    rw [hz, zero_add]
    refine Finset.sum_congr rfl fun k _ => ?_
    have ep : idx_main_v1 (idx_main_v2 (idx_main_v8 (ValueIdx.ix3 b r j))) k = ValueIdx.ix3 b r k := funext fun a => Fin.ext (by
      match a with
      | ⟨0, _⟩ => rfl
      | ⟨1, _⟩ => rfl
      | ⟨2, _⟩ => rfl)
    rw [val_main_v0_apply, ep]
    rfl
  have eg : idx_main_v10 (idx_main_v11 (idx_main_v12 (ValueIdx.ix3 b r j))) = ValueIdx.ix2 (0 : Fin 1) j := funext fun a => Fin.ext (by
    match a with
    | ⟨0, _⟩ => rfl
    | ⟨1, _⟩ => exact Nat.mod_eq_of_lt j.isLt)
  have eh : idx_main_v19 (idx_main_v20 (ValueIdx.ix3 b r j)) = ValueIdx.ix2 b j := funext fun a => Fin.ext (by
    match a with
    | ⟨0, _⟩ => rfl
    | ⟨1, _⟩ => rfl)
  have ec : idx_main_v14 (idx_main_v17 (ValueIdx.ix3 b r j)) = ValueIdx.ix2 b j := funext fun a => Fin.ext (by
    match a with
    | ⟨0, _⟩ => rfl
    | ⟨1, _⟩ => rfl)
  rw [es, eg, eh, ec]

/-- The array that the kernel leaves is the reference's. -/
theorem value (c : Dev nD) : (dats m 0 c).arrAt 4 cfg0.N
      = (Cert.ModReferenceIdeal.Read.val_main_v22 (F := Ideal) (m ((c : Thread nD τ).loc main_arg0)) (m ((c : Thread nD τ).loc main_arg1)) (m ((c : Thread nD τ).loc main_arg2)) (m ((c : Thread nD τ).loc main_arg3)) : S4x256x4096.Idx → EReal) := by
  refine (dats m 0 c).arrAt_eq_of_covers 4 _ (by decide +kernel) fun t hf y => ?_
  blk_simp
  rw [after0_4]
  frame_out
  have ht := lt_N t
  have hy0 : ((y : S1x256x4096.Idx) 0).val < 1 := ((y : S1x256x4096.Idx) 0).isLt
  have hy1 : ((y : S1x256x4096.Idx) 1).val < 256 := ((y : S1x256x4096.Idx) 1).isLt
  have hy2 : ((y : S1x256x4096.Idx) 2).val < 4096 := ((y : S1x256x4096.Idx) 2).isLt
  have ey : (y : S1x256x4096.Idx) = ValueIdx.ix3 (0 : Fin 1) ⟨((y : S1x256x4096.Idx) 1).val, hy1⟩ ⟨((y : S1x256x4096.Idx) 2).val, hy2⟩ := by
    funext a
    match a with
    | ⟨0, _⟩ => exact Fin.ext (Nat.lt_one_iff.mp hy0)
    | ⟨1, _⟩ => rfl
    | ⟨2, _⟩ => rfl
  have i0 := win0_4.rect_emb_val t y (0 : Fin 3)
  have i1 := win0_4.rect_emb_val t y (1 : Fin 3)
  have i2 := win0_4.rect_emb_val t y (2 : Fin 3)
  rw [idx_4] at i0 i1 i2
  have i0' : (((cfg0.win 4).blk t).view.emb y 0).val = t.val * 1 + ((y : S1x256x4096.Idx) 0).val := i0
  have i1' : (((cfg0.win 4).blk t).view.emb y 1).val = 0 * 256 + ((y : S1x256x4096.Idx) 1).val := i1
  have i2' : (((cfg0.win 4).blk t).view.emb y 2).val = 0 * 4096 + ((y : S1x256x4096.Idx) 2).val := i2
  have eo : ((cfg0.win 4).blk t).view.emb y = (ValueIdx.ix3 (⟨t.val, ht⟩ : Fin 4) ⟨((y : S1x256x4096.Idx) 1).val, hy1⟩ ⟨((y : S1x256x4096.Idx) 2).val, hy2⟩ : S4x256x4096.Idx) := by
    funext a
    match a with
    | ⟨0, _⟩ => refine Fin.ext (i0'.trans ?_); show t.val * 1 + ((y : S1x256x4096.Idx) 0).val = t.val; omega
    | ⟨1, _⟩ => refine Fin.ext (i1'.trans ?_); show 0 * 256 + ((y : S1x256x4096.Idx) 1).val = ((y : S1x256x4096.Idx) 1).val; omega
    | ⟨2, _⟩ => refine Fin.ext (i2'.trans ?_); show 0 * 4096 + ((y : S1x256x4096.Idx) 2).val = ((y : S1x256x4096.Idx) 2).val; omega
  refine (congrArg (k0_pay1 (iblk m c 0 t) (iblk m c 1 t) (iblk m c 2 t) (iblk m c 3 t)) ey).trans ((pay _ _ _ _ _ _).trans (Eq.trans ?_ ((congrArg _ eo).trans (ref_value _ _ _ _ _ _ _)).symm))
  have es := fun k : Fin 4096 => blk_0 m c t ⟨((y : S1x256x4096.Idx) 1).val, hy1⟩ k ⟨t.val, ht⟩ rfl
  rw [es, blk_1, blk_2 m c t _ ⟨t.val, ht⟩ rfl, blk_3 m c t _ ⟨t.val, ht⟩ rfl]
  refine congrArg (fun s => modulated _ s _ _ _) (Finset.sum_congr rfl fun k _ => ?_)
  exact congrArg (fun e : EReal => e * e) (es k)

theorem frame_kernel : Cert.quiescent_ModKernel := fun m ρ _ => Cert.ModKernel.Gen.frame m ρ
theorem frame_ideal : Cert.quiescent_ModKernelIdeal := fun m ρ _ => Cert.ModKernelIdeal.Gen.frame m ρ
theorem frame_reference : Cert.quiescent_ModReferenceIdeal := fun m ρ _ =>
  (θ_run Cert.ModReferenceIdeal.defs _ _).mono (fun r h => ⟨fun c => (h c).2, sem_eq_zero_of_no_sems (by decide) r.2⟩)
    (Cert.ModReferenceIdeal.Value.run (F := Ideal) m ρ)

theorem val_congr {x0 y0 x1 y1 x2 y2 x3 y3} (h0 : x0 = y0) (h1 : x1 = y1) (h2 : x2 = y2) (h3 : x3 = y3) :
    Cert.ModReferenceIdeal.Read.val_main_v22 (F := Ideal) x0 x1 x2 x3 = Cert.ModReferenceIdeal.Read.val_main_v22 (F := Ideal) y0 y1 y2 y3 := by
  rw [h0, h1, h2, h3]

/-- Kernel and reference compute one function. -/
theorem equal : Cert.algebraic_ModKernelIdeal_ModReferenceIdeal := by
  intro m g m' g' _ hag
  refine ⟨fun c => (Cert.ModReferenceIdeal.Read.val_main_v22 (F := Ideal) (m ((c : Thread nD τ).loc main_arg0)) (m ((c : Thread nD τ).loc main_arg1)) (m ((c : Thread nD τ).loc main_arg2)) (m ((c : Thread nD τ).loc main_arg3)) : S4x256x4096.Idx → EReal), ?_, ?_⟩
  · exact (θ_run Cert.ModKernelIdeal.defs _ _).mono (fun r h c => ⟨(h c).1.trans (value m c), (h c).2⟩)
      (Cert.ModKernelIdeal.Value.run_blocks (F := Ideal) m g)
  · refine (θ_run Cert.ModReferenceIdeal.defs _ _).mono (fun r h c => ⟨((h c).1.trans (Cert.ModReferenceIdeal.Read.val_main_v22_eq (F := Ideal) _ _ _ _)).trans ?_, (h c).2⟩)
      (Cert.ModReferenceIdeal.Value.run (F := Ideal) m' g')
    obtain ⟨a0, a1, a2, a3⟩ := hag c
    exact val_congr a0 a1 a2 a3

end Cert.Layer.Mod
-- ==== Proof.StatesBody.lean ====
module

public import proofs.«01_k».proof.Proof.Gates
public import proofs.«01_k».proof.Proof.Gen.StatesKernelIdeal.Value

@[expose] public section

set_option maxRecDepth 16384

noncomputable section

open scoped BigOperators

namespace Cert.Layer.States

open Idealize.ShloMosaic hiding ix2
open Idealize.ShloMosaic.TcCoe
open Idealize.ShloMosaic.ValueIdx
open Cert.Hgrn
open Cert.StatesKernelIdeal Cert.StatesKernelIdeal.Gen

/-! ### Gates of arbitrary extended reals -/

/-- The logistic function of any extended real is a real number, and not negative. -/
theorem logistic_real (z : EReal) : Ideal.logistic z = (((Ideal.logistic z).toReal : ℝ) : EReal) ∧ 0 ≤ (Ideal.logistic z).toReal := by
  induction z using EReal.rec with
  | bot => rw [Ideal.logistic_bot]; simp
  | coe r =>
    rw [Ideal.logistic_coe]
    exact ⟨(congrArg _ (EReal.toReal_coe _)).symm, by rw [EReal.toReal_coe]; positivity⟩
  | top => rw [Ideal.logistic_top]; simp

/-- The forget gate of a lower bound and a gate between zero and one. -/
def gate (l s : ℝ) : ℝ := l + (1 - l) * s

theorem gate_pos {l s : ℝ} (h0 : 0 < l) (h1 : l ≤ 1) (hs : 0 ≤ s) : 0 < gate l s := by
  unfold gate
  have : 0 ≤ (1 - l) * s := mul_nonneg (by linarith) hs
  linarith

/-- The two states' entries: every row's value times its key, decayed over the rows after it or before it. -/
def fwdS (G K : ℕ → ℕ → ℝ) (V : Fin 256 → EReal) (j : ℕ) : EReal :=
  ∑ s : Fin 256, V s * ((K s.val j * Real.exp (CE G 256 j - CE G (s.val + 1) j) : ℝ) : EReal)
def bwdS (G K : ℕ → ℕ → ℝ) (V : Fin 256 → EReal) (j : ℕ) : EReal :=
  ∑ s : Fin 256, V s * ((K s.val j * Real.exp (CE G s.val j) : ℝ) : EReal)

/-- A sum times a positive real number, term by term. -/
theorem sum_mul_real {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-! ### The body's pieces -/

section Gates
variable {z : Vec Ideal S1x256x128 .bf16} {lb : Vec Ideal S1x1x128 .f32} {S : ℕ → ℕ → ℝ} {L : ℕ → ℕ → ℝ}

/-- The gates' sigmoids by coordinates. -/
def Sig (z : Vec Ideal S1x256x128 .bf16) (S : ℕ → ℕ → ℝ) : Prop :=
  ∀ (t : Fin 256) (j : Fin 128), Ideal.logistic (z (ValueIdx.ix3 (0 : Fin 1) t j)) = ((S t.val j.val : ℝ) : EReal)

theorem gateF (hz : Sig z S) (hl : IsR3 lb L) : IsR (k0_pay3 (F := Ideal) z lb) (fun t j => gate (L 0 j) (S t j)) := by
  have hs : IsR (Idealize.ShloMosaic.logistic (extf .f32 (shapeCast S256x128 z shapeCasts_S1x256x128_S256x128 : FVec Ideal S256x128 .bf16) bitsLt_bf16_f32)) S := fun t j =>
    (congrArg Ideal.logistic (shapeCast_apply z shapeCasts_S1x256x128_S256x128 _ (ValueIdx.ix3 (0 : Fin 1) t j) (by
      rw [Shape.rowMajor_val_three, Shape.rowMajor_val_two]
      show (0 * 256 + t.val) * 128 + j.val = t.val * 128 + j.val
      omega))).trans (hz t j)
  have hl' := hl.drop (φ := .f32) shapeCasts_S1x1x128_S1x128
  have h1 := (IsR.splat (φ := .f32) one_eq).sub (φ := .f32) hl'
  exact ((hl'.row (m' := 256) broadcasts_S1x128_S256x128).add (φ := .f32)
    ((h1.row (m' := 256) broadcasts_S1x128_S256x128).mul (φ := .f32) hs)).congr fun t j _ _ => rfl

theorem keyF (hz : Sig z S) (hl : IsR3 lb L) : IsR (k0_pay5 (F := Ideal) z lb) (fun t j => 1 - gate (L 0 j) (S t j)) :=
  (IsR.splat (φ := .f32) one_eq).sub (φ := .f32) (gateF hz hl)

theorem logF (hz : Sig z S) (hl : IsR3 lb L) (hp : ∀ t j, t < 256 → j < 128 → 0 < gate (L 0 j) (S t j)) :
    IsR (k0_pay4 (F := Ideal) z lb) (fun t j => Real.log (gate (L 0 j) (S t j))) :=
  (gateF hz hl).log (φ := .f32) hp

end Gates

/-- Two blocks of 128 rows one under the other. -/
theorem IsR.conc2 {X0 X1 : (⟨2, ![128, 128]⟩ : Shape).Idx → EReal} {Q0 Q1 : ℕ → ℕ → ℝ} (h0 : IsR X0 Q0) (h1 : IsR X1 Q1)
    (h : Shape.Concatenates (([⟨⟨2, ![128, 128]⟩, X0⟩, ⟨⟨2, ![128, 128]⟩, X1⟩] : List ((s : Shape) × (s.Idx → EReal))).map (·.1)) ⟨2, ![256, 128]⟩ 0) :
    IsR (concatenate ⟨2, ![256, 128]⟩ 0 [⟨⟨2, ![128, 128]⟩, X0⟩, ⟨⟨2, ![128, 128]⟩, X1⟩] h)
      (fun t j => if t < 128 then Q0 t j else Q1 (t - 128) j) := by
  intro t j
  have ht := t.isLt
  by_cases a0 : t.val < 128
  · rw [concatenate_apply_piece 0 _ h (ix2 t j) 0 (by simp) _ X0 rfl rfl 0 rfl (ix2 ⟨t.val, a0⟩ j)
      (fun b hb => by match b with | ⟨0, _⟩ => exact absurd rfl hb | ⟨1, _⟩ => rfl) (Nat.zero_add _)]
    simp only [a0, if_true]; exact h0 _ _
  · rw [concatenate_apply_piece 0 _ h (ix2 t j) 1 (by simp) _ X1 rfl rfl 128 rfl (ix2 ⟨t.val - 128, by omega⟩ j)
      (fun b hb => by match b with | ⟨0, _⟩ => exact absurd rfl hb | ⟨1, _⟩ => rfl) (Nat.add_sub_cancel' (by omega))]
    simp only [a0, if_false]; exact h1 _ _

theorem zeros : IsR (constant (F := Ideal) S128x128 .f32 0x00000000#32) (fun _ _ => 0) := IsR.constf zero_eq

theorem part {tri a b : FVec Ideal S128x128 .bf16} {T A : ℕ → ℕ → ℝ} (ht : IsR tri T) (ha : IsR a A) (hb : IsR b (fun _ _ => 0)) :
    IsR (addf (matmul dot_S128x128_S128x128_S128x128_1_0_0_1_n_n none tri a (constant S128x128 .f32 0x00000000#32))
      (matmul dot_S128x128_S128x128_S128x128_1_0_0_1_n_n none tri b (constant S128x128 .f32 0x00000000#32))) (fun r j => ∑ s ∈ Finset.range 128, T r s * A s j) :=
  ((IsR.dotNN (φ₁ := .bf16) (φ₂ := .bf16) (p := none) (d := dot_S128x128_S128x128_S128x128_1_0_0_1_n_n) rfl ht ha zeros).add (φ := .f32)
    (IsR.dotNN (φ₁ := .bf16) (φ₂ := .bf16) (p := none) (d := dot_S128x128_S128x128_S128x128_1_0_0_1_n_n) rfl ht hb zeros)).congr
    fun r j _ _ => by simp

theorem hi_real {g : FVec Ideal S256x128 .f32} {G : ℕ → ℕ → ℝ} (hg : IsR g G) : IsR (truncf .bf16 g bitsLt_bf16_f32) G :=
  IsR.trunc (φ := .f32) (ψ := .bf16) hg bitsLt_bf16_f32
theorem lo_real {g : FVec Ideal S256x128 .f32} {G : ℕ → ℕ → ℝ} (hg : IsR g G) :
    IsR (truncf .bf16 (subf g (extf .f32 (truncf .bf16 g bitsLt_bf16_f32) bitsLt_bf16_f32)) bitsLt_bf16_f32) (fun _ _ => 0) :=
  (IsR.trunc (φ := .f32) (ψ := .bf16) (hg.sub (φ := .f32) (IsR.ext' (φ := .bf16) (ψ := .f32) (hi_real hg) bitsLt_bf16_f32)) bitsLt_bf16_f32).congr
    fun t j _ _ => sub_self _

/-- The sums within each chunk of 128 rows. -/
theorem cums {tri : FVec Ideal S128x128 .bf16} {hi lo : FVec Ideal S256x128 .bf16} {T G : ℕ → ℕ → ℝ} (ht : IsR tri T) (hh : IsR hi G) (hl : IsR lo (fun _ _ => 0)) :
    IsR (concatenate S256x128 0 [⟨S128x128, addf (matmul dot_S128x128_S128x128_S128x128_1_0_0_1_n_n none tri (extractStridedSlice S128x128 ![0, 0] hi slices_S256x128_o0_0_S128x128) (constant S128x128 .f32 0x00000000#32))
        (matmul dot_S128x128_S128x128_S128x128_1_0_0_1_n_n none tri (extractStridedSlice S128x128 ![0, 0] lo slices_S256x128_o0_0_S128x128) (constant S128x128 .f32 0x00000000#32))⟩,
      ⟨S128x128, addf (matmul dot_S128x128_S128x128_S128x128_1_0_0_1_n_n none tri (extractStridedSlice S128x128 ![128, 0] hi slices_S256x128_o128_0_S128x128) (constant S128x128 .f32 0x00000000#32))
        (matmul dot_S128x128_S128x128_S128x128_1_0_0_1_n_n none tri (extractStridedSlice S128x128 ![128, 0] lo slices_S256x128_o128_0_S128x128) (constant S128x128 .f32 0x00000000#32))⟩]
        concatenates_S128x128_S128x128_S256x128_d0)
      (fun t j => ∑ s ∈ Finset.range 128, T (t % 128) s * G (128 * (t / 128) + s) j) := by
  refine (IsR.conc2 (part ht (hh.slice slices_S256x128_o0_0_S128x128) (hl.slice slices_S256x128_o0_0_S128x128))
    (part ht (hh.slice slices_S256x128_o128_0_S128x128) (hl.slice slices_S256x128_o128_0_S128x128)) concatenates_S128x128_S128x128_S256x128_d0).congr fun t j h0 _ => ?_
  by_cases a : t < 128
  · have e1 : t % 128 = t := by omega
    have e2 : t / 128 = 0 := by omega
    simp only [a, if_true, e1, e2, Nat.mul_zero, Nat.zero_add]
  · have e1 : t % 128 = t - 128 := by omega
    have e2 : t / 128 = 1 := by omega
    simp only [a, if_false, e1, e2, Nat.mul_one, Nat.zero_add]

theorem lower : IsR (k0_pay9 (F := Ideal)) (fun r s => if s ≤ r then 1 else 0) := triF_real
theorem upper : IsR (truncf .bf16 (select (cmpi .sge (iota .tc S128x128 32 [1] iota_S128x128_d1_w32) (iota .tc S128x128 32 [0] iota_S128x128_d0_w32))
    (broadcast S128x128 (Scalar.ofBits (F := Ideal) .f32 0x3F800000#32)) (broadcast S128x128 (Scalar.ofBits (F := Ideal) .f32 0x00000000#32))) bitsLt_bf16_f32 : FVec Ideal S128x128 .bf16)
    (fun r s => if r ≤ s then 1 else 0) := triB_real

section Sums
variable {z : Vec Ideal S1x256x128 .bf16} {lb : Vec Ideal S1x1x128 .f32} {G : ℕ → ℕ → ℝ}

theorem sumF (hg : IsR (k0_pay4 (F := Ideal) z lb) G) :
    IsR (k0_pay12 (k0_pay9 (F := Ideal)) (k0_pay10 z lb) (k0_pay11 z lb)) (fun t j => CE G (t + 1) j - CE G (128 * (t / 128)) j) := by
  refine (cums lower (hi_real hg) (lo_real hg)).congr fun t j ht hj => ?_
  rw [tri_sum _ _ (Nat.mod_lt _ (by norm_num))]
  have e : t + 1 = 128 * (t / 128) + (t % 128 + 1) := by omega
  conv_rhs => rw [e, CE_add]
  ring

theorem sumB (hg : IsR (k0_pay7 (F := Ideal) z lb) G) :
    IsR (k0_pay13 (k0_pay7 (F := Ideal) z lb)) (fun t j => CE G (128 * (t / 128) + 128) j - CE G t j) := by
  refine (cums upper (hi_real hg) (lo_real hg)).congr fun t j ht hj => ?_
  have hr : t % 128 < 128 := Nat.mod_lt _ (by norm_num)
  have e : CE G t j = CE G (128 * (t / 128)) j + ∑ s ∈ Finset.range (t % 128), G (128 * (t / 128) + s) j := by
    rw [← CE_add]; congr 1; omega
  rw [e, CE_add]
  have e2 : ∑ s ∈ Finset.range 128, G (128 * (t / 128) + s) j
      = ∑ s ∈ Finset.range (t % 128), G (128 * (t / 128) + s) j + ∑ s ∈ Finset.range 128, (if t % 128 ≤ s then (1 : ℝ) else 0) * G (128 * (t / 128) + s) j := by
    have e3 : ∑ s ∈ Finset.range (t % 128), G (128 * (t / 128) + s) j = ∑ s ∈ Finset.range 128, (if t % 128 ≤ s then (0 : ℝ) else 1) * G (128 * (t / 128) + s) j := by
      rw [← Finset.sum_subset (Finset.range_subset_range.mpr hr.le) (fun s _ hs => by rw [if_pos (not_lt.mp fun h => hs (Finset.mem_range.mpr h)), zero_mul])]
      exact Finset.sum_congr rfl fun s hs => by rw [if_neg (not_le.mpr (Finset.mem_range.mp hs)), one_mul]
    rw [e3, ← Finset.sum_add_distrib]
    refine Finset.sum_congr rfl fun s _ => ?_
    by_cases h : t % 128 ≤ s <;> simp [h]
  rw [e2]
  ring

end Sums

/-! ### The two states -/

/-- Rows against rows: entries summed over the rows. -/
theorem rows (X Y : FVec Ideal S128x128 .bf16) (c j : Fin 128) :
    matmul dot_S128x128_S128x128_S128x128_0_0_1_1_n_n none X Y (constant (F := Ideal) S128x128 .f32 0x00000000#32) (ix2 c j)
      = ∑ k : Fin 128, (X (ix2 k c) * Y (ix2 k j) : EReal) := by
  refine (Ideal.matmul_apply₁_of dot_S128x128_S128x128_S128x128_0_0_1_1_n_n rfl (K := 128) rfl X Y _ (ix2 c j) (fun k => ix2 k c) (fun k => ix2 k j) (fun k => ?_) (fun k => ?_)).trans ?_
  · funext a
    match a with
    | ⟨0, _⟩ => rfl
    | ⟨1, _⟩ => rfl
  · funext a
    match a with
    | ⟨0, _⟩ => rfl
    | ⟨1, _⟩ => rfl
  · exact (congrArg (· + _) (zero_eq.trans EReal.coe_zero)).trans (zero_add _)

/-- A sum over 256 rows as two sums over 128. -/
theorem halves (f : Fin 256 → EReal) : ∑ s, f s = ∑ s : Fin 128, f ⟨s.val, by omega⟩ + ∑ s : Fin 128, f ⟨128 + s.val, by omega⟩ :=
  Fin.sum_univ_add (M := EReal) (a := 128) (b := 128) f

theorem four (X : FVec Ideal S128x128 .f32) (c j : Fin 128) :
    shapeCast S1x1x128x128 X shapeCasts_S128x128_S1x1x128x128 (ValueIdx.ix4 (0 : Fin 1) (0 : Fin 1) c j) = X (ix2 c j) := by
  refine shapeCast_apply X shapeCasts_S128x128_S1x1x128x128 _ _ ?_
  rw [Shape.rowMajor_val_four, Shape.rowMajor_val_two]
  show c.val * 128 + j.val = ((0 * 1 + 0) * 128 + c.val) * 128 + j.val
  omega

theorem pay1 (X : FVec Ideal S128x128 .f32) (c j : Fin 128) : k0_pay1 X (ValueIdx.ix4 (0 : Fin 1) (0 : Fin 1) c j) = X (ix2 c j) := by
  unfold k0_pay1
  exact four X c j

theorem pay2 (X : FVec Ideal S128x128 .f32) (Y Z : FVec Ideal S128x128 .bf16) (O : FVec Ideal S128x128 .f32) (c j : Fin 128) : k0_pay2 X Y Z O (ValueIdx.ix4 (0 : Fin 1) (0 : Fin 1) c j) = addf X (matmul dot_S128x128_S128x128_S128x128_0_0_1_1_n_n none Y Z O) (ix2 c j) := by
  unfold k0_pay2
  exact four _ c j

section States
variable {v14 W : FVec Ideal S256x128 .f32} {K B : ℕ → ℕ → ℝ}

/-- The rows of values and of decayed keys of one chunk. -/
def dec0 (o : ℕ) (K B : ℕ → ℕ → ℝ) (e : ℕ) (s j : ℕ) : ℝ := K (o + s) j * Real.exp (B e j - B (o + s) j)

theorem up (v : Vec Ideal S1x256x128 .bf16) (o : ℕ) (ho : o = 0 ∨ o = 128) (h : (⟨2, ![256, 128]⟩ : Shape).Slices ![o, 0] ⟨2, ![128, 128]⟩) (k c : Fin 128) (i : Fin 256) (hi : i.val = o + k.val) :
    extractStridedSlice (⟨2, ![128, 128]⟩ : Shape) ![o, 0] (k0_pay14 (F := Ideal) v) h (ix2 k c) = v (ValueIdx.ix3 (0 : Fin 1) i c) := by
  rw [extractStridedSlice_apply ![o, 0] (k0_pay14 (F := Ideal) v) h (ix2 k c) (ix2 i c) (fun a => by
    match a with
    | ⟨0, _⟩ => exact hi
    | ⟨1, _⟩ => exact (Nat.zero_add _).symm)]
  exact shapeCast_apply v shapeCasts_S1x256x128_S256x128 _ _ (by
    rw [Shape.rowMajor_val_three, Shape.rowMajor_val_two]
    show (0 * 256 + i.val) * 128 + c.val = i.val * 128 + c.val
    omega)

theorem fwd_body {G : ℕ → ℕ → ℝ} (hK : IsR v14 K) {v36 : FVec Ideal S128x128 .bf16} {v37 : FVec Ideal S256x128 .bf16} {v39 : FVec Ideal S256x128 .f32}
    (hW : IsR (k0_pay12 v36 v37 v39) (fun t j => CE G (t + 1) j - CE G (128 * (t / 128)) j)) (v : Vec Ideal S1x256x128 .bf16) (c j : Fin 128) :
    k0_pay1 (k0_pay21 v14 (k0_pay12 v36 v37 v39) (k0_pay14 v) (k0_pay15 (F := Ideal)) (k0_pay17 v14) (k0_pay18 v) (k0_pay19 v36 v37 v39) (k0_pay20 v36 v37 v39)) (ValueIdx.ix4 (0 : Fin 1) (0 : Fin 1) c j)
      = fwdS G K (fun s => v (ValueIdx.ix3 (0 : Fin 1) s c)) j.val := by
  have w0 := hW.slice slices_S256x128_o0_0_S128x128
  have w1 := hW.slice slices_S256x128_o128_0_S128x128
  have l0 := w0.slice slices_S128x128_o127_0_S1x128
  have l1 := w1.slice slices_S128x128_o127_0_S1x128
  have y0 := (hK.slice slices_S256x128_o0_0_S128x128).mul (φ := .f32) (((l0.row broadcasts_S1x128_S128x128).sub (φ := .f32) w0).exp (φ := .f32))
  have y1 := (hK.slice slices_S256x128_o128_0_S128x128).mul (φ := .f32) (((l1.row broadcasts_S1x128_S128x128).sub (φ := .f32) w1).exp (φ := .f32))
  have e1 := (l1.exp (φ := .f32)).row (m' := 128) broadcasts_S1x128_S128x128
  have h : ∀ x : EReal, (Ideal.ofBits .f32 0x00000000#32 : EReal) * x = 0 := fun x => by rw [zero_eq, EReal.coe_zero, zero_mul]
  rw [pay1]
  unfold k0_pay21
  refine (congrArg₂ (fun a b : EReal => a + b) (congrArg₂ (fun a b : EReal => a * b) ((congrArg₂ (fun a b : EReal => a + b) (h _) (rows _ _ c j)).trans (zero_add _)) (e1 c j)) (rows _ _ c j)).trans ?_
  rw [sum_mul_real _ _ (Real.exp_pos _).le]
  refine Eq.trans ?_ (halves _).symm
  refine congrArg₂ (fun a b : EReal => a + b) (Finset.sum_congr rfl fun k _ => ?_) (Finset.sum_congr rfl fun k _ => ?_)
  · have hk := k.isLt
    refine (congrArg (· * _) (congrArg₂ (fun a b : EReal => a * b) (up v 0 (.inl rfl) slices_S256x128_o0_0_S128x128 k c ⟨k.val, by omega⟩ (Nat.zero_add _).symm) (y0 k j))).trans ?_
    rw [mul_assoc, ← EReal.coe_mul]
    refine congrArg (fun r : ℝ => (v (ValueIdx.ix3 (0 : Fin 1) ⟨k.val, by omega⟩ c) : EReal) * (r : EReal)) ?_
    simp only [Nat.zero_add, Nat.add_zero]
    have d0 : k.val / 128 = 0 := by omega
    rw [mul_assoc, ← Real.exp_add, d0]
    norm_num
  · have hk := k.isLt
    refine (congrArg₂ (fun a b : EReal => a * b) (up v 128 (.inr rfl) slices_S256x128_o128_0_S128x128 k c ⟨128 + k.val, by omega⟩ rfl) (y1 k j)).trans ?_
    refine congrArg (fun r : ℝ => (v (ValueIdx.ix3 (0 : Fin 1) ⟨128 + k.val, by omega⟩ c) : EReal) * (r : EReal)) ?_
    simp only [Nat.zero_add, Nat.add_zero]
    have d0 : (128 + k.val) / 128 = 1 := by omega
    rw [d0]
    norm_num

theorem bwd_body {G : ℕ → ℕ → ℝ} (hK : IsR v14 K) (hW : IsR W (fun t j => CE G (128 * (t / 128) + 128) j - CE G t j)) {v27 : FVec Ideal S256x128 .f32} (e : k0_pay13 v27 = W)
    (v : Vec Ideal S1x256x128 .bf16) (c j : Fin 128) :
    k0_pay2 (k0_pay23 v14 (k0_pay13 v27) (k0_pay14 v) (k0_pay16 (F := Ideal))) (k0_pay24 (k0_pay14 v)) (k0_pay25 v14 (k0_pay13 v27)) (constant (F := Ideal) S128x128 .f32 0x00000000#32) (ValueIdx.ix4 (0 : Fin 1) (0 : Fin 1) c j)
      = bwdS G K (fun s => v (ValueIdx.ix3 (0 : Fin 1) s c)) j.val := by
  rw [e]
  have w0 := hW.slice slices_S256x128_o0_0_S128x128
  have w1 := hW.slice slices_S256x128_o128_0_S128x128
  have l0 := w0.slice slices_S128x128_o0_0_S1x128
  have l1 := w1.slice slices_S128x128_o0_0_S1x128
  have y0 := (hK.slice slices_S256x128_o0_0_S128x128).mul (φ := .f32) (((l0.row broadcasts_S1x128_S128x128).sub (φ := .f32) w0).exp (φ := .f32))
  have y1 := (hK.slice slices_S256x128_o128_0_S128x128).mul (φ := .f32) (((l1.row broadcasts_S1x128_S128x128).sub (φ := .f32) w1).exp (φ := .f32))
  have e0 := (l0.exp (φ := .f32)).row (m' := 128) broadcasts_S1x128_S128x128
  have h : ∀ x : EReal, (Ideal.ofBits .f32 0x00000000#32 : EReal) * x = 0 := fun x => by rw [zero_eq, EReal.coe_zero, zero_mul]
  rw [pay2]
  unfold k0_pay23
  refine (congrArg₂ (fun a b : EReal => a + b) (congrArg₂ (fun a b : EReal => a * b) ((congrArg₂ (fun a b : EReal => a + b) (h _) (rows _ _ c j)).trans (zero_add _)) (e0 c j)) (rows _ _ c j)).trans ?_
  rw [sum_mul_real _ _ (Real.exp_pos _).le]
  refine Eq.trans ?_ ((halves _).trans (add_comm _ _)).symm
  refine congrArg₂ (fun a b : EReal => a + b) (Finset.sum_congr rfl fun k _ => ?_) (Finset.sum_congr rfl fun k _ => ?_)
  · have hk := k.isLt
    refine (congrArg (· * _) (congrArg₂ (fun a b : EReal => a * b) (up v 128 (.inr rfl) slices_S256x128_o128_0_S128x128 k c ⟨128 + k.val, by omega⟩ rfl) (y1 k j))).trans ?_
    rw [mul_assoc, ← EReal.coe_mul]
    refine congrArg (fun r : ℝ => (v (ValueIdx.ix3 (0 : Fin 1) ⟨128 + k.val, by omega⟩ c) : EReal) * (r : EReal)) ?_
    simp only [Nat.zero_add, Nat.add_zero]
    have d0 : (128 + k.val) / 128 = 1 := by omega
    rw [mul_assoc, ← Real.exp_add, d0]
    norm_num
    left
    simp [CE]
  · have hk := k.isLt
    refine (congrArg₂ (fun a b : EReal => a * b) (up v 0 (.inl rfl) slices_S256x128_o0_0_S128x128 k c ⟨k.val, by omega⟩ (Nat.zero_add _).symm) (y0 k j)).trans ?_
    refine congrArg (fun r : ℝ => (v (ValueIdx.ix3 (0 : Fin 1) ⟨k.val, by omega⟩ c) : EReal) * (r : EReal)) ?_
    simp only [Nat.zero_add, Nat.add_zero]
    have d0 : k.val / 128 = 0 := by omega
    rw [d0]
    norm_num
    left
    simp [CE]

end States

end Cert.Layer.States
-- ==== Proof.StatesRef.lean ====
module

public import proofs.«01_k».proof.Proof.StatesBody
public import proofs.«01_k».proof.Proof.Bounds
public import proofs.«01_k».proof.Proof.Gen.StatesReferenceIdeal.Read

@[expose] public section

set_option maxRecDepth 16384

noncomputable section

open scoped BigOperators
open Finset

namespace Cert.Layer.States

open Idealize.ShloMosaic hiding ix2
open Idealize.ShloMosaic.ValueIdx
open Cert.Hgrn (CE R1 R3 R4 window_sum one_eq zero_eq log_real coe_sum)
open Cert.StatesReferenceIdeal Cert.StatesReferenceIdeal.Gen Cert.StatesReferenceIdeal.Read

/-- The places of a window that is long on its second axis only. -/
def rowsEquiv (N : ℕ) : Fin N ≃ (⟨4, ![1, N, 1, 1]⟩ : Shape).Idx where
  toFun w := ValueIdx.ix4 (0 : Fin 1) w (0 : Fin 1) (0 : Fin 1)
  invFun i := i 1
  left_inv w := rfl
  right_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- Sums up to and including a place along the second of four axes. -/
theorem cumsum2 {A B D : ℕ} {φ : FTy} (x : FVec Ideal ⟨4, ![A, 256, B, D]⟩ φ) (init : (⟨0, ![]⟩ : Shape).Idx → Ideal φ) (hi : ∀ i, init i = (0 : EReal))
    (h : (⟨4, ![A, 256, B, D]⟩ : Shape).ReduceWindows ![1, 256, 1, 1] ![1, 1, 1, 1] ![0, 255, 0, 0] ![0, 0, 0, 0] ⟨4, ![A, 256, B, D]⟩) (hu : 0 < (⟨0, ![]⟩ : Shape).numel)
    (b : Fin A) (t : Fin 256) (hh : Fin B) (k : Fin D) (G : ℕ → EReal) (hG : ∀ s : Fin 256, x (ValueIdx.ix4 b s hh k) = G s.val) :
    (Host.reduceWindowAdd (F := Ideal) ![1, 256, 1, 1] ![1, 1, 1, 1] ![0, 255, 0, 0] ![0, 0, 0, 0] x init h hu (ValueIdx.ix4 b t hh k) : EReal) = ∑ s ∈ range (t.val + 1), G s := by
  rw [window_sum, hi, zero_add]
  refine (Equiv.sum_comp (rowsEquiv 256) _).symm.trans ?_
  have ht := t.isLt
  have e : ∀ w : Fin 256, (if hin : ∀ a : Fin 4, (![0, 255, 0, 0] : Fin 4 → ℕ) a ≤ ((ValueIdx.ix4 b t hh k : (⟨4, ![A, 256, B, D]⟩ : Shape).Idx) (a.cast h.1.symm)).val * (![1, 1, 1, 1] : Fin 4 → ℕ) a + (rowsEquiv 256 w a).val ∧ ((ValueIdx.ix4 b t hh k : (⟨4, ![A, 256, B, D]⟩ : Shape).Idx) (a.cast h.1.symm)).val * (![1, 1, 1, 1] : Fin 4 → ℕ) a + (rowsEquiv 256 w a).val - (![0, 255, 0, 0] : Fin 4 → ℕ) a < (⟨4, ![A, 256, B, D]⟩ : Shape).size a
            then x (fun a => ⟨((ValueIdx.ix4 b t hh k : (⟨4, ![A, 256, B, D]⟩ : Shape).Idx) (a.cast h.1.symm)).val * (![1, 1, 1, 1] : Fin 4 → ℕ) a + (rowsEquiv 256 w a).val - (![0, 255, 0, 0] : Fin 4 → ℕ) a, (hin a).2⟩) else (0 : EReal))
        = (fun n : ℕ => if 255 ≤ t.val + n then G (t.val + n - 255) else 0) w.val := by
    intro w
    have hw := w.isLt
    by_cases hc : 255 ≤ t.val + w.val
    · rw [dif_pos]
      · simp only [hc, if_true]
        refine Eq.trans (congrArg x (funext fun a => Fin.ext ?_)) (hG ⟨t.val + w.val - 255, by omega⟩)
        match a with
        | ⟨0, _⟩ => show b.val * 1 + 0 - 0 = b.val; omega
        | ⟨1, _⟩ => show t.val * 1 + w.val - 255 = t.val + w.val - 255; omega
        | ⟨2, _⟩ => show hh.val * 1 + 0 - 0 = hh.val; omega
        | ⟨3, _⟩ => show k.val * 1 + 0 - 0 = k.val; omega
      · intro a
        match a with
        | ⟨0, _⟩ => have := b.isLt; show 0 ≤ b.val * 1 + 0 ∧ b.val * 1 + 0 - 0 < A; omega
        | ⟨1, _⟩ => show 255 ≤ t.val * 1 + w.val ∧ t.val * 1 + w.val - 255 < 256; omega
        | ⟨2, _⟩ => have := hh.isLt; show 0 ≤ hh.val * 1 + 0 ∧ hh.val * 1 + 0 - 0 < B; omega
        | ⟨3, _⟩ => have := k.isLt; show 0 ≤ k.val * 1 + 0 ∧ k.val * 1 + 0 - 0 < D; omega
    · rw [dif_neg]
      · simp only [hc, if_false]
      · intro hin
        have h2 := (hin 1).1
        have h3 : 255 ≤ t.val * 1 + w.val := h2
        omega
  refine (Finset.sum_congr rfl fun w _ => (by convert e w)).trans ?_
  rw [Fin.sum_univ_eq_sum_range (fun n : ℕ => if 255 ≤ t.val + n then G (t.val + n - 255) else 0) 256, ← Finset.sum_filter]
  refine Finset.sum_bij' (fun n _ => t.val + n - 255) (fun s _ => s + 255 - t.val) ?_ ?_ ?_ ?_ ?_
  · intro n hn; rw [mem_filter, mem_range] at hn; rw [mem_range]; omega
  · intro s hs; rw [mem_range] at hs; rw [mem_filter, mem_range]; omega
  · intro n hn; rw [mem_filter, mem_range] at hn; omega
  · intro s hs; rw [mem_range] at hs; omega
  · intro n hn; rfl

/-- The rows read from the last to the first. -/
theorem back {a c d : ℕ} {φ : FTy} (x : FVec Ideal ⟨4, ![a, 256, c, d]⟩ φ) (b : Fin a) (t : Fin 256) (h : Fin c) (k : Fin d) :
    (Host.reverse [1] x : FVec Ideal ⟨4, ![a, 256, c, d]⟩ φ) (ValueIdx.ix4 b t h k) = x (ValueIdx.ix4 b t.rev h k) := by
  refine congrArg x (funext fun q => ?_)
  match q with
  | ⟨0, _⟩ => rfl
  | ⟨1, _⟩ => rfl
  | ⟨2, _⟩ => rfl
  | ⟨3, _⟩ => rfl

/-- Sums from the last row, and what is left of the whole. -/
theorem rev_sum (G : ℕ → ℕ → ℝ) (j : ℕ) : ∀ n, n ≤ 256 → CE (fun s => G (255 - s)) n j + CE G (256 - n) j = CE G 256 j
  | 0, _ => by simp [CE]
  | n + 1, h => by
    have ih := rev_sum G j n (by omega)
    have e1 : CE (fun s => G (255 - s)) (n + 1) j = CE (fun s => G (255 - s)) n j + G (255 - n) j := Finset.sum_range_succ _ _
    have e2 : CE G (256 - n) j = CE G (256 - (n + 1)) j + G (255 - n) j := by
      rw [show 256 - n = (255 - n) + 1 by omega, show 256 - (n + 1) = 255 - n by omega]
      exact Finset.sum_range_succ _ _
    rw [e1]
    linarith

/-- The split of the columns into heads. -/
theorem heads {b t h k : ℕ} (ht : t < 256) (hh : h < 16) (hk : k < 128) (F : ℕ → ℕ → ℕ → ℝ) :
    F ((((b * 256 + t) * 16 + h) * 128 + k) / 524288) ((((b * 256 + t) * 16 + h) * 128 + k) / 2048 % 256) ((((b * 256 + t) * 16 + h) * 128 + k) % 2048) = F b t (128 * h + k) := by
  have e0 : (((b * 256 + t) * 16 + h) * 128 + k) / 524288 = b := by omega
  have e1 : (((b * 256 + t) * 16 + h) * 128 + k) / 2048 % 256 = t := by omega
  have e2 : (((b * 256 + t) * 16 + h) * 128 + k) % 2048 = 128 * h + k := by omega
  rw [e0, e1, e2]

/-- The logistic function as the reference spells it. -/
theorem logistic_spelled (z : EReal) : Ideal.div (Ideal.ofBits .f32 0x3F800000#32) (Ideal.ofBits .f32 0x3F800000#32 + Ideal.exp (-z)) = Ideal.logistic z := by
  rw [Ideal.ofBits_one_f32]; rfl

/-- The sigmoids of the projections, by coordinates. -/
def sg (x : FVec Ideal S4x256x6144 .bf16) (b t j : ℕ) : ℝ :=
  if h : b < 4 ∧ t < 256 ∧ j < 6144 then (Ideal.logistic (x (ValueIdx.ix3 ⟨b, h.1⟩ ⟨t, h.2.1⟩ ⟨j, h.2.2⟩))).toReal else 0

theorem sg_eq (x : FVec Ideal S4x256x6144 .bf16) (b : Fin 4) (t : Fin 256) (j : Fin 6144) : Ideal.logistic (x (ValueIdx.ix3 b t j)) = ((sg x b.val t.val j.val : ℝ) : EReal) := by
  unfold sg
  rw [dif_pos ⟨b.isLt, t.isLt, j.isLt⟩]
  exact (logistic_real _).1

theorem sg_nonneg (x : FVec Ideal S4x256x6144 .bf16) (b t j : ℕ) : 0 ≤ sg x b t j := by
  unfold sg
  split
  · exact (logistic_real _).2
  · exact le_rfl

section Gates
variable (x0 : FVec Ideal S4x256x6144 .bf16) {x1 : FVec Ideal S2x2x2048 .f32} {L : ℕ → ℝ}

theorem s27 : R3 (val_main_v27 (F := Ideal) x0) (fun b t j => sg x0 b t j) := by
  intro i
  have hi : (i 2).val < 2048 := (i 2).isLt
  refine Eq.trans ?_ (sg_eq x0 (i 0) (i 1) ⟨(i 2).val, by omega⟩)
  have e : val_main_v17 (F := Ideal) x0 i = x0 (ValueIdx.ix3 (i 0) (i 1) ⟨(i 2).val, by omega⟩) := by
    refine (val_main_v17_apply (F := Ideal) x0 i).trans (congrArg x0 (funext fun a => ?_))
    match a with
    | ⟨0, _⟩ => rfl
    | ⟨1, _⟩ => rfl
    | ⟨2, _⟩ => rfl
  rw [← logistic_spelled, ← e, val_main_v27_apply, val_main_v26_apply, val_main_v25_apply, val_main_v24_apply]
  rfl

theorem s46 : R3 (val_main_v46 (F := Ideal) x0) (fun b t j => sg x0 b t (2048 + j)) := by
  intro i
  have hi : (i 2).val < 2048 := (i 2).isLt
  refine Eq.trans ?_ (sg_eq x0 (i 0) (i 1) ⟨2048 + (i 2).val, by omega⟩)
  have e : val_main_v18 (F := Ideal) x0 i = x0 (ValueIdx.ix3 (i 0) (i 1) ⟨2048 + (i 2).val, by omega⟩) := by
    refine (val_main_v18_apply (F := Ideal) x0 i).trans (congrArg x0 (funext fun a => ?_))
    match a with
    | ⟨0, _⟩ => rfl
    | ⟨1, _⟩ => rfl
    | ⟨2, _⟩ => rfl
  rw [← logistic_spelled, ← e, val_main_v46_apply, val_main_v45_apply, val_main_v44_apply, val_main_v43_apply]
  rfl

theorem s33 (hL : R1 (val_main_v13 (F := Ideal) x1) L) : R3 (val_main_v33 (F := Ideal) x0 x1) (fun b t j => gate (L j) (sg x0 b t j)) := by
  intro i
  have eL : val_main_v32 (F := Ideal) x1 i = ((L (i 2).val : ℝ) : EReal) := by
    rw [val_main_v32_apply, val_main_v31_apply]; exact hL _
  have eM : val_main_v29 (F := Ideal) x1 i = ((1 - L (i 2).val : ℝ) : EReal) := by
    rw [val_main_v29_apply, val_main_v28_apply, val_main_v21_apply, val_main_v20_apply]
    exact (congrArg₂ (fun a s : EReal => a - s) one_eq (hL _)).trans (EReal.coe_sub _ _).symm
  exact (congrArg₂ (fun a s : EReal => a + s) eL ((congrArg₂ (fun a s : EReal => a * s) eM (s27 x0 i)).trans (EReal.coe_mul _ _).symm)).trans (EReal.coe_add _ _).symm

theorem s52 (hL : R1 (val_main_v15 (F := Ideal) x1) L) : R3 (val_main_v52 (F := Ideal) x0 x1) (fun b t j => gate (L j) (sg x0 b t (2048 + j))) := by
  intro i
  have eL : val_main_v51 (F := Ideal) x1 i = ((L (i 2).val : ℝ) : EReal) := by
    rw [val_main_v51_apply, val_main_v50_apply]; exact hL _
  have eM : val_main_v48 (F := Ideal) x1 i = ((1 - L (i 2).val : ℝ) : EReal) := by
    rw [val_main_v48_apply, val_main_v47_apply, val_main_v40_apply, val_main_v39_apply]
    exact (congrArg₂ (fun a s : EReal => a - s) one_eq (hL _)).trans (EReal.coe_sub _ _).symm
  exact (congrArg₂ (fun a s : EReal => a + s) eL ((congrArg₂ (fun a s : EReal => a * s) eM (s46 x0 i)).trans (EReal.coe_mul _ _).symm)).trans (EReal.coe_add _ _).symm

/-- The gates of a head, by row and column. -/
def gateH (x0 : FVec Ideal S4x256x6144 .bf16) (L : ℕ → ℝ) (o b h : ℕ) (t k : ℕ) : ℝ := gate (L (128 * h + k)) (sg x0 b t (o + (128 * h + k)))

theorem s35 (hL : R1 (val_main_v13 (F := Ideal) x1) L) (hp : ∀ j, j < 2048 → 0 < L j ∧ L j ≤ 1) :
    R4 (val_main_v35 (F := Ideal) x0 x1) (fun b t h k => Real.log (gateH x0 L 0 b h t k)) := by
  intro i
  have e : R3 (val_main_v34 (F := Ideal) x0 x1) (fun b t j => Real.log (gate (L j) (sg x0 b t j))) := by
    intro i
    have hj := hp (i 2).val (i 2).isLt
    exact (congrArg Ideal.log (s33 x0 hL i)).trans (log_real (gate_pos hj.1 hj.2 (sg_nonneg _ _ _ _)))
  refine (val_main_v35_apply (F := Ideal) x0 x1 i).trans ((e (idx_main_v35 i)).trans
    (congrArg (fun r : ℝ => (r : EReal)) ((heads (b := (i 0).val) (i 1).isLt (i 2).isLt (i 3).isLt (fun b t j => Real.log (gate (L j) (sg x0 b t j)))).trans ?_)))
  simp only [gateH, Nat.zero_add]

theorem s38 (hL : R1 (val_main_v13 (F := Ideal) x1) L) :
    R4 (val_main_v38 (F := Ideal) x0 x1) (fun b t h k => 1 - gateH x0 L 0 b h t k) := by
  intro i
  have e : R3 (val_main_v37 (F := Ideal) x0 x1) (fun b t j => 1 - gate (L j) (sg x0 b t j)) := by
    intro i
    rw [val_main_v37_apply, val_main_v36_apply]
    exact (congrArg₂ (fun a s : EReal => a - s) one_eq (s33 x0 hL i)).trans (EReal.coe_sub _ _).symm
  refine (val_main_v38_apply (F := Ideal) x0 x1 i).trans ((e (idx_main_v38 i)).trans
    (congrArg (fun r : ℝ => (r : EReal)) ((heads (b := (i 0).val) (i 1).isLt (i 2).isLt (i 3).isLt (fun b t j => 1 - gate (L j) (sg x0 b t j))).trans ?_)))
  simp only [gateH, Nat.zero_add]

theorem s54 (hL : R1 (val_main_v15 (F := Ideal) x1) L) (hp : ∀ j, j < 2048 → 0 < L j ∧ L j ≤ 1) :
    R4 (val_main_v54 (F := Ideal) x0 x1) (fun b t h k => Real.log (gateH x0 L 2048 b h t k)) := by
  intro i
  have e : R3 (val_main_v53 (F := Ideal) x0 x1) (fun b t j => Real.log (gate (L j) (sg x0 b t (2048 + j)))) := by
    intro i
    have hj := hp (i 2).val (i 2).isLt
    exact (congrArg Ideal.log (s52 x0 hL i)).trans (log_real (gate_pos hj.1 hj.2 (sg_nonneg _ _ _ _)))
  exact (val_main_v54_apply (F := Ideal) x0 x1 i).trans ((e (idx_main_v54 i)).trans
    (congrArg (fun r : ℝ => (r : EReal)) (heads (b := (i 0).val) (i 1).isLt (i 2).isLt (i 3).isLt (fun b t j => Real.log (gate (L j) (sg x0 b t (2048 + j)))))))

theorem s57 (hL : R1 (val_main_v15 (F := Ideal) x1) L) :
    R4 (val_main_v57 (F := Ideal) x0 x1) (fun b t h k => 1 - gateH x0 L 2048 b h t k) := by
  intro i
  have e : R3 (val_main_v56 (F := Ideal) x0 x1) (fun b t j => 1 - gate (L j) (sg x0 b t (2048 + j))) := by
    intro i
    rw [val_main_v56_apply, val_main_v55_apply]
    exact (congrArg₂ (fun a s : EReal => a - s) one_eq (s52 x0 hL i)).trans (EReal.coe_sub _ _).symm
  exact (val_main_v57_apply (F := Ideal) x0 x1 i).trans ((e (idx_main_v57 i)).trans
    (congrArg (fun r : ℝ => (r : EReal)) (heads (b := (i 0).val) (i 1).isLt (i 2).isLt (i 3).isLt (fun b t j => 1 - gate (L j) (sg x0 b t (2048 + j))))))

/-- The values of a head. -/
theorem s58 (b : Fin 4) (t : Fin 256) (h : Fin 16) (k : Fin 128) (j : Fin 6144) (hj : j.val = 4096 + (128 * h.val + k.val)) :
    val_main_v58 (F := Ideal) x0 (ValueIdx.ix4 b t h k) = x0 (ValueIdx.ix3 b t j) := by
  refine (val_main_v58_apply (F := Ideal) x0 _).trans ((val_main_v19_apply (F := Ideal) x0 _).trans (congrArg x0 (funext fun a => Fin.ext ?_)))
  have hb := b.isLt
  have ht := t.isLt
  have hh := h.isLt
  have hk := k.isLt
  match a with
  | ⟨0, _⟩ => show (((b.val * 256 + t.val) * 16 + h.val) * 128 + k.val) / 524288 = b.val; omega
  | ⟨1, _⟩ => show (((b.val * 256 + t.val) * 16 + h.val) * 128 + k.val) / 2048 % 256 = t.val; omega
  | ⟨2, _⟩ => show 4096 + (((b.val * 256 + t.val) * 16 + h.val) * 128 + k.val) % 2048 = j.val; omega

theorem init1 (i : S_.Idx) : val_main_call1_call0_v0 (F := Ideal) i = (0 : EReal) := by
  rw [val_main_call1_call0_v0_apply, val_main_call1_call0_cst_apply]
  exact zero_eq.trans EReal.coe_zero
theorem init2 (i : S_.Idx) : val_main_call2_call0_v0 (F := Ideal) i = (0 : EReal) := by
  rw [val_main_call2_call0_v0_apply, val_main_call2_call0_cst_apply]
  exact zero_eq.trans EReal.coe_zero

theorem s59 (hL : R1 (val_main_v13 (F := Ideal) x1) L) (hp : ∀ j, j < 2048 → 0 < L j ∧ L j ≤ 1) (b : Fin 4) (t : Fin 256) (h : Fin 16) (k : Fin 128) :
    val_main_v59 (F := Ideal) x0 x1 (ValueIdx.ix4 b t h k) = ((CE (fun s j => Real.log (gateH x0 L 0 b.val h.val s j)) (t.val + 1) k.val : ℝ) : EReal) := by
  unfold val_main_v59
  refine (cumsum2 (val_main_v35 (F := Ideal) x0 x1) (val_main_call1_call0_v0 (F := Ideal)) init1 _ _ b t h k (fun s => ((Real.log (gateH x0 L 0 b.val h.val s k.val) : ℝ) : EReal)) (fun s => s35 x0 hL hp _)).trans ?_
  exact (coe_sum _ _).symm

theorem s69 (hL : R1 (val_main_v15 (F := Ideal) x1) L) (hp : ∀ j, j < 2048 → 0 < L j ∧ L j ≤ 1) (b : Fin 4) (t : Fin 256) (h : Fin 16) (k : Fin 128) :
    val_main_v69 (F := Ideal) x0 x1 (ValueIdx.ix4 b t h k) = ((CE (fun s j => Real.log (gateH x0 L 2048 b.val h.val (255 - s) j)) (t.val + 1) k.val : ℝ) : EReal) := by
  unfold val_main_v69
  refine (cumsum2 (val_main_v68 (F := Ideal) x0 x1) (val_main_call2_call0_v0 (F := Ideal)) init2 _ _ b t h k (fun s => ((Real.log (gateH x0 L 2048 b.val h.val (255 - s) k.val) : ℝ) : EReal)) (fun s => ?_)).trans ?_
  · refine (back (φ := .f32) (val_main_v54 (F := Ideal) x0 x1) b s h k).trans ((s54 x0 hL hp _).trans ?_)
    have e : (s.rev).val = 255 - s.val := by rw [Fin.val_rev]; omega
    show ((Real.log (gateH x0 L 2048 b.val h.val s.rev.val k.val) : ℝ) : EReal) = _
    rw [e]
  exact (coe_sum _ _).symm

/-- The forward state, entry by entry. -/
theorem ref_fwd (hL : R1 (val_main_v13 (F := Ideal) x1) L) (hp : ∀ j, j < 2048 → 0 < L j ∧ L j ≤ 1) (b : Fin 4) (h : Fin 16) (c k : Fin 128) (j : Fin 6144) (hj : j.val = 4096 + (128 * h.val + c.val)) :
    val_main_v76 (F := Ideal) x0 x1 (ValueIdx.ix4 b h c k)
      = fwdS (fun s j => Real.log (gateH x0 L 0 b.val h.val s j)) (fun s j => 1 - gateH x0 L 0 b.val h.val s j) (fun s => x0 (ValueIdx.ix3 b s j)) k.val := by
  refine (val_main_v76_apply (F := Ideal) x0 x1 _).trans ((val_main_v65_apply x0 x1 _).trans (Finset.sum_congr rfl fun s _ => ?_))
  refine (mul_comm _ _).trans (congrArg₂ (fun a s : EReal => a * s) ?_ ?_)
  · refine Eq.trans (congrArg _ (funext fun a => ?_)) (s58 x0 b s h c j hj)
    match a with
    | ⟨0, _⟩ => rfl
    | ⟨1, _⟩ => rfl
    | ⟨2, _⟩ => rfl
    | ⟨3, _⟩ => rfl
  · have ei : lidx_main_v65 (idx_main_v76 (ValueIdx.ix4 b h c k)) s = ValueIdx.ix4 b s h k := funext fun a => by
      match a with
      | ⟨0, _⟩ => rfl
      | ⟨1, _⟩ => rfl
      | ⟨2, _⟩ => rfl
      | ⟨3, _⟩ => rfl
    rw [ei, val_main_v64_apply, val_main_v63_apply, val_main_v62_apply, val_main_v61_apply, val_main_v60_apply]
    have el : idx_main_v60 (idx_main_v61 (ValueIdx.ix4 b s h k)) = ValueIdx.ix4 b (255 : Fin 256) h k := funext fun a => by
      match a with
      | ⟨0, _⟩ => rfl
      | ⟨1, _⟩ => rfl
      | ⟨2, _⟩ => rfl
      | ⟨3, _⟩ => rfl
    rw [el, s59 x0 hL hp, s59 x0 hL hp, s38 x0 hL]
    refine (congrArg (fun e : EReal => _ * Ideal.exp e) (EReal.coe_sub _ _).symm).trans ((congrArg (fun e : EReal => _ * e) (Ideal.exp_coe _)).trans (EReal.coe_mul _ _).symm)

/-- The backward state, entry by entry. -/
theorem ref_bwd (hL : R1 (val_main_v15 (F := Ideal) x1) L) (hp : ∀ j, j < 2048 → 0 < L j ∧ L j ≤ 1) (b : Fin 4) (h : Fin 16) (c k : Fin 128) (j : Fin 6144) (hj : j.val = 4096 + (128 * h.val + c.val)) :
    val_main_v77 (F := Ideal) x0 x1 (ValueIdx.ix4 b h c k)
      = bwdS (fun s j => Real.log (gateH x0 L 2048 b.val h.val s j)) (fun s j => 1 - gateH x0 L 2048 b.val h.val s j) (fun s => x0 (ValueIdx.ix3 b s j)) k.val := by
  refine (val_main_v77_apply (F := Ideal) x0 x1 _).trans ((val_main_v75_apply x0 x1 _).trans (((Equiv.sum_comp Fin.revPerm _).symm).trans (Finset.sum_congr rfl fun s _ => ?_)))
  have er : (Fin.revPerm s).rev = s := Fin.rev_rev s
  have ev : (Fin.revPerm s).val = 255 - s.val := by show s.rev.val = _; rw [Fin.val_rev]; omega
  refine (mul_comm _ _).trans (congrArg₂ (fun a s : EReal => a * s) ?_ ?_)
  · have ei : ridx_main_v75 (idx_main_v77 (ValueIdx.ix4 b h c k)) (Fin.revPerm s) = ValueIdx.ix4 b (Fin.revPerm s) h c := funext fun a => by
      match a with
      | ⟨0, _⟩ => rfl
      | ⟨1, _⟩ => rfl
      | ⟨2, _⟩ => rfl
      | ⟨3, _⟩ => rfl
    rw [ei]
    refine (back (φ := .f32) (val_main_v58 (F := Ideal) x0) b (Fin.revPerm s) h c).trans ?_
    rw [er]
    exact s58 x0 b s h c j hj
  · have ei : lidx_main_v75 (idx_main_v77 (ValueIdx.ix4 b h c k)) (Fin.revPerm s) = ValueIdx.ix4 b (Fin.revPerm s) h k := funext fun a => by
      match a with
      | ⟨0, _⟩ => rfl
      | ⟨1, _⟩ => rfl
      | ⟨2, _⟩ => rfl
      | ⟨3, _⟩ => rfl
    rw [ei, val_main_v74_apply, val_main_v73_apply, val_main_v72_apply, val_main_v71_apply, val_main_v70_apply]
    have el : idx_main_v70 (idx_main_v71 (ValueIdx.ix4 b (Fin.revPerm s) h k)) = ValueIdx.ix4 b (255 : Fin 256) h k := funext fun a => by
      match a with
      | ⟨0, _⟩ => rfl
      | ⟨1, _⟩ => rfl
      | ⟨2, _⟩ => rfl
      | ⟨3, _⟩ => rfl
    have ek : val_main_v66 (F := Ideal) x0 x1 (ValueIdx.ix4 b (Fin.revPerm s) h k) = ((1 - gateH x0 L 2048 b.val h.val s.val k.val : ℝ) : EReal) := by
      refine (back (φ := .f32) (val_main_v57 (F := Ideal) x0 x1) b (Fin.revPerm s) h k).trans ?_
      rw [er]
      exact s57 x0 hL _
    rw [el, s69 x0 hL hp, s69 x0 hL hp, ek]
    refine (congrArg (fun e : EReal => _ * Ideal.exp e) (EReal.coe_sub _ _).symm).trans ((congrArg (fun e : EReal => _ * e) (Ideal.exp_coe _)).trans ((EReal.coe_mul _ _).symm.trans ?_))
    refine congrArg (fun r : ℝ => (((1 - gateH x0 L 2048 b.val h.val s.val k.val) * Real.exp r : ℝ) : EReal)) ?_
    have h1 := rev_sum (fun s j => Real.log (gateH x0 L 2048 b.val h.val s j)) k.val 256 le_rfl
    have h2 := rev_sum (fun s j => Real.log (gateH x0 L 2048 b.val h.val s j)) k.val (256 - s.val) (by omega)
    have hs := s.isLt
    rw [show 256 - (256 - s.val) = s.val by omega] at h2
    have h3 : CE (fun s j => Real.log (gateH x0 L 2048 b.val h.val s j)) (256 - 256) k.val = 0 := by simp [CE]
    rw [h3, add_zero] at h1
    show CE (fun s j => Real.log (gateH x0 L 2048 b.val h.val (255 - s) j)) 256 k.val - CE (fun s j => Real.log (gateH x0 L 2048 b.val h.val (255 - s) j)) ((Fin.revPerm s).val + 1) k.val = _
    rw [ev, show 255 - s.val + 1 = 256 - s.val by omega]
    linarith

end Gates

end Cert.Layer.States
-- ==== Proof.States.lean ====
module

public import proofs.«01_k».proof.Defs
public import proofs.«01_k».proof.Proof.StatesRef
public import proofs.«01_k».proof.Proof.Finite
public import proofs.«01_k».proof.Proof.Gen.StatesKernel.Frame
public import proofs.«01_k».proof.Proof.Gen.StatesReferenceIdeal.Run
public import proofs.«01_k».proof.Proof.Gen.Pre_finite_bounds
public import Idealize.ShloMosaic.Lib.Pipeline.ValueKit
public import Idealize.ShloMosaic.Lib.ValueLayout
public import Idealize.ShloMosaic.Lib.Quiescent
public import Idealize.ShloMosaic.PureOps.Ideal.Laws

@[expose] public section

set_option maxRecDepth 16384

noncomputable section

open scoped BigOperators

namespace Cert.Layer.States

open Idealize.ShloMosaic Idealize.ShloMosaic.TcCoe Idealize.ShloMosaic.Tactic Idealize.SL.Sem
open Idealize.ShloMosaic.Pipeline (Dat Cfg Window)
open Idealize.ShloMosaic.StableHlo
open Cert.Hgrn (R1 IsR IsR3)
open Cert.StatesKernelIdeal Cert.StatesKernelIdeal.Gen

/-! ### The body's two results -/

/-- The forward state of a head, from its gates, values and lower bounds. -/
def payF (z v : Vec Ideal S1x256x128 .bf16) (lb : Vec Ideal S1x1x128 .f32) : Vec Ideal S1x1x128x128 .f32 :=
  k0_pay1 (k0_pay21 (k0_pay5 z lb) (k0_pay12 (k0_pay9 (F := Ideal)) (k0_pay10 z lb) (k0_pay11 z lb)) (k0_pay14 v) (k0_pay15 (F := Ideal)) (k0_pay17 (k0_pay5 z lb)) (k0_pay18 v)
    (k0_pay19 (k0_pay9 (F := Ideal)) (k0_pay10 z lb) (k0_pay11 z lb)) (k0_pay20 (k0_pay9 (F := Ideal)) (k0_pay10 z lb) (k0_pay11 z lb)))

/-- The backward state of a head, from its gates, values and lower bounds. -/
def payB (z v : Vec Ideal S1x256x128 .bf16) (lb : Vec Ideal S1x1x128 .f32) : Vec Ideal S1x1x128x128 .f32 :=
  k0_pay2 (k0_pay23 (k0_pay8 z lb) (k0_pay13 (k0_pay7 z lb)) (k0_pay14 v) (k0_pay16 (F := Ideal))) (k0_pay24 (k0_pay14 v)) (k0_pay25 (k0_pay8 z lb) (k0_pay13 (k0_pay7 z lb))) (constant (F := Ideal) S128x128 .f32 0x00000000#32)

section Body
variable {z : Vec Ideal S1x256x128 .bf16} {lb : Vec Ideal S1x1x128 .f32} {S : ℕ → ℕ → ℝ} {L : ℕ → ℕ → ℝ}

theorem payF_val (hz : Sig z S) (hl : IsR3 lb L) (hp : ∀ t j, t < 256 → j < 128 → 0 < gate (L 0 j) (S t j)) (v : Vec Ideal S1x256x128 .bf16) (c j : Fin 128) :
    payF z v lb (ValueIdx.ix4 (0 : Fin 1) (0 : Fin 1) c j)
      = fwdS (fun t j => Real.log (gate (L 0 j) (S t j))) (fun t j => 1 - gate (L 0 j) (S t j)) (fun s => v (ValueIdx.ix3 (0 : Fin 1) s c)) j.val :=
  fwd_body (keyF hz hl) (sumF (logF hz hl hp)) v c j

theorem payB_val (hz : Sig z S) (hl : IsR3 lb L) (hp : ∀ t j, t < 256 → j < 128 → 0 < gate (L 0 j) (S t j)) (v : Vec Ideal S1x256x128 .bf16) (c j : Fin 128) :
    payB z v lb (ValueIdx.ix4 (0 : Fin 1) (0 : Fin 1) c j)
      = bwdS (fun t j => Real.log (gate (L 0 j) (S t j))) (fun t j => 1 - gate (L 0 j) (S t j)) (fun s => v (ValueIdx.ix3 (0 : Fin 1) s c)) j.val := by
  have hk : IsR (k0_pay8 (F := Ideal) z lb) (fun t j => 1 - gate (L 0 j) (S t j)) := keyF hz hl
  have hg : IsR (k0_pay7 (F := Ideal) z lb) (fun t j => Real.log (gate (L 0 j) (S t j))) := logF hz hl hp
  exact bwd_body hk (sumB hg) rfl v c j

end Body

variable (m : (ℓ : Loc nD τ sig) → Buf (Elt Ideal) ℓ)

theorem entry0 (c : Dev nD) : V m c main_arg0 = (m ((c : Thread nD τ).loc main_arg0) : FVec Ideal S4x256x6144 .bf16) := by
  show StableHlo.after (List.flatten [hostOps0, hostOps0_1, hostOps0_2]) (fun b => m (c, b)) (Proc.devRef .tc main_arg0) = _
  simp only [List.flatten_cons, List.flatten_nil, List.append_nil, StableHlo.after_append]
  simp only [hostOps0, hostOps0_1, hostOps0_2, TRef.binary, TRef.nullary, TRef.unary, TRef.toBuf, TRef.ofBuf, cast_eq]
  after_results_simp

theorem entry3 (c : Dev nD) : V m c main_v16 = shapeCast S16x1x128 (Cert.StatesReferenceIdeal.Read.val_main_v13 (F := Ideal) (m ((c : Thread nD τ).loc main_arg1))) shapeCasts_S2048_S16x1x128 := by
  show StableHlo.after (List.flatten [hostOps0, hostOps0_1, hostOps0_2]) (fun b => m (c, b)) (Proc.devRef .tc main_v16) = _
  simp only [List.flatten_cons, List.flatten_nil, List.append_nil, StableHlo.after_append]
  simp only [hostOps0, hostOps0_1, hostOps0_2, TRef.binary, TRef.nullary, TRef.unary, TRef.toBuf, TRef.ofBuf, cast_eq]
  after_results_simp
  rfl

theorem entry4 (c : Dev nD) : V m c main_v17 = shapeCast S16x1x128 (Cert.StatesReferenceIdeal.Read.val_main_v15 (F := Ideal) (m ((c : Thread nD τ).loc main_arg1))) shapeCasts_S2048_S16x1x128 := by
  show StableHlo.after (List.flatten [hostOps0, hostOps0_1, hostOps0_2]) (fun b => m (c, b)) (Proc.devRef .tc main_v17) = _
  simp only [List.flatten_cons, List.flatten_nil, List.append_nil, StableHlo.after_append]
  simp only [hostOps0, hostOps0_1, hostOps0_2, TRef.binary, TRef.nullary, TRef.unary, TRef.toBuf, TRef.ofBuf, cast_eq]
  after_results_simp
  rfl

theorem idx_0 : ∀ t : Fin grid0.N, win0_0.index t = ![t.val / 16, 0, t.val % 16] := by decide +kernel
theorem idx_1 : ∀ t : Fin grid0.N, win0_1.index t = ![t.val / 16, 0, 16 + t.val % 16] := by decide +kernel
theorem idx_2 : ∀ t : Fin grid0.N, win0_2.index t = ![t.val / 16, 0, 32 + t.val % 16] := by decide +kernel
theorem idx_3 : ∀ t : Fin grid0.N, win0_3.index t = ![t.val % 16, 0, 0] := by decide +kernel
theorem idx_4 : ∀ t : Fin grid0.N, win0_4.index t = ![t.val % 16, 0, 0] := by decide +kernel
theorem idx_5 : ∀ t : Fin grid0.N, win0_5.index t = ![t.val / 16, t.val % 16, 0, 0] := by decide +kernel
theorem idx_6 : ∀ t : Fin grid0.N, win0_6.index t = ![t.val / 16, t.val % 16, 0, 0] := by decide +kernel

theorem lt_N (t : Fin grid0.N) : t.val < 64 := lt_of_lt_of_eq t.isLt N_0

/-- The forward gates' block at a point. -/
theorem blk_0 (c : Dev nD) (t : Fin grid0.N) (r : Fin 256) (k : Fin 128) (b : Fin 4) (e : b.val = t.val / 16) (j : Fin 6144) (ej : j.val = 0 + (128 * (t.val % 16) + k.val)) :
    (iblk m c 0 t : Vec Ideal S1x256x128 .bf16) (ValueIdx.ix3 (0 : Fin 1) r k) = (m ((c : Thread nD τ).loc main_arg0) : FVec Ideal S4x256x6144 .bf16) (ValueIdx.ix3 b r j) := by
  refine Eq.trans (b := V m c main_arg0 (ValueIdx.ix3 b r j)) (congrArg (V m c main_arg0) (funext fun q => Fin.ext ?_)) (congrFun (entry0 m c) _)
  match q with
  | ⟨0, _⟩ => refine (win0_0.rect_emb_val t (ValueIdx.ix3 (0 : Fin 1) r k) (0 : Fin 3)).trans ?_; rw [idx_0]; show t.val / 16 * 1 + 0 = b.val; omega
  | ⟨1, _⟩ => refine (win0_0.rect_emb_val t (ValueIdx.ix3 (0 : Fin 1) r k) (1 : Fin 3)).trans ?_; rw [idx_0]; show 0 * 256 + r.val = r.val; omega
  | ⟨2, _⟩ => refine (win0_0.rect_emb_val t (ValueIdx.ix3 (0 : Fin 1) r k) (2 : Fin 3)).trans ?_; rw [idx_0]; show (t.val % 16) * 128 + k.val = j.val; omega

/-- The backward gates' block at a point. -/
theorem blk_1 (c : Dev nD) (t : Fin grid0.N) (r : Fin 256) (k : Fin 128) (b : Fin 4) (e : b.val = t.val / 16) (j : Fin 6144) (ej : j.val = 2048 + (128 * (t.val % 16) + k.val)) :
    (iblk m c 1 t : Vec Ideal S1x256x128 .bf16) (ValueIdx.ix3 (0 : Fin 1) r k) = (m ((c : Thread nD τ).loc main_arg0) : FVec Ideal S4x256x6144 .bf16) (ValueIdx.ix3 b r j) := by
  refine Eq.trans (b := V m c main_arg0 (ValueIdx.ix3 b r j)) (congrArg (V m c main_arg0) (funext fun q => Fin.ext ?_)) (congrFun (entry0 m c) _)
  match q with
  | ⟨0, _⟩ => refine (win0_1.rect_emb_val t (ValueIdx.ix3 (0 : Fin 1) r k) (0 : Fin 3)).trans ?_; rw [idx_1]; show t.val / 16 * 1 + 0 = b.val; omega
  | ⟨1, _⟩ => refine (win0_1.rect_emb_val t (ValueIdx.ix3 (0 : Fin 1) r k) (1 : Fin 3)).trans ?_; rw [idx_1]; show 0 * 256 + r.val = r.val; omega
  | ⟨2, _⟩ => refine (win0_1.rect_emb_val t (ValueIdx.ix3 (0 : Fin 1) r k) (2 : Fin 3)).trans ?_; rw [idx_1]; show (16 + t.val % 16) * 128 + k.val = j.val; omega

/-- The values' block at a point. -/
theorem blk_2 (c : Dev nD) (t : Fin grid0.N) (r : Fin 256) (k : Fin 128) (b : Fin 4) (e : b.val = t.val / 16) (j : Fin 6144) (ej : j.val = 4096 + (128 * (t.val % 16) + k.val)) :
    (iblk m c 2 t : Vec Ideal S1x256x128 .bf16) (ValueIdx.ix3 (0 : Fin 1) r k) = (m ((c : Thread nD τ).loc main_arg0) : FVec Ideal S4x256x6144 .bf16) (ValueIdx.ix3 b r j) := by
  refine Eq.trans (b := V m c main_arg0 (ValueIdx.ix3 b r j)) (congrArg (V m c main_arg0) (funext fun q => Fin.ext ?_)) (congrFun (entry0 m c) _)
  match q with
  | ⟨0, _⟩ => refine (win0_2.rect_emb_val t (ValueIdx.ix3 (0 : Fin 1) r k) (0 : Fin 3)).trans ?_; rw [idx_2]; show t.val / 16 * 1 + 0 = b.val; omega
  | ⟨1, _⟩ => refine (win0_2.rect_emb_val t (ValueIdx.ix3 (0 : Fin 1) r k) (1 : Fin 3)).trans ?_; rw [idx_2]; show 0 * 256 + r.val = r.val; omega
  | ⟨2, _⟩ => refine (win0_2.rect_emb_val t (ValueIdx.ix3 (0 : Fin 1) r k) (2 : Fin 3)).trans ?_; rw [idx_2]; show (32 + t.val % 16) * 128 + k.val = j.val; omega

/-- The forward lower bounds' block at a point. -/
theorem blk_3 {L : ℕ → ℝ} (c : Dev nD) (t : Fin grid0.N) (hL : R1 (Cert.StatesReferenceIdeal.Read.val_main_v13 (F := Ideal) (m ((c : Thread nD τ).loc main_arg1))) L) :
    IsR3 (iblk m c 3 t : Vec Ideal S1x1x128 .f32) (fun _ j => L (128 * (t.val % 16) + j)) := by
  intro u j
  have hu : u.val < 1 := u.isLt
  have hj := j.isLt
  refine Eq.trans (b := V m c main_v16 (ValueIdx.ix3 (⟨t.val % 16, Nat.mod_lt _ (by norm_num)⟩ : Fin 16) (0 : Fin 1) j)) (congrArg (V m c main_v16) (funext fun q => Fin.ext ?_)) ?_
  · match q with
    | ⟨0, _⟩ => refine (win0_3.rect_emb_val t (ValueIdx.ix3 (0 : Fin 1) u j) (0 : Fin 3)).trans ?_; rw [idx_3]; show t.val % 16 * 1 + 0 = t.val % 16; omega
    | ⟨1, _⟩ => refine (win0_3.rect_emb_val t (ValueIdx.ix3 (0 : Fin 1) u j) (1 : Fin 3)).trans ?_; rw [idx_3]; show 0 * 1 + u.val = 0; omega
    | ⟨2, _⟩ => refine (win0_3.rect_emb_val t (ValueIdx.ix3 (0 : Fin 1) u j) (2 : Fin 3)).trans ?_; rw [idx_3]; show 0 * 128 + j.val = j.val; omega
  · rw [entry3]
    have hh : t.val % 16 < 16 := Nat.mod_lt _ (by norm_num)
    refine (shapeCast_apply _ shapeCasts_S2048_S16x1x128 _ (ValueIdx.ix1 (⟨128 * (t.val % 16) + j.val, by omega⟩ : Fin 2048)) ?_).trans (hL _)
    rw [Shape.rowMajor_val_one, Shape.rowMajor_val_three]
    show 128 * (t.val % 16) + j.val = (t.val % 16 * 1 + 0) * 128 + j.val
    omega

/-- The backward lower bounds' block at a point. -/
theorem blk_4 {L : ℕ → ℝ} (c : Dev nD) (t : Fin grid0.N) (hL : R1 (Cert.StatesReferenceIdeal.Read.val_main_v15 (F := Ideal) (m ((c : Thread nD τ).loc main_arg1))) L) :
    IsR3 (iblk m c 4 t : Vec Ideal S1x1x128 .f32) (fun _ j => L (128 * (t.val % 16) + j)) := by
  intro u j
  have hu : u.val < 1 := u.isLt
  have hj := j.isLt
  refine Eq.trans (b := V m c main_v17 (ValueIdx.ix3 (⟨t.val % 16, Nat.mod_lt _ (by norm_num)⟩ : Fin 16) (0 : Fin 1) j)) (congrArg (V m c main_v17) (funext fun q => Fin.ext ?_)) ?_
  · match q with
    | ⟨0, _⟩ => refine (win0_4.rect_emb_val t (ValueIdx.ix3 (0 : Fin 1) u j) (0 : Fin 3)).trans ?_; rw [idx_4]; show t.val % 16 * 1 + 0 = t.val % 16; omega
    | ⟨1, _⟩ => refine (win0_4.rect_emb_val t (ValueIdx.ix3 (0 : Fin 1) u j) (1 : Fin 3)).trans ?_; rw [idx_4]; show 0 * 1 + u.val = 0; omega
    | ⟨2, _⟩ => refine (win0_4.rect_emb_val t (ValueIdx.ix3 (0 : Fin 1) u j) (2 : Fin 3)).trans ?_; rw [idx_4]; show 0 * 128 + j.val = j.val; omega
  · rw [entry4]
    have hh : t.val % 16 < 16 := Nat.mod_lt _ (by norm_num)
    refine (shapeCast_apply _ shapeCasts_S2048_S16x1x128 _ (ValueIdx.ix1 (⟨128 * (t.val % 16) + j.val, by omega⟩ : Fin 2048)) ?_).trans (hL _)
    rw [Shape.rowMajor_val_one, Shape.rowMajor_val_three]
    show 128 * (t.val % 16) + j.val = (t.val % 16 * 1 + 0) * 128 + j.val
    omega

/-- The array of forward states that the kernel leaves is the reference's. -/
theorem value5 {L : ℕ → ℝ} (c : Dev nD) (hL : R1 (Cert.StatesReferenceIdeal.Read.val_main_v13 (F := Ideal) (m ((c : Thread nD τ).loc main_arg1))) L) (hp : ∀ j, j < 2048 → 0 < L j ∧ L j ≤ 1) :
    (dats m 0 c).arrAt 5 cfg0.N
      = (Cert.StatesReferenceIdeal.Read.val_main_v76 (F := Ideal) (m ((c : Thread nD τ).loc main_arg0)) (m ((c : Thread nD τ).loc main_arg1)) : S4x16x128x128.Idx → EReal) := by
  refine (dats m 0 c).arrAt_eq_of_covers 5 _ (by decide +kernel) fun t hf y => ?_
  blk_simp
  rw [after0_5]
  unfold_out out0_5
  frame_out
  change payF (iblk m c 0 t) (iblk m c 2 t) (iblk m c 3 t) y = _
  have ht := lt_N t
  have hb : t.val / 16 < 4 := by omega
  have hh : t.val % 16 < 16 := Nat.mod_lt _ (by norm_num)
  have hy0 : ((y : S1x1x128x128.Idx) 0).val < 1 := ((y : S1x1x128x128.Idx) 0).isLt
  have hy1 : ((y : S1x1x128x128.Idx) 1).val < 1 := ((y : S1x1x128x128.Idx) 1).isLt
  have hy2 : ((y : S1x1x128x128.Idx) 2).val < 128 := ((y : S1x1x128x128.Idx) 2).isLt
  have hy3 : ((y : S1x1x128x128.Idx) 3).val < 128 := ((y : S1x1x128x128.Idx) 3).isLt
  have ey : (y : S1x1x128x128.Idx) = ValueIdx.ix4 (0 : Fin 1) (0 : Fin 1) ⟨((y : S1x1x128x128.Idx) 2).val, hy2⟩ ⟨((y : S1x1x128x128.Idx) 3).val, hy3⟩ := by
    funext a
    match a with
    | ⟨0, _⟩ => exact Fin.ext (Nat.lt_one_iff.mp hy0)
    | ⟨1, _⟩ => exact Fin.ext (Nat.lt_one_iff.mp hy1)
    | ⟨2, _⟩ => rfl
    | ⟨3, _⟩ => rfl
  have i0 := win0_5.rect_emb_val t y (0 : Fin 4)
  have i1 := win0_5.rect_emb_val t y (1 : Fin 4)
  have i2 := win0_5.rect_emb_val t y (2 : Fin 4)
  have i3 := win0_5.rect_emb_val t y (3 : Fin 4)
  rw [idx_5] at i0 i1 i2 i3
  have i0' : (((cfg0.win 5).blk t).view.emb y 0).val = t.val / 16 * 1 + ((y : S1x1x128x128.Idx) 0).val := i0
  have i1' : (((cfg0.win 5).blk t).view.emb y 1).val = t.val % 16 * 1 + ((y : S1x1x128x128.Idx) 1).val := i1
  have i2' : (((cfg0.win 5).blk t).view.emb y 2).val = 0 * 128 + ((y : S1x1x128x128.Idx) 2).val := i2
  have i3' : (((cfg0.win 5).blk t).view.emb y 3).val = 0 * 128 + ((y : S1x1x128x128.Idx) 3).val := i3
  have eo : ((cfg0.win 5).blk t).view.emb y = (ValueIdx.ix4 (⟨t.val / 16, hb⟩ : Fin 4) (⟨t.val % 16, hh⟩ : Fin 16) ⟨((y : S1x1x128x128.Idx) 2).val, hy2⟩ ⟨((y : S1x1x128x128.Idx) 3).val, hy3⟩ : S4x16x128x128.Idx) := by
    funext a
    match a with
    | ⟨0, _⟩ => refine Fin.ext (i0'.trans ?_); show t.val / 16 * 1 + ((y : S1x1x128x128.Idx) 0).val = t.val / 16; omega
    | ⟨1, _⟩ => refine Fin.ext (i1'.trans ?_); show t.val % 16 * 1 + ((y : S1x1x128x128.Idx) 1).val = t.val % 16; omega
    | ⟨2, _⟩ => refine Fin.ext (i2'.trans ?_); show 0 * 128 + ((y : S1x1x128x128.Idx) 2).val = ((y : S1x1x128x128.Idx) 2).val; omega
    | ⟨3, _⟩ => refine Fin.ext (i3'.trans ?_); show 0 * 128 + ((y : S1x1x128x128.Idx) 3).val = ((y : S1x1x128x128.Idx) 3).val; omega
  have hz : Sig (iblk m c 0 t) (fun r k => sg (m ((c : Thread nD τ).loc main_arg0)) (t.val / 16) r (0 + (128 * (t.val % 16) + k))) := fun r k => by
    have hk := k.isLt
    exact (congrArg Ideal.logistic (blk_0 m c t r k ⟨t.val / 16, hb⟩ rfl ⟨0 + (128 * (t.val % 16) + k.val), by omega⟩ rfl)).trans (sg_eq _ _ _ _)
  have hg : ∀ r k, r < 256 → k < 128 → 0 < gate (L (128 * (t.val % 16) + k)) (sg (m ((c : Thread nD τ).loc main_arg0)) (t.val / 16) r (0 + (128 * (t.val % 16) + k))) := fun r k _ hk =>
    gate_pos (hp _ (by omega)).1 (hp _ (by omega)).2 (sg_nonneg _ _ _ _)
  refine (congrArg (payF (iblk m c 0 t) (iblk m c 2 t) (iblk m c 3 t)) ey).trans ((payF_val hz (blk_3 m c t hL) hg _ _ _).trans (Eq.trans ?_ ((congrArg _ eo).trans
    (ref_fwd _ hL hp _ _ _ _ (⟨4096 + (128 * (t.val % 16) + ((y : S1x1x128x128.Idx) 2).val), by omega⟩ : Fin 6144) rfl)).symm))
  refine Finset.sum_congr rfl fun s _ => congrArg (fun e : EReal => e * _) ?_
  exact blk_2 m c t s _ ⟨t.val / 16, hb⟩ rfl _ rfl

/-- The array of backward states that the kernel leaves is the reference's. -/
theorem value6 {L : ℕ → ℝ} (c : Dev nD) (hL : R1 (Cert.StatesReferenceIdeal.Read.val_main_v15 (F := Ideal) (m ((c : Thread nD τ).loc main_arg1))) L) (hp : ∀ j, j < 2048 → 0 < L j ∧ L j ≤ 1) :
    (dats m 0 c).arrAt 6 cfg0.N
      = (Cert.StatesReferenceIdeal.Read.val_main_v77 (F := Ideal) (m ((c : Thread nD τ).loc main_arg0)) (m ((c : Thread nD τ).loc main_arg1)) : S4x16x128x128.Idx → EReal) := by
  refine (dats m 0 c).arrAt_eq_of_covers 6 _ (by decide +kernel) fun t hf y => ?_
  blk_simp
  rw [after0_6]
  unfold_out out0_6
  frame_out
  change payB (iblk m c 1 t) (iblk m c 2 t) (iblk m c 4 t) y = _
  have ht := lt_N t
  have hb : t.val / 16 < 4 := by omega
  have hh : t.val % 16 < 16 := Nat.mod_lt _ (by norm_num)
  have hy0 : ((y : S1x1x128x128.Idx) 0).val < 1 := ((y : S1x1x128x128.Idx) 0).isLt
  have hy1 : ((y : S1x1x128x128.Idx) 1).val < 1 := ((y : S1x1x128x128.Idx) 1).isLt
  have hy2 : ((y : S1x1x128x128.Idx) 2).val < 128 := ((y : S1x1x128x128.Idx) 2).isLt
  have hy3 : ((y : S1x1x128x128.Idx) 3).val < 128 := ((y : S1x1x128x128.Idx) 3).isLt
  have ey : (y : S1x1x128x128.Idx) = ValueIdx.ix4 (0 : Fin 1) (0 : Fin 1) ⟨((y : S1x1x128x128.Idx) 2).val, hy2⟩ ⟨((y : S1x1x128x128.Idx) 3).val, hy3⟩ := by
    funext a
    match a with
    | ⟨0, _⟩ => exact Fin.ext (Nat.lt_one_iff.mp hy0)
    | ⟨1, _⟩ => exact Fin.ext (Nat.lt_one_iff.mp hy1)
    | ⟨2, _⟩ => rfl
    | ⟨3, _⟩ => rfl
  have i0 := win0_6.rect_emb_val t y (0 : Fin 4)
  have i1 := win0_6.rect_emb_val t y (1 : Fin 4)
  have i2 := win0_6.rect_emb_val t y (2 : Fin 4)
  have i3 := win0_6.rect_emb_val t y (3 : Fin 4)
  rw [idx_6] at i0 i1 i2 i3
  have i0' : (((cfg0.win 6).blk t).view.emb y 0).val = t.val / 16 * 1 + ((y : S1x1x128x128.Idx) 0).val := i0
  have i1' : (((cfg0.win 6).blk t).view.emb y 1).val = t.val % 16 * 1 + ((y : S1x1x128x128.Idx) 1).val := i1
  have i2' : (((cfg0.win 6).blk t).view.emb y 2).val = 0 * 128 + ((y : S1x1x128x128.Idx) 2).val := i2
  have i3' : (((cfg0.win 6).blk t).view.emb y 3).val = 0 * 128 + ((y : S1x1x128x128.Idx) 3).val := i3
  have eo : ((cfg0.win 6).blk t).view.emb y = (ValueIdx.ix4 (⟨t.val / 16, hb⟩ : Fin 4) (⟨t.val % 16, hh⟩ : Fin 16) ⟨((y : S1x1x128x128.Idx) 2).val, hy2⟩ ⟨((y : S1x1x128x128.Idx) 3).val, hy3⟩ : S4x16x128x128.Idx) := by
    funext a
    match a with
    | ⟨0, _⟩ => refine Fin.ext (i0'.trans ?_); show t.val / 16 * 1 + ((y : S1x1x128x128.Idx) 0).val = t.val / 16; omega
    | ⟨1, _⟩ => refine Fin.ext (i1'.trans ?_); show t.val % 16 * 1 + ((y : S1x1x128x128.Idx) 1).val = t.val % 16; omega
    | ⟨2, _⟩ => refine Fin.ext (i2'.trans ?_); show 0 * 128 + ((y : S1x1x128x128.Idx) 2).val = ((y : S1x1x128x128.Idx) 2).val; omega
    | ⟨3, _⟩ => refine Fin.ext (i3'.trans ?_); show 0 * 128 + ((y : S1x1x128x128.Idx) 3).val = ((y : S1x1x128x128.Idx) 3).val; omega
  have hz : Sig (iblk m c 1 t) (fun r k => sg (m ((c : Thread nD τ).loc main_arg0)) (t.val / 16) r (2048 + (128 * (t.val % 16) + k))) := fun r k => by
    have hk := k.isLt
    exact (congrArg Ideal.logistic (blk_1 m c t r k ⟨t.val / 16, hb⟩ rfl ⟨2048 + (128 * (t.val % 16) + k.val), by omega⟩ rfl)).trans (sg_eq _ _ _ _)
  have hg : ∀ r k, r < 256 → k < 128 → 0 < gate (L (128 * (t.val % 16) + k)) (sg (m ((c : Thread nD τ).loc main_arg0)) (t.val / 16) r (2048 + (128 * (t.val % 16) + k))) := fun r k _ hk =>
    gate_pos (hp _ (by omega)).1 (hp _ (by omega)).2 (sg_nonneg _ _ _ _)
  refine (congrArg (payB (iblk m c 1 t) (iblk m c 2 t) (iblk m c 4 t)) ey).trans ((payB_val hz (blk_4 m c t hL) hg _ _ _).trans (Eq.trans ?_ ((congrArg _ eo).trans
    (ref_bwd _ hL hp _ _ _ _ (⟨4096 + (128 * (t.val % 16) + ((y : S1x1x128x128.Idx) 2).val), by omega⟩ : Fin 6144) rfl)).symm))
  refine Finset.sum_congr rfl fun s _ => congrArg (fun e : EReal => e * _) ?_
  exact blk_2 m c t s _ ⟨t.val / 16, hb⟩ rfl _ rfl

theorem frame_kernel : Cert.quiescent_StatesKernel := fun m ρ _ => Cert.StatesKernel.Gen.frame m ρ
theorem frame_ideal : Cert.quiescent_StatesKernelIdeal := fun m ρ _ => Cert.StatesKernelIdeal.Gen.frame m ρ
theorem frame_reference : Cert.quiescent_StatesReferenceIdeal := fun m ρ _ =>
  (θ_run Cert.StatesReferenceIdeal.defs _ _).mono (fun r h => ⟨fun c => (h c).2.2, sem_eq_zero_of_no_sems (by decide) r.2⟩)
    (Cert.StatesReferenceIdeal.Value.run (F := Ideal) m ρ)

instance : Subsingleton Cert.Pre_finite_bounds.S_.Idx := ⟨fun a b => funext fun i => i.elim0⟩

/-- What the precondition says of the table of lower bounds. -/
theorem finite_table [Cert.Pre_finite_bounds.Facts] {x0 : FVec Ideal Cert.Pre_finite_bounds.S4x256x6144 .bf16} {x1 : FVec Ideal Cert.Pre_finite_bounds.S2x2x2048 .f32}
    (h : Cert.Pre_finite_bounds.fn (F := Ideal) x0 x1 = fun _ => 1#1) : ∀ i, ∃ r : ℝ, x1 i = (r : EReal) := by
  have h0 := congrFun h ValueIdx.ix0
  dsimp only [Cert.Pre_finite_bounds.fn] at h0
  exact fun i => Cert.Hgrn.real_of_lt (Host.reduce_andi_all _ _ _ _ _ h0 i)

theorem congr76 {x0 y0 x1 y1} (h0 : x0 = y0) (h1 : x1 = y1) :
    Cert.StatesReferenceIdeal.Read.val_main_v76 (F := Ideal) x0 x1 = Cert.StatesReferenceIdeal.Read.val_main_v76 (F := Ideal) y0 y1 := by
  rw [h0, h1]
theorem congr77 {x0 y0 x1 y1} (h0 : x0 = y0) (h1 : x1 = y1) :
    Cert.StatesReferenceIdeal.Read.val_main_v77 (F := Ideal) x0 x1 = Cert.StatesReferenceIdeal.Read.val_main_v77 (F := Ideal) y0 y1 := by
  rw [h0, h1]

/-- Kernel and reference compute one function, wherever the table of lower bounds is finite. -/
theorem equal [Cert.Pre_finite_bounds.Facts] : Cert.algebraic_StatesKernelIdeal_StatesReferenceIdeal_pre_finite_bounds := by
  intro m g m' g' hpre hag
  refine ⟨fun c => (Cert.StatesReferenceIdeal.Read.val_main_v76 (F := Ideal) (m ((c : Thread nD τ).loc main_arg0)) (m ((c : Thread nD τ).loc main_arg1)) : S4x16x128x128.Idx → EReal),
    fun c => (Cert.StatesReferenceIdeal.Read.val_main_v77 (F := Ideal) (m ((c : Thread nD τ).loc main_arg0)) (m ((c : Thread nD τ).loc main_arg1)) : S4x16x128x128.Idx → EReal), ?_, ?_⟩
  · refine (θ_run Cert.StatesKernelIdeal.defs _ _).mono (fun r h c => ?_) (Cert.StatesKernelIdeal.Value.run_blocks (F := Ideal) m g)
    obtain ⟨LF, hF, pF⟩ := Cert.Hgrn.lbF (finite_table (hpre c))
    obtain ⟨LB, hB, pB⟩ := Cert.Hgrn.lbB (finite_table (hpre c))
    exact ⟨(h c).1.trans (value5 m c hF pF), (h c).2.1.trans (value6 m c hB pB), (h c).2.2⟩
  · refine (θ_run Cert.StatesReferenceIdeal.defs _ _).mono (fun r h c => ⟨((h c).1.trans (Cert.StatesReferenceIdeal.Read.val_main_v76_eq (F := Ideal) _ _)).trans ?_,
        ((h c).2.1.trans (Cert.StatesReferenceIdeal.Read.val_main_v77_eq (F := Ideal) _ _)).trans ?_, (h c).2.2⟩)
      (Cert.StatesReferenceIdeal.Value.run (F := Ideal) m' g')
    · obtain ⟨a0, a1⟩ := hag c
      exact congr76 a0 a1
    · obtain ⟨a0, a1⟩ := hag c
      exact congr77 a0 a1

end Cert.Layer.States
-- ==== Proof.Merge.lean ====
module

public import proofs.«01_k».proof.Defs
public import proofs.«01_k».proof.Proof.Product
public import proofs.«01_k».proof.Proof.Gen.MergeKernel.Frame
public import proofs.«01_k».proof.Proof.Gen.MergeKernelIdeal.Value
public import proofs.«01_k».proof.Proof.Gen.MergeReferenceIdeal.Run
public import proofs.«01_k».proof.Proof.Gen.MergeReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.ValueLayout
public import Idealize.ShloMosaic.Lib.Quiescent

@[expose] public section

set_option maxRecDepth 16384

noncomputable section

open scoped BigOperators

namespace Cert.Layer.Merge

open Idealize.ShloMosaic Idealize.ShloMosaic.TcCoe Idealize.ShloMosaic.Tactic Idealize.SL.Sem
open Idealize.ShloMosaic.Pipeline (Dat Cfg Window)
open Cert.MergeKernelIdeal Cert.MergeKernelIdeal.Gen

variable (m : (ℓ : Loc nD τ sig) → Buf (Elt Ideal) ℓ)

/-- Two sums, each scaled by its gate's logistic. -/
def mixed (g s h u : EReal) : EReal := Ideal.logistic g * s + Ideal.logistic h * u

/-- The first weights' copy, entry by entry. -/
theorem pay3 (w : Vec Ideal S2048x512 .f32) (i : S2048x512.Idx) : k0_pay3 w i = w i := by
  unfold k0_pay3
  refine (shapeCast_apply _ shapeCasts_S2048x512_S2048x512 i i rfl).trans ?_
  exact shapeCast_apply w shapeCasts_S2048x512_S2048x512 i i rfl

/-- The second weights' copy, entry by entry. -/
theorem pay4 (w : Vec Ideal S2048x512 .f32) (i : S2048x512.Idx) : k0_pay4 w i = w i := by
  unfold k0_pay4
  refine (shapeCast_apply _ shapeCasts_S2048x512_S2048x512 i i rfl).trans ?_
  exact shapeCast_apply w shapeCasts_S2048x512_S2048x512 i i rfl

/-- One product of a row chunk. -/
theorem pay5 (a : Vec Ideal S256x2048 .bf16) (w : Vec Ideal S2048x512 .bf16) (r : Fin 256) (j : Fin 512) :
    k0_pay5 a w (ValueIdx.ix2 r j) = dots a w (fun k : Fin 2048 => ValueIdx.ix2 r k) (fun k => ValueIdx.ix2 k j) := by
  unfold k0_pay5
  refine (prod_apply (φ₁ := .bf16) (φ₂ := .bf16) _ _ r j).trans (Finset.sum_congr rfl fun k _ => ?_)
  exact congrArg (· * _) (shapeCast_apply a shapeCasts_S256x2048_S256x2048 _ _ rfl)

/-- A row chunk's gating, entry by entry. -/
theorem pay14 (s u : FVec Ideal S256x512 .f32) (g h : Vec Ideal S256x512 .bf16) (i : S256x512.Idx) :
    k0_pay14 s u g h i = mixed (g i) (s i) (h i) (u i) := by
  have hg : shapeCast S256x512 g shapeCasts_S256x512_S256x512 i = g i := shapeCast_apply g shapeCasts_S256x512_S256x512 _ _ rfl
  have hh : shapeCast S256x512 h shapeCasts_S256x512_S256x512 i = h i := shapeCast_apply h shapeCasts_S256x512_S256x512 _ _ rfl
  unfold k0_pay14
  exact congrArg₂ (fun a b : EReal => Ideal.logistic a * s i + Ideal.logistic b * u i) hg hh

/-- What the body computes at an entry of its block. -/
def entry (X Y : Vec Ideal S1024x2048 .bf16) (W Z : Vec Ideal S2048x512 .bf16) (G H : Vec Ideal S1024x512 .bf16) (y : S1024x512.Idx) : EReal :=
  mixed (G y) (dots X W (fun k : Fin 2048 => ValueIdx.ix2 (y 0) k) (fun k => ValueIdx.ix2 k (y 1)))
    (H y) (dots Y Z (fun k : Fin 2048 => ValueIdx.ix2 (y 0) k) (fun k => ValueIdx.ix2 k (y 1)))

/-- One row chunk computes its entries of the block. -/
theorem piece (X Y : Vec Ideal S1024x2048 .bf16) (W Z : Vec Ideal S2048x512 .bf16) (G H : Vec Ideal S1024x512 .bf16) (o : ℕ)
    (i : ∀ a, (![o, 0] : Fin 2 → ℕ) a + (![256, 2048] : Fin 2 → ℕ) a ≤ S1024x2048.size a) (i' : ∀ a, (![o, 0] : Fin 2 → ℕ) a + (![256, 512] : Fin 2 → ℕ) a ≤ S1024x512.size a)
    (x : S256x512.Idx) (y : S1024x512.Idx) (h0 : (y 0).val = o + (x 0).val) (h1 : (y 1).val = (x 1).val) :
    k0_pay14 (k0_pay5 (View.ld X (Rect.unit (s := S1024x2048) ![o, 0] ![256, 2048] i)) W) (k0_pay5 (View.ld Y (Rect.unit (s := S1024x2048) ![o, 0] ![256, 2048] i)) Z)
      (View.ld G (Rect.unit (s := S1024x512) ![o, 0] ![256, 512] i')) (View.ld H (Rect.unit (s := S1024x512) ![o, 0] ![256, 512] i')) x = entry X Y W Z G H y := by
  have ex : x = ValueIdx.ix2 (x 0) (x 1) := by
    funext a
    match a with
    | ⟨0, _⟩ => rfl
    | ⟨1, _⟩ => rfl
  have gate (D : Vec Ideal S1024x512 .bf16) : View.ld D (Rect.unit (s := S1024x512) ![o, 0] ![256, 512] i') x = D y :=
    View.ld_unit_apply_of D _ _ i' x y fun a => by
      match a with
      | ⟨0, _⟩ => exact h0
      | ⟨1, _⟩ => exact h1.trans (Nat.zero_add _).symm
  have prod (D : Vec Ideal S1024x2048 .bf16) (E : Vec Ideal S2048x512 .bf16) : k0_pay5 (View.ld D (Rect.unit (s := S1024x2048) ![o, 0] ![256, 2048] i)) E x
      = dots D E (fun k : Fin 2048 => ValueIdx.ix2 (y 0) k) (fun k => ValueIdx.ix2 k (y 1)) := by
    refine (congrArg _ ex).trans ((pay5 _ E (x 0) (x 1)).trans (Finset.sum_congr rfl fun k _ => ?_))
    refine congrArg₂ (· * ·) (View.ld_unit_apply_of D _ _ i _ (ValueIdx.ix2 (y 0) k) fun a => ?_) (congrArg E (funext fun a => Fin.ext ?_))
    · match a with
      | ⟨0, _⟩ => exact h0
      | ⟨1, _⟩ => exact (Nat.zero_add _).symm
    · match a with
      | ⟨0, _⟩ => rfl
      | ⟨1, _⟩ => exact h1.symm
  refine (pay14 _ _ _ _ x).trans ?_
  exact congr (congr (congrArg₂ mixed (gate G) (prod X W)) (gate H)) (prod Y Z)

theorem entry0 (c : Dev nD) : V m c main_v0 = shapeCast S8192x2048 (m ((c : Thread nD τ).loc main_arg0) : FVec Ideal S4x2048x2048 .bf16) shapeCasts_S4x2048x2048_S8192x2048 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S8192x2048 (m ((c : Thread nD τ).loc main_arg1) : FVec Ideal S4x2048x2048 .bf16) shapeCasts_S4x2048x2048_S8192x2048 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem entry2 (c : Dev nD) : V m c main_v2 = shapeCast S2048x4096 (m ((c : Thread nD τ).loc main_arg2) : FVec Ideal S1x2048x4096 .f32) shapeCasts_S1x2048x4096_S2048x4096 := by
  show StableHlo.after hostOps0 (fun b => m (c, b)) (Proc.devRef .tc main_v2) = _
  simp only [hostOps0, StableHlo.TRef.binary, StableHlo.TRef.nullary, StableHlo.TRef.unary, StableHlo.TRef.toBuf, StableHlo.TRef.ofBuf, cast_eq]
  after_results_simp
  rfl

theorem entry3 (c : Dev nD) : V m c main_v3 = shapeCast S2048x4096 (m ((c : Thread nD τ).loc main_arg3) : FVec Ideal S1x2048x4096 .f32) shapeCasts_S1x2048x4096_S2048x4096 := by
  show StableHlo.after hostOps0 (fun b => m (c, b)) (Proc.devRef .tc main_v3) = _
  simp only [hostOps0, StableHlo.TRef.binary, StableHlo.TRef.nullary, StableHlo.TRef.unary, StableHlo.TRef.toBuf, StableHlo.TRef.ofBuf, cast_eq]
  after_results_simp
  rfl

theorem entry4 (c : Dev nD) : V m c main_v4 = shapeCast S8192x18432 (m ((c : Thread nD τ).loc main_arg4) : FVec Ideal S4x2048x18432 .bf16) shapeCasts_S4x2048x18432_S8192x18432 := by
  show StableHlo.after hostOps0 (fun b => m (c, b)) (Proc.devRef .tc main_v4) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![t.val % 8, 0] := by decide +kernel
theorem idx_1 : ∀ t : Fin grid0.N, win0_1.index t = ![t.val % 8, 0] := by decide +kernel
theorem idx_2 : ∀ t : Fin grid0.N, win0_2.index t = ![0, t.val / 8] := by decide +kernel
theorem idx_3 : ∀ t : Fin grid0.N, win0_3.index t = ![0, t.val / 8] := by decide +kernel
theorem idx_4 : ∀ t : Fin grid0.N, win0_4.index t = ![t.val % 8, 20 + t.val / 8] := by decide +kernel
theorem idx_5 : ∀ t : Fin grid0.N, win0_5.index t = ![t.val % 8, 28 + t.val / 8] := by decide +kernel
theorem idx_6 : ∀ t : Fin grid0.N, win0_6.index t = ![t.val % 8, t.val / 8] := by decide +kernel

theorem lt_N (t : Fin grid0.N) : t.val < 64 := lt_of_lt_of_eq t.isLt N_0

/-- The first rows' block at a point. -/
theorem blk_0 (c : Dev nD) (t : Fin grid0.N) (r : Fin 1024) (k : Fin 2048) (i : S4x2048x2048.Idx)
    (e0 : (i 0).val = (1024 * (t.val % 8) + r.val) / 2048) (e1 : (i 1).val = (1024 * (t.val % 8) + r.val) % 2048) (e2 : (i 2).val = k.val) :
    (iblk m c 0 t : Vec Ideal S1024x2048 .bf16) (ValueIdx.ix2 r k) = (m ((c : Thread nD τ).loc main_arg0) : FVec Ideal S4x2048x2048 .bf16) i := by
  have hr := r.isLt
  have hk := k.isLt
  have ht := lt_N t
  refine Eq.trans (b := V m c main_v0 (ValueIdx.ix2 ⟨1024 * (t.val % 8) + r.val, by omega⟩ k)) (congrArg (V m c main_v0) (funext fun q => Fin.ext ?_)) ?_
  · match q with
    | ⟨0, _⟩ => refine (win0_0.rect_emb_val t (ValueIdx.ix2 r k) (0 : Fin 2)).trans ?_; rw [idx_0]; show t.val % 8 * 1024 + r.val = 1024 * (t.val % 8) + r.val; omega
    | ⟨1, _⟩ => refine (win0_0.rect_emb_val t (ValueIdx.ix2 r k) (1 : Fin 2)).trans ?_; rw [idx_0]; show 0 * 2048 + k.val = k.val; omega
  · rw [entry0]
    refine shapeCast_apply _ shapeCasts_S4x2048x2048_S8192x2048 _ i ?_
    rw [Shape.rowMajor_val_three, Shape.rowMajor_val_two]
    show ((i 0).val * 2048 + (i 1).val) * 2048 + (i 2).val = (1024 * (t.val % 8) + r.val) * 2048 + (k.val)
    rw [e0, e1, e2]
    omega

/-- The second rows' block at a point. -/
theorem blk_1 (c : Dev nD) (t : Fin grid0.N) (r : Fin 1024) (k : Fin 2048) (i : S4x2048x2048.Idx)
    (e0 : (i 0).val = (1024 * (t.val % 8) + r.val) / 2048) (e1 : (i 1).val = (1024 * (t.val % 8) + r.val) % 2048) (e2 : (i 2).val = k.val) :
    (iblk m c 1 t : Vec Ideal S1024x2048 .bf16) (ValueIdx.ix2 r k) = (m ((c : Thread nD τ).loc main_arg1) : FVec Ideal S4x2048x2048 .bf16) i := by
  have hr := r.isLt
  have hk := k.isLt
  have ht := lt_N t
  refine Eq.trans (b := V m c main_v1 (ValueIdx.ix2 ⟨1024 * (t.val % 8) + r.val, by omega⟩ k)) (congrArg (V m c main_v1) (funext fun q => Fin.ext ?_)) ?_
  · match q with
    | ⟨0, _⟩ => refine (win0_1.rect_emb_val t (ValueIdx.ix2 r k) (0 : Fin 2)).trans ?_; rw [idx_1]; show t.val % 8 * 1024 + r.val = 1024 * (t.val % 8) + r.val; omega
    | ⟨1, _⟩ => refine (win0_1.rect_emb_val t (ValueIdx.ix2 r k) (1 : Fin 2)).trans ?_; rw [idx_1]; show 0 * 2048 + k.val = k.val; omega
  · rw [entry1]
    refine shapeCast_apply _ shapeCasts_S4x2048x2048_S8192x2048 _ i ?_
    rw [Shape.rowMajor_val_three, Shape.rowMajor_val_two]
    show ((i 0).val * 2048 + (i 1).val) * 2048 + (i 2).val = (1024 * (t.val % 8) + r.val) * 2048 + (k.val)
    rw [e0, e1, e2]
    omega

/-- The first gates' block at a point. -/
theorem blk_4 (c : Dev nD) (t : Fin grid0.N) (r : Fin 1024) (k : Fin 512) (i : S4x2048x18432.Idx)
    (e0 : (i 0).val = (1024 * (t.val % 8) + r.val) / 2048) (e1 : (i 1).val = (1024 * (t.val % 8) + r.val) % 2048) (e2 : (i 2).val = 10240 + (512 * (t.val / 8) + k.val)) :
    (iblk m c 4 t : Vec Ideal S1024x512 .bf16) (ValueIdx.ix2 r k) = (m ((c : Thread nD τ).loc main_arg4) : FVec Ideal S4x2048x18432 .bf16) i := by
  have hr := r.isLt
  have hk := k.isLt
  have ht := lt_N t
  refine Eq.trans (b := V m c main_v4 (ValueIdx.ix2 ⟨1024 * (t.val % 8) + r.val, by omega⟩ ⟨10240 + (512 * (t.val / 8) + k.val), by omega⟩)) (congrArg (V m c main_v4) (funext fun q => Fin.ext ?_)) ?_
  · match q with
    | ⟨0, _⟩ => refine (win0_4.rect_emb_val t (ValueIdx.ix2 r k) (0 : Fin 2)).trans ?_; rw [idx_4]; show t.val % 8 * 1024 + r.val = 1024 * (t.val % 8) + r.val; omega
    | ⟨1, _⟩ => refine (win0_4.rect_emb_val t (ValueIdx.ix2 r k) (1 : Fin 2)).trans ?_; rw [idx_4]; show (20 + t.val / 8) * 512 + k.val = 10240 + (512 * (t.val / 8) + k.val); omega
  · rw [entry4]
    refine shapeCast_apply _ shapeCasts_S4x2048x18432_S8192x18432 _ i ?_
    rw [Shape.rowMajor_val_three, Shape.rowMajor_val_two]
    show ((i 0).val * 2048 + (i 1).val) * 18432 + (i 2).val = (1024 * (t.val % 8) + r.val) * 18432 + (10240 + (512 * (t.val / 8) + k.val))
    rw [e0, e1, e2]
    omega

/-- The second gates' block at a point. -/
theorem blk_5 (c : Dev nD) (t : Fin grid0.N) (r : Fin 1024) (k : Fin 512) (i : S4x2048x18432.Idx)
    (e0 : (i 0).val = (1024 * (t.val % 8) + r.val) / 2048) (e1 : (i 1).val = (1024 * (t.val % 8) + r.val) % 2048) (e2 : (i 2).val = 14336 + (512 * (t.val / 8) + k.val)) :
    (iblk m c 5 t : Vec Ideal S1024x512 .bf16) (ValueIdx.ix2 r k) = (m ((c : Thread nD τ).loc main_arg4) : FVec Ideal S4x2048x18432 .bf16) i := by
  have hr := r.isLt
  have hk := k.isLt
  have ht := lt_N t
  refine Eq.trans (b := V m c main_v4 (ValueIdx.ix2 ⟨1024 * (t.val % 8) + r.val, by omega⟩ ⟨14336 + (512 * (t.val / 8) + k.val), by omega⟩)) (congrArg (V m c main_v4) (funext fun q => Fin.ext ?_)) ?_
  · match q with
    | ⟨0, _⟩ => refine (win0_5.rect_emb_val t (ValueIdx.ix2 r k) (0 : Fin 2)).trans ?_; rw [idx_5]; show t.val % 8 * 1024 + r.val = 1024 * (t.val % 8) + r.val; omega
    | ⟨1, _⟩ => refine (win0_5.rect_emb_val t (ValueIdx.ix2 r k) (1 : Fin 2)).trans ?_; rw [idx_5]; show (28 + t.val / 8) * 512 + k.val = 14336 + (512 * (t.val / 8) + k.val); omega
  · rw [entry4]
    refine shapeCast_apply _ shapeCasts_S4x2048x18432_S8192x18432 _ i ?_
    rw [Shape.rowMajor_val_three, Shape.rowMajor_val_two]
    show ((i 0).val * 2048 + (i 1).val) * 18432 + (i 2).val = (1024 * (t.val % 8) + r.val) * 18432 + (14336 + (512 * (t.val / 8) + k.val))
    rw [e0, e1, e2]
    omega

/-- The first weights' block at a point. -/
theorem blk_2 (c : Dev nD) (t : Fin grid0.N) (k : Fin 2048) (j : Fin 512) (i : S1x2048x4096.Idx)
    (e1 : (i 1).val = k.val) (e2 : (i 2).val = 512 * (t.val / 8) + j.val) :
    (iblk m c 2 t : Vec Ideal S2048x512 .f32) (ValueIdx.ix2 k j) = (m ((c : Thread nD τ).loc main_arg2) : FVec Ideal S1x2048x4096 .f32) i := by
  have ht := lt_N t
  have hj := j.isLt
  have hi : (i 0).val < 1 := (i 0).isLt
  refine Eq.trans (b := V m c main_v2 (ValueIdx.ix2 k ⟨512 * (t.val / 8) + j.val, by omega⟩)) (congrArg (V m c main_v2) (funext fun q => Fin.ext ?_)) ?_
  · match q with
    | ⟨0, _⟩ => refine (win0_2.rect_emb_val t (ValueIdx.ix2 k j) (0 : Fin 2)).trans ?_; rw [idx_2]; show 0 * 2048 + k.val = k.val; omega
    | ⟨1, _⟩ => refine (win0_2.rect_emb_val t (ValueIdx.ix2 k j) (1 : Fin 2)).trans ?_; rw [idx_2]; show t.val / 8 * 512 + j.val = 512 * (t.val / 8) + j.val; omega
  · rw [entry2]
    refine shapeCast_apply _ shapeCasts_S1x2048x4096_S2048x4096 _ i ?_
    rw [Shape.rowMajor_val_three, Shape.rowMajor_val_two]
    show ((i 0).val * 2048 + (i 1).val) * 4096 + (i 2).val = k.val * 4096 + (512 * (t.val / 8) + j.val)
    rw [e1, e2]
    omega

theorem scr0_A (c : Dev nD) (t : Fin cfg0.N) (h : t.val % 8 = 0) : ∀ i, (outsAt0 m c t.val t.isLt).2.1 i = (iblk m c 2 t : Vec Ideal S2048x512 .f32) i := by
  intro i
  rw [outsAt0_A m c t h]
  frame_out
  exact pay3 _ i

theorem scr0_B (c : Dev nD) (t : Fin cfg0.N) (h : ¬t.val % 8 = 0) : ∀ i, (outsAt0 m c t.val t.isLt).2.1 i = (outsAt0 m c (t.val - 1) (Nat.lt_of_le_of_lt (Nat.sub_le _ _) t.isLt)).2.1 i := by
  intro i
  rw [outsAt0_B m c t h]
  rfl

/-- The carried copy of the first weights at a point is that point's block. -/
theorem scr0 (c : Dev nD) (t : Fin cfg0.N) (k : Fin 2048) (j : Fin 512) (i : S1x2048x4096.Idx)
    (e1 : (i 1).val = k.val) (e2 : (i 2).val = 512 * (t.val / 8) + j.val) :
    (outsAt0 m c t.val t.isLt).2.1 (ValueIdx.ix2 k j) = (m ((c : Thread nD τ).loc main_arg2) : FVec Ideal S1x2048x4096 .f32) i := by
  refine (Pipeline.eq_of_write_hold_apply (fun n h => (outsAt0 m c n h).2.1) 8 (fun t => (iblk m c 2 t : Vec Ideal S2048x512 .f32)) (scr0_A m c) (scr0_B m c) t (ValueIdx.ix2 k j)).trans ?_
  refine blk_2 m c _ k j i e1 (e2.trans ?_)
  show 512 * (t.val / 8) + j.val = 512 * (8 * (t.val / 8) / 8) + j.val
  omega

/-- The second weights' block at a point. -/
theorem blk_3 (c : Dev nD) (t : Fin grid0.N) (k : Fin 2048) (j : Fin 512) (i : S1x2048x4096.Idx)
    (e1 : (i 1).val = k.val) (e2 : (i 2).val = 512 * (t.val / 8) + j.val) :
    (iblk m c 3 t : Vec Ideal S2048x512 .f32) (ValueIdx.ix2 k j) = (m ((c : Thread nD τ).loc main_arg3) : FVec Ideal S1x2048x4096 .f32) i := by
  have ht := lt_N t
  have hj := j.isLt
  have hi : (i 0).val < 1 := (i 0).isLt
  refine Eq.trans (b := V m c main_v3 (ValueIdx.ix2 k ⟨512 * (t.val / 8) + j.val, by omega⟩)) (congrArg (V m c main_v3) (funext fun q => Fin.ext ?_)) ?_
  · match q with
    | ⟨0, _⟩ => refine (win0_3.rect_emb_val t (ValueIdx.ix2 k j) (0 : Fin 2)).trans ?_; rw [idx_3]; show 0 * 2048 + k.val = k.val; omega
    | ⟨1, _⟩ => refine (win0_3.rect_emb_val t (ValueIdx.ix2 k j) (1 : Fin 2)).trans ?_; rw [idx_3]; show t.val / 8 * 512 + j.val = 512 * (t.val / 8) + j.val; omega
  · rw [entry3]
    refine shapeCast_apply _ shapeCasts_S1x2048x4096_S2048x4096 _ i ?_
    rw [Shape.rowMajor_val_three, Shape.rowMajor_val_two]
    show ((i 0).val * 2048 + (i 1).val) * 4096 + (i 2).val = k.val * 4096 + (512 * (t.val / 8) + j.val)
    rw [e1, e2]
    omega

theorem scr1_A (c : Dev nD) (t : Fin cfg0.N) (h : t.val % 8 = 0) : ∀ i, (outsAt0 m c t.val t.isLt).2.2 i = (iblk m c 3 t : Vec Ideal S2048x512 .f32) i := by
  intro i
  rw [outsAt0_A m c t h]
  frame_out
  exact pay4 _ i

theorem scr1_B (c : Dev nD) (t : Fin cfg0.N) (h : ¬t.val % 8 = 0) : ∀ i, (outsAt0 m c t.val t.isLt).2.2 i = (outsAt0 m c (t.val - 1) (Nat.lt_of_le_of_lt (Nat.sub_le _ _) t.isLt)).2.2 i := by
  intro i
  rw [outsAt0_B m c t h]
  rfl

/-- The carried copy of the second weights at a point is that point's block. -/
theorem scr1 (c : Dev nD) (t : Fin cfg0.N) (k : Fin 2048) (j : Fin 512) (i : S1x2048x4096.Idx)
    (e1 : (i 1).val = k.val) (e2 : (i 2).val = 512 * (t.val / 8) + j.val) :
    (outsAt0 m c t.val t.isLt).2.2 (ValueIdx.ix2 k j) = (m ((c : Thread nD τ).loc main_arg3) : FVec Ideal S1x2048x4096 .f32) i := by
  refine (Pipeline.eq_of_write_hold_apply (fun n h => (outsAt0 m c n h).2.2) 8 (fun t => (iblk m c 3 t : Vec Ideal S2048x512 .f32)) (scr1_A m c) (scr1_B m c) t (ValueIdx.ix2 k j)).trans ?_
  refine blk_3 m c _ k j i e1 (e2.trans ?_)
  show 512 * (t.val / 8) + j.val = 512 * (8 * (t.val / 8) / 8) + j.val
  omega

/-- What a point leaves in its block, in terms of the weights' copies it leaves. -/
theorem block (c : Dev nD) (t : Fin cfg0.N) (y : S1024x512.Idx) :
    (outsAt0 m c t.val t.isLt).1 y = entry (iblk m c 0 t) (iblk m c 1 t) (outsAt0 m c t.val t.isLt).2.1 (outsAt0 m c t.val t.isLt).2.2 (iblk m c 4 t) (iblk m c 5 t) y := by
  by_cases h : t.val % 8 = 0
  · have w0 : (outsAt0 m c t.val t.isLt).2.1 = k0_pay3 (iblk m c 2 t) := funext fun i => (scr0_A m c t h i).trans (pay3 _ i).symm
    have w1 : (outsAt0 m c t.val t.isLt).2.2 = k0_pay4 (iblk m c 3 t) := funext fun i => (scr1_A m c t h i).trans (pay4 _ i).symm
    rw [w0, w1, outsAt0_A m c t h]
    frame_out
    canon_tiles x hx
    · exact piece _ _ _ _ _ _ 768 _ _ x y (by assumption) (by assumption)
    · exact piece _ _ _ _ _ _ 512 _ _ x y (by assumption) (by assumption)
    · exact piece _ _ _ _ _ _ 256 _ _ x y (by assumption) (by assumption)
    · exact piece _ _ _ _ _ _ 0 _ _ x y (by omega) (by assumption)
  · have w0 : View.read (Elt Ideal) (View.whole cc0_scratch0) ((Memref.isWhole_whole cc0_scratch0).unread (outsAt0 m c (t.val - 1) (Nat.lt_of_le_of_lt (Nat.sub_le _ _) t.isLt)).2.1) = (outsAt0 m c t.val t.isLt).2.1 :=
      (read_unread_whole cc0_scratch0 _ _).trans (funext fun i => (scr0_B m c t h i).symm)
    have w1 : View.read (Elt Ideal) (View.whole cc0_scratch1) ((Memref.isWhole_whole cc0_scratch1).unread (outsAt0 m c (t.val - 1) (Nat.lt_of_le_of_lt (Nat.sub_le _ _) t.isLt)).2.2) = (outsAt0 m c t.val t.isLt).2.2 :=
      (read_unread_whole cc0_scratch1 _ _).trans (funext fun i => (scr1_B m c t h i).symm)
    rw [← w0, ← w1, outsAt0_B m c t h]
    frame_out
    canon_tiles x hx
    · exact piece _ _ _ _ _ _ 768 _ _ x y (by assumption) (by assumption)
    · exact piece _ _ _ _ _ _ 512 _ _ x y (by assumption) (by assumption)
    · exact piece _ _ _ _ _ _ 256 _ _ x y (by assumption) (by assumption)
    · exact piece _ _ _ _ _ _ 0 _ _ x y (by omega) (by assumption)

/-- What a point leaves in its block of the result. -/
theorem out (c : Dev nD) (t : Fin cfg0.N) (r : Fin 1024) (j : Fin 512) (p : Fin 2048 → S4x2048x2048.Idx) (q : Fin 2048 → S1x2048x4096.Idx) (u v : S4x2048x18432.Idx)
    (hp : ∀ k, (p k 0).val = (1024 * (t.val % 8) + r.val) / 2048 ∧ (p k 1).val = (1024 * (t.val % 8) + r.val) % 2048 ∧ (p k 2).val = k.val)
    (hq : ∀ k, (q k 1).val = k.val ∧ (q k 2).val = 512 * (t.val / 8) + j.val)
    (hu : (u 0).val = (1024 * (t.val % 8) + r.val) / 2048 ∧ (u 1).val = (1024 * (t.val % 8) + r.val) % 2048 ∧ (u 2).val = 10240 + (512 * (t.val / 8) + j.val))
    (hv : (v 0).val = (1024 * (t.val % 8) + r.val) / 2048 ∧ (v 1).val = (1024 * (t.val % 8) + r.val) % 2048 ∧ (v 2).val = 14336 + (512 * (t.val / 8) + j.val)) :
    (outsAt0 m c t.val t.isLt).1 (ValueIdx.ix2 r j)
      = mixed ((m ((c : Thread nD τ).loc main_arg4) : FVec Ideal S4x2048x18432 .bf16) u)
          (dots (m ((c : Thread nD τ).loc main_arg0) : FVec Ideal S4x2048x2048 .bf16) (m ((c : Thread nD τ).loc main_arg2) : FVec Ideal S1x2048x4096 .f32) p q)
          ((m ((c : Thread nD τ).loc main_arg4) : FVec Ideal S4x2048x18432 .bf16) v)
          (dots (m ((c : Thread nD τ).loc main_arg1) : FVec Ideal S4x2048x2048 .bf16) (m ((c : Thread nD τ).loc main_arg3) : FVec Ideal S1x2048x4096 .f32) p q) := by
  refine (block m c t (ValueIdx.ix2 r j)).trans ?_
  refine congr (congr (congrArg₂ mixed (blk_4 m c t r j u hu.1 hu.2.1 hu.2.2) (Finset.sum_congr rfl fun k _ => ?_)) (blk_5 m c t r j v hv.1 hv.2.1 hv.2.2)) (Finset.sum_congr rfl fun k _ => ?_)
  · exact congrArg₂ (· * ·) (blk_0 m c t r k _ (hp k).1 (hp k).2.1 (hp k).2.2) (scr0 m c t k j _ (hq k).1 (hq k).2)
  · exact congrArg₂ (· * ·) (blk_1 m c t r k _ (hp k).1 (hp k).2.1 (hp k).2.2) (scr1 m c t k j _ (hq k).1 (hq k).2)

open Cert.MergeReferenceIdeal.Read in
/-- The reference's value, entry by entry. -/
theorem ref_value (x y : FVec Ideal S4x2048x2048 .bf16) (w z : FVec Ideal S1x2048x4096 .f32) (g : FVec Ideal S4x2048x18432 .bf16) (i : S8192x4096.Idx)
    (p : Fin 2048 → S4x2048x2048.Idx) (q : Fin 2048 → S1x2048x4096.Idx) (u v : S4x2048x18432.Idx)
    (hp : ∀ k, (p k 0).val = (i 0).val / 2048 ∧ (p k 1).val = (i 0).val % 2048 ∧ (p k 2).val = k.val)
    (hq : ∀ k, (q k 1).val = k.val ∧ (q k 2).val = (i 1).val)
    (hu : (u 0).val = (i 0).val / 2048 ∧ (u 1).val = (i 0).val % 2048 ∧ (u 2).val = 10240 + (i 1).val)
    (hv : (v 0).val = (i 0).val / 2048 ∧ (v 1).val = (i 0).val % 2048 ∧ (v 2).val = 14336 + (i 1).val) :
    val_main_v26 (F := Ideal) x y w z g i = mixed (g u) (dots x w p q) (g v) (dots y z p q) := by
  have h0 : (i 0).val < 8192 := (i 0).isLt
  have h1 : (i 1).val < 4096 := (i 1).isLt
  have gu : val_main_v4 (F := Ideal) g (idx_main_v26 i) = g u := by
    rw [val_main_v4_apply, val_main_v3_apply]
    refine congrArg g (funext fun a => Fin.ext ?_)
    match a with
    | ⟨0, _⟩ => refine Eq.trans ?_ hu.1.symm; show ((i 0).val * 4096 + (i 1).val) / 8388608 = (i 0).val / 2048; omega
    | ⟨1, _⟩ => refine Eq.trans ?_ hu.2.1.symm; show ((i 0).val * 4096 + (i 1).val) / 4096 % 2048 = (i 0).val % 2048; omega
    | ⟨2, _⟩ => refine Eq.trans ?_ hu.2.2.symm; show 10240 + ((i 0).val * 4096 + (i 1).val) % 4096 = 10240 + (i 1).val; omega
  have gv : val_main_v5 (F := Ideal) g (idx_main_v26 i) = g v := by
    rw [val_main_v5_apply, val_main_v3_apply]
    refine congrArg g (funext fun a => Fin.ext ?_)
    match a with
    | ⟨0, _⟩ => refine Eq.trans ?_ hv.1.symm; show ((i 0).val * 4096 + (i 1).val) / 8388608 = (i 0).val / 2048; omega
    | ⟨1, _⟩ => refine Eq.trans ?_ hv.2.1.symm; show ((i 0).val * 4096 + (i 1).val) / 4096 % 2048 = (i 0).val % 2048; omega
    | ⟨2, _⟩ => refine Eq.trans ?_ hv.2.2.symm; show 10240 + (4096 + ((i 0).val * 4096 + (i 1).val) % 4096) = 14336 + (i 1).val; omega
  have hx (a : FVec Ideal S4x2048x2048 .bf16) (k : Fin 2048) : a (lidx_main_v13 (idx_main_v26 i) k) = a (p k) := by
    obtain ⟨p0, p1, p2⟩ := hp k
    refine congrArg a (funext fun a => Fin.ext ?_)
    match a with
    | ⟨0, _⟩ => refine Eq.trans ?_ p0.symm; show ((i 0).val * 4096 + (i 1).val) / 8388608 = (i 0).val / 2048; omega
    | ⟨1, _⟩ => refine Eq.trans ?_ p1.symm; show ((i 0).val * 4096 + (i 1).val) / 4096 % 2048 = (i 0).val % 2048; omega
    | ⟨2, _⟩ => exact p2.symm
  have hw (b : FVec Ideal S1x2048x4096 .f32) (k : Fin 2048) : b (idx_main_v12 (ridx_main_v13 (idx_main_v26 i) k)) = b (q k) := by
    have hk := k.isLt
    obtain ⟨q1, q2⟩ := hq k
    have q0 : (q k 0).val < 1 := (q k 0).isLt
    refine congrArg b (funext fun a => Fin.ext ?_)
    match a with
    | ⟨0, _⟩ => show 0 = (q k 0).val; omega
    | ⟨1, _⟩ => refine Eq.trans ?_ q1.symm; show (k.val * 4096 + ((i 0).val * 4096 + (i 1).val) % 4096) / 4096 % 2048 = k.val; omega
    | ⟨2, _⟩ => refine Eq.trans ?_ q2.symm; show (k.val * 4096 + ((i 0).val * 4096 + (i 1).val) % 4096) % 4096 = (i 1).val; omega
  have d0 : val_main_v13 (F := Ideal) x w (idx_main_v26 i) = dots x w p q := by
    refine (val_main_v13_apply x w _).trans (Finset.sum_congr rfl fun k _ => ?_)
    rw [val_main_v12_apply]
    exact congrArg₂ (· * ·) (hx x k) (hw w k)
  have d1 : val_main_v22 (F := Ideal) y z (idx_main_v26 i) = dots y z p q := by
    refine (val_main_v22_apply y z _).trans (Finset.sum_congr rfl fun k _ => ?_)
    rw [val_main_v21_apply]
    exact congrArg₂ (· * ·) (hx y k) (hw z k)
  have l0 : val_main_v11 (F := Ideal) g (idx_main_v26 i) = Ideal.logistic (g u) := by
    refine (quot_logistic (val_main_v4 (F := Ideal) g (idx_main_v26 i))).trans (congrArg Ideal.logistic gu)
  have l1 : val_main_v20 (F := Ideal) g (idx_main_v26 i) = Ideal.logistic (g v) := by
    refine (quot_logistic (val_main_v5 (F := Ideal) g (idx_main_v26 i))).trans (congrArg Ideal.logistic gv)
  rw [val_main_v26_apply]
  exact congrArg₂ (fun a b : EReal => a + b) (congrArg₂ (fun a b : EReal => a * b) l0 d0) (congrArg₂ (fun a b : EReal => a * b) l1 d1)

/-- The array that the kernel leaves is the reference's. -/
theorem value (c : Dev nD) : (dats m 0 c).arrAt 6 cfg0.N
      = (Cert.MergeReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S8192x4096.Idx → EReal) := by
  refine (dats m 0 c).arrAt_eq_of_covers 6 _ (by decide +kernel) fun t hf y => ?_
  blk_simp
  rw [after0_6]
  have ht := lt_N t
  have hy0 : ((y : S1024x512.Idx) 0).val < 1024 := ((y : S1024x512.Idx) 0).isLt
  have hy1 : ((y : S1024x512.Idx) 1).val < 512 := ((y : S1024x512.Idx) 1).isLt
  have ey : (y : S1024x512.Idx) = ValueIdx.ix2 ⟨((y : S1024x512.Idx) 0).val, hy0⟩ ⟨((y : S1024x512.Idx) 1).val, hy1⟩ := by
    funext a
    match a with
    | ⟨0, _⟩ => rfl
    | ⟨1, _⟩ => rfl
  have i0 := win0_6.rect_emb_val t y (0 : Fin 2)
  have i1 := win0_6.rect_emb_val t y (1 : Fin 2)
  rw [idx_6] at i0 i1
  have i0' : (((cfg0.win 6).blk t).view.emb y 0).val = t.val % 8 * 1024 + ((y : S1024x512.Idx) 0).val := i0
  have i1' : (((cfg0.win 6).blk t).view.emb y 1).val = t.val / 8 * 512 + ((y : S1024x512.Idx) 1).val := i1
  have a0 : (1024 * (t.val % 8) + ((y : S1024x512.Idx) 0).val) / 2048 = (((cfg0.win 6).blk t).view.emb y 0).val / 2048 := by
    refine Eq.trans ?_ (congrArg (· / 2048) i0'.symm); show (1024 * (t.val % 8) + ((y : S1024x512.Idx) 0).val) / 2048 = (t.val % 8 * 1024 + ((y : S1024x512.Idx) 0).val) / 2048; omega
  have a1 : (1024 * (t.val % 8) + ((y : S1024x512.Idx) 0).val) % 2048 = (((cfg0.win 6).blk t).view.emb y 0).val % 2048 := by
    refine Eq.trans ?_ (congrArg (· % 2048) i0'.symm); show (1024 * (t.val % 8) + ((y : S1024x512.Idx) 0).val) % 2048 = (t.val % 8 * 1024 + ((y : S1024x512.Idx) 0).val) % 2048; omega
  have a2 : 512 * (t.val / 8) + ((y : S1024x512.Idx) 1).val = (((cfg0.win 6).blk t).view.emb y 1).val := by
    refine Eq.trans ?_ i1'.symm; omega
  refine (congrArg (outsAt0 m c t.val t.isLt).1 ey).trans ((out m c t _ _
    (fun k => ValueIdx.ix3 ⟨(1024 * (t.val % 8) + ((y : S1024x512.Idx) 0).val) / 2048, by omega⟩ ⟨(1024 * (t.val % 8) + ((y : S1024x512.Idx) 0).val) % 2048, by omega⟩ k)
    (fun k => ValueIdx.ix3 (0 : Fin 1) k ⟨512 * (t.val / 8) + ((y : S1024x512.Idx) 1).val, by omega⟩)
    (ValueIdx.ix3 ⟨(1024 * (t.val % 8) + ((y : S1024x512.Idx) 0).val) / 2048, by omega⟩ ⟨(1024 * (t.val % 8) + ((y : S1024x512.Idx) 0).val) % 2048, by omega⟩ ⟨10240 + (512 * (t.val / 8) + ((y : S1024x512.Idx) 1).val), by omega⟩)
    (ValueIdx.ix3 ⟨(1024 * (t.val % 8) + ((y : S1024x512.Idx) 0).val) / 2048, by omega⟩ ⟨(1024 * (t.val % 8) + ((y : S1024x512.Idx) 0).val) % 2048, by omega⟩ ⟨14336 + (512 * (t.val / 8) + ((y : S1024x512.Idx) 1).val), by omega⟩)
    (fun k => ⟨rfl, rfl, rfl⟩) (fun k => ⟨rfl, rfl⟩) ⟨rfl, rfl, rfl⟩ ⟨rfl, rfl, rfl⟩).trans (Eq.symm (ref_value _ _ _ _ _ _ _ _ _ _ ?_ ?_ ?_ ?_)))
  · exact fun k => ⟨a0, a1, rfl⟩
  · exact fun k => ⟨rfl, a2⟩
  · exact ⟨a0, a1, congrArg (10240 + ·) a2⟩
  · exact ⟨a0, a1, congrArg (14336 + ·) a2⟩

theorem frame_kernel : Cert.quiescent_MergeKernel := fun m ρ _ => Cert.MergeKernel.Gen.frame m ρ
theorem frame_ideal : Cert.quiescent_MergeKernelIdeal := fun m ρ _ => Cert.MergeKernelIdeal.Gen.frame m ρ
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem val_congr {x0 y0 x1 y1 x2 y2 x3 y3 x4 y4} (h0 : x0 = y0) (h1 : x1 = y1) (h2 : x2 = y2) (h3 : x3 = y3) (h4 : x4 = y4) :
    Cert.MergeReferenceIdeal.Read.val_main_v26 (F := Ideal) x0 x1 x2 x3 x4 = Cert.MergeReferenceIdeal.Read.val_main_v26 (F := Ideal) y0 y1 y2 y3 y4 := by
  rw [h0, h1, h2, h3, h4]

/-- Kernel and reference compute one function. -/
theorem equal : Cert.algebraic_MergeKernelIdeal_MergeReferenceIdeal := by
  intro m g m' g' _ hag
  refine ⟨fun c => (Cert.MergeReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S8192x4096.Idx → EReal), ?_, ?_⟩
  · exact (θ_run Cert.MergeKernelIdeal.defs _ _).mono (fun r h c => ⟨(h c).1.trans (value m c), (h c).2⟩)
      (Cert.MergeKernelIdeal.Value.run_blocks (F := Ideal) m g)
  · refine (θ_run Cert.MergeReferenceIdeal.defs _ _).mono (fun r h c => ⟨((h c).1.trans (Cert.MergeReferenceIdeal.Read.val_main_v26_eq (F := Ideal) _ _ _ _ _)).trans ?_, (h c).2⟩)
      (Cert.MergeReferenceIdeal.Value.run (F := Ideal) m' g')
    obtain ⟨a0, a1, a2, a3, a4⟩ := hag c
    exact val_congr a0 a1 a2 a3 a4

end Cert.Layer.Merge
-- ==== Proof.Down.lean ====
module

public import proofs.«01_k».proof.Defs
public import proofs.«01_k».proof.Proof.Product
public import proofs.«01_k».proof.Proof.Gen.DownKernel.Frame
public import proofs.«01_k».proof.Proof.Gen.DownKernelIdeal.Value
public import proofs.«01_k».proof.Proof.Gen.DownReferenceIdeal.Run
public import proofs.«01_k».proof.Proof.Gen.DownReferenceIdeal.Read
public import Idealize.ShloMosaic.Lib.Pipeline.ValueKit
public import Idealize.ShloMosaic.Lib.Quiescent

@[expose] public section

set_option maxRecDepth 16384

noncomputable section

open scoped BigOperators

namespace Cert.Layer.Down

open Idealize.ShloMosaic Idealize.ShloMosaic.TcCoe Idealize.ShloMosaic.Tactic Idealize.SL.Sem
open Idealize.ShloMosaic.Pipeline (Dat Cfg Window)
open Cert.DownKernelIdeal Cert.DownKernelIdeal.Gen

variable (m : (ℓ : Loc nD τ sig) → Buf (Elt Ideal) ℓ)

/-- The body's result, entry by entry. -/
theorem pay (x : Vec Ideal S1x1024x2048 .bf16) (w : Vec Ideal S1x2048x1024 .f32) (r j : Fin 1024) :
    k0_pay1 x w (ValueIdx.ix3 (0 : Fin 1) r j) = ∑ k : Fin 2048, x (ValueIdx.ix3 (0 : Fin 1) r k) * w (ValueIdx.ix3 (0 : Fin 1) k j) := by
  unfold k0_pay1
  refine (put_apply _ shapeCasts_S1024x1024_S1x1024x1024 r j).trans ?_
  refine (prod_apply (φ₁ := .bf16) (φ₂ := .bf16) _ _ r j).trans (Finset.sum_congr rfl fun k _ => ?_)
  refine congrArg₂ (· * ·) (drop_apply x shapeCasts_S1x1024x2048_S1024x2048 r k) (drop_apply w shapeCasts_S1x2048x1024_S2048x1024 k j)

theorem entry0 (c : Dev nD) : V m c main_v0 = shapeCast S16x1024x2048 (m ((c : Thread nD τ).loc main_arg0) : FVec Ideal S16x4x256x2048 .bf16) shapeCasts_S16x4x256x2048_S16x1024x2048 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S16x2048x4096 (m ((c : Thread nD τ).loc main_arg1) : FVec Ideal S1x16x2048x4096 .f32) shapeCasts_S1x16x2048x4096_S16x2048x4096 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![(grid0.coords t 0).val, 0, 0] := by decide +kernel
theorem idx_1 : ∀ t : Fin grid0.N, win0_1.index t = ![(grid0.coords t 0).val, 0, (grid0.coords t 1).val] := by decide +kernel
theorem idx_2 : ∀ t : Fin grid0.N, win0_2.index t = ![(grid0.coords t 0).val, 0, (grid0.coords t 1).val] := by decide +kernel

/-- The rows' block at a point. -/
theorem blk_0 (c : Dev nD) (t : Fin grid0.N) (r : Fin 1024) (k : Fin 2048) (i : S16x4x256x2048.Idx)
    (e0 : (i 0).val = (grid0.coords t 0).val) (e1 : (i 1).val = r.val / 256) (e2 : (i 2).val = r.val % 256) (e3 : (i 3).val = k.val) :
    (iblk m c 0 t : Vec Ideal S1x1024x2048 .bf16) (ValueIdx.ix3 (0 : Fin 1) r k) = (m ((c : Thread nD τ).loc main_arg0) : FVec Ideal S16x4x256x2048 .bf16) i := by
  have hc : (grid0.coords t 0).val < 16 := (grid0.coords t 0).isLt
  refine Eq.trans (b := V m c main_v0 (ValueIdx.ix3 ⟨(grid0.coords t 0).val, hc⟩ r k)) (congrArg (V m c main_v0) (funext fun q => Fin.ext ?_)) ?_
  · match q with
    | ⟨0, _⟩ => refine (win0_0.rect_emb_val t (ValueIdx.ix3 (0 : Fin 1) r k) (0 : Fin 3)).trans ?_; rw [idx_0]; show (grid0.coords t 0).val * 1 + 0 = (grid0.coords t 0).val; omega
    | ⟨1, _⟩ => refine (win0_0.rect_emb_val t (ValueIdx.ix3 (0 : Fin 1) r k) (1 : Fin 3)).trans ?_; rw [idx_0]; show 0 * 1024 + r.val = r.val; omega
    | ⟨2, _⟩ => refine (win0_0.rect_emb_val t (ValueIdx.ix3 (0 : Fin 1) r k) (2 : Fin 3)).trans ?_; rw [idx_0]; show 0 * 2048 + k.val = k.val; omega
  · rw [entry0]
    refine shapeCast_apply _ shapeCasts_S16x4x256x2048_S16x1024x2048 _ i ?_
    rw [Shape.rowMajor_val_four, Shape.rowMajor_val_three]
    show (((i 0).val * 4 + (i 1).val) * 256 + (i 2).val) * 2048 + (i 3).val = ((grid0.coords t 0).val * 1024 + r.val) * 2048 + k.val
    have hr := r.isLt
    rw [e0, e1, e2, e3]
    omega

/-- The weights' block at a point. -/
theorem blk_1 (c : Dev nD) (t : Fin grid0.N) (k : Fin 2048) (j : Fin 1024) (i : S1x16x2048x4096.Idx)
    (e1 : (i 1).val = (grid0.coords t 0).val) (e2 : (i 2).val = k.val) (e3 : (i 3).val = 1024 * (grid0.coords t 1).val + j.val) :
    (iblk m c 1 t : Vec Ideal S1x2048x1024 .f32) (ValueIdx.ix3 (0 : Fin 1) k j) = (m ((c : Thread nD τ).loc main_arg1) : FVec Ideal S1x16x2048x4096 .f32) i := by
  have hc : (grid0.coords t 0).val < 16 := (grid0.coords t 0).isLt
  have hd : (grid0.coords t 1).val < 4 := (grid0.coords t 1).isLt
  have hj := j.isLt
  have hi : (i 0).val < 1 := (i 0).isLt
  refine Eq.trans (b := V m c main_v1 (ValueIdx.ix3 ⟨(grid0.coords t 0).val, hc⟩ k ⟨1024 * (grid0.coords t 1).val + j.val, by omega⟩)) (congrArg (V m c main_v1) (funext fun q => Fin.ext ?_)) ?_
  · match q with
    | ⟨0, _⟩ => refine (win0_1.rect_emb_val t (ValueIdx.ix3 (0 : Fin 1) k j) (0 : Fin 3)).trans ?_; rw [idx_1]; show (grid0.coords t 0).val * 1 + 0 = (grid0.coords t 0).val; omega
    | ⟨1, _⟩ => refine (win0_1.rect_emb_val t (ValueIdx.ix3 (0 : Fin 1) k j) (1 : Fin 3)).trans ?_; rw [idx_1]; show 0 * 2048 + k.val = k.val; omega
    | ⟨2, _⟩ => refine (win0_1.rect_emb_val t (ValueIdx.ix3 (0 : Fin 1) k j) (2 : Fin 3)).trans ?_; rw [idx_1]; show (grid0.coords t 1).val * 1024 + j.val = 1024 * (grid0.coords t 1).val + j.val; omega
  · rw [entry1]
    refine shapeCast_apply _ shapeCasts_S1x16x2048x4096_S16x2048x4096 _ i ?_
    rw [Shape.rowMajor_val_four, Shape.rowMajor_val_three]
    show (((i 0).val * 16 + (i 1).val) * 2048 + (i 2).val) * 4096 + (i 3).val = ((grid0.coords t 0).val * 2048 + k.val) * 4096 + (1024 * (grid0.coords t 1).val + j.val)
    rw [e1, e2, e3]
    omega

open Cert.DownReferenceIdeal.Read in
/-- The reference's value, entry by entry. -/
theorem ref_value (x : FVec Ideal S16x4x256x2048 .bf16) (w : FVec Ideal S1x16x2048x4096 .f32) (i : S16x1024x4096.Idx) (p : Fin 2048 → S16x4x256x2048.Idx) (q : Fin 2048 → S1x16x2048x4096.Idx)
    (hp : ∀ k, (p k 0).val = (i 0).val ∧ (p k 1).val = (i 1).val / 256 ∧ (p k 2).val = (i 1).val % 256 ∧ (p k 3).val = k.val)
    (hq : ∀ k, (q k 1).val = (i 0).val ∧ (q k 2).val = k.val ∧ (q k 3).val = (i 2).val) :
    val_main_v4 (F := Ideal) x w i = ∑ k : Fin 2048, x (p k) * w (q k) := by
  have h0 : (i 0).val < 16 := (i 0).isLt
  have h1 : (i 1).val < 1024 := (i 1).isLt
  have h2 : (i 2).val < 4096 := (i 2).isLt
  rw [val_main_v4_apply, val_main_v3_apply, val_main_v2_apply]
  refine Finset.sum_congr rfl fun k _ => ?_
  have hk := k.isLt
  obtain ⟨p0, p1, p2, p3⟩ := hp k
  obtain ⟨q1, q2, q3⟩ := hq k
  have q0 : (q k 0).val < 1 := (q k 0).isLt
  rw [val_main_v0_apply, val_main_v1_apply]
  refine congrArg₂ (· * ·) (congrArg x (funext fun a => Fin.ext ?_)) (congrArg w (funext fun a => Fin.ext ?_))
  · match a with
    | ⟨0, _⟩ => refine Eq.trans ?_ p0.symm; show (((i 0).val * 1024 + (i 1).val) * 4096 + (i 2).val) / 4194304 = (i 0).val; omega
    | ⟨1, _⟩ => refine Eq.trans ?_ p1.symm; show (((i 0).val * 1024 + (i 1).val) * 4096 + (i 2).val) / 1048576 % 4 = (i 1).val / 256; omega
    | ⟨2, _⟩ => refine Eq.trans ?_ p2.symm; show (((i 0).val * 1024 + (i 1).val) * 4096 + (i 2).val) / 4096 % 256 = (i 1).val % 256; omega
    | ⟨3, _⟩ => exact p3.symm
  · obtain ⟨A, hA⟩ : ∃ A, A = (((i 0).val * 1024 + (i 1).val) * 4096 + (i 2).val) / 4194304 := ⟨_, rfl⟩
    obtain ⟨B, hB⟩ : ∃ B, B = (((i 0).val * 1024 + (i 1).val) * 4096 + (i 2).val) % 4096 := ⟨_, rfl⟩
    have hA' : A = (i 0).val := by omega
    have hB' : B = (i 2).val := by omega
    match a with
    | ⟨0, _⟩ => show 0 = (q k 0).val; omega
    | ⟨1, _⟩ => refine Eq.trans ?_ q1.symm; show (((((i 0).val * 1024 + (i 1).val) * 4096 + (i 2).val) / 4194304 * 2048 + k.val) * 4096 + (((i 0).val * 1024 + (i 1).val) * 4096 + (i 2).val) % 4096) / 8388608 % 16 = (i 0).val; rw [← hA, ← hB, hA', hB']; omega
    | ⟨2, _⟩ => refine Eq.trans ?_ q2.symm; show (((((i 0).val * 1024 + (i 1).val) * 4096 + (i 2).val) / 4194304 * 2048 + k.val) * 4096 + (((i 0).val * 1024 + (i 1).val) * 4096 + (i 2).val) % 4096) / 4096 % 2048 = k.val; rw [← hA, ← hB, hA', hB']; omega
    | ⟨3, _⟩ => refine Eq.trans ?_ q3.symm; show (((((i 0).val * 1024 + (i 1).val) * 4096 + (i 2).val) / 4194304 * 2048 + k.val) * 4096 + (((i 0).val * 1024 + (i 1).val) * 4096 + (i 2).val) % 4096) % 4096 = (i 2).val; rw [← hA, ← hB, hA', hB']; omega

/-- The array that the kernel leaves is the reference's. -/
theorem value (c : Dev nD) : (dats m 0 c).arrAt 2 cfg0.N
      = (Cert.DownReferenceIdeal.Read.val_main_v4 (F := Ideal) (m ((c : Thread nD τ).loc main_arg0)) (m ((c : Thread nD τ).loc main_arg1)) : S16x1024x4096.Idx → EReal) := by
  refine (dats m 0 c).arrAt_eq_of_covers 2 _ (by decide +kernel) fun t hf y => ?_
  blk_simp
  rw [after0_2]
  frame_out
  have hy0 : ((y : S1x1024x1024.Idx) 0).val < 1 := ((y : S1x1024x1024.Idx) 0).isLt
  have hy1 : ((y : S1x1024x1024.Idx) 1).val < 1024 := ((y : S1x1024x1024.Idx) 1).isLt
  have hy2 : ((y : S1x1024x1024.Idx) 2).val < 1024 := ((y : S1x1024x1024.Idx) 2).isLt
  have hc : (grid0.coords t 0).val < 16 := (grid0.coords t 0).isLt
  have hd : (grid0.coords t 1).val < 4 := (grid0.coords t 1).isLt
  have ey : (y : S1x1024x1024.Idx) = ValueIdx.ix3 (0 : Fin 1) ⟨((y : S1x1024x1024.Idx) 1).val, hy1⟩ ⟨((y : S1x1024x1024.Idx) 2).val, hy2⟩ := by
    funext a
    match a with
    | ⟨0, _⟩ => exact Fin.ext (by show ((y : S1x1024x1024.Idx) 0).val = 0; omega)
    | ⟨1, _⟩ => rfl
    | ⟨2, _⟩ => rfl
  refine (congrArg (k0_pay1 (iblk m c 0 t) (iblk m c 1 t)) ey).trans ((pay _ _ _ _).trans ?_)
  refine Eq.symm ((ref_value _ _ _
    (fun k => ValueIdx.ix4 ⟨(grid0.coords t 0).val, hc⟩ ⟨((y : S1x1024x1024.Idx) 1).val / 256, by omega⟩ ⟨((y : S1x1024x1024.Idx) 1).val % 256, by omega⟩ k)
    (fun k => ValueIdx.ix4 (0 : Fin 1) ⟨(grid0.coords t 0).val, hc⟩ k ⟨1024 * (grid0.coords t 1).val + ((y : S1x1024x1024.Idx) 2).val, by omega⟩) ?_ ?_).trans ?_)
  · have i0 := win0_2.rect_emb_val t y (0 : Fin 3)
    have i1 := win0_2.rect_emb_val t y (1 : Fin 3)
    rw [idx_2] at i0 i1
    have i0' : (((cfg0.win 2).blk t).view.emb y 0).val = (grid0.coords t 0).val * 1 + ((y : S1x1024x1024.Idx) 0).val := i0
    have i1' : (((cfg0.win 2).blk t).view.emb y 1).val = 0 * 1024 + ((y : S1x1024x1024.Idx) 1).val := i1
    intro k
    refine ⟨?_, ?_, ?_, rfl⟩
    · refine Eq.trans ?_ i0'.symm; show (grid0.coords t 0).val = _; omega
    · refine Eq.trans ?_ (congrArg (· / 256) i1'.symm); show ((y : S1x1024x1024.Idx) 1).val / 256 = (0 * 1024 + ((y : S1x1024x1024.Idx) 1).val) / 256; omega
    · refine Eq.trans ?_ (congrArg (· % 256) i1'.symm); show ((y : S1x1024x1024.Idx) 1).val % 256 = (0 * 1024 + ((y : S1x1024x1024.Idx) 1).val) % 256; omega
  · have i0 := win0_2.rect_emb_val t y (0 : Fin 3)
    have i2 := win0_2.rect_emb_val t y (2 : Fin 3)
    rw [idx_2] at i0 i2
    have i0' : (((cfg0.win 2).blk t).view.emb y 0).val = (grid0.coords t 0).val * 1 + ((y : S1x1024x1024.Idx) 0).val := i0
    have i2' : (((cfg0.win 2).blk t).view.emb y 2).val = (grid0.coords t 1).val * 1024 + ((y : S1x1024x1024.Idx) 2).val := i2
    intro k
    refine ⟨?_, rfl, ?_⟩
    · refine Eq.trans ?_ i0'.symm; show (grid0.coords t 0).val = _; omega
    · refine Eq.trans ?_ i2'.symm; show 1024 * (grid0.coords t 1).val + ((y : S1x1024x1024.Idx) 2).val = _; omega
  · refine Finset.sum_congr rfl fun k _ => ?_
    exact congrArg₂ (· * ·) (blk_0 m c t _ k _ rfl rfl rfl rfl).symm (blk_1 m c t k _ _ rfl rfl rfl).symm

theorem frame_kernel : Cert.quiescent_DownKernel := fun m ρ _ => Cert.DownKernel.Gen.frame m ρ
theorem frame_ideal : Cert.quiescent_DownKernelIdeal := fun m ρ _ => Cert.DownKernelIdeal.Gen.frame m ρ
theorem frame_reference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

theorem val_congr {x0 y0 x1 y1} (h0 : x0 = y0) (h1 : x1 = y1) :
    Cert.DownReferenceIdeal.Read.val_main_v4 (F := Ideal) x0 x1 = Cert.DownReferenceIdeal.Read.val_main_v4 (F := Ideal) y0 y1 := by
  rw [h0, h1]

/-- Kernel and reference compute one function. -/
theorem equal : Cert.algebraic_DownKernelIdeal_DownReferenceIdeal := by
  intro m g m' g' _ hag
  refine ⟨fun c => (Cert.DownReferenceIdeal.Read.val_main_v4 (F := Ideal) (m ((c : Thread nD τ).loc main_arg0)) (m ((c : Thread nD τ).loc main_arg1)) : S16x1024x4096.Idx → EReal), ?_, ?_⟩
  · exact (θ_run Cert.DownKernelIdeal.defs _ _).mono (fun r h c => ⟨(h c).1.trans (value m c), (h c).2⟩)
      (Cert.DownKernelIdeal.Value.run_blocks (F := Ideal) m g)
  · refine (θ_run Cert.DownReferenceIdeal.defs _ _).mono (fun r h c => ⟨((h c).1.trans (Cert.DownReferenceIdeal.Read.val_main_v4_eq (F := Ideal) _ _)).trans ?_, (h c).2⟩)
      (Cert.DownReferenceIdeal.Value.run (F := Ideal) m' g')
    obtain ⟨a0, a1⟩ := hag c
    exact val_congr a0 a1

end Cert.Layer.Down
-- ==== Proof.Up.lean ====
module

public import proofs.«01_k».proof.Defs
public import proofs.«01_k».proof.Proof.Product
public import proofs.«01_k».proof.Proof.Gen.UpKernel.Frame
public import proofs.«01_k».proof.Proof.Gen.UpKernelIdeal.Value
public import proofs.«01_k».proof.Proof.Gen.UpReferenceIdeal.Run
public import proofs.«01_k».proof.Proof.Gen.UpReferenceIdeal.Read
public import Idealize.ShloMosaic.Lib.Pipeline.ValueKit
public import Idealize.ShloMosaic.Lib.Quiescent

@[expose] public section

set_option maxRecDepth 16384

noncomputable section

open scoped BigOperators

namespace Cert.Layer.Up

open Idealize.ShloMosaic Idealize.ShloMosaic.TcCoe Idealize.ShloMosaic.Tactic Idealize.SL.Sem
open Idealize.ShloMosaic.Pipeline (Dat Cfg Window)
open Cert.UpKernelIdeal Cert.UpKernelIdeal.Gen

variable (m : (ℓ : Loc nD τ sig) → Buf (Elt Ideal) ℓ)

/-- The gated product of two sums. -/
def gated (a u : EReal) : EReal := a * Ideal.logistic a * u

/-- The body's result, entry by entry. -/
theorem pay (x : Vec Ideal S1x1024x4096 .bf16) (wg wu : Vec Ideal S1x4096x256 .f32) (r : Fin 1024) (j : Fin 256) :
    k0_pay1 x wg wu (ValueIdx.ix3 (0 : Fin 1) r j)
      = gated (dots x wg (fun k : Fin 4096 => ValueIdx.ix3 (0 : Fin 1) r k) (fun k => ValueIdx.ix3 (0 : Fin 1) k j))
          (dots x wu (fun k : Fin 4096 => ValueIdx.ix3 (0 : Fin 1) r k) (fun k => ValueIdx.ix3 (0 : Fin 1) k j)) := by
  have h : ∀ w : Vec Ideal S1x4096x256 .f32,
      matmul (F := Ideal) (φ₁ := .bf16) (φ₂ := .bf16) dot_S1024x4096_S4096x256_S1024x256_1_0_0_1_n_n none (shapeCast S1024x4096 x shapeCasts_S1x1024x4096_S1024x4096) (truncf (F := Ideal) .bf16 (shapeCast S4096x256 w shapeCasts_S1x4096x256_S4096x256) bitsLt_bf16_f32) (constant S1024x256 .f32 0x00000000#32) (ValueIdx.ix2 r j)
        = dots x w (fun k : Fin 4096 => ValueIdx.ix3 (0 : Fin 1) r k) (fun k => ValueIdx.ix3 (0 : Fin 1) k j) := fun w => by
    refine (prod_apply (φ₁ := .bf16) (φ₂ := .bf16) _ _ r j).trans (Finset.sum_congr rfl fun k _ => ?_)
    refine congrArg₂ (· * ·) (drop_apply x shapeCasts_S1x1024x4096_S1024x4096 r k) (drop_apply w shapeCasts_S1x4096x256_S4096x256 k j)
  unfold k0_pay1
  refine (put_apply _ shapeCasts_S1024x256_S1x1024x256 r j).trans ?_
  exact congrArg₂ gated (h wg) (h wu)

theorem entry0 (c : Dev nD) : V m c main_v0 = shapeCast S16x1024x4096 (m ((c : Thread nD τ).loc main_arg0) : FVec Ideal S16x4x256x4096 .bf16) shapeCasts_S16x4x256x4096_S16x1024x4096 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S16x4096x2048 (m ((c : Thread nD τ).loc main_arg1) : FVec Ideal S1x16x4096x2048 .f32) shapeCasts_S1x16x4096x2048_S16x4096x2048 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem entry2 (c : Dev nD) : V m c main_v2 = shapeCast S16x4096x2048 (m ((c : Thread nD τ).loc main_arg2) : FVec Ideal S1x16x4096x2048 .f32) shapeCasts_S1x16x4096x2048_S16x4096x2048 := by
  show StableHlo.after hostOps0 (fun b => m (c, b)) (Proc.devRef .tc main_v2) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![(grid0.coords t 0).val, 0, 0] := by decide +kernel
theorem idx_1 : ∀ t : Fin grid0.N, win0_1.index t = ![(grid0.coords t 0).val, 0, (grid0.coords t 1).val] := by decide +kernel
theorem idx_2 : ∀ t : Fin grid0.N, win0_2.index t = ![(grid0.coords t 0).val, 0, (grid0.coords t 1).val] := by decide +kernel
theorem idx_3 : ∀ t : Fin grid0.N, win0_3.index t = ![(grid0.coords t 0).val, 0, (grid0.coords t 1).val] := by decide +kernel

/-- The rows' block at a point. -/
theorem blk_0 (c : Dev nD) (t : Fin grid0.N) (r : Fin 1024) (k : Fin 4096) (i : S16x4x256x4096.Idx)
    (e0 : (i 0).val = (grid0.coords t 0).val) (e1 : (i 1).val = r.val / 256) (e2 : (i 2).val = r.val % 256) (e3 : (i 3).val = k.val) :
    (iblk m c 0 t : Vec Ideal S1x1024x4096 .bf16) (ValueIdx.ix3 (0 : Fin 1) r k) = (m ((c : Thread nD τ).loc main_arg0) : FVec Ideal S16x4x256x4096 .bf16) i := by
  have hc : (grid0.coords t 0).val < 16 := (grid0.coords t 0).isLt
  refine Eq.trans (b := V m c main_v0 (ValueIdx.ix3 ⟨(grid0.coords t 0).val, hc⟩ r k)) (congrArg (V m c main_v0) (funext fun q => Fin.ext ?_)) ?_
  · match q with
    | ⟨0, _⟩ => refine (win0_0.rect_emb_val t (ValueIdx.ix3 (0 : Fin 1) r k) (0 : Fin 3)).trans ?_; rw [idx_0]; show (grid0.coords t 0).val * 1 + 0 = (grid0.coords t 0).val; omega
    | ⟨1, _⟩ => refine (win0_0.rect_emb_val t (ValueIdx.ix3 (0 : Fin 1) r k) (1 : Fin 3)).trans ?_; rw [idx_0]; show 0 * 1024 + r.val = r.val; omega
    | ⟨2, _⟩ => refine (win0_0.rect_emb_val t (ValueIdx.ix3 (0 : Fin 1) r k) (2 : Fin 3)).trans ?_; rw [idx_0]; show 0 * 4096 + k.val = k.val; omega
  · rw [entry0]
    refine shapeCast_apply _ shapeCasts_S16x4x256x4096_S16x1024x4096 _ i ?_
    rw [Shape.rowMajor_val_four, Shape.rowMajor_val_three]
    show (((i 0).val * 4 + (i 1).val) * 256 + (i 2).val) * 4096 + (i 3).val = ((grid0.coords t 0).val * 1024 + r.val) * 4096 + k.val
    have hr := r.isLt
    rw [e0, e1, e2, e3]
    omega

/-- A weights' block at a point. -/
theorem blk_1 (c : Dev nD) (t : Fin grid0.N) (k : Fin 4096) (j : Fin 256) (i : S1x16x4096x2048.Idx)
    (e1 : (i 1).val = (grid0.coords t 0).val) (e2 : (i 2).val = k.val) (e3 : (i 3).val = 256 * (grid0.coords t 1).val + j.val) :
    (iblk m c 1 t : Vec Ideal S1x4096x256 .f32) (ValueIdx.ix3 (0 : Fin 1) k j) = (m ((c : Thread nD τ).loc main_arg1) : FVec Ideal S1x16x4096x2048 .f32) i := by
  have hc : (grid0.coords t 0).val < 16 := (grid0.coords t 0).isLt
  have hd : (grid0.coords t 1).val < 8 := (grid0.coords t 1).isLt
  have hj := j.isLt
  have hi : (i 0).val < 1 := (i 0).isLt
  refine Eq.trans (b := V m c main_v1 (ValueIdx.ix3 ⟨(grid0.coords t 0).val, hc⟩ k ⟨256 * (grid0.coords t 1).val + j.val, by omega⟩)) (congrArg (V m c main_v1) (funext fun q => Fin.ext ?_)) ?_
  · match q with
    | ⟨0, _⟩ => refine (win0_1.rect_emb_val t (ValueIdx.ix3 (0 : Fin 1) k j) (0 : Fin 3)).trans ?_; rw [idx_1]; show (grid0.coords t 0).val * 1 + 0 = (grid0.coords t 0).val; omega
    | ⟨1, _⟩ => refine (win0_1.rect_emb_val t (ValueIdx.ix3 (0 : Fin 1) k j) (1 : Fin 3)).trans ?_; rw [idx_1]; show 0 * 4096 + k.val = k.val; omega
    | ⟨2, _⟩ => refine (win0_1.rect_emb_val t (ValueIdx.ix3 (0 : Fin 1) k j) (2 : Fin 3)).trans ?_; rw [idx_1]; show (grid0.coords t 1).val * 256 + j.val = 256 * (grid0.coords t 1).val + j.val; omega
  · rw [entry1]
    refine shapeCast_apply _ shapeCasts_S1x16x4096x2048_S16x4096x2048 _ i ?_
    rw [Shape.rowMajor_val_four, Shape.rowMajor_val_three]
    show (((i 0).val * 16 + (i 1).val) * 4096 + (i 2).val) * 2048 + (i 3).val = ((grid0.coords t 0).val * 4096 + k.val) * 2048 + (256 * (grid0.coords t 1).val + j.val)
    rw [e1, e2, e3]
    omega

/-- A weights' block at a point. -/
theorem blk_2 (c : Dev nD) (t : Fin grid0.N) (k : Fin 4096) (j : Fin 256) (i : S1x16x4096x2048.Idx)
    (e1 : (i 1).val = (grid0.coords t 0).val) (e2 : (i 2).val = k.val) (e3 : (i 3).val = 256 * (grid0.coords t 1).val + j.val) :
    (iblk m c 2 t : Vec Ideal S1x4096x256 .f32) (ValueIdx.ix3 (0 : Fin 1) k j) = (m ((c : Thread nD τ).loc main_arg2) : FVec Ideal S1x16x4096x2048 .f32) i := by
  have hc : (grid0.coords t 0).val < 16 := (grid0.coords t 0).isLt
  have hd : (grid0.coords t 1).val < 8 := (grid0.coords t 1).isLt
  have hj := j.isLt
  have hi : (i 0).val < 1 := (i 0).isLt
  refine Eq.trans (b := V m c main_v2 (ValueIdx.ix3 ⟨(grid0.coords t 0).val, hc⟩ k ⟨256 * (grid0.coords t 1).val + j.val, by omega⟩)) (congrArg (V m c main_v2) (funext fun q => Fin.ext ?_)) ?_
  · match q with
    | ⟨0, _⟩ => refine (win0_2.rect_emb_val t (ValueIdx.ix3 (0 : Fin 1) k j) (0 : Fin 3)).trans ?_; rw [idx_2]; show (grid0.coords t 0).val * 1 + 0 = (grid0.coords t 0).val; omega
    | ⟨1, _⟩ => refine (win0_2.rect_emb_val t (ValueIdx.ix3 (0 : Fin 1) k j) (1 : Fin 3)).trans ?_; rw [idx_2]; show 0 * 4096 + k.val = k.val; omega
    | ⟨2, _⟩ => refine (win0_2.rect_emb_val t (ValueIdx.ix3 (0 : Fin 1) k j) (2 : Fin 3)).trans ?_; rw [idx_2]; show (grid0.coords t 1).val * 256 + j.val = 256 * (grid0.coords t 1).val + j.val; omega
  · rw [entry2]
    refine shapeCast_apply _ shapeCasts_S1x16x4096x2048_S16x4096x2048 _ i ?_
    rw [Shape.rowMajor_val_four, Shape.rowMajor_val_three]
    show (((i 0).val * 16 + (i 1).val) * 4096 + (i 2).val) * 2048 + (i 3).val = ((grid0.coords t 0).val * 4096 + k.val) * 2048 + (256 * (grid0.coords t 1).val + j.val)
    rw [e1, e2, e3]
    omega

open Cert.UpReferenceIdeal.Read in
/-- One of the reference's two products, entry by entry. -/
theorem ref_dot (x : FVec Ideal S16x4x256x4096 .bf16) (w : FVec Ideal S1x16x4096x2048 .f32) (i : S16x1024x2048.Idx) (p : Fin 4096 → S16x4x256x4096.Idx) (q : Fin 4096 → S1x16x4096x2048.Idx)
    (hp : ∀ k, (p k 0).val = (i 0).val ∧ (p k 1).val = (i 1).val / 256 ∧ (p k 2).val = (i 1).val % 256 ∧ (p k 3).val = k.val)
    (hq : ∀ k, (q k 1).val = (i 0).val ∧ (q k 2).val = k.val ∧ (q k 3).val = (i 2).val) :
    val_main_v2 (F := Ideal) x w (idx_main_v8 i) = dots x w p q := by
  have h0 : (i 0).val < 16 := (i 0).isLt
  have h1 : (i 1).val < 1024 := (i 1).isLt
  have h2 : (i 2).val < 2048 := (i 2).isLt
  rw [val_main_v2_apply]
  refine Finset.sum_congr rfl fun k _ => ?_
  have hk := k.isLt
  obtain ⟨p0, p1, p2, p3⟩ := hp k
  obtain ⟨q1, q2, q3⟩ := hq k
  have q0 : (q k 0).val < 1 := (q k 0).isLt
  rw [val_main_v0_apply, val_main_v1_apply]
  refine congrArg₂ (· * ·) (congrArg x (funext fun a => Fin.ext ?_)) (congrArg w (funext fun a => Fin.ext ?_))
  · match a with
    | ⟨0, _⟩ => refine Eq.trans ?_ p0.symm; show (((i 0).val * 1024 + (i 1).val) * 2048 + (i 2).val) / 2097152 = (i 0).val; omega
    | ⟨1, _⟩ => refine Eq.trans ?_ p1.symm; show (((i 0).val * 1024 + (i 1).val) * 2048 + (i 2).val) / 524288 % 4 = (i 1).val / 256; omega
    | ⟨2, _⟩ => refine Eq.trans ?_ p2.symm; show (((i 0).val * 1024 + (i 1).val) * 2048 + (i 2).val) / 2048 % 256 = (i 1).val % 256; omega
    | ⟨3, _⟩ => exact p3.symm
  · obtain ⟨A, hA⟩ : ∃ A, A = (((i 0).val * 1024 + (i 1).val) * 2048 + (i 2).val) / 2097152 := ⟨_, rfl⟩
    obtain ⟨B, hB⟩ : ∃ B, B = (((i 0).val * 1024 + (i 1).val) * 2048 + (i 2).val) % 2048 := ⟨_, rfl⟩
    have hA' : A = (i 0).val := by omega
    have hB' : B = (i 2).val := by omega
    match a with
    | ⟨0, _⟩ => show 0 = (q k 0).val; omega
    | ⟨1, _⟩ => refine Eq.trans ?_ q1.symm; show (((((i 0).val * 1024 + (i 1).val) * 2048 + (i 2).val) / 2097152 * 4096 + k.val) * 2048 + (((i 0).val * 1024 + (i 1).val) * 2048 + (i 2).val) % 2048) / 8388608 % 16 = (i 0).val; rw [← hA, ← hB, hA', hB']; omega
    | ⟨2, _⟩ => refine Eq.trans ?_ q2.symm; show (((((i 0).val * 1024 + (i 1).val) * 2048 + (i 2).val) / 2097152 * 4096 + k.val) * 2048 + (((i 0).val * 1024 + (i 1).val) * 2048 + (i 2).val) % 2048) / 2048 % 4096 = k.val; rw [← hA, ← hB, hA', hB']; omega
    | ⟨3, _⟩ => refine Eq.trans ?_ q3.symm; show (((((i 0).val * 1024 + (i 1).val) * 2048 + (i 2).val) / 2097152 * 4096 + k.val) * 2048 + (((i 0).val * 1024 + (i 1).val) * 2048 + (i 2).val) % 2048) % 2048 = (i 2).val; rw [← hA, ← hB, hA', hB']; omega

open Cert.UpReferenceIdeal.Read in
/-- The reference's value, entry by entry. -/
theorem ref_value (x : FVec Ideal S16x4x256x4096 .bf16) (wg wu : FVec Ideal S1x16x4096x2048 .f32) (i : S16x1024x2048.Idx) (p : Fin 4096 → S16x4x256x4096.Idx) (q : Fin 4096 → S1x16x4096x2048.Idx)
    (hp : ∀ k, (p k 0).val = (i 0).val ∧ (p k 1).val = (i 1).val / 256 ∧ (p k 2).val = (i 1).val % 256 ∧ (p k 3).val = k.val)
    (hq : ∀ k, (q k 1).val = (i 0).val ∧ (q k 2).val = k.val ∧ (q k 3).val = (i 2).val) :
    val_main_v8 (F := Ideal) x wg wu i = gated (dots x wg p q) (dots x wu p q) := by
  rw [val_main_v8_apply, val_main_v7_apply, val_main_v6_apply, val_main_v3_apply, val_main_call0_v5_apply, val_main_call0_v4_apply, val_main_call0_cst_0_apply,
    val_main_call0_v3_apply, val_main_call0_v2_apply, val_main_call0_cst_apply, val_main_call0_v1_apply, val_main_call0_v0_apply, ref_dot x wg i p q hp hq]
  exact congrArg₂ (fun l u : EReal => dots x wg p q * l * u) (quot_logistic _) (ref_dot x wu i p q hp hq)

/-- The array that the kernel leaves is the reference's. -/
theorem value (c : Dev nD) : (dats m 0 c).arrAt 3 cfg0.N
      = (Cert.UpReferenceIdeal.Read.val_main_v8 (F := Ideal) (m ((c : Thread nD τ).loc main_arg0)) (m ((c : Thread nD τ).loc main_arg1)) (m ((c : Thread nD τ).loc main_arg2)) : S16x1024x2048.Idx → EReal) := by
  refine (dats m 0 c).arrAt_eq_of_covers 3 _ (by decide +kernel) fun t hf y => ?_
  blk_simp
  rw [after0_3]
  frame_out
  have hy0 : ((y : S1x1024x256.Idx) 0).val < 1 := ((y : S1x1024x256.Idx) 0).isLt
  have hy1 : ((y : S1x1024x256.Idx) 1).val < 1024 := ((y : S1x1024x256.Idx) 1).isLt
  have hy2 : ((y : S1x1024x256.Idx) 2).val < 256 := ((y : S1x1024x256.Idx) 2).isLt
  have hc : (grid0.coords t 0).val < 16 := (grid0.coords t 0).isLt
  have hd : (grid0.coords t 1).val < 8 := (grid0.coords t 1).isLt
  have ey : (y : S1x1024x256.Idx) = ValueIdx.ix3 (0 : Fin 1) ⟨((y : S1x1024x256.Idx) 1).val, hy1⟩ ⟨((y : S1x1024x256.Idx) 2).val, hy2⟩ := by
    funext a
    match a with
    | ⟨0, _⟩ => exact Fin.ext (by show ((y : S1x1024x256.Idx) 0).val = 0; omega)
    | ⟨1, _⟩ => rfl
    | ⟨2, _⟩ => rfl
  have i0 := win0_3.rect_emb_val t y (0 : Fin 3)
  have i1 := win0_3.rect_emb_val t y (1 : Fin 3)
  have i2 := win0_3.rect_emb_val t y (2 : Fin 3)
  rw [idx_3] at i0 i1 i2
  have i0' : (((cfg0.win 3).blk t).view.emb y 0).val = (grid0.coords t 0).val * 1 + ((y : S1x1024x256.Idx) 0).val := i0
  have i1' : (((cfg0.win 3).blk t).view.emb y 1).val = 0 * 1024 + ((y : S1x1024x256.Idx) 1).val := i1
  have i2' : (((cfg0.win 3).blk t).view.emb y 2).val = (grid0.coords t 1).val * 256 + ((y : S1x1024x256.Idx) 2).val := i2
  refine (congrArg (k0_pay1 (iblk m c 0 t) (iblk m c 1 t) (iblk m c 2 t)) ey).trans ((pay _ _ _ _ _).trans ?_)
  refine Eq.symm ((ref_value _ _ _ _
    (fun k => ValueIdx.ix4 ⟨(grid0.coords t 0).val, hc⟩ ⟨((y : S1x1024x256.Idx) 1).val / 256, by omega⟩ ⟨((y : S1x1024x256.Idx) 1).val % 256, by omega⟩ k)
    (fun k => ValueIdx.ix4 (0 : Fin 1) ⟨(grid0.coords t 0).val, hc⟩ k ⟨256 * (grid0.coords t 1).val + ((y : S1x1024x256.Idx) 2).val, by omega⟩) ?_ ?_).trans ?_)
  · intro k
    refine ⟨?_, ?_, ?_, rfl⟩
    · refine Eq.trans ?_ i0'.symm; show (grid0.coords t 0).val = _; omega
    · refine Eq.trans ?_ (congrArg (· / 256) i1'.symm); show ((y : S1x1024x256.Idx) 1).val / 256 = (0 * 1024 + ((y : S1x1024x256.Idx) 1).val) / 256; omega
    · refine Eq.trans ?_ (congrArg (· % 256) i1'.symm); show ((y : S1x1024x256.Idx) 1).val % 256 = (0 * 1024 + ((y : S1x1024x256.Idx) 1).val) % 256; omega
  · intro k
    refine ⟨?_, rfl, ?_⟩
    · refine Eq.trans ?_ i0'.symm; show (grid0.coords t 0).val = _; omega
    · refine Eq.trans ?_ i2'.symm; show 256 * (grid0.coords t 1).val + ((y : S1x1024x256.Idx) 2).val = _; omega
  · refine congrArg₂ gated (Finset.sum_congr rfl fun k _ => ?_) (Finset.sum_congr rfl fun k _ => ?_)
    · exact congrArg₂ (· * ·) (blk_0 m c t _ k _ rfl rfl rfl rfl).symm (blk_1 m c t k _ _ rfl rfl rfl).symm
    · exact congrArg₂ (· * ·) (blk_0 m c t _ k _ rfl rfl rfl rfl).symm (blk_2 m c t k _ _ rfl rfl rfl).symm

theorem frame_kernel : Cert.quiescent_UpKernel := fun m ρ _ => Cert.UpKernel.Gen.frame m ρ
theorem frame_ideal : Cert.quiescent_UpKernelIdeal := fun m ρ _ => Cert.UpKernelIdeal.Gen.frame m ρ
theorem frame_reference : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

theorem val_congr {x0 y0 x1 y1 x2 y2} (h0 : x0 = y0) (h1 : x1 = y1) (h2 : x2 = y2) :
    Cert.UpReferenceIdeal.Read.val_main_v8 (F := Ideal) x0 x1 x2 = Cert.UpReferenceIdeal.Read.val_main_v8 (F := Ideal) y0 y1 y2 := by
  rw [h0, h1, h2]

/-- Kernel and reference compute one function. -/
theorem equal : Cert.algebraic_UpKernelIdeal_UpReferenceIdeal := by
  intro m g m' g' _ hag
  refine ⟨fun c => (Cert.UpReferenceIdeal.Read.val_main_v8 (F := Ideal) (m ((c : Thread nD τ).loc main_arg0)) (m ((c : Thread nD τ).loc main_arg1)) (m ((c : Thread nD τ).loc main_arg2)) : S16x1024x2048.Idx → EReal), ?_, ?_⟩
  · exact (θ_run Cert.UpKernelIdeal.defs _ _).mono (fun r h c => ⟨(h c).1.trans (value m c), (h c).2⟩)
      (Cert.UpKernelIdeal.Value.run_blocks (F := Ideal) m g)
  · refine (θ_run Cert.UpReferenceIdeal.defs _ _).mono (fun r h c => ⟨((h c).1.trans (Cert.UpReferenceIdeal.Read.val_main_v8_eq (F := Ideal) _ _ _)).trans ?_, (h c).2⟩)
      (Cert.UpReferenceIdeal.Value.run (F := Ideal) m' g')
    obtain ⟨a0, a1, a2⟩ := hag c
    exact val_congr a0 a1 a2

end Cert.Layer.Up
-- ==== Proof.In.lean ====
module

public import proofs.«01_k».proof.Defs
public import proofs.«01_k».proof.Proof.Product
public import proofs.«01_k».proof.Proof.Gen.InKernel.Frame
public import proofs.«01_k».proof.Proof.Gen.InKernelIdeal.Value
public import proofs.«01_k».proof.Proof.Gen.InReferenceIdeal.Run
public import proofs.«01_k».proof.Proof.Gen.InReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.Quiescent

@[expose] public section

set_option maxRecDepth 16384

noncomputable section

open scoped BigOperators

namespace Cert.Layer.In

open Idealize.ShloMosaic Idealize.ShloMosaic.TcCoe Idealize.ShloMosaic.Tactic Idealize.SL.Sem
open Idealize.ShloMosaic.Pipeline (Dat Cfg Window)
open Cert.InKernelIdeal Cert.InKernelIdeal.Gen

variable (m : (ℓ : Loc nD τ sig) → Buf (Elt Ideal) ℓ)

/-- The weights' copy, entry by entry. -/
theorem pay1 (w : Vec Ideal S4096x1024 .f32) (i : S4096x1024.Idx) : k0_pay1 w i = w i := by
  unfold k0_pay1
  refine (shapeCast_apply _ shapeCasts_S4096x1024_S4096x1024 i i rfl).trans ?_
  exact shapeCast_apply w shapeCasts_S4096x1024_S4096x1024 i i rfl

/-- The body's result, entry by entry. -/
theorem pay2 (x : Vec Ideal S512x4096 .bf16) (w : Vec Ideal S4096x1024 .bf16) (r : Fin 512) (j : Fin 1024) :
    k0_pay2 x w (ValueIdx.ix2 r j) = ∑ k : Fin 4096, x (ValueIdx.ix2 r k) * w (ValueIdx.ix2 k j) := by
  unfold k0_pay2
  refine (prod_apply (φ₁ := .bf16) (φ₂ := .bf16) _ _ r j).trans (Finset.sum_congr rfl fun k _ => ?_)
  exact congrArg (· * _) (shapeCast_apply x shapeCasts_S512x4096_S512x4096 _ _ rfl)

theorem entry0 (c : Dev nD) : V m c main_v0 = shapeCast S8192x4096 (m ((c : Thread nD τ).loc main_arg0) : FVec Ideal S4x2048x4096 .bf16) shapeCasts_S4x2048x4096_S8192x4096 := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp
  rfl

theorem entry1 (c : Dev nD) : V m c main_v1 = shapeCast S4096x24576 (m ((c : Thread nD τ).loc main_arg1) : FVec Ideal S1x4096x24576 .f32) shapeCasts_S1x4096x24576_S4096x24576 := by
  show StableHlo.after hostOps0 (fun b => m (c, b)) (Proc.devRef .tc main_v1) = _
  simp only [hostOps0, StableHlo.TRef.binary, StableHlo.TRef.nullary, StableHlo.TRef.unary, StableHlo.TRef.toBuf, StableHlo.TRef.ofBuf, cast_eq]
  after_results_simp
  rfl

theorem idx_0 : ∀ t : Fin grid0.N, win0_0.index t = ![t.val % 16, 0] := by decide +kernel
theorem idx_1 : ∀ t : Fin grid0.N, win0_1.index t = ![0, t.val / 16 + 6] := by decide +kernel
theorem idx_2 : ∀ t : Fin grid0.N, win0_2.index t = ![t.val % 16, t.val / 16] := by decide +kernel

theorem lt_N (t : Fin grid0.N) : t.val < 288 := lt_of_lt_of_eq t.isLt N_0

/-- The rows' block at a point. -/
theorem blk_0 (c : Dev nD) (t : Fin grid0.N) (r : Fin 512) (k : Fin 4096) (i : S4x2048x4096.Idx)
    (e0 : (i 0).val = (512 * (t.val % 16) + r.val) / 2048) (e1 : (i 1).val = (512 * (t.val % 16) + r.val) % 2048) (e2 : (i 2).val = k.val) :
    (iblk m c 0 t : Vec Ideal S512x4096 .bf16) (ValueIdx.ix2 r k) = (m ((c : Thread nD τ).loc main_arg0) : FVec Ideal S4x2048x4096 .bf16) i := by
  have hr := r.isLt
  refine Eq.trans (b := V m c main_v0 (ValueIdx.ix2 ⟨512 * (t.val % 16) + r.val, by omega⟩ k)) (congrArg (V m c main_v0) (funext fun q => Fin.ext ?_)) ?_
  · match q with
    | ⟨0, _⟩ => refine (win0_0.rect_emb_val t (ValueIdx.ix2 r k) (0 : Fin 2)).trans ?_; rw [idx_0]; show t.val % 16 * 512 + r.val = 512 * (t.val % 16) + r.val; omega
    | ⟨1, _⟩ => refine (win0_0.rect_emb_val t (ValueIdx.ix2 r k) (1 : Fin 2)).trans ?_; rw [idx_0]; show 0 * 4096 + k.val = k.val; omega
  · rw [entry0]
    refine shapeCast_apply _ shapeCasts_S4x2048x4096_S8192x4096 _ i ?_
    rw [Shape.rowMajor_val_three, Shape.rowMajor_val_two]
    show ((i 0).val * 2048 + (i 1).val) * 4096 + (i 2).val = (512 * (t.val % 16) + r.val) * 4096 + k.val
    rw [e0, e1, e2]
    omega

/-- The weights' block at a point. -/
theorem blk_1 (c : Dev nD) (t : Fin grid0.N) (k : Fin 4096) (j : Fin 1024) (i : S1x4096x24576.Idx)
    (e1 : (i 1).val = k.val) (e2 : (i 2).val = 6144 + (1024 * (t.val / 16) + j.val)) :
    (iblk m c 1 t : Vec Ideal S4096x1024 .f32) (ValueIdx.ix2 k j) = (m ((c : Thread nD τ).loc main_arg1) : FVec Ideal S1x4096x24576 .f32) i := by
  have ht := lt_N t
  have hj := j.isLt
  have hi : (i 0).val < 1 := (i 0).isLt
  refine Eq.trans (b := V m c main_v1 (ValueIdx.ix2 k ⟨6144 + (1024 * (t.val / 16) + j.val), by omega⟩)) (congrArg (V m c main_v1) (funext fun q => Fin.ext ?_)) ?_
  · match q with
    | ⟨0, _⟩ => refine (win0_1.rect_emb_val t (ValueIdx.ix2 k j) (0 : Fin 2)).trans ?_; rw [idx_1]; show 0 * 4096 + k.val = k.val; omega
    | ⟨1, _⟩ => refine (win0_1.rect_emb_val t (ValueIdx.ix2 k j) (1 : Fin 2)).trans ?_; rw [idx_1]; show (t.val / 16 + 6) * 1024 + j.val = 6144 + (1024 * (t.val / 16) + j.val); omega
  · rw [entry1]
    refine shapeCast_apply _ shapeCasts_S1x4096x24576_S4096x24576 _ i ?_
    rw [Shape.rowMajor_val_three, Shape.rowMajor_val_two]
    show ((i 0).val * 4096 + (i 1).val) * 24576 + (i 2).val = k.val * 24576 + (6144 + (1024 * (t.val / 16) + j.val))
    rw [e1, e2]
    omega

theorem scr_A (c : Dev nD) (t : Fin cfg0.N) (h : t.val % 16 = 0) : ∀ i, (outsAt0 m c t.val t.isLt).2 i = (iblk m c 1 t : Vec Ideal S4096x1024 .f32) i := by
  intro i
  rw [outsAt0_A m c t h]
  frame_out
  exact pay1 _ i

theorem scr_B (c : Dev nD) (t : Fin cfg0.N) (h : ¬t.val % 16 = 0) : ∀ i, (outsAt0 m c t.val t.isLt).2 i = (outsAt0 m c (t.val - 1) (Nat.lt_of_le_of_lt (Nat.sub_le _ _) t.isLt)).2 i := by
  intro i
  rw [outsAt0_B m c t h]
  rfl

/-- The carried copy of the weights at a point is that point's block. -/
theorem scr (c : Dev nD) (t : Fin cfg0.N) (k : Fin 4096) (j : Fin 1024) (i : S1x4096x24576.Idx)
    (e1 : (i 1).val = k.val) (e2 : (i 2).val = 6144 + (1024 * (t.val / 16) + j.val)) :
    (outsAt0 m c t.val t.isLt).2 (ValueIdx.ix2 k j) = (m ((c : Thread nD τ).loc main_arg1) : FVec Ideal S1x4096x24576 .f32) i := by
  refine (Pipeline.eq_of_write_hold_apply (fun n h => (outsAt0 m c n h).2) 16 (fun t => (iblk m c 1 t : Vec Ideal S4096x1024 .f32)) (scr_A m c) (scr_B m c) t (ValueIdx.ix2 k j)).trans ?_
  refine blk_1 m c _ k j i e1 (e2.trans ?_)
  show 6144 + (1024 * (t.val / 16) + j.val) = 6144 + (1024 * (16 * (t.val / 16) / 16) + j.val)
  omega

/-- What a point leaves in its block of the result. -/
theorem out (c : Dev nD) (t : Fin cfg0.N) (r : Fin 512) (j : Fin 1024) (p : Fin 4096 → S4x2048x4096.Idx) (q : Fin 4096 → S1x4096x24576.Idx)
    (hp : ∀ k, (p k 0).val = (512 * (t.val % 16) + r.val) / 2048 ∧ (p k 1).val = (512 * (t.val % 16) + r.val) % 2048 ∧ (p k 2).val = k.val)
    (hq : ∀ k, (q k 1).val = k.val ∧ (q k 2).val = 6144 + (1024 * (t.val / 16) + j.val)) :
    (outsAt0 m c t.val t.isLt).1 (ValueIdx.ix2 r j)
      = dots (m ((c : Thread nD τ).loc main_arg0) : FVec Ideal S4x2048x4096 .bf16) (m ((c : Thread nD τ).loc main_arg1) : FVec Ideal S1x4096x24576 .f32) p q := by
  by_cases h : t.val % 16 = 0
  · rw [outsAt0_A m c t h]
    frame_out
    refine (pay2 _ _ r j).trans (Finset.sum_congr rfl fun k _ => ?_)
    refine congrArg₂ (· * ·) (blk_0 m c t r k _ (hp k).1 (hp k).2.1 (hp k).2.2) ?_
    exact (pay1 _ _).trans (blk_1 m c t k j _ (hq k).1 (hq k).2)
  · have e : ∀ i, (outsAt0 m c (t.val - 1) (Nat.lt_of_le_of_lt (Nat.sub_le _ _) t.isLt)).2 i = (outsAt0 m c t.val t.isLt).2 i := fun i => (scr_B m c t h i).symm
    rw [outsAt0_B m c t h]
    frame_out
    refine (pay2 _ _ r j).trans (Finset.sum_congr rfl fun k _ => ?_)
    refine congrArg₂ (· * ·) (blk_0 m c t r k _ (hp k).1 (hp k).2.1 (hp k).2.2) ?_
    exact (congrFun (read_unread_whole cc0_scratch0 _ _) _).trans ((e _).trans (scr m c t k j _ (hq k).1 (hq k).2))

open Cert.InReferenceIdeal.Read in
/-- The reference's value, entry by entry. -/
theorem ref_value (x : FVec Ideal S4x2048x4096 .bf16) (w : FVec Ideal S1x4096x24576 .f32) (i : S8192x18432.Idx) (p : Fin 4096 → S4x2048x4096.Idx) (q : Fin 4096 → S1x4096x24576.Idx)
    (hp : ∀ k, (p k 0).val = (i 0).val / 2048 ∧ (p k 1).val = (i 0).val % 2048 ∧ (p k 2).val = k.val)
    (hq : ∀ k, (q k 1).val = k.val ∧ (q k 2).val = 6144 + (i 1).val) :
    val_main_v5 (F := Ideal) x w i = ∑ k : Fin 4096, x (p k) * w (q k) := by
  have h0 : (i 0).val < 8192 := (i 0).isLt
  have h1 : (i 1).val < 18432 := (i 1).isLt
  rw [val_main_v5_apply, val_main_v4_apply, val_main_v3_apply]
  refine Eq.trans (val_main_v2_apply x w _) (Finset.sum_congr rfl fun k _ => ?_)
  have hk := k.isLt
  obtain ⟨p0, p1, p2⟩ := hp k
  obtain ⟨q1, q2⟩ := hq k
  have q0 : (q k 0).val < 1 := (q k 0).isLt
  rw [val_main_v0_apply, val_main_v1_apply]
  refine congrArg₂ (· * ·) (congrArg x (funext fun a => Fin.ext ?_)) (congrArg w (funext fun a => Fin.ext ?_))
  · match a with
    | ⟨0, _⟩ => refine Eq.trans ?_ p0.symm; show ((i 0).val * 18432 + (i 1).val) / 37748736 = (i 0).val / 2048; omega
    | ⟨1, _⟩ => refine Eq.trans ?_ p1.symm; show ((i 0).val * 18432 + (i 1).val) / 18432 % 2048 = (i 0).val % 2048; omega
    | ⟨2, _⟩ => exact p2.symm
  · match a with
    | ⟨0, _⟩ => show 0 = (q k 0).val; omega
    | ⟨1, _⟩ => refine Eq.trans ?_ q1.symm; show (k.val * 24576 + (6144 + ((i 0).val * 18432 + (i 1).val) % 18432)) / 24576 % 4096 = k.val; omega
    | ⟨2, _⟩ => refine Eq.trans ?_ q2.symm; show (k.val * 24576 + (6144 + ((i 0).val * 18432 + (i 1).val) % 18432)) % 24576 = 6144 + (i 1).val; omega

/-- The array that the kernel leaves is the reference's. -/
theorem value (c : Dev nD) : (dats m 0 c).arrAt 2 cfg0.N
      = (Cert.InReferenceIdeal.Read.val_main_v5 (F := Ideal) (m ((c : Thread nD τ).loc main_arg0)) (m ((c : Thread nD τ).loc main_arg1)) : S8192x18432.Idx → EReal) := by
  refine (dats m 0 c).arrAt_eq_of_covers 2 _ (by decide +kernel) fun t hf y => ?_
  blk_simp
  rw [after0_2]
  have ht := lt_N t
  have hy0 : ((y : S512x1024.Idx) 0).val < 512 := ((y : S512x1024.Idx) 0).isLt
  have hy1 : ((y : S512x1024.Idx) 1).val < 1024 := ((y : S512x1024.Idx) 1).isLt
  have ey : (y : S512x1024.Idx) = ValueIdx.ix2 ⟨((y : S512x1024.Idx) 0).val, hy0⟩ ⟨((y : S512x1024.Idx) 1).val, hy1⟩ := by
    funext a
    match a with
    | ⟨0, _⟩ => rfl
    | ⟨1, _⟩ => rfl
  have i0 := win0_2.rect_emb_val t y (0 : Fin 2)
  have i1 := win0_2.rect_emb_val t y (1 : Fin 2)
  rw [idx_2] at i0 i1
  have i0' : (((cfg0.win 2).blk t).view.emb y 0).val = t.val % 16 * 512 + ((y : S512x1024.Idx) 0).val := i0
  have i1' : (((cfg0.win 2).blk t).view.emb y 1).val = t.val / 16 * 1024 + ((y : S512x1024.Idx) 1).val := i1
  refine (congrArg (outsAt0 m c t.val t.isLt).1 ey).trans ((out m c t _ _
    (fun k => ValueIdx.ix3 ⟨(512 * (t.val % 16) + ((y : S512x1024.Idx) 0).val) / 2048, by omega⟩ ⟨(512 * (t.val % 16) + ((y : S512x1024.Idx) 0).val) % 2048, by omega⟩ k)
    (fun k => ValueIdx.ix3 (0 : Fin 1) k ⟨6144 + (1024 * (t.val / 16) + ((y : S512x1024.Idx) 1).val), by omega⟩)
    (fun k => ⟨rfl, rfl, rfl⟩) (fun k => ⟨rfl, rfl⟩)).trans (Eq.symm (ref_value _ _ _ _ _ ?_ ?_)))
  · intro k
    refine ⟨?_, ?_, rfl⟩
    · refine Eq.trans ?_ (congrArg (· / 2048) i0'.symm); show (512 * (t.val % 16) + ((y : S512x1024.Idx) 0).val) / 2048 = (t.val % 16 * 512 + ((y : S512x1024.Idx) 0).val) / 2048; omega
    · refine Eq.trans ?_ (congrArg (· % 2048) i0'.symm); show (512 * (t.val % 16) + ((y : S512x1024.Idx) 0).val) % 2048 = (t.val % 16 * 512 + ((y : S512x1024.Idx) 0).val) % 2048; omega
  · intro k
    refine ⟨rfl, ?_⟩
    refine Eq.trans ?_ (congrArg (6144 + ·) i1'.symm); show 6144 + (1024 * (t.val / 16) + ((y : S512x1024.Idx) 1).val) = 6144 + (t.val / 16 * 1024 + ((y : S512x1024.Idx) 1).val); omega

theorem frame_kernel : Cert.quiescent_InKernel := fun m ρ _ => Cert.InKernel.Gen.frame m ρ
theorem frame_ideal : Cert.quiescent_InKernelIdeal := fun m ρ _ => Cert.InKernelIdeal.Gen.frame m ρ
theorem frame_reference : Cert.quiescent_InReferenceIdeal := fun m ρ _ =>
  (θ_run Cert.InReferenceIdeal.defs _ _).mono (fun r h => ⟨fun c => (h c).2, sem_eq_zero_of_no_sems (by decide) r.2⟩)
    (Cert.InReferenceIdeal.Value.run (F := Ideal) m ρ)

theorem val_congr {x0 y0 x1 y1} (h0 : x0 = y0) (h1 : x1 = y1) :
    Cert.InReferenceIdeal.Read.val_main_v5 (F := Ideal) x0 x1 = Cert.InReferenceIdeal.Read.val_main_v5 (F := Ideal) y0 y1 := by
  rw [h0, h1]

/-- Kernel and reference compute one function. -/
theorem equal : Cert.algebraic_InKernelIdeal_InReferenceIdeal := by
  intro m g m' g' _ hag
  refine ⟨fun c => (Cert.InReferenceIdeal.Read.val_main_v5 (F := Ideal) (m ((c : Thread nD τ).loc main_arg0)) (m ((c : Thread nD τ).loc main_arg1)) : S8192x18432.Idx → EReal), ?_, ?_⟩
  · exact (θ_run Cert.InKernelIdeal.defs _ _).mono (fun r h c => ⟨(h c).1.trans (value m c), (h c).2⟩)
      (Cert.InKernelIdeal.Value.run_blocks (F := Ideal) m g)
  · refine (θ_run Cert.InReferenceIdeal.defs _ _).mono (fun r h c => ⟨((h c).1.trans (Cert.InReferenceIdeal.Read.val_main_v5_eq (F := Ideal) _ _)).trans ?_, (h c).2⟩)
      (Cert.InReferenceIdeal.Value.run (F := Ideal) m' g')
    obtain ⟨a0, a1⟩ := hag c
    exact val_congr a0 a1

end Cert.Layer.In
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Printed
public import proofs.«01_k».proof.Proof.Final
public import proofs.«01_k».proof.Proof.Out
public import proofs.«01_k».proof.Proof.Conv
public import proofs.«01_k».proof.Proof.Ctx
public import proofs.«01_k».proof.Proof.Norm
public import proofs.«01_k».proof.Proof.Mod
public import proofs.«01_k».proof.Proof.States
public import proofs.«01_k».proof.Proof.Merge
public import proofs.«01_k».proof.Proof.Down
public import proofs.«01_k».proof.Proof.Up
public import proofs.«01_k».proof.Proof.In
public import proofs.«01_k».proof.Proof.Gen.ConvKernel.Frame
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.Gen.CtxKernel.Frame
public import proofs.«01_k».proof.Proof.Gen.CtxKernelIdeal.Value
public import proofs.«01_k».proof.Proof.Gen.CtxReferenceIdeal.Run
public import proofs.«01_k».proof.Proof.Gen.CtxReferenceIdeal.Read
public import proofs.«01_k».proof.Proof.Gen.NormKernel.Frame
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Gen.ModKernel.Frame
public import proofs.«01_k».proof.Proof.Gen.ModKernelIdeal.Value
public import proofs.«01_k».proof.Proof.Gen.ModReferenceIdeal.Run
public import proofs.«01_k».proof.Proof.Gen.ModReferenceIdeal.Read
public import proofs.«01_k».proof.Proof.Gen.StatesKernel.Frame
public import proofs.«01_k».proof.Proof.Gen.StatesKernelIdeal.Value
public import proofs.«01_k».proof.Proof.Gen.StatesReferenceIdeal.Run
public import proofs.«01_k».proof.Proof.Gen.StatesReferenceIdeal.Read
public import proofs.«01_k».proof.Proof.Gen.Pre_finite_bounds
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InKernel.Gen.facts, Cert.InKernelIdeal.Gen.facts, Cert.InReferenceIdeal.Gen.facts, Cert.UpKernel.Gen.facts, Cert.UpKernelIdeal.Gen.facts, Cert.UpReferenceIdeal.Gen.facts, Cert.DownKernel.Gen.facts, Cert.DownKernelIdeal.Gen.facts, Cert.DownReferenceIdeal.Gen.facts, Cert.MergeKernel.Gen.facts, Cert.MergeKernelIdeal.Gen.facts, Cert.MergeReferenceIdeal.Gen.facts, Cert.OutKernel.Gen.facts, Cert.OutKernelIdeal.Gen.facts, Cert.OutReferenceIdeal.Gen.facts, Cert.ConvKernel.Gen.facts, Cert.ConvKernelIdeal.Gen.facts, Cert.ConvReferenceIdeal.Gen.facts, Cert.CtxKernel.Gen.facts, Cert.CtxKernelIdeal.Gen.facts, Cert.CtxReferenceIdeal.Gen.facts, Cert.NormKernel.Gen.facts, Cert.NormKernelIdeal.Gen.facts, Cert.NormReferenceIdeal.Gen.facts, Cert.ModKernel.Gen.facts, Cert.ModKernelIdeal.Gen.facts, Cert.ModReferenceIdeal.Gen.facts, Cert.StatesKernel.Gen.facts, Cert.StatesKernelIdeal.Gen.facts, Cert.StatesReferenceIdeal.Gen.facts, Cert.Pre_finite.Gen.facts, Cert.Pre_finite_bounds.Gen.facts,
  fun m g _ => Cert.HgrnPrinted.frame m g, fun m g _ => Cert.Hgrn.frame_ideal m g,
  fun m g _ => Cert.Hgrn.frame_ideal m g, Cert.Hgrn.frame_reference, fun m g _ => Cert.Hgrn.frame_reference m g trivial,
  Cert.Layer.In.frame_kernel, Cert.Layer.In.frame_ideal, Cert.Layer.In.frame_reference,
  Cert.Layer.Up.frame_kernel, Cert.Layer.Up.frame_ideal, Cert.Layer.Up.frame_reference,
  Cert.Layer.Down.frame_kernel, Cert.Layer.Down.frame_ideal, Cert.Layer.Down.frame_reference,
  Cert.Layer.Merge.frame_kernel, Cert.Layer.Merge.frame_ideal, Cert.Layer.Merge.frame_reference,
  Cert.Layer.Out.frame_kernel, Cert.Layer.Out.frame_ideal, Cert.Layer.Out.frame_reference,
  Cert.Layer.Conv.frame_kernel, Cert.Layer.Conv.frame_ideal, Cert.Layer.Conv.frame_reference,
  Cert.Layer.Ctx.frame_kernel, Cert.Layer.Ctx.frame_ideal, Cert.Layer.Ctx.frame_reference,
  Cert.Layer.Norm.frame_kernel, Cert.Layer.Norm.frame_ideal, Cert.Layer.Norm.frame_reference,
  Cert.Layer.Mod.frame_kernel, Cert.Layer.Mod.frame_ideal, Cert.Layer.Mod.frame_reference,
  Cert.Layer.States.frame_kernel, Cert.Layer.States.frame_ideal, fun m g _ => Cert.Layer.States.frame_ideal m g trivial,
  Cert.Layer.States.frame_reference, fun m g _ => Cert.Layer.States.frame_reference m g trivial,
  trivial, Cert.Hgrn.equal, trivial, Cert.Layer.In.equal, trivial, Cert.Layer.Up.equal, trivial, Cert.Layer.Down.equal, trivial, Cert.Layer.Merge.equal, trivial, Cert.Layer.Out.equal,
  trivial, Cert.Layer.Conv.equal, trivial, Cert.Layer.Ctx.equal, trivial, Cert.Layer.Norm.equal,
  trivial, Cert.Layer.Mod.equal, trivial, Cert.Layer.States.equal⟩

end Cert.Proof

end
